-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v82) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v85) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v87) = v1 c
          ∧ r.2.mem ((c.tc : Thread Cert.Reference4Ideal.nD Cert.Reference4Ideal.τ).loc Cert.Reference4Ideal.main_v88) = v2 c
          ∧ r.2.mem ((c.tc : Thread Cert.Reference4Ideal.nD Cert.Reference4Ideal.τ).loc Cert.Reference4Ideal.main_v89) = v3 c
          ∧ r.2.mem ((c.tc : Thread Cert.Reference4Ideal.nD Cert.Reference4Ideal.τ).loc Cert.Reference4Ideal.main_v90) = v4 c
          ∧ r.2.mem ((c.tc : Thread Cert.Reference4Ideal.nD Cert.Reference4Ideal.τ).loc Cert.Reference4Ideal.main_v91) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)) (v4 : (c : Dev Cert.Kernel5Ideal.nD) → Buf (Elt Ideal) ((c.tc : Thread Cert.Kernel5Ideal.nD Cert.Kernel5Ideal.τ).loc Cert.Kernel5Ideal.main_v20_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_v20_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v91) = v1 c
          ∧ r.2.mem ((c.tc : Thread Cert.Reference5Ideal.nD Cert.Reference5Ideal.τ).loc Cert.Reference5Ideal.main_v92) = v2 c
          ∧ r.2.mem ((c.tc : Thread Cert.Reference5Ideal.nD Cert.Reference5Ideal.τ).loc Cert.Reference5Ideal.main_v93) = v3 c
          ∧ r.2.mem ((c.tc : Thread Cert.Reference5Ideal.nD Cert.Reference5Ideal.τ).loc Cert.Reference5Ideal.main_v94) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v19)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v37) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite7 : Cert.Pre_finite7.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S8x4x4096x256 : Shape := ⟨4, ![8, 4, 4096, 256]⟩
abbrev S8x16x1024x256 : Shape := ⟨4, ![8, 16, 1024, 256]⟩
abbrev S8x4x4096x512 : Shape := ⟨4, ![8, 4, 4096, 512]⟩
abbrev S_ : Shape := ⟨0, ![]⟩

class Facts : Prop where
  bitsLt_bf16_f32 : FTy.bits .bf16 < FTy.bits .f32
  bcast_S_S8x4x4096x256 : S_.BroadcastsInDim S8x4x4096x256 (![] : Fin 0 → Fin S8x4x4096x256.rank)
  reducesTo_S8x4x4096x256_S_d0_1_2_3 : S8x4x4096x256.ReducesTo [0, 1, 2, 3] S_
  h_S_ : 0 < S_.numel
  bcast_S_S8x16x1024x256 : S_.BroadcastsInDim S8x16x1024x256 (![] : Fin 0 → Fin S8x16x1024x256.rank)
  reducesTo_S8x16x1024x256_S_d0_1_2_3 : S8x16x1024x256.ReducesTo [0, 1, 2, 3] S_
  bcast_S_S8x4x4096x512 : S_.BroadcastsInDim S8x4x4096x512 (![] : Fin 0 → Fin S8x4x4096x512.rank)
  reducesTo_S8x4x4096x512_S_d0_1_2_3 : S8x4x4096x512.ReducesTo [0, 1, 2, 3] S_

variable [Facts]

def fn {F : FTy → Type} [FloatOps F] (main_arg0 : FVec F S8x4x4096x256 .bf16) (main_arg1 : FVec F S8x16x1024x256 .bf16) (main_arg2 : FVec F S8x4x4096x512 .bf16) : IVec S_ 1 :=
  let main_v0 : FVec F S8x4x4096x256 .f32 := (extf .f32 · bitsLt_bf16_f32) main_arg0
  let main_v1 : FVec F S8x4x4096x256 .f32 := Host.absf main_v0
  let main_cst : FVec F S_ .f32 := constant S_ .f32 0x7F800000#32
  let main_v2 : FVec F S8x4x4096x256 .f32 := broadcastInDim S8x4x4096x256 ![] bcast_S_S8x4x4096x256 main_cst
  let main_v3 : IVec S8x4x4096x256 1 := cmpf .olt main_v1 main_v2
  let main_c : IVec S_ 1 := constantI S_ 1 1#1
  let main_v4 : IVec S_ 1 := (fun x v => Host.reduce IntOp.andi x v reducesTo_S8x4x4096x256_S_d0_1_2_3 h_S_) main_v3 main_c
  let main_v5 : FVec F S8x16x1024x256 .f32 := (extf .f32 · bitsLt_bf16_f32) main_arg1
  let main_v6 : FVec F S8x16x1024x256 .f32 := Host.absf main_v5
  let main_cst_0 : FVec F S_ .f32 := constant S_ .f32 0x7F800000#32
  let main_v7 : FVec F S8x16x1024x256 .f32 := broadcastInDim S8x16x1024x256 ![] bcast_S_S8x16x1024x256 main_cst_0
  let main_v8 : IVec S8x16x1024x256 1 := cmpf .olt main_v6 main_v7
  let main_c_1 : IVec S_ 1 := constantI S_ 1 1#1
  let main_v9 : IVec S_ 1 := (fun x v => Host.reduce IntOp.andi x v reducesTo_S8x16x1024x256_S_d0_1_2_3 h_S_) main_v8 main_c_1
  let main_v10 : IVec S_ 1 := andi main_v4 main_v9
  let main_v11 : FVec F S8x4x4096x512 .f32 := (extf .f32 · bitsLt_bf16_f32) main_arg2
  let main_v12 : FVec F S8x4x4096x512 .f32 := Host.absf main_v11
  let main_cst_2 : FVec F S_ .f32 := constant S_ .f32 0x7F800000#32
  let main_v13 : FVec F S8x4x4096x512 .f32 := broadcastInDim S8x4x4096x512 ![] bcast_S_S8x4x4096x512 main_cst_2
  let main_v14 : IVec S8x4x4096x512 1 := cmpf .olt main_v12 main_v13
  let main_c_3 : IVec S_ 1 := constantI S_ 1 1#1
  let main_v15 : IVec S_ 1 := (fun x v => Host.reduce IntOp.andi x v reducesTo_S8x4x4096x512_S_d0_1_2_3 h_S_) main_v14 main_c_3
  let main_v16 : IVec S_ 1 := andi main_v10 main_v15
  main_v16
-- ==== Pre_finite7.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S8x1024 .f32) (main_arg1 : FVec F S4x1024x6144 .f32) (main_arg2 : FVec F S4x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S4x1024x6144 .f32 := Host.absf main_arg1
  let main_cst_0 : FVec F S_ .f32 := constant S_ .f32 0x7F800000#32
  let main_v5 : FVec F S4x1024x6144 .f32 := broadcastInDim S4x1024x6144 ![] bcast_S_S4x1024x6144 main_cst_0
  let main_v6 : IVec S4x1024x6144 1 := cmpf .olt main_v4 main_v5
  let main_c_1 : IVec S_ 1 := constantI S_ 1 1#1
  let main_v7 : IVec S_ 1 := (fun x v => Host.reduce IntOp.andi x v reducesTo_S4x1024x6144_S_d0_1_2 h_S_) main_v6 main_c_1
  let main_v8 : IVec S_ 1 := andi main_v3 main_v7
  main_v8
-- ==== Pre_finite8.lean ====
abbrev S8x1024 : Shape := ⟨2, ![8, 1024]⟩
abbrev S1024x2048 : Shape := ⟨2, ![1024, 2048]⟩
abbrev S2048 : Shape := ⟨1, ![2048]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S8x1024 .f32) (main_arg1 : FVec F S1024x2048 .f32) (main_arg2 : FVec F S2048 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  main_v8
-- ==== Kernel.lean ====
abbrev S8x4x4096x256 : Shape := ⟨4, ![8, 4, 4096, 256]⟩
abbrev S8x16x1024x256 : Shape := ⟨4, ![8, 16, 1024, 256]⟩
abbrev S8x4x4096x512 : Shape := ⟨4, ![8, 4, 4096, 512]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x1x128 : Shape := ⟨3, ![1, 1, 128]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S4x1x256 : Shape := ⟨3, ![4, 1, 256]⟩
abbrev S1x4 : Shape := ⟨2, ![1, 4]⟩
abbrev S2x4 : Shape := ⟨2, ![2, 4]⟩
abbrev S1x1x4096x256 : Shape := ⟨4, ![1, 1, 4096, 256]⟩
abbrev S1x16x256x256 : Shape := ⟨4, ![1, 16, 256, 256]⟩
abbrev S1x1x4096x512 : Shape := ⟨4, ![1, 1, 4096, 512]⟩
abbrev S1x256x128 : Shape := ⟨3, ![1, 256, 128]⟩
abbrev S1x1x256 : Shape := ⟨3, ![1, 1, 256]⟩
abbrev S16x512x512 : Shape := ⟨3, ![16, 512, 512]⟩
abbrev S256x512 : Shape := ⟨2, ![256, 512]⟩
abbrev S1x1 : Shape := ⟨2, ![1, 1]⟩
abbrev S1x256x512 : Shape := ⟨3, ![1, 256, 512]⟩
abbrev S1x1x256x256 : Shape := ⟨4, ![1, 1, 256, 256]⟩
abbrev S1x1x256x512 : Shape := ⟨4, ![1, 1, 256, 512]⟩
abbrev S256x128 : Shape := ⟨2, ![256, 128]⟩
abbrev S1x512x512 : Shape := ⟨3, ![1, 512, 512]⟩
abbrev S512x512 : Shape := ⟨2, ![512, 512]⟩

abbrev nBuf : Space → Nat
  | .hbm => 110
  | .vmem => 21
  | .smem => 1
  | _ => 0

abbrev bufTy : (tb : Table) → Fin (tcTables nBuf tb) → BufTy
  | .hbm, ⟨0, _⟩ => ⟨S8x4x4096x256, .bf16⟩
  | .hbm, ⟨1, _⟩ => ⟨S8x16x1024x256, .bf16⟩
  | .hbm, ⟨2, _⟩ => ⟨S8x4x4096x512, .bf16⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .i32⟩
  | .hbm, ⟨15, _⟩ => ⟨S256x1, .i32⟩
  | .hbm, ⟨16, _⟩ => ⟨S1x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i1⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S_, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .f32⟩
  | .hbm, ⟨31, _⟩ => ⟨S1x256x256, .f32⟩
  | .hbm, ⟨32, _⟩ => ⟨S4x1x1, .f32⟩
  | .hbm, ⟨33, _⟩ => ⟨S4x256x256, .f32⟩
  | .hbm, ⟨34, _⟩ => ⟨S4x256x256, .f32⟩
  | .hbm, ⟨35, _⟩ => ⟨S4x256x256, .f32⟩
  | .hbm, ⟨36, _⟩ => ⟨S4x256x256, .f32⟩
  | .hbm, ⟨37, _⟩ => ⟨S256x256, .i32⟩
  | .hbm, ⟨38, _⟩ => ⟨S_, .i32⟩
  | .hbm, ⟨39, _⟩ => ⟨S_, .i32⟩
  | .hbm, ⟨40, _⟩ => ⟨S256x256, .i32⟩
  | .hbm, ⟨41, _⟩ => ⟨S256x256, .i32⟩
  | .hbm, ⟨42, _⟩ => ⟨S256x256, .f32⟩
  | .hbm, ⟨43, _⟩ => ⟨S1x256x256, .f32⟩
  | .hbm, ⟨44, _⟩ => ⟨S4x1x1, .f32⟩
  | .hbm, ⟨45, _⟩ => ⟨S4x256x256, .f32⟩
  | .hbm, ⟨46, _⟩ => ⟨S4x256x256, .f32⟩
  | .hbm, ⟨47, _⟩ => ⟨S4x256x256, .f32⟩
  | .hbm, ⟨48, _⟩ => ⟨S4x256x256, .f32⟩
  | .hbm, ⟨49, _⟩ => ⟨S1x256x256, .i1⟩
  | .hbm, ⟨50, _⟩ => ⟨S4x256x256, .i1⟩
  | .hbm, ⟨51, _⟩ => ⟨S4x256x256, .f32⟩
  | .hbm, ⟨52, _⟩ => ⟨S256, .f32⟩
  | .hbm, ⟨53, _⟩ => ⟨S_, .f32⟩
  | .hbm, ⟨54, _⟩ => ⟨S1x1x128, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S1x256, .f32⟩
  | .hbm, ⟨59, _⟩ => ⟨S4x1, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x256, .f32⟩
  | .hbm, ⟨64, _⟩ => ⟨S4x256x1, .f32⟩
  | .hbm, ⟨65, _⟩ => ⟨S4x256x128, .f32⟩
  | .hbm, ⟨66, _⟩ => ⟨S4x256x128, .f32⟩
  | .hbm, ⟨67, _⟩ => ⟨S4x256x128, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S1x256, .f32⟩
  | .hbm, ⟨72, _⟩ => ⟨S4x1, .f32⟩
  | .hbm, ⟨73, _⟩ => ⟨S4x256, .f32⟩
  | .hbm, ⟨74, _⟩ => ⟨S4x256, .f32⟩
  | .hbm, ⟨75, _⟩ => ⟨S4x256, .f32⟩
  | .hbm, ⟨76, _⟩ => ⟨S4x256, .f32⟩
  | .hbm, ⟨77, _⟩ => ⟨S4x256x1, .f32⟩
  | .hbm, ⟨78, _⟩ => ⟨S4x256x128, .f32⟩
  | .hbm, ⟨79, _⟩ => ⟨S4x256x128, .f32⟩
  | .hbm, ⟨80, _⟩ => ⟨S4x256x128, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S1x256, .f32⟩
  | .hbm, ⟨85, _⟩ => ⟨S4x1, .f32⟩
  | .hbm, ⟨86, _⟩ => ⟨S4x256, .f32⟩
  | .hbm, ⟨87, _⟩ => ⟨S4x256, .f32⟩
  | .hbm, ⟨88, _⟩ => ⟨S4x256, .f32⟩
  | .hbm, ⟨89, _⟩ => ⟨S4x256, .f32⟩
  | .hbm, ⟨90, _⟩ => ⟨S4x1x256, .f32⟩
  | .hbm, ⟨91, _⟩ => ⟨S1x256, .f32⟩
  | .hbm, ⟨92, _⟩ => ⟨S4x1, .f32⟩
  | .hbm, ⟨93, _⟩ => ⟨S4x256, .f32⟩
  | .hbm, ⟨94, _⟩ => ⟨S4x256, .f32⟩
  | .hbm, ⟨95, _⟩ => ⟨S4x256, .f32⟩
  | .hbm, ⟨96, _⟩ => ⟨S4x256, .f32⟩
  | .hbm, ⟨97, _⟩ => ⟨S4x1x256, .f32⟩
  | .hbm, ⟨98, _⟩ => ⟨S_, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S_, .f32⟩
  | .hbm, ⟨103, _⟩ => ⟨S4, .f32⟩
  | .hbm, ⟨104, _⟩ => ⟨S4, .f32⟩
  | .hbm, ⟨105, _⟩ => ⟨S4, .f32⟩
  | .hbm, ⟨106, _⟩ => ⟨S1x4, .f32⟩
  | .hbm, ⟨107, _⟩ => ⟨S1x4, .f32⟩
  | .hbm, ⟨108, _⟩ => ⟨S2x4, .f32⟩
  | .hbm, ⟨109, _⟩ => ⟨S8x4x4096x512, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x16x256x256, .bf16⟩
  | .local _ .vmem, ⟨3, _⟩ => ⟨S1x16x256x256, .bf16⟩
  | .local _ .vmem, ⟨4, _⟩ => ⟨S1x1x4096x512, .bf16⟩
  | .local _ .vmem, ⟨5, _⟩ => ⟨S1x1x4096x512, .bf16⟩
  | .local _ .vmem, ⟨6, _⟩ => ⟨S1x256x256, .f32⟩
  | .local _ .vmem, ⟨7, _⟩ => ⟨S1x256x256, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x4096x512, .bf16⟩
  | .local _ .vmem, ⟨17, _⟩ => ⟨S1x1x4096x512, .bf16⟩
  | .local _ .vmem, ⟨18, _⟩ => ⟨S16x512x512, .bf16⟩
  | .local _ .vmem, ⟨19, _⟩ => ⟨S256x512, .f32⟩
  | .local _ .vmem, ⟨20, _⟩ => ⟨S256x512, .f32⟩
  | .local _ .smem, ⟨0, _⟩ => ⟨S2x4, .f32⟩
  | _, _ => ⟨S8x4x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call3_v0 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_7 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_8 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_9 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x4096x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4x4096x256 : Shape := ⟨4, ![8, 4, 4096, 256]⟩
abbrev S8x16x1024x256 : Shape := ⟨4, ![8, 16, 1024, 256]⟩
abbrev S8x4x4096x512 : Shape := ⟨4, ![8, 4, 4096, 512]⟩
abbrev S4 : Shape := ⟨1, ![4]⟩
abbrev S_ : Shape := ⟨0, ![]⟩
abbrev S8x1024x16x256 : Shape := ⟨4, ![8, 1024, 16, 256]⟩
abbrev S8x4x256x4096 : Shape := ⟨4, ![8, 4, 256, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S8x4x4096 : Shape := ⟨3, ![8, 4, 4096]⟩
abbrev S8x4x4096x1 : Shape := ⟨4, ![8, 4, 4096, 1]⟩

abbrev nBuf : Space → Nat
  | .hbm => 109
  | .vmem => 0
  | .smem => 0
  | _ => 0

abbrev bufTy : (tb : Table) → Fin (tcTables nBuf tb) → BufTy
  | .hbm, ⟨0, _⟩ => ⟨S8x4x4096x256, .bf16⟩
  | .hbm, ⟨1, _⟩ => ⟨S8x16x1024x256, .bf16⟩
  | .hbm, ⟨2, _⟩ => ⟨S8x4x4096x512, .bf16⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S8x1024x16x256, .bf16⟩
  | .hbm, ⟨15, _⟩ => ⟨S8x4x256x4096, .bf16⟩
  | .hbm, ⟨16, _⟩ => ⟨S8x4x4096x256, .bf16⟩
  | .hbm, ⟨17, _⟩ => ⟨S8x4x4096x256, .f32⟩
  | .hbm, ⟨18, _⟩ => ⟨S8x4x4096x256, .f32⟩
  | .hbm, ⟨19, _⟩ => ⟨S8x4x4096x512, .f32⟩
  | .hbm, ⟨20, _⟩ => ⟨S4096, .i32⟩
  | .hbm, ⟨21, _⟩ => ⟨S4096x1, .i32⟩
  | .hbm, ⟨22, _⟩ => ⟨S1x4096, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i1⟩
  | .hbm, ⟨29, _⟩ => ⟨S4x1x1, .f32⟩
  | .hbm, ⟨30, _⟩ => ⟨S_, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .f32⟩
  | .hbm, ⟨35, _⟩ => ⟨S1x4096x4096, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S_, .f32⟩
  | .hbm, ⟨42, _⟩ => ⟨S4x4096x4096, .i1⟩
  | .hbm, ⟨43, _⟩ => ⟨S4x4096x4096, .f32⟩
  | .hbm, ⟨44, _⟩ => ⟨S4x4096x4096, .f32⟩
  | .hbm, ⟨45, _⟩ => ⟨S8x4x4096x4096, .f32⟩
  | .hbm, ⟨46, _⟩ => ⟨S1x4x4096x4096, .f32⟩
  | .hbm, ⟨47, _⟩ => ⟨S8x4x4096x4096, .f32⟩
  | .hbm, ⟨48, _⟩ => ⟨S8x4x4096x4096, .f32⟩
  | .hbm, ⟨49, _⟩ => ⟨S8x4x4096x512, .f32⟩
  | .hbm, ⟨50, _⟩ => ⟨S8x4x4096x256, .f32⟩
  | .hbm, ⟨51, _⟩ => ⟨S8x4x4096x256, .f32⟩
  | .hbm, ⟨52, _⟩ => ⟨S8x4x4096x512, .f32⟩
  | .hbm, ⟨53, _⟩ => ⟨S4096, .i32⟩
  | .hbm, ⟨54, _⟩ => ⟨S4096x1, .i32⟩
  | .hbm, ⟨55, _⟩ => ⟨S1x4096, .i32⟩
  | .hbm, ⟨56, _⟩ => ⟨S4096x4096, .i32⟩
  | .hbm, ⟨57, _⟩ => ⟨S4096x4096, .i32⟩
  | .hbm, ⟨58, _⟩ => ⟨S4096x4096, .i32⟩
  | .hbm, ⟨59, _⟩ => ⟨S_, .i32⟩
  | .hbm, ⟨60, _⟩ => ⟨S4096x4096, .i32⟩
  | .hbm, ⟨61, _⟩ => ⟨S4096x4096, .i1⟩
  | .hbm, ⟨62, _⟩ => ⟨S4x1x1, .f32⟩
  | .hbm, ⟨63, _⟩ => ⟨S_, .i32⟩
  | .hbm, ⟨64, _⟩ => ⟨S_, .i32⟩
  | .hbm, ⟨65, _⟩ => ⟨S4096x4096, .i32⟩
  | .hbm, ⟨66, _⟩ => ⟨S4096x4096, .i32⟩
  | .hbm, ⟨67, _⟩ => ⟨S4096x4096, .f32⟩
  | .hbm, ⟨68, _⟩ => ⟨S1x4096x4096, .f32⟩
  | .hbm, ⟨69, _⟩ => ⟨S4x4096x4096, .f32⟩
  | .hbm, ⟨70, _⟩ => ⟨S4x4096x4096, .f32⟩
  | .hbm, ⟨71, _⟩ => ⟨S4x4096x4096, .f32⟩
  | .hbm, ⟨72, _⟩ => ⟨S4x4096x4096, .f32⟩
  | .hbm, ⟨73, _⟩ => ⟨S_, .f32⟩
  | .hbm, ⟨74, _⟩ => ⟨S_, .f32⟩
  | .hbm, ⟨75, _⟩ => ⟨S4x4096x4096, .i1⟩
  | .hbm, ⟨76, _⟩ => ⟨S4x4096x4096, .f32⟩
  | .hbm, ⟨77, _⟩ => ⟨S4x4096x4096, .f32⟩
  | .hbm, ⟨78, _⟩ => ⟨S8x4x4096x4096, .f32⟩
  | .hbm, ⟨79, _⟩ => ⟨S1x4x4096x4096, .f32⟩
  | .hbm, ⟨80, _⟩ => ⟨S8x4x4096x4096, .f32⟩
  | .hbm, ⟨81, _⟩ => ⟨S8x4x4096x4096, .f32⟩
  | .hbm, ⟨82, _⟩ => ⟨S8x4x4096x512, .f32⟩
  | .hbm, ⟨83, _⟩ => ⟨S8x4x4096x512, .f32⟩
  | .hbm, ⟨84, _⟩ => ⟨S8x4x4096x512, .f32⟩
  | .hbm, ⟨85, _⟩ => ⟨S_, .f32⟩
  | .hbm, ⟨86, _⟩ => ⟨S8x4x4096, .f32⟩
  | .hbm, ⟨87, _⟩ => ⟨S8x4x4096x1, .f32⟩
  | .hbm, ⟨88, _⟩ => ⟨S_, .f32⟩
  | .hbm, ⟨89, _⟩ => ⟨S8x4x4096x1, .f32⟩
  | .hbm, ⟨90, _⟩ => ⟨S8x4x4096x1, .f32⟩
  | .hbm, ⟨91, _⟩ => ⟨S8x4x4096x512, .f32⟩
  | .hbm, ⟨92, _⟩ => ⟨S8x4x4096x512, .f32⟩
  | .hbm, ⟨93, _⟩ => ⟨S8x4x4096x512, .f32⟩
  | .hbm, ⟨94, _⟩ => ⟨S_, .f32⟩
  | .hbm, ⟨95, _⟩ => ⟨S8x4x4096, .f32⟩
  | .hbm, ⟨96, _⟩ => ⟨S8x4x4096x1, .f32⟩
  | .hbm, ⟨97, _⟩ => ⟨S_, .f32⟩
  | .hbm, ⟨98, _⟩ => ⟨S8x4x4096x1, .f32⟩
  | .hbm, ⟨99, _⟩ => ⟨S8x4x4096x1, .f32⟩
  | .hbm, ⟨100, _⟩ => ⟨S8x4x4096x512, .f32⟩
  | .hbm, ⟨101, _⟩ => ⟨S8x4x4096x512, .f32⟩
  | .hbm, ⟨102, _⟩ => ⟨S_, .f32⟩
  | .hbm, ⟨103, _⟩ => ⟨S8x4x4096x1, .f32⟩
  | .hbm, ⟨104, _⟩ => ⟨S8x4x4096x1, .f32⟩
  | .hbm, ⟨105, _⟩ => ⟨S8x4x4096x1, .f32⟩
  | .hbm, ⟨106, _⟩ => ⟨S8x4x4096x512, .f32⟩
  | .hbm, ⟨107, _⟩ => ⟨S8x4x4096x512, .f32⟩
  | .hbm, ⟨108, _⟩ => ⟨S8x4x4096x512, .bf16⟩
  | _, _ => ⟨S8x4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_4 : Ref sig .tc := ⟨.hbm, 63, rfl⟩
abbrev main_call6_v0 : Ref sig .tc := ⟨.hbm, 64, rfl⟩
abbrev main_call6_v1 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_5 : Ref sig .tc := ⟨.hbm, 73, rfl⟩
abbrev main_call7_v0 : Ref sig .tc := ⟨.hbm, 74, rfl⟩
abbrev main_call7_v1 : Ref sig .tc := ⟨.hbm, 75, rfl⟩
abbrev main_call7_v2 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_8 : Ref sig .tc := ⟨.hbm, 94, rfl⟩
abbrev main_v71 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_10 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6x1024 : Shape := ⟨3, ![8, 6, 1024]⟩
abbrev S8x2x1024 : Shape := ⟨3, ![8, 2, 1024]⟩
abbrev S1024 : Shape := ⟨1, ![1024]⟩
abbrev S8x4x4096x512 : Shape := ⟨4, ![8, 4, 4096, 512]⟩
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩
abbrev S8x4x1024 : Shape := ⟨3, ![8, 4, 1024]⟩
abbrev S8x8x1024 : Shape := ⟨3, ![8, 8, 1024]⟩
abbrev S1x1024 : Shape := ⟨2, ![1, 1024]⟩
abbrev S6x1024 : Shape := ⟨2, ![6, 1024]⟩
abbrev S8x1024 : Shape := ⟨2, ![8, 1024]⟩
abbrev S1x512x1024 : Shape := ⟨3, ![1, 512, 1024]⟩
abbrev S1x8x1024 : Shape := ⟨3, ![1, 8, 1024]⟩
abbrev S1x4x512x512 : Shape := ⟨4, ![1, 4, 512, 512]⟩
abbrev S512x1024 : Shape := ⟨2, ![512, 1024]⟩
abbrev S512x2816 : Shape := ⟨2, ![512, 2816]⟩
abbrev S1x1x1024 : Shape := ⟨3, ![1, 1, 1024]⟩
abbrev S1x1x256x512 : Shape := ⟨4, ![1, 1, 256, 512]⟩
abbrev S256x512 : Shape := ⟨2, ![256, 512]⟩
abbrev S256x2048 : Shape := ⟨2, ![256, 2048]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 20
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x2x1024, .f32⟩
  | .hbm, ⟨3, _⟩ => ⟨S1024, .f32⟩
  | .hbm, ⟨4, _⟩ => ⟨S1024, .f32⟩
  | .hbm, ⟨5, _⟩ => ⟨S8x4x4096x512, .bf16⟩
  | .hbm, ⟨6, _⟩ => ⟨S8x4x4096x512, .bf16⟩
  | .hbm, ⟨7, _⟩ => ⟨S2048x1024, .bf16⟩
  | .hbm, ⟨8, _⟩ => ⟨S1024x5632, .bf16⟩
  | .hbm, ⟨9, _⟩ => ⟨S2816x1024, .bf16⟩
  | .hbm, ⟨10, _⟩ => ⟨S_, .f32⟩
  | .hbm, ⟨11, _⟩ => ⟨S8x2x1024, .f32⟩
  | .hbm, ⟨12, _⟩ => ⟨S8x4x1024, .f32⟩
  | .hbm, ⟨13, _⟩ => ⟨S8x8x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S6x1024, .f32⟩
  | .hbm, ⟨18, _⟩ => ⟨S8x1024, .f32⟩
  | .hbm, ⟨19, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S1x4x512x512, .bf16⟩
  | .local _ .vmem, ⟨6, _⟩ => ⟨S1x4x512x512, .bf16⟩
  | .local _ .vmem, ⟨7, _⟩ => ⟨S1x4x512x512, .bf16⟩
  | .local _ .vmem, ⟨8, _⟩ => ⟨S1x4x512x512, .bf16⟩
  | .local _ .vmem, ⟨9, _⟩ => ⟨S2048x1024, .bf16⟩
  | .local _ .vmem, ⟨10, _⟩ => ⟨S1024x5632, .bf16⟩
  | .local _ .vmem, ⟨11, _⟩ => ⟨S2816x1024, .bf16⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x1024 : Shape := ⟨3, ![8, 4096, 1024]⟩
abbrev S8x6x1024 : Shape := ⟨3, ![8, 6, 1024]⟩
abbrev S8x2x1024 : Shape := ⟨3, ![8, 2, 1024]⟩
abbrev S1024 : Shape := ⟨1, ![1024]⟩
abbrev S8x4x4096x512 : Shape := ⟨4, ![8, 4, 4096, 512]⟩
abbrev S2048x1024 : Shape := ⟨2, ![2048, 1024]⟩
abbrev S1024x5632 : Shape := ⟨2, ![1024, 5632]⟩
abbrev S2816x1024 : Shape := ⟨2, ![2816, 1024]⟩
abbrev S8x1x1024 : Shape := ⟨3, ![8, 1, 1024]⟩
abbrev S8x1024 : Shape := ⟨2, ![8, 1024]⟩
abbrev S8x4096x4x512 : Shape := ⟨4, ![8, 4096, 4, 512]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x2x1024, .f32⟩
  | .hbm, ⟨3, _⟩ => ⟨S1024, .f32⟩
  | .hbm, ⟨4, _⟩ => ⟨S1024, .f32⟩
  | .hbm, ⟨5, _⟩ => ⟨S8x4x4096x512, .bf16⟩
  | .hbm, ⟨6, _⟩ => ⟨S8x4x4096x512, .bf16⟩
  | .hbm, ⟨7, _⟩ => ⟨S2048x1024, .bf16⟩
  | .hbm, ⟨8, _⟩ => ⟨S1024x5632, .bf16⟩
  | .hbm, ⟨9, _⟩ => ⟨S2816x1024, .bf16⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1024, .f32⟩
  | .hbm, ⟨22, _⟩ => ⟨S8x4x4096x512, .f32⟩
  | .hbm, ⟨23, _⟩ => ⟨S8x4096x4x512, .f32⟩
  | .hbm, ⟨24, _⟩ => ⟨S8x4096x2048, .f32⟩
  | .hbm, ⟨25, _⟩ => ⟨S8x4x4096x512, .f32⟩
  | .hbm, ⟨26, _⟩ => ⟨S8x4096x4x512, .f32⟩
  | .hbm, ⟨27, _⟩ => ⟨S8x4096x2048, .f32⟩
  | .hbm, ⟨28, _⟩ => ⟨S8x4096x2048, .f32⟩
  | .hbm, ⟨29, _⟩ => ⟨S2048x1024, .f32⟩
  | .hbm, ⟨30, _⟩ => ⟨S8x4096x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x1x1024, .f32⟩
  | .hbm, ⟨52, _⟩ => ⟨S_, .f32⟩
  | .hbm, ⟨53, _⟩ => ⟨S8x1x1024, .f32⟩
  | .hbm, ⟨54, _⟩ => ⟨S8x1x1024, .f32⟩
  | .hbm, ⟨55, _⟩ => ⟨S8x4096x1024, .f32⟩
  | .hbm, ⟨56, _⟩ => ⟨S8x4096x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x1x1024, .f32⟩
  | .hbm, ⟨61, _⟩ => ⟨S1024x5632, .f32⟩
  | .hbm, ⟨62, _⟩ => ⟨S8x4096x5632, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S_, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S2816x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x1x1024, .f32⟩
  | .hbm, ⟨81, _⟩ => ⟨S8x1024, .f32⟩
  | .hbm, ⟨82, _⟩ => ⟨S8x1x1024, .f32⟩
  | .hbm, ⟨83, _⟩ => ⟨S8x1024, .f32⟩
  | .hbm, ⟨84, _⟩ => ⟨S8x4096x1024, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x1024, .f32⟩
  | .hbm, ⟨96, _⟩ => ⟨S8x4096x1024, .f32⟩
  | .hbm, ⟨97, _⟩ => ⟨S1x1x1024, .f32⟩
  | .hbm, ⟨98, _⟩ => ⟨S8x4096x1024, .f32⟩
  | .hbm, ⟨99, _⟩ => ⟨S8x4096x1024, .f32⟩
  | .hbm, ⟨100, _⟩ => ⟨S8x1x1024, .f32⟩
  | .hbm, ⟨101, _⟩ => ⟨S_, .f32⟩
  | .hbm, ⟨102, _⟩ => ⟨S8x1x1024, .f32⟩
  | .hbm, ⟨103, _⟩ => ⟨S8x1x1024, .f32⟩
  | .hbm, ⟨104, _⟩ => ⟨S8x4096x1024, .f32⟩
  | .hbm, ⟨105, _⟩ => ⟨S8x4096x1024, .f32⟩
  | .hbm, ⟨106, _⟩ => ⟨S8x1x1024, .f32⟩
  | .hbm, ⟨107, _⟩ => ⟨S8x4096x1024, .f32⟩
  | .hbm, ⟨108, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_v64 : Ref sig .tc := ⟨.hbm, 87, rfl⟩
abbrev main_cst_4 : Ref sig .tc := ⟨.hbm, 88, rfl⟩
abbrev main_v65 : Ref sig .tc := ⟨.hbm, 89, rfl⟩
abbrev main_v66 : Ref sig .tc := ⟨.hbm, 90, rfl⟩
abbrev main_cst_5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_6 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024x6144 : Shape := ⟨2, ![1024, 6144]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S8x4x4096x256 : Shape := ⟨4, ![8, 4, 4096, 256]⟩
abbrev S8x16x1024x256 : Shape := ⟨4, ![8, 16, 1024, 256]⟩
abbrev S8x4x4096x512 : Shape := ⟨4, ![8, 4, 4096, 512]⟩
abbrev S1x1024x1024 : Shape := ⟨3, ![1, 1024, 1024]⟩
abbrev S1024x128 : Shape := ⟨2, ![1024, 128]⟩
abbrev S1x4x1024x256 : Shape := ⟨4, ![1, 4, 1024, 256]⟩
abbrev S1x4x1024x512 : Shape := ⟨4, ![1, 4, 1024, 512]⟩
abbrev S1024x1024 : Shape := ⟨2, ![1024, 1024]⟩
abbrev S1024x256 : Shape := ⟨2, ![1024, 256]⟩
abbrev S256x1024 : Shape := ⟨2, ![256, 1024]⟩
abbrev S128x1024 : Shape := ⟨2, ![128, 1024]⟩
abbrev S1x1x1024x128 : Shape := ⟨4, ![1, 1, 1024, 128]⟩
abbrev S128x256 : Shape := ⟨2, ![128, 256]⟩
abbrev S1x1x128x256 : Shape := ⟨4, ![1, 1, 128, 256]⟩
abbrev S1x1x1024x256 : Shape := ⟨4, ![1, 1, 1024, 256]⟩

abbrev nBuf : Space → Nat
  | .hbm => 22
  | .vmem => 16
  | .smem => 0
  | _ => 0

abbrev bufTy : (tb : Table) → Fin (tcTables nBuf tb) → BufTy
  | .hbm, ⟨0, _⟩ => ⟨S8x4096x1024, .bf16⟩
  | .hbm, ⟨1, _⟩ => ⟨S1024x6144, .bf16⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S4096, .f32⟩
  | .hbm, ⟨11, _⟩ => ⟨S4096x1, .f32⟩
  | .hbm, ⟨12, _⟩ => ⟨S1x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S8x4x4096x256, .bf16⟩
  | .hbm, ⟨19, _⟩ => ⟨S8x16x1024x256, .bf16⟩
  | .hbm, ⟨20, _⟩ => ⟨S8x4x4096x512, .bf16⟩
  | .hbm, ⟨21, _⟩ => ⟨S8x4x4096x512, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1024x6144, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x4x1024x256, .bf16⟩
  | .local _ .vmem, ⟨8, _⟩ => ⟨S1x4x1024x256, .bf16⟩
  | .local _ .vmem, ⟨9, _⟩ => ⟨S1x4x1024x256, .bf16⟩
  | .local _ .vmem, ⟨10, _⟩ => ⟨S1x4x1024x256, .bf16⟩
  | .local _ .vmem, ⟨11, _⟩ => ⟨S1x4x1024x512, .bf16⟩
  | .local _ .vmem, ⟨12, _⟩ => ⟨S1x4x1024x512, .bf16⟩
  | .local _ .vmem, ⟨13, _⟩ => ⟨S1x4x1024x512, .bf16⟩
  | .local _ .vmem, ⟨14, _⟩ => ⟨S1x4x1024x512, .bf16⟩
  | .local _ .vmem, ⟨15, _⟩ => ⟨S1024x1024, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S1024x6144 : Shape := ⟨2, ![1024, 6144]⟩
abbrev S8x4096x6144 : Shape := ⟨3, ![8, 4096, 6144]⟩
abbrev S8x4096x2048 : Shape := ⟨3, ![8, 4096, 2048]⟩
abbrev S4096 : Shape := ⟨1, ![4096]⟩
abbrev S8x4096x4x256 : Shape := ⟨4, ![8, 4096, 4, 256]⟩
abbrev S8x4x4096x256 : Shape := ⟨4, ![8, 4, 4096, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S8x4x4096x128 : Shape := ⟨4, ![8, 4, 4096, 128]⟩
abbrev S1x1x4096x128 : Shape := ⟨4, ![1, 1, 4096, 128]⟩
abbrev S8x4x256x4096 : Shape := ⟨4, ![8, 4, 256, 4096]⟩
abbrev S8x1024x16x256 : Shape := ⟨4, ![8, 1024, 16, 256]⟩
abbrev S8x16x1024x256 : Shape := ⟨4, ![8, 16, 1024, 256]⟩
abbrev S8x4096x4x512 : Shape := ⟨4, ![8, 4096, 4, 512]⟩
abbrev S8x4x4096x512 : Shape := ⟨4, ![8, 4, 4096, 512]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S1024x6144, .bf16⟩
  | .hbm, ⟨2, _⟩ => ⟨S8x4096x1024, .f32⟩
  | .hbm, ⟨3, _⟩ => ⟨S1024x6144, .f32⟩
  | .hbm, ⟨4, _⟩ => ⟨S8x4096x6144, .f32⟩
  | .hbm, ⟨5, _⟩ => ⟨S8x4096x1024, .f32⟩
  | .hbm, ⟨6, _⟩ => ⟨S8x4096x1024, .f32⟩
  | .hbm, ⟨7, _⟩ => ⟨S8x4096x2048, .f32⟩
  | .hbm, ⟨8, _⟩ => ⟨S8x4096x2048, .f32⟩
  | .hbm, ⟨9, _⟩ => ⟨S4096, .f32⟩
  | .hbm, ⟨10, _⟩ => ⟨S8x4096x4x256, .f32⟩
  | .hbm, ⟨11, _⟩ => ⟨S8x4x4096x256, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S4096x1, .f32⟩
  | .hbm, ⟨21, _⟩ => ⟨S1x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S8x4x4096x128, .f32⟩
  | .hbm, ⟨28, _⟩ => ⟨S8x4x4096x128, .f32⟩
  | .hbm, ⟨29, _⟩ => ⟨S1x1x4096x128, .f32⟩
  | .hbm, ⟨30, _⟩ => ⟨S8x4x4096x128, .f32⟩
  | .hbm, ⟨31, _⟩ => ⟨S8x4x4096x128, .f32⟩
  | .hbm, ⟨32, _⟩ => ⟨S1x1x4096x128, .f32⟩
  | .hbm, ⟨33, _⟩ => ⟨S8x4x4096x128, .f32⟩
  | .hbm, ⟨34, _⟩ => ⟨S8x4x4096x128, .f32⟩
  | .hbm, ⟨35, _⟩ => ⟨S8x4x4096x128, .f32⟩
  | .hbm, ⟨36, _⟩ => ⟨S1x1x4096x128, .f32⟩
  | .hbm, ⟨37, _⟩ => ⟨S8x4x4096x128, .f32⟩
  | .hbm, ⟨38, _⟩ => ⟨S8x4x4096x128, .f32⟩
  | .hbm, ⟨39, _⟩ => ⟨S1x1x4096x128, .f32⟩
  | .hbm, ⟨40, _⟩ => ⟨S8x4x4096x128, .f32⟩
  | .hbm, ⟨41, _⟩ => ⟨S8x4x4096x128, .f32⟩
  | .hbm, ⟨42, _⟩ => ⟨S8x4x4096x128, .f32⟩
  | .hbm, ⟨43, _⟩ => ⟨S8x4x4096x256, .f32⟩
  | .hbm, ⟨44, _⟩ => ⟨S8x4096x4x256, .f32⟩
  | .hbm, ⟨45, _⟩ => ⟨S8x4x4096x256, .f32⟩
  | .hbm, ⟨46, _⟩ => ⟨S128, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S4096x1, .f32⟩
  | .hbm, ⟨55, _⟩ => ⟨S1x128, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S8x4x4096x128, .f32⟩
  | .hbm, ⟨62, _⟩ => ⟨S8x4x4096x128, .f32⟩
  | .hbm, ⟨63, _⟩ => ⟨S1x1x4096x128, .f32⟩
  | .hbm, ⟨64, _⟩ => ⟨S8x4x4096x128, .f32⟩
  | .hbm, ⟨65, _⟩ => ⟨S8x4x4096x128, .f32⟩
  | .hbm, ⟨66, _⟩ => ⟨S1x1x4096x128, .f32⟩
  | .hbm, ⟨67, _⟩ => ⟨S8x4x4096x128, .f32⟩
  | .hbm, ⟨68, _⟩ => ⟨S8x4x4096x128, .f32⟩
  | .hbm, ⟨69, _⟩ => ⟨S8x4x4096x128, .f32⟩
  | .hbm, ⟨70, _⟩ => ⟨S1x1x4096x128, .f32⟩
  | .hbm, ⟨71, _⟩ => ⟨S8x4x4096x128, .f32⟩
  | .hbm, ⟨72, _⟩ => ⟨S8x4x4096x128, .f32⟩
  | .hbm, ⟨73, _⟩ => ⟨S1x1x4096x128, .f32⟩
  | .hbm, ⟨74, _⟩ => ⟨S8x4x4096x128, .f32⟩
  | .hbm, ⟨75, _⟩ => ⟨S8x4x4096x128, .f32⟩
  | .hbm, ⟨76, _⟩ => ⟨S8x4x4096x128, .f32⟩
  | .hbm, ⟨77, _⟩ => ⟨S8x4x4096x256, .f32⟩
  | .hbm, ⟨78, _⟩ => ⟨S_, .f32⟩
  | .hbm, ⟨79, _⟩ => ⟨S8x4x4096x256, .f32⟩
  | .hbm, ⟨80, _⟩ => ⟨S8x4x4096x256, .f32⟩
  | .hbm, ⟨81, _⟩ => ⟨S8x4x256x4096, .f32⟩
  | .hbm, ⟨82, _⟩ => ⟨S8x1024x16x256, .f32⟩
  | .hbm, ⟨83, _⟩ => ⟨S8x16x1024x256, .f32⟩
  | .hbm, ⟨84, _⟩ => ⟨S8x4096x4x512, .f32⟩
  | .hbm, ⟨85, _⟩ => ⟨S8x4x4096x512, .f32⟩
  | .hbm, ⟨86, _⟩ => ⟨S8x4096x2048, .f32⟩
  | .hbm, ⟨87, _⟩ => ⟨S8x4096x2048, .f32⟩
  | .hbm, ⟨88, _⟩ => ⟨S_, .f32⟩
  | .hbm, ⟨89, _⟩ => ⟨S8x4096x2048, .f32⟩
  | .hbm, ⟨90, _⟩ => ⟨S8x4096x2048, .f32⟩
  | .hbm, ⟨91, _⟩ => ⟨S_, .f32⟩
  | .hbm, ⟨92, _⟩ => ⟨S8x4096x2048, .f32⟩
  | .hbm, ⟨93, _⟩ => ⟨S8x4096x2048, .f32⟩
  | .hbm, ⟨94, _⟩ => ⟨S8x4096x2048, .f32⟩
  | .hbm, ⟨95, _⟩ => ⟨S8x4096x4x512, .f32⟩
  | .hbm, ⟨96, _⟩ => ⟨S8x4x4096x512, .f32⟩
  | .hbm, ⟨97, _⟩ => ⟨S8x4x4096x256, .bf16⟩
  | .hbm, ⟨98, _⟩ => ⟨S8x16x1024x256, .bf16⟩
  | .hbm, ⟨99, _⟩ => ⟨S8x4x4096x512, .bf16⟩
  | .hbm, ⟨100, _⟩ => ⟨S8x4x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_cst_1 : Ref sig .tc := ⟨.hbm, 48, rfl⟩
abbrev main_v44 : Ref sig .tc := ⟨.hbm, 49, rfl⟩
abbrev main_v45 : Ref sig .tc := ⟨.hbm, 50, rfl⟩
abbrev main_cst_2 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_3 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x6x1024 : Shape := ⟨3, ![8, 6, 1024]⟩
abbrev S1024 : Shape := ⟨1, ![1024]⟩
abbrev S8x2x4096x512 : Shape := ⟨4, ![8, 2, 4096, 512]⟩
abbrev S1024x1024 : Shape := ⟨2, ![1024, 1024]⟩
abbrev S1024x5632 : Shape := ⟨2, ![1024, 5632]⟩
abbrev S2816x1024 : Shape := ⟨2, ![2816, 1024]⟩
abbrev S2x1024x6144 : Shape := ⟨3, ![2, 1024, 6144]⟩
abbrev S2x2048x1024 : Shape := ⟨3, ![2, 2048, 1024]⟩
abbrev S4x1024x5632 : Shape := ⟨3, ![4, 1024, 5632]⟩
abbrev S4x2816x1024 : Shape := ⟨3, ![4, 2816, 1024]⟩
abbrev S8x2x1024 : Shape := ⟨3, ![8, 2, 1024]⟩
abbrev S_ : Shape := ⟨0, ![]⟩
abbrev S8x4x1024 : Shape := ⟨3, ![8, 4, 1024]⟩
abbrev S8x8x1024 : Shape := ⟨3, ![8, 8, 1024]⟩
abbrev S1x1024 : Shape := ⟨2, ![1, 1024]⟩
abbrev S6x1024 : Shape := ⟨2, ![6, 1024]⟩
abbrev S8x1024 : Shape := ⟨2, ![8, 1024]⟩
abbrev S1024x6144 : Shape := ⟨2, ![1024, 6144]⟩
abbrev S2048x1024 : Shape := ⟨2, ![2048, 1024]⟩
abbrev S1x512x1024 : Shape := ⟨3, ![1, 512, 1024]⟩
abbrev S1x8x1024 : Shape := ⟨3, ![1, 8, 1024]⟩
abbrev S1x2x512x512 : Shape := ⟨4, ![1, 2, 512, 512]⟩
abbrev S1x16x6144 : Shape := ⟨3, ![1, 16, 6144]⟩
abbrev S1x32x1024 : Shape := ⟨3, ![1, 32, 1024]⟩
abbrev S1x16x5632 : Shape := ⟨3, ![1, 16, 5632]⟩
abbrev S1x176x1024 : Shape := ⟨3, ![1, 176, 1024]⟩
abbrev S16x6144 : Shape := ⟨2, ![16, 6144]⟩
abbrev S32x1024 : Shape := ⟨2, ![32, 1024]⟩
abbrev S16x5632 : Shape := ⟨2, ![16, 5632]⟩
abbrev S176x1024 : Shape := ⟨2, ![176, 1024]⟩
abbrev S512x1024 : Shape := ⟨2, ![512, 1024]⟩
abbrev S512x2816 : Shape := ⟨2, ![512, 2816]⟩
abbrev S1x1x1024 : Shape := ⟨3, ![1, 1, 1024]⟩
abbrev S1x1x256x512 : Shape := ⟨4, ![1, 1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 29
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S8x2x4096x512, .bf16⟩
  | .hbm, ⟨6, _⟩ => ⟨S1024x1024, .bf16⟩
  | .hbm, ⟨7, _⟩ => ⟨S1024x5632, .bf16⟩
  | .hbm, ⟨8, _⟩ => ⟨S2816x1024, .bf16⟩
  | .hbm, ⟨9, _⟩ => ⟨S2x1024x6144, .f32⟩
  | .hbm, ⟨10, _⟩ => ⟨S2x2048x1024, .f32⟩
  | .hbm, ⟨11, _⟩ => ⟨S4x1024x5632, .f32⟩
  | .hbm, ⟨12, _⟩ => ⟨S4x2816x1024, .f32⟩
  | .hbm, ⟨13, _⟩ => ⟨S8x2x1024, .f32⟩
  | .hbm, ⟨14, _⟩ => ⟨S_, .f32⟩
  | .hbm, ⟨15, _⟩ => ⟨S8x2x1024, .f32⟩
  | .hbm, ⟨16, _⟩ => ⟨S8x4x1024, .f32⟩
  | .hbm, ⟨17, _⟩ => ⟨S8x8x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S6x1024, .f32⟩
  | .hbm, ⟨22, _⟩ => ⟨S8x1024, .f32⟩
  | .hbm, ⟨23, _⟩ => ⟨S8x4096x1024, .f32⟩
  | .hbm, ⟨24, _⟩ => ⟨S8x4096x1024, .bf16⟩
  | .hbm, ⟨25, _⟩ => ⟨S1024x6144, .bf16⟩
  | .hbm, ⟨26, _⟩ => ⟨S2048x1024, .bf16⟩
  | .hbm, ⟨27, _⟩ => ⟨S1024x5632, .bf16⟩
  | .hbm, ⟨28, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S1x2x512x512, .bf16⟩
  | .local _ .vmem, ⟨6, _⟩ => ⟨S1x2x512x512, .bf16⟩
  | .local _ .vmem, ⟨7, _⟩ => ⟨S1024x1024, .bf16⟩
  | .local _ .vmem, ⟨8, _⟩ => ⟨S1024x5632, .bf16⟩
  | .local _ .vmem, ⟨9, _⟩ => ⟨S2816x1024, .bf16⟩
  | .local _ .vmem, ⟨10, _⟩ => ⟨S1x16x6144, .f32⟩
  | .local _ .vmem, ⟨11, _⟩ => ⟨S1x16x6144, .f32⟩
  | .local _ .vmem, ⟨12, _⟩ => ⟨S1x32x1024, .f32⟩
  | .local _ .vmem, ⟨13, _⟩ => ⟨S1x32x1024, .f32⟩
  | .local _ .vmem, ⟨14, _⟩ => ⟨S1x16x5632, .f32⟩
  | .local _ .vmem, ⟨15, _⟩ => ⟨S1x16x5632, .f32⟩
  | .local _ .vmem, ⟨16, _⟩ => ⟨S1x176x1024, .f32⟩
  | .local _ .vmem, ⟨17, _⟩ => ⟨S1x176x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S16x6144, .bf16⟩
  | .local _ .vmem, ⟨23, _⟩ => ⟨S16x6144, .bf16⟩
  | .local _ .vmem, ⟨24, _⟩ => ⟨S32x1024, .bf16⟩
  | .local _ .vmem, ⟨25, _⟩ => ⟨S32x1024, .bf16⟩
  | .local _ .vmem, ⟨26, _⟩ => ⟨S16x5632, .bf16⟩
  | .local _ .vmem, ⟨27, _⟩ => ⟨S16x5632, .bf16⟩
  | .local _ .vmem, ⟨28, _⟩ => ⟨S176x1024, .bf16⟩
  | .local _ .vmem, ⟨29, _⟩ => ⟨S176x1024, .bf16⟩
  | .local _ .vmem, ⟨30, _⟩ => ⟨S512x1024, .bf16⟩
  | .local _ .vmem, ⟨31, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v8_4 : Ref sig .tc := ⟨.hbm, 27, rfl⟩
abbrev main_v8_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c4_i32 : BitVec 32 := 4#32
  let c0_i32 : BitVec 32 := 0#32
  let v14 : BitVec 1 := Scalar.cmpi .eq c4_i32 c0_i32
  let c1_i32 : BitVec 32 := 1#32
  let v15 : BitVec 32 := Scalar.select v14 c1_i32 c4_i32
  let v16 : BitVec 32 := Scalar.remsi v1 v15
  let c0_i32_15 : BitVec 32 := 0#32
  let v18 : BitVec 1 := Scalar.cmpi .slt v16 c0_i32_15
  let c0_i32_16 : BitVec 32 := 0#32
  let v19 : BitVec 1 := Scalar.cmpi .slt v15 c0_i32_16
  let v20 : BitVec 1 := Scalar.xori v18 v19
  let c0_i32_14 : BitVec 32 := 0#32
  let v17 : BitVec 1 := Scalar.cmpi .ne v16 c0_i32_14
  let v21 : BitVec 1 := Scalar.andi v20 v17
  let v22 : BitVec 32 := Scalar.addi v16 v15
  let v23 : BitVec 32 := Scalar.select v21 v22 v16
  let c0_i32_17 : BitVec 32 := 0#32
  let v24 : BitVec 1 := Scalar.cmpi .eq v23 c0_i32_17
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![c0_i32_5.toNat, v18.toNat, c0_i32_6.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let c0_i32_5 : BitVec 32 := 0#32
  let c0_i32_6 : BitVec 32 := 0#32
  ![c1_i32_4.toNat, v18.toNat, c0_i32_5.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x4096x1024 : Shape := ⟨3, ![8, 4096, 1024]⟩
abbrev S8x6x1024 : Shape := ⟨3, ![8, 6, 1024]⟩
abbrev S1024 : Shape := ⟨1, ![1024]⟩
abbrev S8x2x4096x512 : Shape := ⟨4, ![8, 2, 4096, 512]⟩
abbrev S1024x1024 : Shape := ⟨2, ![1024, 1024]⟩
abbrev S1024x5632 : Shape := ⟨2, ![1024, 5632]⟩
abbrev S2816x1024 : Shape := ⟨2, ![2816, 1024]⟩
abbrev S2x1024x6144 : Shape := ⟨3, ![2, 1024, 6144]⟩
abbrev S2x2048x1024 : Shape := ⟨3, ![2, 2048, 1024]⟩
abbrev S4x1024x5632 : Shape := ⟨3, ![4, 1024, 5632]⟩
abbrev S4x2816x1024 : Shape := ⟨3, ![4, 2816, 1024]⟩
abbrev S8x1x1024 : Shape := ⟨3, ![8, 1, 1024]⟩
abbrev S8x1024 : Shape := ⟨2, ![8, 1024]⟩
abbrev S8x4096x2x512 : Shape := ⟨4, ![8, 4096, 2, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S1x1024x6144 : Shape := ⟨3, ![1, 1024, 6144]⟩
abbrev S1024x6144 : Shape := ⟨2, ![1024, 6144]⟩
abbrev S1x2048x1024 : Shape := ⟨3, ![1, 2048, 1024]⟩
abbrev S2048x1024 : Shape := ⟨2, ![2048, 1024]⟩
abbrev S1x1024x5632 : Shape := ⟨3, ![1, 1024, 5632]⟩
abbrev S1x2816x1024 : Shape := ⟨3, ![1, 2816, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S8x2x4096x512, .bf16⟩
  | .hbm, ⟨6, _⟩ => ⟨S1024x1024, .bf16⟩
  | .hbm, ⟨7, _⟩ => ⟨S1024x5632, .bf16⟩
  | .hbm, ⟨8, _⟩ => ⟨S2816x1024, .bf16⟩
  | .hbm, ⟨9, _⟩ => ⟨S2x1024x6144, .f32⟩
  | .hbm, ⟨10, _⟩ => ⟨S2x2048x1024, .f32⟩
  | .hbm, ⟨11, _⟩ => ⟨S4x1024x5632, .f32⟩
  | .hbm, ⟨12, _⟩ => ⟨S4x2816x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x1024, .f32⟩
  | .hbm, ⟨25, _⟩ => ⟨S8x2x4096x512, .f32⟩
  | .hbm, ⟨26, _⟩ => ⟨S8x4096x2x512, .f32⟩
  | .hbm, ⟨27, _⟩ => ⟨S8x4096x1024, .f32⟩
  | .hbm, ⟨28, _⟩ => ⟨S1024x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S8x1x1024, .f32⟩
  | .hbm, ⟨51, _⟩ => ⟨S_, .f32⟩
  | .hbm, ⟨52, _⟩ => ⟨S8x1x1024, .f32⟩
  | .hbm, ⟨53, _⟩ => ⟨S8x1x1024, .f32⟩
  | .hbm, ⟨54, _⟩ => ⟨S8x4096x1024, .f32⟩
  | .hbm, ⟨55, _⟩ => ⟨S8x4096x1024, .f32⟩
  | .hbm, ⟨56, _⟩ => ⟨S8x1x1024, .f32⟩
  | .hbm, ⟨57, _⟩ => ⟨S8x4096x1024, .f32⟩
  | .hbm, ⟨58, _⟩ => ⟨S8x4096x1024, .f32⟩
  | .hbm, ⟨59, _⟩ => ⟨S8x1x1024, .f32⟩
  | .hbm, ⟨60, _⟩ => ⟨S1024x5632, .f32⟩
  | .hbm, ⟨61, _⟩ => ⟨S8x4096x5632, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S2816x1024, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S_, .f32⟩
  | .hbm, ⟨84, _⟩ => ⟨S8x4096x1, .f32⟩
  | .hbm, ⟨85, _⟩ => ⟨S8x4096x1, .f32⟩
  | .hbm, ⟨86, _⟩ => ⟨S_, .f32⟩
  | .hbm, ⟨87, _⟩ => ⟨S8x4096x1, .f32⟩
  | .hbm, ⟨88, _⟩ => ⟨S8x4096x1, .f32⟩
  | .hbm, ⟨89, _⟩ => ⟨S8x4096x1, .f32⟩
  | .hbm, ⟨90, _⟩ => ⟨S8x4096x1024, .f32⟩
  | .hbm, ⟨91, _⟩ => ⟨S8x4096x1024, .f32⟩
  | .hbm, ⟨92, _⟩ => ⟨S1x1x1024, .f32⟩
  | .hbm, ⟨93, _⟩ => ⟨S8x4096x1024, .f32⟩
  | .hbm, ⟨94, _⟩ => ⟨S8x4096x1024, .f32⟩
  | .hbm, ⟨95, _⟩ => ⟨S8x1x1024, .f32⟩
  | .hbm, ⟨96, _⟩ => ⟨S8x1024, .f32⟩
  | .hbm, ⟨97, _⟩ => ⟨S8x1x1024, .f32⟩
  | .hbm, ⟨98, _⟩ => ⟨S8x1024, .f32⟩
  | .hbm, ⟨99, _⟩ => ⟨S8x1x1024, .f32⟩
  | .hbm, ⟨100, _⟩ => ⟨S_, .f32⟩
  | .hbm, ⟨101, _⟩ => ⟨S8x1x1024, .f32⟩
  | .hbm, ⟨102, _⟩ => ⟨S8x1x1024, .f32⟩
  | .hbm, ⟨103, _⟩ => ⟨S8x4096x1024, .f32⟩
  | .hbm, ⟨104, _⟩ => ⟨S8x4096x1024, .f32⟩
  | .hbm, ⟨105, _⟩ => ⟨S8x1x1024, .f32⟩
  | .hbm, ⟨106, _⟩ => ⟨S8x4096x1024, .f32⟩
  | .hbm, ⟨107, _⟩ => ⟨S8x4096x1024, .f32⟩
  | .hbm, ⟨108, _⟩ => ⟨S1x1024x6144, .f32⟩
  | .hbm, ⟨109, _⟩ => ⟨S1024x6144, .f32⟩
  | .hbm, ⟨110, _⟩ => ⟨S1x2048x1024, .f32⟩
  | .hbm, ⟨111, _⟩ => ⟨S2048x1024, .f32⟩
  | .hbm, ⟨112, _⟩ => ⟨S1x1024x5632, .f32⟩
  | .hbm, ⟨113, _⟩ => ⟨S1024x5632, .f32⟩
  | .hbm, ⟨114, _⟩ => ⟨S1x2816x1024, .f32⟩
  | .hbm, ⟨115, _⟩ => ⟨S2816x1024, .f32⟩
  | .hbm, ⟨116, _⟩ => ⟨S8x4096x1024, .bf16⟩
  | .hbm, ⟨117, _⟩ => ⟨S1024x6144, .bf16⟩
  | .hbm, ⟨118, _⟩ => ⟨S2048x1024, .bf16⟩
  | .hbm, ⟨119, _⟩ => ⟨S1024x5632, .bf16⟩
  | .hbm, ⟨120, _⟩ => ⟨S2816x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_6 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x6x1024 : Shape := ⟨3, ![8, 6, 1024]⟩
abbrev S1024 : Shape := ⟨1, ![1024]⟩
abbrev S8x4x4096x512 : Shape := ⟨4, ![8, 4, 4096, 512]⟩
abbrev S2048x1024 : Shape := ⟨2, ![2048, 1024]⟩
abbrev S1024x5632 : Shape := ⟨2, ![1024, 5632]⟩
abbrev S2816x1024 : Shape := ⟨2, ![2816, 1024]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S8x2x1024 : Shape := ⟨3, ![8, 2, 1024]⟩
abbrev S_ : Shape := ⟨0, ![]⟩
abbrev S8x4x1024 : Shape := ⟨3, ![8, 4, 1024]⟩
abbrev S8x8x1024 : Shape := ⟨3, ![8, 8, 1024]⟩
abbrev S1x1024 : Shape := ⟨2, ![1, 1024]⟩
abbrev S6x1024 : Shape := ⟨2, ![6, 1024]⟩
abbrev S8x1024 : Shape := ⟨2, ![8, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x2x16x256x512 : Shape := ⟨5, ![8, 2, 16, 256, 512]⟩
abbrev S1024x1024 : Shape := ⟨2, ![1024, 1024]⟩
abbrev S1x512x1024 : Shape := ⟨3, ![1, 512, 1024]⟩
abbrev S1x8x1024 : Shape := ⟨3, ![1, 8, 1024]⟩
abbrev S1x4x512x512 : Shape := ⟨4, ![1, 4, 512, 512]⟩
abbrev S1x16x1024 : Shape := ⟨3, ![1, 16, 1024]⟩
abbrev S1x16x5632 : Shape := ⟨3, ![1, 16, 5632]⟩
abbrev S1x176x1024 : Shape := ⟨3, ![1, 176, 1024]⟩
abbrev S1x2x16x32x512 : Shape := ⟨5, ![1, 2, 16, 32, 512]⟩
abbrev S16x1024 : Shape := ⟨2, ![16, 1024]⟩
abbrev S16x5632 : Shape := ⟨2, ![16, 5632]⟩
abbrev S176x1024 : Shape := ⟨2, ![176, 1024]⟩
abbrev S512x1024 : Shape := ⟨2, ![512, 1024]⟩
abbrev S512x2816 : Shape := ⟨2, ![512, 2816]⟩
abbrev S1x1x1024 : Shape := ⟨3, ![1, 1, 1024]⟩
abbrev S1x1x256x512 : Shape := ⟨4, ![1, 1, 256, 512]⟩
abbrev S256x512 : Shape := ⟨2, ![256, 512]⟩
abbrev S256x2048 : Shape := ⟨2, ![256, 2048]⟩
abbrev S256x1024 : Shape := ⟨2, ![256, 1024]⟩
abbrev S1x256x1024 : Shape := ⟨3, ![1, 256, 1024]⟩
abbrev S1024x256 : Shape := ⟨2, ![1024, 256]⟩
abbrev S256x2816 : Shape := ⟨2, ![256, 2816]⟩
abbrev S16x512 : Shape := ⟨2, ![16, 512]⟩
abbrev S1x1x1x16x512 : Shape := ⟨5, ![1, 1, 1, 16, 512]⟩

abbrev nBuf : Space → Nat
  | .hbm => 79
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S8x4x4096x512, .bf16⟩
  | .hbm, ⟨6, _⟩ => ⟨S8x4x4096x512, .bf16⟩
  | .hbm, ⟨7, _⟩ => ⟨S2048x1024, .bf16⟩
  | .hbm, ⟨8, _⟩ => ⟨S1024x5632, .bf16⟩
  | .hbm, ⟨9, _⟩ => ⟨S2816x1024, .bf16⟩
  | .hbm, ⟨10, _⟩ => ⟨S2x1024x1024, .f32⟩
  | .hbm, ⟨11, _⟩ => ⟨S4x1024x5632, .f32⟩
  | .hbm, ⟨12, _⟩ => ⟨S4x2816x1024, .f32⟩
  | .hbm, ⟨13, _⟩ => ⟨S8x2x1024, .f32⟩
  | .hbm, ⟨14, _⟩ => ⟨S_, .f32⟩
  | .hbm, ⟨15, _⟩ => ⟨S8x2x1024, .f32⟩
  | .hbm, ⟨16, _⟩ => ⟨S8x4x1024, .f32⟩
  | .hbm, ⟨17, _⟩ => ⟨S8x8x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S6x1024, .f32⟩
  | .hbm, ⟨22, _⟩ => ⟨S8x1024, .f32⟩
  | .hbm, ⟨23, _⟩ => ⟨S256, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S_, .i1⟩
  | .hbm, ⟨40, _⟩ => ⟨S256, .i1⟩
  | .hbm, ⟨41, _⟩ => ⟨S256, .i1⟩
  | .hbm, ⟨42, _⟩ => ⟨S256, .i1⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S_, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S256, .i32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i1⟩
  | .hbm, ⟨62, _⟩ => ⟨S256, .i1⟩
  | .hbm, ⟨63, _⟩ => ⟨S_, .i32⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S256x1, .i32⟩
  | .hbm, ⟨69, _⟩ => ⟨S1x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S256x256, .bf16⟩
  | .hbm, ⟨74, _⟩ => ⟨S8x4096x1024, .f32⟩
  | .hbm, ⟨75, _⟩ => ⟨S8x2x16x256x512, .bf16⟩
  | .hbm, ⟨76, _⟩ => ⟨S1024x1024, .bf16⟩
  | .hbm, ⟨77, _⟩ => ⟨S1024x5632, .bf16⟩
  | .hbm, ⟨78, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S1x4x512x512, .bf16⟩
  | .local _ .vmem, ⟨6, _⟩ => ⟨S1x4x512x512, .bf16⟩
  | .local _ .vmem, ⟨7, _⟩ => ⟨S1x4x512x512, .bf16⟩
  | .local _ .vmem, ⟨8, _⟩ => ⟨S1x4x512x512, .bf16⟩
  | .local _ .vmem, ⟨9, _⟩ => ⟨S2048x1024, .bf16⟩
  | .local _ .vmem, ⟨10, _⟩ => ⟨S1024x5632, .bf16⟩
  | .local _ .vmem, ⟨11, _⟩ => ⟨S2816x1024, .bf16⟩
  | .local _ .vmem, ⟨12, _⟩ => ⟨S256x256, .bf16⟩
  | .local _ .vmem, ⟨13, _⟩ => ⟨S1x16x1024, .f32⟩
  | .local _ .vmem, ⟨14, _⟩ => ⟨S1x16x1024, .f32⟩
  | .local _ .vmem, ⟨15, _⟩ => ⟨S1x16x5632, .f32⟩
  | .local _ .vmem, ⟨16, _⟩ => ⟨S1x16x5632, .f32⟩
  | .local _ .vmem, ⟨17, _⟩ => ⟨S1x176x1024, .f32⟩
  | .local _ .vmem, ⟨18, _⟩ => ⟨S1x176x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x2x16x32x512, .bf16⟩
  | .local _ .vmem, ⟨22, _⟩ => ⟨S1x2x16x32x512, .bf16⟩
  | .local _ .vmem, ⟨23, _⟩ => ⟨S16x1024, .bf16⟩
  | .local _ .vmem, ⟨24, _⟩ => ⟨S16x1024, .bf16⟩
  | .local _ .vmem, ⟨25, _⟩ => ⟨S16x5632, .bf16⟩
  | .local _ .vmem, ⟨26, _⟩ => ⟨S16x5632, .bf16⟩
  | .local _ .vmem, ⟨27, _⟩ => ⟨S176x1024, .bf16⟩
  | .local _ .vmem, ⟨28, _⟩ => ⟨S176x1024, .bf16⟩
  | .local _ .vmem, ⟨29, _⟩ => ⟨S512x1024, .bf16⟩
  | .local _ .vmem, ⟨30, _⟩ => ⟨S512x2816, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_1 : Ref sig .tc := ⟨.hbm, 32, rfl⟩
abbrev main_call0_v5 : Ref sig .tc := ⟨.hbm, 33, rfl⟩
abbrev main_call0_v6 : Ref sig .tc := ⟨.hbm, 34, rfl⟩
abbrev main_call0_c_2 : Ref sig .tc := ⟨.hbm, 35, rfl⟩
abbrev main_call0_v7 : Ref sig .tc := ⟨.hbm, 36, rfl⟩
abbrev main_call0_v8 : Ref sig .tc := ⟨.hbm, 37, rfl⟩
abbrev main_call0_c_3 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_v9 : Ref sig .tc := ⟨.hbm, 45, rfl⟩
abbrev main_c_1 : Ref sig .tc := ⟨.hbm, 46, rfl⟩
abbrev main_v10 : Ref sig .tc := ⟨.hbm, 47, rfl⟩
abbrev main_v11 : Ref sig .tc := ⟨.hbm, 48, rfl⟩
abbrev main_c_2 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20_0 : Ref sig .tc := ⟨.hbm, 74, rfl⟩
abbrev main_v20_1 : Ref sig .tc := ⟨.hbm, 75, rfl⟩
abbrev main_v20_2 : Ref sig .tc := ⟨.hbm, 76, rfl⟩
abbrev main_v20_3 : Ref sig .tc := ⟨.hbm, 77, rfl⟩
abbrev main_v20_4 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c4_i32 : BitVec 32 := 4#32
  let c0_i32 : BitVec 32 := 0#32
  let v10 : BitVec 1 := Scalar.cmpi .eq c4_i32 c0_i32
  let c1_i32 : BitVec 32 := 1#32
  let v11 : BitVec 32 := Scalar.select v10 c1_i32 c4_i32
  let v12 : BitVec 32 := Scalar.remsi v1 v11
  let c0_i32_10 : BitVec 32 := 0#32
  let v14 : BitVec 1 := Scalar.cmpi .slt v12 c0_i32_10
  let c0_i32_11 : BitVec 32 := 0#32
  let v15 : BitVec 1 := Scalar.cmpi .slt v11 c0_i32_11
  let v16 : BitVec 1 := Scalar.xori v14 v15
  let c0_i32_9 : BitVec 32 := 0#32
  let v13 : BitVec 1 := Scalar.cmpi .ne v12 c0_i32_9
  let v17 : BitVec 1 := Scalar.andi v16 v13
  let v18 : BitVec 32 := Scalar.addi v12 v11
  let v19 : BitVec 32 := Scalar.select v17 v18 v12
  let c0_i32_12 : BitVec 32 := 0#32
  let v20 : BitVec 1 := Scalar.cmpi .eq v19 c0_i32_12
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let c0_i32_7 : BitVec 32 := 0#32
  ![c1_i32_5.toNat, v18.toNat, c0_i32_6.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32 : BitVec 32 := 2#32
  let c0_i32_5 : BitVec 32 := 0#32
  let c0_i32_6 : BitVec 32 := 0#32
  ![c2_i32.toNat, v18.toNat, c0_i32_5.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let c0_i32_4 : BitVec 32 := 0#32
  let c0_i32_5 : BitVec 32 := 0#32
  ![c2_i32.toNat, v18.toNat, c0_i32_4.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x16x32x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S8x4096x1024 : Shape := ⟨3, ![8, 4096, 1024]⟩
abbrev S8x6x1024 : Shape := ⟨3, ![8, 6, 1024]⟩
abbrev S1024 : Shape := ⟨1, ![1024]⟩
abbrev S8x4x4096x512 : Shape := ⟨4, ![8, 4, 4096, 512]⟩
abbrev S2048x1024 : Shape := ⟨2, ![2048, 1024]⟩
abbrev S1024x5632 : Shape := ⟨2, ![1024, 5632]⟩
abbrev S2816x1024 : Shape := ⟨2, ![2816, 1024]⟩
abbrev S2x1024x1024 : Shape := ⟨3, ![2, 1024, 1024]⟩
abbrev S4x1024x5632 : Shape := ⟨3, ![4, 1024, 5632]⟩
abbrev S4x2816x1024 : Shape := ⟨3, ![4, 2816, 1024]⟩
abbrev S8x1x1024 : Shape := ⟨3, ![8, 1, 1024]⟩
abbrev S8x1024 : Shape := ⟨2, ![8, 1024]⟩
abbrev S8x4096x4x512 : Shape := ⟨4, ![8, 4096, 4, 512]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x256x16x2x512 : Shape := ⟨5, ![8, 256, 16, 2, 512]⟩
abbrev S8x2x16x256x512 : Shape := ⟨5, ![8, 2, 16, 256, 512]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1x2816x1024 : Shape := ⟨3, ![1, 2816, 1024]⟩

abbrev nBuf : Space → Nat
  | .hbm => 124
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S8x6x1024, .f32⟩
  | .hbm, ⟨3, _⟩ => ⟨S1024, .f32⟩
  | .hbm, ⟨4, _⟩ => ⟨S1024, .f32⟩
  | .hbm, ⟨5, _⟩ => ⟨S8x4x4096x512, .bf16⟩
  | .hbm, ⟨6, _⟩ => ⟨S8x4x4096x512, .bf16⟩
  | .hbm, ⟨7, _⟩ => ⟨S2048x1024, .bf16⟩
  | .hbm, ⟨8, _⟩ => ⟨S1024x5632, .bf16⟩
  | .hbm, ⟨9, _⟩ => ⟨S2816x1024, .bf16⟩
  | .hbm, ⟨10, _⟩ => ⟨S2x1024x1024, .f32⟩
  | .hbm, ⟨11, _⟩ => ⟨S4x1024x5632, .f32⟩
  | .hbm, ⟨12, _⟩ => ⟨S4x2816x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S8x1024, .f32⟩
  | .hbm, ⟨25, _⟩ => ⟨S8x4x4096x512, .f32⟩
  | .hbm, ⟨26, _⟩ => ⟨S8x4096x4x512, .f32⟩
  | .hbm, ⟨27, _⟩ => ⟨S8x4096x2048, .f32⟩
  | .hbm, ⟨28, _⟩ => ⟨S8x4x4096x512, .f32⟩
  | .hbm, ⟨29, _⟩ => ⟨S8x4096x4x512, .f32⟩
  | .hbm, ⟨30, _⟩ => ⟨S8x4096x2048, .f32⟩
  | .hbm, ⟨31, _⟩ => ⟨S8x4096x2048, .f32⟩
  | .hbm, ⟨32, _⟩ => ⟨S2048x1024, .f32⟩
  | .hbm, ⟨33, _⟩ => ⟨S8x4096x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S8x1x1024, .f32⟩
  | .hbm, ⟨55, _⟩ => ⟨S_, .f32⟩
  | .hbm, ⟨56, _⟩ => ⟨S8x1x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x1x1024, .f32⟩
  | .hbm, ⟨61, _⟩ => ⟨S8x4096x1024, .f32⟩
  | .hbm, ⟨62, _⟩ => ⟨S8x4096x1024, .f32⟩
  | .hbm, ⟨63, _⟩ => ⟨S8x1x1024, .f32⟩
  | .hbm, ⟨64, _⟩ => ⟨S1024x5632, .f32⟩
  | .hbm, ⟨65, _⟩ => ⟨S8x4096x5632, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S_, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S8x4096x2816, .f32⟩
  | .hbm, ⟨77, _⟩ => ⟨S8x4096x2816, .f32⟩
  | .hbm, ⟨78, _⟩ => ⟨S2816x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S8x4096x1, .f32⟩
  | .hbm, ⟨94, _⟩ => ⟨S8x4096x1024, .f32⟩
  | .hbm, ⟨95, _⟩ => ⟨S8x4096x1024, .f32⟩
  | .hbm, ⟨96, _⟩ => ⟨S1x1x1024, .f32⟩
  | .hbm, ⟨97, _⟩ => ⟨S8x4096x1024, .f32⟩
  | .hbm, ⟨98, _⟩ => ⟨S8x4096x1024, .f32⟩
  | .hbm, ⟨99, _⟩ => ⟨S8x1x1024, .f32⟩
  | .hbm, ⟨100, _⟩ => ⟨S8x1024, .f32⟩
  | .hbm, ⟨101, _⟩ => ⟨S8x1x1024, .f32⟩
  | .hbm, ⟨102, _⟩ => ⟨S8x1024, .f32⟩
  | .hbm, ⟨103, _⟩ => ⟨S8x1x1024, .f32⟩
  | .hbm, ⟨104, _⟩ => ⟨S_, .f32⟩
  | .hbm, ⟨105, _⟩ => ⟨S8x1x1024, .f32⟩
  | .hbm, ⟨106, _⟩ => ⟨S8x1x1024, .f32⟩
  | .hbm, ⟨107, _⟩ => ⟨S8x4096x1024, .f32⟩
  | .hbm, ⟨108, _⟩ => ⟨S8x4096x1024, .f32⟩
  | .hbm, ⟨109, _⟩ => ⟨S8x1x1024, .f32⟩
  | .hbm, ⟨110, _⟩ => ⟨S8x4096x1024, .f32⟩
  | .hbm, ⟨111, _⟩ => ⟨S8x4096x1024, .f32⟩
  | .hbm, ⟨112, _⟩ => ⟨S8x256x16x2x512, .f32⟩
  | .hbm, ⟨113, _⟩ => ⟨S8x2x16x256x512, .f32⟩
  | .hbm, ⟨114, _⟩ => ⟨S1x1024x1024, .f32⟩
  | .hbm, ⟨115, _⟩ => ⟨S1024x1024, .f32⟩
  | .hbm, ⟨116, _⟩ => ⟨S1x1024x5632, .f32⟩
  | .hbm, ⟨117, _⟩ => ⟨S1024x5632, .f32⟩
  | .hbm, ⟨118, _⟩ => ⟨S1x2816x1024, .f32⟩
  | .hbm, ⟨119, _⟩ => ⟨S2816x1024, .f32⟩
  | .hbm, ⟨120, _⟩ => ⟨S8x2x16x256x512, .bf16⟩
  | .hbm, ⟨121, _⟩ => ⟨S1024x1024, .bf16⟩
  | .hbm, ⟨122, _⟩ => ⟨S1024x5632, .bf16⟩
  | .hbm, ⟨123, _⟩ => ⟨S2816x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_2 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_3 : Ref sig .tc := ⟨.hbm, 84, rfl⟩
abbrev main_v59 : Ref sig .tc := ⟨.hbm, 85, rfl⟩
abbrev main_v60 : Ref sig .tc := ⟨.hbm, 86, rfl⟩
abbrev main_cst_4 : Ref sig .tc := ⟨.hbm, 87, rfl⟩
abbrev main_v61 : Ref sig .tc := ⟨.hbm, 88, rfl⟩
abbrev main_v62 : Ref sig .tc := ⟨.hbm, 89, rfl⟩
abbrev main_cst_5 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_6 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x6x1024 : Shape := ⟨3, ![8, 6, 1024]⟩
abbrev S1024 : Shape := ⟨1, ![1024]⟩
abbrev S8x1x1024 : Shape := ⟨3, ![8, 1, 1024]⟩
abbrev S8x1024 : Shape := ⟨2, ![8, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S8x2x16x256x512 : Shape := ⟨5, ![8, 2, 16, 256, 512]⟩
abbrev S1x2048x1024 : Shape := ⟨3, ![1, 2048, 1024]⟩
abbrev S1x1x1024 : Shape := ⟨3, ![1, 1, 1024]⟩
abbrev S1x2x16x128x512 : Shape := ⟨5, ![1, 2, 16, 128, 512]⟩
abbrev S2048x1024 : Shape := ⟨2, ![2048, 1024]⟩
abbrev S2048 : Shape := ⟨1, ![2048]⟩
abbrev S2048x1 : Shape := ⟨2, ![2048, 1]⟩
abbrev S256x1024 : Shape := ⟨2, ![256, 1024]⟩
abbrev S16x512 : Shape := ⟨2, ![16, 512]⟩
abbrev S1x1x1x16x512 : Shape := ⟨5, ![1, 1, 1, 16, 512]⟩

abbrev nBuf : Space → Nat
  | .hbm => 62
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S8x1x1024, .f32⟩
  | .hbm, ⟨4, _⟩ => ⟨S8x1024, .f32⟩
  | .hbm, ⟨5, _⟩ => ⟨S8x1x1024, .f32⟩
  | .hbm, ⟨6, _⟩ => ⟨S8x1024, .f32⟩
  | .hbm, ⟨7, _⟩ => ⟨S1x1024, .f32⟩
  | .hbm, ⟨8, _⟩ => ⟨S8x1x1024, .f32⟩
  | .hbm, ⟨9, _⟩ => ⟨S8x1x1024, .f32⟩
  | .hbm, ⟨10, _⟩ => ⟨S256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S_, .i1⟩
  | .hbm, ⟨27, _⟩ => ⟨S256, .i1⟩
  | .hbm, ⟨28, _⟩ => ⟨S256, .i1⟩
  | .hbm, ⟨29, _⟩ => ⟨S256, .i1⟩
  | .hbm, ⟨30, _⟩ => ⟨S256, .i32⟩
  | .hbm, ⟨31, _⟩ => ⟨S256, .i32⟩
  | .hbm, ⟨32, _⟩ => ⟨S256, .i32⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S1x256, .i32⟩
  | .hbm, ⟨57, _⟩ => ⟨S256x256, .i32⟩
  | .hbm, ⟨58, _⟩ => ⟨S256x256, .i32⟩
  | .hbm, ⟨59, _⟩ => ⟨S256x256, .i1⟩
  | .hbm, ⟨60, _⟩ => ⟨S256x256, .bf16⟩
  | .hbm, ⟨61, _⟩ => ⟨S8x2x16x256x512, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S256x256, .bf16⟩
  | .local _ .vmem, ⟨8, _⟩ => ⟨S1x2x16x128x512, .bf16⟩
  | .local _ .vmem, ⟨9, _⟩ => ⟨S1x2x16x128x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v8 : Ref sig .tc := ⟨.hbm, 32, rfl⟩
abbrev main_c_0 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8x4096x1024 : Shape := ⟨3, ![8, 4096, 1024]⟩
abbrev S8x6x1024 : Shape := ⟨3, ![8, 6, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x1024 : Shape := ⟨2, ![8, 1024]⟩
abbrev S8x256x16x2x512 : Shape := ⟨5, ![8, 256, 16, 2, 512]⟩
abbrev S8x2x16x256x512 : Shape := ⟨5, ![8, 2, 16, 256, 512]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x256x16x2x512, .f32⟩
  | .hbm, ⟨33, _⟩ => ⟨S8x2x16x256x512, .f32⟩
  | .hbm, ⟨34, _⟩ => ⟨S8x2x16x256x512, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel7.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x2048 : Shape := ⟨3, ![1, 1024, 2048]⟩
abbrev S1x1x2048 : Shape := ⟨3, ![1, 1, 2048]⟩
abbrev S1x8x2048 : Shape := ⟨3, ![1, 8, 2048]⟩
abbrev S1024x2048 : Shape := ⟨2, ![1024, 2048]⟩
abbrev S16x1024 : Shape := ⟨2, ![16, 1024]⟩
abbrev S16x2048 : Shape := ⟨2, ![16, 2048]⟩
abbrev S8x2048 : Shape := ⟨2, ![8, 2048]⟩
abbrev S1x2048 : Shape := ⟨2, ![1, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x8x2048, .f32⟩
  | .local _ .vmem, ⟨6, _⟩ => ⟨S1x8x2048, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel8.lean ====
abbrev S8x1024 : Shape := ⟨2, ![8, 1024]⟩
abbrev S1024x2048 : Shape := ⟨2, ![1024, 2048]⟩
abbrev S2048 : Shape := ⟨1, ![2048]⟩
abbrev S1x1024x2048 : Shape := ⟨3, ![1, 1024, 2048]⟩
abbrev S1x2048 : Shape := ⟨2, ![1, 2048]⟩
abbrev S1x1x2048 : Shape := ⟨3, ![1, 1, 2048]⟩
abbrev S1x8x2048 : Shape := ⟨3, ![1, 8, 2048]⟩
abbrev S16x1024 : Shape := ⟨2, ![16, 1024]⟩
abbrev S16x2048 : Shape := ⟨2, ![16, 2048]⟩
abbrev S8x2048 : Shape := ⟨2, ![8, 2048]⟩

abbrev nBuf : Space → Nat
  | .hbm => 7
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x2048, .f32⟩
  | .hbm, ⟨2, _⟩ => ⟨S2048, .f32⟩
  | .hbm, ⟨3, _⟩ => ⟨S1x1024x2048, .f32⟩
  | .hbm, ⟨4, _⟩ => ⟨S1x2048, .f32⟩
  | .hbm, ⟨5, _⟩ => ⟨S1x1x2048, .f32⟩
  | .hbm, ⟨6, _⟩ => ⟨S1x8x2048, .f32⟩
  | .local _ .vmem, ⟨0, _⟩ => ⟨S8x1024, .f32⟩
  | .local _ .vmem, ⟨1, _⟩ => ⟨S1x1024x2048, .f32⟩
  | .local _ .vmem, ⟨2, _⟩ => ⟨S1x1x2048, .f32⟩
  | .local _ .vmem, ⟨3, _⟩ => ⟨S1x8x2048, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S1024x2048 : Shape := ⟨2, ![1024, 2048]⟩
abbrev S2048 : Shape := ⟨1, ![2048]⟩
abbrev S_ : Shape := ⟨0, ![]⟩
abbrev S8x2048 : Shape := ⟨2, ![8, 2048]⟩
abbrev S1x2048 : Shape := ⟨2, ![1, 2048]⟩
abbrev S1x8x2048 : Shape := ⟨3, ![1, 8, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x2048, .f32⟩
  | .hbm, ⟨2, _⟩ => ⟨S2048, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2048, .f32⟩
  | .hbm, ⟨13, _⟩ => ⟨S1x2048, .f32⟩
  | .hbm, ⟨14, _⟩ => ⟨S8x2048, .f32⟩
  | .hbm, ⟨15, _⟩ => ⟨S8x2048, .f32⟩
  | .hbm, ⟨16, _⟩ => ⟨S1x8x2048, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.RetBody.lean ====
/- One grid point of the retention call, over any scalars. The body carries two states forward, one chunk of 256 rows at a time
   (the forward one from the first chunk, the backward one from the last), keeps both before every chunk in one scratch, and then
   computes each chunk of the result from its queries, keys and values and the two kept states. These definitions state that
   once for a chunk number, and `out_eq` says that what the point leaves in its output is the list of sixteen such chunks. -/
module

public import proofs.«01_k».proof.Proof.Gen.KernelIdeal.Value

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.View (Piece)

variable {F : FTy → Type} [FloatOps F]

/-- The state before the first chunk. -/
def zeroV : FVec F S256x512 .f32 :=
  shapeCast S256x512 (broadcast S256x512 (Scalar.ofBits .f32 0x00000000#32)) shapeCasts_S256x512_S256x512

/-- One step of a state: decayed by `g`, plus the chunk's keys (each with its own decay) times its values. -/
def stepV (g : Elt F .f32) (kd : FVec F S1x256 .f32) (k : Vec F S1x1x256x256 .bf16) (R : Vec F S256x512 .f32)
    (v : Vec F S1x1x256x512 .bf16) : FVec F S256x512 .f32 :=
  shapeCast S256x512
    (addf (mulf R (broadcast S256x512 g))
      (matmul dot_S256x256_S256x512_S256x512_1_0_0_1_n_n none
        (truncf .bf16 (mulf (extf .f32 (shapeCast S256x256 k shapeCasts_S1x1x256x256_S256x256) bitsLt_bf16_f32)
          (broadcastTo S256x256 kd broadcasts_S1x256_S256x256)) bitsLt_bf16_f32)
        (shapeCast S256x512 v shapeCasts_S1x1x256x512_S256x512) (constant S256x512 .f32 0x00000000#32)))
    shapeCasts_S256x512_S256x512

/-- A state as the scratch keeps it. -/
def storeV (R : Vec F S256x512 .f32) : FVec F S1x256x512 .bf16 :=
  shapeCast S1x256x512 (truncf .bf16 R bitsLt_bf16_f32) shapeCasts_S256x512_S1x256x512

/-- A table of 128 equal columns made 256 columns wide. -/
def tileV (x : Vec F S1x256x128 .f32) : FVec F S256x256 .f32 :=
  concatenate S256x256 1 [⟨S256x128, shapeCast S256x128 x shapeCasts_S1x256x128_S256x128⟩,
    ⟨S256x128, shapeCast S256x128 x shapeCasts_S1x256x128_S256x128⟩] concatenates_S256x128_S256x128_S256x256_d1

/-- A chunk before its normalization: the decayed scores times the values, plus the decayed queries times both states. -/
def mixV (qf qb : FVec F S256x256 .f32) (q : Vec F S1x1x256x256 .bf16) (k : Vec F S1x1x256x256 .bf16) (dm : Vec F S1x256x256 .f32)
    (v : Vec F S1x1x256x512 .bf16) (r : Vec F S1x512x512 .bf16) : FVec F S256x512 .f32 :=
  addf
    (matmul dot_S256x256_S256x512_S256x512_1_0_0_1_n_n none
      (truncf .bf16
        (mulf (matmul dot_S256x256_S256x256_S256x256_1_0_0_1_n_n none (shapeCast S256x256 q shapeCasts_S1x1x256x256_S256x256)
            (shapeCast S256x256 k shapeCasts_S1x1x256x256_S256x256) (constant S256x256 .f32 0x00000000#32))
          (shapeCast S256x256 dm shapeCasts_S1x256x256_S256x256)) bitsLt_bf16_f32)
      (shapeCast S256x512 v shapeCasts_S1x1x256x512_S256x512) (constant S256x512 .f32 0x00000000#32))
    (matmul dot_S256x512_S512x512_S256x512_1_0_0_1_n_n none
      (concatenate S256x512 1
        [⟨S256x256, truncf .bf16 (mulf (extf .f32 (shapeCast S256x256 q shapeCasts_S1x1x256x256_S256x256) bitsLt_bf16_f32) qf) bitsLt_bf16_f32⟩,
          ⟨S256x256, truncf .bf16 (mulf (extf .f32 (shapeCast S256x256 q shapeCasts_S1x1x256x256_S256x256) bitsLt_bf16_f32) qb) bitsLt_bf16_f32⟩]
        concatenates_S256x256_S256x256_S256x512_d1)
      (shapeCast S512x512 r shapeCasts_S1x512x512_S512x512) (constant S256x512 .f32 0x00000000#32))

/-- A row's mean, as a column. -/
def meanV (y : FVec F S256x512 .f32) : FVec F S256x1 .f32 :=
  divf (shapeCast S256x1 (multiReduction .add [1] S256 y 0x00000000#32 reduces_S256x512_S256 (.inl rfl) rfl) shapeCasts_S256_S256x1)
    (broadcast S256x1 (Scalar.ofBits .f32 0x44000000#32))

/-- A chunk with each row less its mean. -/
def centreV (y : FVec F S256x512 .f32) : FVec F S256x512 .f32 :=
  subf y (broadcastTo S256x512 (meanV y) broadcasts_S256x1_S256x512)

/-- A chunk normalized row by row. -/
def normV (y : FVec F S256x512 .f32) : FVec F S1x1x256x512 .bf16 :=
  shapeCast S1x1x256x512
    (truncf .bf16
      (mulf (centreV y)
        (broadcastTo S256x512
          (rsqrt (addf (meanV (mulf (centreV y) (centreV y))) (broadcast S256x1 (Scalar.ofBits .f32 0x358637BD#32))))
          broadcasts_S256x1_S256x512)) bitsLt_bf16_f32)
    shapeCasts_S256x512_S1x1x256x512

section Body

variable (c : Dev nD) (i : grid0.Coords) (arg2 : Memref sig .tc .smem S2x4 .f32) (harg2 : arg2.IsWhole) (arg3 : Memref sig .tc .vmem S1x1x4096x256 .bf16) (harg3 : arg3.IsWhole) (arg4 : Memref sig .tc .vmem S1x16x256x256 .bf16) (harg4 : arg4.IsWhole) (arg5 : Memref sig .tc .vmem S1x1x4096x512 .bf16) (harg5 : arg5.IsWhole) (arg6 : Memref sig .tc .vmem S1x256x256 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x4096x512 .bf16) (harg11 : arg11.IsWhole) (arg12 : Memref sig .tc .vmem S16x512x512 .bf16) (harg12 : arg12.IsWhole) (arg13 : Memref sig .tc .vmem S256x512 .f32) (harg13 : arg13.IsWhole) (arg14 : Memref sig .tc .vmem S256x512 .f32) (harg14 : arg14.IsWhole)
    (x0 : Vec F S2x4 .f32) (x1 : Vec F S1x1x4096x256 .bf16) (x2 : Vec F S1x16x256x256 .bf16) (x3 : Vec F S1x1x4096x512 .bf16) (x4 : Vec F S1x256x256 .f32) (x5 : Vec F S1x256x128 .f32) (x6 : Vec F S1x256x128 .f32) (x7 : Vec F S1x1x256 .f32) (x8 : Vec F S1x1x256 .f32)

theorem inbK (n : ℕ) (h : n < 16) : ∀ a, (![0, n, 0, 0] : Fin 4 → ℕ) a + S1x1x256x256.size a ≤ S1x16x256x256.size a := by
  intro a; fin_cases a <;> simp [S1x1x256x256, S1x16x256x256] <;> omega

theorem inbQ (n : ℕ) (h : n < 16) : ∀ a, (![0, 0, 256 * n, 0] : Fin 4 → ℕ) a + S1x1x256x256.size a ≤ S1x1x4096x256.size a := by
  intro a; fin_cases a <;> simp [S1x1x256x256, S1x1x4096x256] <;> omega

theorem inbV (n : ℕ) (h : n < 16) : ∀ a, (![0, 0, 256 * n, 0] : Fin 4 → ℕ) a + S1x1x256x512.size a ≤ S1x1x4096x512.size a := by
  intro a; fin_cases a <;> simp [S1x1x256x512, S1x1x4096x512] <;> omega

theorem inbS (n o : ℕ) (h : n < 16) (ho : o ≤ 256) : ∀ a, (![n, o, 0] : Fin 3 → ℕ) a + S1x256x512.size a ≤ S16x512x512.size a := by
  intro a; fin_cases a <;> simp [S1x256x512, S16x512x512] <;> omega

theorem inbR (n : ℕ) (h : n < 16) : ∀ a, (![n, 0, 0] : Fin 3 → ℕ) a + S1x512x512.size a ≤ S16x512x512.size a := by
  intro a; fin_cases a <;> simp [S1x512x512, S16x512x512] <;> omega

/-- Chunk `n` of the keys, as the body loads it. -/
def kAt (n : ℕ) (h : n < 16) : Vec F S1x1x256x256 .bf16 :=
  View.readAt (Elt F) arg4.view (Rect.unit (s := S1x16x256x256) ![0, n, 0, 0] S1x1x256x256.size (inbK n h)).toLoadRect (harg4.unread x2)

/-- Chunk `n` of the queries, as the body loads it. -/
def qAt (n : ℕ) (h : n < 16) : Vec F S1x1x256x256 .bf16 :=
  View.readAt (Elt F) arg3.view (Rect.unit (s := S1x1x4096x256) ![0, 0, 256 * n, 0] S1x1x256x256.size (inbQ n h)).toLoadRect (harg3.unread x1)

/-- Chunk `n` of the values, as the body loads it. -/
def vAt (n : ℕ) (h : n < 16) : Vec F S1x1x256x512 .bf16 :=
  View.readAt (Elt F) arg5.view (Rect.unit (s := S1x1x4096x512) ![0, 0, 256 * n, 0] S1x1x256x512.size (inbV n h)).toLoadRect (harg5.unread x3)

/-- The whole of a state's scratch. -/
abbrev rcS : Rect S256x512 := Rect.unit (s := S256x512) ![0, 0] S256x512.size inb_S256x512_S256x512_0_0

/-- What a state's scratch holds after step `n` of a recursion over the chunks `p 0, p 1, …`: the pieces, last first. -/
def steps (arg : Memref sig .tc .vmem S256x512 .f32) (g : Elt F .f32) (kd : FVec F S1x256 .f32) (p : ℕ → ℕ) (hp : ∀ n, p n < 16) : ℕ → List (Piece (Elt F) S256x512 .f32)
  | 0 => [⟨rcS, zeroV⟩]
  | n + 1 => ⟨rcS, stepV g kd (kAt arg4 harg4 x2 (p n) (hp n)) (arg.view.readCov (steps arg g kd p hp n) rcS.toLoadRect)
      (vAt arg5 harg5 x3 (p n) (hp n))⟩ :: steps arg g kd p hp n

theorem fwd_lt (n : ℕ) : n % 16 < 16 := Nat.mod_lt _ (by decide)
theorem bwd_lt (n : ℕ) : 15 - n < 16 := by omega

/-- The forward state's pieces after `n` steps. -/
def stepsF (n : ℕ) : List (Piece (Elt F) S256x512 .f32) :=
  steps arg4 harg4 arg5 harg5 x2 x3 arg13 (kernelRun0_A.sl.r c i arg2 harg2 x0) (kernelRun0_A.sl.r_2 c arg9 harg9 x7) (fun n => n % 16) fwd_lt n

/-- The backward state's pieces after `n` steps. -/
def stepsB (n : ℕ) : List (Piece (Elt F) S256x512 .f32) :=
  steps arg4 harg4 arg5 harg5 x2 x3 arg14 (kernelRun0_A.sl.r_1 c i arg2 harg2 x0) (kernelRun0_A.sl.r_3 c arg10 harg10 x8) (fun n => 15 - n) bwd_lt n

/-- What the scratch of all the states holds after step `n`: the pieces, last first. -/
def kept : ℕ → List (Piece (Elt F) S16x512x512 .bf16)
  | 0 => [⟨Rect.unit (s := S16x512x512) ![15 - 0, 256, 0] S1x256x512.size (inbS _ _ (bwd_lt 0) le_rfl),
        storeV (arg14.view.readCov (stepsB c i arg2 harg2 arg4 harg4 arg5 harg5 arg10 harg10 arg14 x0 x2 x3 x8 0) rcS.toLoadRect)⟩,
      ⟨Rect.unit (s := S16x512x512) ![0 % 16, 0, 0] S1x256x512.size (inbS _ _ (fwd_lt 0) (by decide)),
        storeV (arg13.view.readCov (stepsF c i arg2 harg2 arg4 harg4 arg5 harg5 arg9 harg9 arg13 x0 x2 x3 x7 0) rcS.toLoadRect)⟩]
  | n + 1 => ⟨Rect.unit (s := S16x512x512) ![15 - (n + 1), 256, 0] S1x256x512.size (inbS _ _ (bwd_lt (n + 1)) le_rfl),
        storeV (arg14.view.readCov (stepsB c i arg2 harg2 arg4 harg4 arg5 harg5 arg10 harg10 arg14 x0 x2 x3 x8 (n + 1)) rcS.toLoadRect)⟩ ::
      ⟨Rect.unit (s := S16x512x512) ![(n + 1) % 16, 0, 0] S1x256x512.size (inbS _ _ (fwd_lt (n + 1)) (by decide)),
        storeV (arg13.view.readCov (stepsF c i arg2 harg2 arg4 harg4 arg5 harg5 arg9 harg9 arg13 x0 x2 x3 x7 (n + 1)) rcS.toLoadRect)⟩ ::
      kept n

/-- Both states before chunk `n`, as the body loads them. -/
def rAt (n : ℕ) (h : n < 16) : Vec F S1x512x512 .bf16 :=
  arg12.view.readCov (kept c i arg2 harg2 arg4 harg4 arg5 harg5 arg9 harg9 arg10 harg10 arg13 arg14 x0 x2 x3 x7 x8 15)
    (Rect.unit (s := S16x512x512) ![n, 0, 0] S1x512x512.size (inbR n h)).toLoadRect

/-- Chunk `n` of the result. -/
def chunk (n : ℕ) (h : n < 16) : FVec F S1x1x256x512 .bf16 :=
  normV (mixV
    (tileV (View.readAt (Elt F) arg7.view (Rect.unit (s := S1x256x128) ![0, 0, 0] S1x256x128.size inb_S1x256x128_S1x256x128_0_0_0).toLoadRect (harg7.unread x5)))
    (tileV (View.readAt (Elt F) arg8.view (Rect.unit (s := S1x256x128) ![0, 0, 0] S1x256x128.size inb_S1x256x128_S1x256x128_0_0_0).toLoadRect (harg8.unread x6)))
    (qAt arg3 harg3 x1 n h) (kAt arg4 harg4 x2 n h)
    (View.readAt (Elt F) arg6.view (Rect.unit (s := S1x256x256) ![0, 0, 0] S1x256x256.size inb_S1x256x256_S1x256x256_0_0_0).toLoadRect (harg6.unread x4))
    (vAt arg5 harg5 x3 n h)
    (rAt c i arg2 harg2 arg4 harg4 arg5 harg5 arg9 harg9 arg10 harg10 arg12 arg13 arg14 x0 x2 x3 x7 x8 n h))

/-- The chunks of the result up to `n`, last first. -/
def chunks : ℕ → List (Piece (Elt F) S1x1x4096x512 .bf16)
  | 0 => [⟨Rect.unit (s := S1x1x4096x512) ![0, 0, 256 * (0 % 16), 0] S1x1x256x512.size (inbV _ (fwd_lt 0)),
        chunk c i arg2 harg2 arg3 harg3 arg4 harg4 arg5 harg5 arg6 harg6 arg7 harg7 arg8 harg8 arg9 harg9 arg10 harg10 arg12 arg13 arg14 x0 x1 x2 x3 x4 x5 x6 x7 x8 (0 % 16) (fwd_lt 0)⟩]
  | n + 1 => ⟨Rect.unit (s := S1x1x4096x512) ![0, 0, 256 * ((n + 1) % 16), 0] S1x1x256x512.size (inbV _ (fwd_lt (n + 1))),
        chunk c i arg2 harg2 arg3 harg3 arg4 harg4 arg5 harg5 arg6 harg6 arg7 harg7 arg8 harg8 arg9 harg9 arg10 harg10 arg12 arg13 arg14 x0 x1 x2 x3 x4 x5 x6 x7 x8 ((n + 1) % 16) (fwd_lt (n + 1))⟩ :: chunks n

set_option maxHeartbeats 8000000 in
/-- What the body leaves in its output is the list of the sixteen chunks. -/
theorem out_eq : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8
    = View.canon (chunks c i arg2 harg2 arg3 harg3 arg4 harg4 arg5 harg5 arg6 harg6 arg7 harg7 arg8 harg8 arg9 harg9 arg10 harg10 arg12 arg13 arg14 x0 x1 x2 x3 x4 x5 x6 x7 x8 15) := by
  unfold out0_A_9
  rw [View.read_writes_junk_eq_canon]
  refine congrArg View.canon ?_
  rfl

end Body

end Cert.KernelIdeal.Ret

end
-- ==== Proof.RetPoint.lean ====
/- The retention call's body read at an index, at the reals with infinities. -/
module

public import proofs.«01_k».proof.Proof.RetBody
public import Idealize.ShloMosaic.Lib.Pointwise
public import Idealize.ShloMosaic.Lib.Pipeline.ValueKit.Tiles

@[expose] public section

set_option maxRecDepth 16384

noncomputable section

namespace Cert.KernelIdeal.Ret

open Cert.KernelIdeal Cert.KernelIdeal.Gen Idealize.ShloMosaic Idealize.ShloMosaic.TcCoe Idealize.SL.Sem

theorem zeroV_apply (d : Fin 256) (j : Fin 512) : zeroV (F := Ideal) (ix2 d j) = 0 := by
  unfold zeroV
  pointwise

theorem stepV_apply (g : Elt Ideal .f32) (kd : FVec Ideal S1x256 .f32) (k : Vec Ideal S1x1x256x256 .bf16) (R : Vec Ideal S256x512 .f32)
    (v : Vec Ideal S1x1x256x512 .bf16) (d : Fin 256) (j : Fin 512) :
    stepV g kd k R v (ix2 d j) = R (ix2 d j) * g + ∑ s : Fin 256, (k (ix4 0 0 d s) * kd (ix2 0 s)) * v (ix4 0 0 s j) := by
  unfold stepV
  pointwise

theorem storeV_apply (R : Vec Ideal S256x512 .f32) (d : Fin 256) (j : Fin 512) : storeV R (ix3 0 d j) = R (ix2 d j) := by
  unfold storeV
  pointwise

theorem tileV_apply (x : Vec Ideal S1x256x128 .f32) (t d : Fin 256) : tileV x (ix2 t d) = x (ix3 0 t ⟨d.val % 128, by omega⟩) := by
  unfold tileV
  pointwise
  split
  · exact congrArg x (congrArg (ix3 0 t) (Fin.ext (by simp only; omega)))
  · exact congrArg x (congrArg (ix3 0 t) (Fin.ext (by simp only; omega)))

theorem mixV_apply (qf qb : FVec Ideal S256x256 .f32) (q : Vec Ideal S1x1x256x256 .bf16) (k : Vec Ideal S1x1x256x256 .bf16) (dm : Vec Ideal S1x256x256 .f32)
    (v : Vec Ideal S1x1x256x512 .bf16) (r : Vec Ideal S1x512x512 .bf16) (t : Fin 256) (j : Fin 512) :
    mixV qf qb q k dm v r (ix2 t j)
      = ∑ s : Fin 256, ((∑ d : Fin 256, q (ix4 0 0 t d) * k (ix4 0 0 d s)) * dm (ix3 0 t s)) * v (ix4 0 0 s j)
        + (∑ d : Fin 256, (q (ix4 0 0 t d) * qf (ix2 t d)) * r (ix3 0 ⟨d.val, by omega⟩ j)
          + ∑ d : Fin 256, (q (ix4 0 0 t d) * qb (ix2 t d)) * r (ix3 0 ⟨256 + d.val, by omega⟩ j)) := by
  unfold mixV
  pointwise

theorem meanV_apply (y : FVec Ideal S256x512 .f32) (t : Fin 256) : meanV y (ix2 t 0) = Ideal.div (∑ j : Fin 512, y (ix2 t j)) (Ideal.ofBits .f32 0x44000000#32) := by
  unfold meanV
  pointwise

theorem centreV_apply (y : FVec Ideal S256x512 .f32) (t : Fin 256) (j : Fin 512) : centreV y (ix2 t j) = y (ix2 t j) - meanV y (ix2 t 0) := by
  unfold centreV
  pointwise

theorem normV_apply (y : FVec Ideal S256x512 .f32) (t : Fin 256) (j : Fin 512) :
    normV y (ix4 0 0 t j) = centreV y (ix2 t j) * Ideal.rsqrt (meanV (mulf (centreV y) (centreV y)) (ix2 t 0) + Ideal.ofBits .f32 0x358637BD#32) := by
  unfold normV
  pointwise

/-- The state after `n` chunks: decayed by `g`, plus the chunk's decayed keys times its values. -/
def st (g : EReal) (kd : Fin 256 → EReal) (K : ℕ → Fin 256 → Fin 256 → EReal) (V : ℕ → Fin 256 → Fin 512 → EReal) : ℕ → Fin 256 → Fin 512 → EReal
  | 0, _, _ => 0
  | n + 1, d, j => st g kd K V n d j * g + ∑ s : Fin 256, (K n d s * kd s) * V n s j

section Body

variable (c : Dev nD) (i : grid0.Coords) (arg2 : Memref sig .tc .smem S2x4 .f32) (harg2 : arg2.IsWhole) (arg3 : Memref sig .tc .vmem S1x1x4096x256 .bf16) (harg3 : arg3.IsWhole) (arg4 : Memref sig .tc .vmem S1x16x256x256 .bf16) (harg4 : arg4.IsWhole) (arg5 : Memref sig .tc .vmem S1x1x4096x512 .bf16) (harg5 : arg5.IsWhole) (arg6 : Memref sig .tc .vmem S1x256x256 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x4096x512 .bf16) (harg11 : arg11.IsWhole) (arg12 : Memref sig .tc .vmem S16x512x512 .bf16) (harg12 : arg12.IsWhole) (arg13 : Memref sig .tc .vmem S256x512 .f32) (harg13 : arg13.IsWhole) (arg14 : Memref sig .tc .vmem S256x512 .f32) (harg14 : arg14.IsWhole)
    (x0 : Vec Ideal S2x4 .f32) (x1 : Vec Ideal S1x1x4096x256 .bf16) (x2 : Vec Ideal S1x16x256x256 .bf16) (x3 : Vec Ideal S1x1x4096x512 .bf16) (x4 : Vec Ideal S1x256x256 .f32) (x5 : Vec Ideal S1x256x128 .f32) (x6 : Vec Ideal S1x256x128 .f32) (x7 : Vec Ideal S1x1x256 .f32) (x8 : Vec Ideal S1x1x256 .f32)

theorem kAt_apply (n : ℕ) (h : n < 16) (d s : Fin 256) : kAt arg4 harg4 x2 n h (ix4 0 0 d s) = x2 (ix4 0 ⟨n, h⟩ d s) := by
  unfold kAt
  rw [View.readAt_eq_ld, harg4.read_unread]
  pointwise

theorem qAt_apply (n : ℕ) (h : n < 16) (t d : Fin 256) : qAt arg3 harg3 x1 n h (ix4 0 0 t d) = x1 (ix4 0 0 ⟨256 * n + t, by omega⟩ d) := by
  unfold qAt
  rw [View.readAt_eq_ld, harg3.read_unread]
  pointwise

theorem vAt_apply (n : ℕ) (h : n < 16) (t : Fin 256) (j : Fin 512) : vAt arg5 harg5 x3 n h (ix4 0 0 t j) = x3 (ix4 0 0 ⟨256 * n + t, by omega⟩ j) := by
  unfold vAt
  rw [View.readAt_eq_ld, harg5.read_unread]
  pointwise

/-- What a state's scratch holds after step `n`, at an index. -/
theorem steps_read (arg : Memref sig .tc .vmem S256x512 .f32) (g : Elt Ideal .f32) (kd : FVec Ideal S1x256 .f32) (p : ℕ → ℕ) (hp : ∀ n, p n < 16)
    (n : ℕ) (d : Fin 256) (j : Fin 512) :
    arg.view.readCov (steps arg4 harg4 arg5 harg5 x2 x3 arg g kd p hp n) rcS.toLoadRect (ix2 d j)
      = st g (fun s => kd (ix2 0 s)) (fun n d s => x2 (ix4 0 ⟨p n, hp n⟩ d s))
          (fun n s j => x3 (ix4 0 0 ⟨256 * p n + s, by have := hp n; omega⟩ j)) n d j := by
  induction n generalizing d j with
  | zero =>
    unfold steps
    rw [View.readCov_cons_toLoadRect, zeroV_apply]
    rfl
  | succ n ih =>
    unfold steps
    rw [View.readCov_cons_toLoadRect, stepV_apply, ih]
    simp only [kAt_apply, vAt_apply, st]

/-- The kept states as one array: rows below 256 of slot `n` hold the forward state before chunk `n`, the others the backward one. -/
def keptG : Vec Ideal S16x512x512 .bf16 := fun y =>
  if h : (y 1).val < 256 then
    arg13.view.readCov (stepsF c i arg2 harg2 arg4 harg4 arg5 harg5 arg9 harg9 arg13 x0 x2 x3 x7 (y 0).val) rcS.toLoadRect (ix2 ⟨(y 1).val, h⟩ (y 2))
  else
    arg14.view.readCov (stepsB c i arg2 harg2 arg4 harg4 arg5 harg5 arg10 harg10 arg14 x0 x2 x3 x8 (15 - (y 0).val)) rcS.toLoadRect
      (ix2 ⟨(y 1).val - 256, by have : (y 1).val < 512 := (y 1).isLt; omega⟩ (y 2))

/-- A kept state at any index of its block. -/
theorem storeV_at (R : Vec Ideal S256x512 .f32) (x : S1x256x512.Idx) : storeV R x = R (ix2 (x 1) (x 2)) := by
  refine Eq.trans (congrArg (storeV R) ?_) (storeV_apply R (x 1) (x 2))
  funext a
  fin_cases a
  · exact Fin.ext (by have : (x 0).val < 1 := (x 0).isLt; simpa using this)
  · rfl
  · rfl

/-- Equal step numbers and equal indices give equal entries of a state. -/
theorem state_congr (f : ℕ → S256x512.Idx → EReal) {a b : ℕ} (h : a = b) {d d' : Fin 256} {j j' : Fin 512} (hd : d.val = d'.val) (hj : j.val = j'.val) :
    f a (ix2 d j) = f b (ix2 d' j') := by
  obtain rfl := Fin.ext hd
  obtain rfl := Fin.ext hj
  subst h; rfl

theorem kept_fwd (n : ℕ) (hn : n < 16) (y : S16x512x512.Idx) :
    View.TileAt y (![n % 16, 0, 0] : Fin 3 → ℕ) S1x256x512.size
      (storeV (arg13.view.readCov (stepsF c i arg2 harg2 arg4 harg4 arg5 harg5 arg9 harg9 arg13 x0 x2 x3 x7 n) rcS.toLoadRect)) (keptG c i arg2 harg2 arg4 harg4 arg5 harg5 arg9 harg9 arg10 harg10 arg13 arg14 x0 x2 x3 x7 x8 y) := by
  intro x hx
  have h0 : (y 0).val = n % 16 + (x 0).val := hx 0
  have h1 : (y 1).val = 0 + (x 1).val := hx 1
  have h2 : (y 2).val = 0 + (x 2).val := hx 2
  have x0' : (x 0).val < 1 := (x 0).isLt
  have x1' : (x 1).val < 256 := (x 1).isLt
  refine (storeV_at _ x).trans ?_
  unfold keptG
  rw [dif_pos (by omega)]
  exact state_congr (fun n => arg13.view.readCov (stepsF c i arg2 harg2 arg4 harg4 arg5 harg5 arg9 harg9 arg13 x0 x2 x3 x7 n) rcS.toLoadRect) (by omega) (by simp only; omega) (by omega)

theorem kept_bwd (n : ℕ) (hn : n < 16) (y : S16x512x512.Idx) :
    View.TileAt y (![15 - n, 256, 0] : Fin 3 → ℕ) S1x256x512.size
      (storeV (arg14.view.readCov (stepsB c i arg2 harg2 arg4 harg4 arg5 harg5 arg10 harg10 arg14 x0 x2 x3 x8 n) rcS.toLoadRect)) (keptG c i arg2 harg2 arg4 harg4 arg5 harg5 arg9 harg9 arg10 harg10 arg13 arg14 x0 x2 x3 x7 x8 y) := by
  intro x hx
  have h0 : (y 0).val = 15 - n + (x 0).val := hx 0
  have h1 : (y 1).val = 256 + (x 1).val := hx 1
  have h2 : (y 2).val = 0 + (x 2).val := hx 2
  have x0' : (x 0).val < 1 := (x 0).isLt
  have x1' : (x 1).val < 256 := (x 1).isLt
  refine (storeV_at _ x).trans ?_
  unfold keptG
  rw [dif_neg (by omega)]
  exact state_congr (fun n => arg14.view.readCov (stepsB c i arg2 harg2 arg4 harg4 arg5 harg5 arg10 harg10 arg14 x0 x2 x3 x8 n) rcS.toLoadRect) (by omega) (by simp only; omega) (by omega)

theorem kept_allAt (n : ℕ) (hn : n < 16) (y : S16x512x512.Idx) :
    View.AllAt (kept c i arg2 harg2 arg4 harg4 arg5 harg5 arg9 harg9 arg10 harg10 arg13 arg14 x0 x2 x3 x7 x8 n) y (keptG c i arg2 harg2 arg4 harg4 arg5 harg5 arg9 harg9 arg10 harg10 arg13 arg14 x0 x2 x3 x7 x8 y) := by
  induction n with
  | zero =>
    exact View.allAt_cons_unit _ _ _ _ _ (kept_bwd c i arg2 harg2 arg4 harg4 arg5 harg5 arg9 harg9 arg10 harg10 arg13 arg14 x0 x2 x3 x7 x8 0 hn y)
      (View.allAt_cons_unit _ _ _ _ _ (kept_fwd c i arg2 harg2 arg4 harg4 arg5 harg5 arg9 harg9 arg10 harg10 arg13 arg14 x0 x2 x3 x7 x8 0 hn y) (View.allAt_nil _ _))
  | succ n ih =>
    exact View.allAt_cons_unit _ _ _ _ _ (kept_bwd c i arg2 harg2 arg4 harg4 arg5 harg5 arg9 harg9 arg10 harg10 arg13 arg14 x0 x2 x3 x7 x8 (n + 1) hn y)
      (View.allAt_cons_unit _ _ _ _ _ (kept_fwd c i arg2 harg2 arg4 harg4 arg5 harg5 arg9 harg9 arg10 harg10 arg13 arg14 x0 x2 x3 x7 x8 (n + 1) hn y) (ih (by omega)))

/-- The states the body loads for chunk `n`. -/
theorem rAt_apply (n : ℕ) (h : n < 16) (u j : Fin 512) :
    rAt c i arg2 harg2 arg4 harg4 arg5 harg5 arg9 harg9 arg10 harg10 arg12 arg13 arg14 x0 x2 x3 x7 x8 n h (ix3 0 u j) = keptG c i arg2 harg2 arg4 harg4 arg5 harg5 arg9 harg9 arg10 harg10 arg13 arg14 x0 x2 x3 x7 x8 (ix3 ⟨n, h⟩ u j) := by
  unfold rAt
  rw [View.readCov_eq_canon']
  show View.canon _ ((Rect.unit (s := S16x512x512) ![n, 0, 0] S1x512x512.size (inbR n h)).toLoadRect.idx (ix3 0 u j)) = _
  have e : (Rect.unit (s := S16x512x512) ![n, 0, 0] S1x512x512.size (inbR n h)).toLoadRect.idx (ix3 0 u j) = ix3 ⟨n, h⟩ u j := by
    pointwise
  rw [e]
  exact View.canon_eq_of_allAt _ _ _ (View.cover_of_tiled (s := S16x512x512) _ S1x256x512.size rfl _) (kept_allAt c i arg2 harg2 arg4 harg4 arg5 harg5 arg9 harg9 arg10 harg10 arg13 arg14 x0 x2 x3 x7 x8 15 (by decide) _)

/-- Equal chunk numbers and equal indices give equal entries. -/
theorem chunk_congr (f : (n : ℕ) → n < 16 → S1x1x256x512.Idx → EReal) {a b : ℕ} (h : a = b) (ha : a < 16) (hb : b < 16) (x y : S1x1x256x512.Idx) (hxy : x = y) :
    f a ha x = f b hb y := by
  subst h hxy; rfl

/-- An index of a chunk is its last two coordinates. -/
theorem idx_unit2 (x : S1x1x256x512.Idx) (t : Fin 256) (j : Fin 512) (ht : (x 2).val = t.val) (hj : (x 3).val = j.val) : x = ix4 0 0 t j := by
  have x0' : (x 0).val < 1 := (x 0).isLt
  have x1' : (x 1).val < 1 := (x 1).isLt
  funext a
  fin_cases a
  · exact Fin.ext (by simpa using x0')
  · exact Fin.ext (by simpa using x1')
  · exact Fin.ext ht
  · exact Fin.ext hj

/-- The result's chunks as one array. -/
def chunkG : Vec Ideal S1x1x4096x512 .bf16 := fun y =>
  chunk c i arg2 harg2 arg3 harg3 arg4 harg4 arg5 harg5 arg6 harg6 arg7 harg7 arg8 harg8 arg9 harg9 arg10 harg10 arg12 arg13 arg14 x0 x1 x2 x3 x4 x5 x6 x7 x8 ((y 2).val / 256) (by have : (y 2).val < 4096 := (y 2).isLt; omega)
    (ix4 0 0 ⟨(y 2).val % 256, by omega⟩ (y 3))

theorem chunk_tile (n : ℕ) (hn : n < 16) (y : S1x1x4096x512.Idx) :
    View.TileAt y (![0, 0, 256 * (n % 16), 0] : Fin 4 → ℕ) S1x1x256x512.size
      (chunk c i arg2 harg2 arg3 harg3 arg4 harg4 arg5 harg5 arg6 harg6 arg7 harg7 arg8 harg8 arg9 harg9 arg10 harg10 arg12 arg13 arg14 x0 x1 x2 x3 x4 x5 x6 x7 x8 (n % 16) (fwd_lt n)) (chunkG c i arg2 harg2 arg3 harg3 arg4 harg4 arg5 harg5 arg6 harg6 arg7 harg7 arg8 harg8 arg9 harg9 arg10 harg10 arg12 arg13 arg14 x0 x1 x2 x3 x4 x5 x6 x7 x8 y) := by
  intro x hx
  have h2 : (y 2).val = 256 * (n % 16) + (x 2).val := hx 2
  have h3 : (y 3).val = 0 + (x 3).val := hx 3
  have x0' : (x 0).val < 1 := (x 0).isLt
  have x1' : (x 1).val < 1 := (x 1).isLt
  have x2' : (x 2).val < 256 := (x 2).isLt
  exact chunk_congr _ (by omega) _ _ _ _ (idx_unit2 x _ _ (by simp only; omega) (by omega))

theorem chunks_allAt (n : ℕ) (hn : n < 16) (y : S1x1x4096x512.Idx) : View.AllAt (chunks c i arg2 harg2 arg3 harg3 arg4 harg4 arg5 harg5 arg6 harg6 arg7 harg7 arg8 harg8 arg9 harg9 arg10 harg10 arg12 arg13 arg14 x0 x1 x2 x3 x4 x5 x6 x7 x8 n) y (chunkG c i arg2 harg2 arg3 harg3 arg4 harg4 arg5 harg5 arg6 harg6 arg7 harg7 arg8 harg8 arg9 harg9 arg10 harg10 arg12 arg13 arg14 x0 x1 x2 x3 x4 x5 x6 x7 x8 y) := by
  induction n with
  | zero => exact View.allAt_cons_unit _ _ _ _ _ (chunk_tile c i arg2 harg2 arg3 harg3 arg4 harg4 arg5 harg5 arg6 harg6 arg7 harg7 arg8 harg8 arg9 harg9 arg10 harg10 arg12 arg13 arg14 x0 x1 x2 x3 x4 x5 x6 x7 x8 0 hn y) (View.allAt_nil _ _)
  | succ n ih => exact View.allAt_cons_unit _ _ _ _ _ (chunk_tile c i arg2 harg2 arg3 harg3 arg4 harg4 arg5 harg5 arg6 harg6 arg7 harg7 arg8 harg8 arg9 harg9 arg10 harg10 arg12 arg13 arg14 x0 x1 x2 x3 x4 x5 x6 x7 x8 (n + 1) hn y) (ih (by omega))

/-- What the point leaves in its output, at an index. -/
theorem out_apply (y : S1x1x4096x512.Idx) : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y = chunkG c i arg2 harg2 arg3 harg3 arg4 harg4 arg5 harg5 arg6 harg6 arg7 harg7 arg8 harg8 arg9 harg9 arg10 harg10 arg12 arg13 arg14 x0 x1 x2 x3 x4 x5 x6 x7 x8 y := by
  rw [out_eq]
  exact View.canon_eq_of_allAt _ _ _ (View.cover_of_tiled (s := S1x1x4096x512) _ S1x1x256x512.size rfl _) (chunks_allAt c i arg2 harg2 arg3 harg3 arg4 harg4 arg5 harg5 arg6 harg6 arg7 harg7 arg8 harg8 arg9 harg9 arg10 harg10 arg12 arg13 arg14 x0 x1 x2 x3 x4 x5 x6 x7 x8 15 (by decide) _)

end Body

end Cert.KernelIdeal.Ret

end
-- ==== Proof.RetReal.lean ====
/- Retention over the reals: the chunk states against the sum over all positions. -/
module

public import Idealize.ShloMosaic.PureOps.Ideal
public import Idealize.ShloMosaic.Lib.IdealHost

@[expose] public section

noncomputable section

namespace Cert.Ret

open Idealize.ShloMosaic

/-- The logarithm of head `h`'s decay, as the tables spell it: `log (1 - exp (c * (-5 - h)))`, `c` the f32 constant next to `log 2`. -/
def lg (h : Fin 4) : EReal :=
  Ideal.log1p (-Ideal.exp (Ideal.ofBits .f32 0x3F317218#32 * (Ideal.ofBits .f32 0xC0A00000#32 - FloatOps.sitofp (F := Ideal) .f32 (BitVec.ofNat 32 h.val))))

/-- It is a real number: the decay is positive. -/
theorem lg_real (h : Fin 4) : ∃ a : ℝ, lg h = (a : EReal) := by
  have e1 : Ideal.ofBits .f32 0x3F317218#32 = ((11629080 / 16777216 : ℝ) : EReal) := by
    simp [Ideal.ofBits, Ideal.ieee]
    rw [← EReal.coe_mul]
    norm_num
  have e2 : Ideal.ofBits .f32 0xC0A00000#32 = ((-5 : ℝ) : EReal) := by
    simp [Ideal.ofBits, Ideal.ieee]
    rw [← EReal.coe_mul]
    norm_num
  have e3 : FloatOps.sitofp (F := Ideal) .f32 (BitVec.ofNat 32 h.val) = ((h.val : ℝ) : EReal) := by
    fin_cases h <;> rfl
  refine ⟨Real.log (1 - Real.exp (11629080 / 16777216 * (-5 - h.val))), ?_⟩
  have hp : Real.exp (11629080 / 16777216 * (-5 - h.val)) < 1 := by
    rw [Real.exp_lt_one_iff]
    have : (0 : ℝ) ≤ h.val := Nat.cast_nonneg _
    nlinarith
  unfold lg Ideal.log1p
  rw [e1, e2, e3, ← EReal.coe_sub, ← EReal.coe_mul, Ideal.exp_coe, ← EReal.coe_neg, ← EReal.coe_one, ← EReal.coe_add, Ideal.log_coe,
    if_neg (by linarith), ← sub_eq_add_neg]

/-- The same as a real number. -/
def L (h : Fin 4) : ℝ := (lg h).toReal

theorem lg_eq (h : Fin 4) : lg h = (L h : EReal) := by
  obtain ⟨a, ha⟩ := lg_real h
  rw [L, ha, EReal.toReal_coe]

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of position `S` in row `T`: the forward decay to the power `T - S` up to `T`, the backward decay to the power `S - T` after it. -/
def wt (a b : ℝ) (T S : ℕ) : ℝ := if S ≤ T then Real.exp (((T : ℝ) - S) * a) else Real.exp (((S : ℝ) - T) * b)

/-- The chunk state over the reals: each step decays it and adds one chunk's products of keys and values. -/
def stR (g : ℝ) (kd : Fin 256 → ℝ) (K : ℕ → Fin 256 → ℝ) (V : ℕ → Fin 256 → ℝ) : ℕ → ℝ
  | 0 => 0
  | n + 1 => stR g kd K V n * g + ∑ s : Fin 256, (K n s * kd s) * V n s

/-- The state after `n` steps is the sum of the first `n` chunks, each decayed to the end of the last. -/
theorem stR_eq (a : ℝ) (e : Fin 256 → ℝ) (K V : ℕ → Fin 256 → ℝ) (n : ℕ) :
    stR (Real.exp (256 * a)) (fun s => Real.exp (e s * a)) K V n
      = ∑ m ∈ Finset.range n, ∑ s : Fin 256, K m s * V m s * Real.exp ((256 * ((n : ℝ) - 1 - m) + e s) * a) := by
  induction n with
  | zero => simp [stR]
  | succ n ih =>
    rw [stR, ih, Finset.sum_range_succ, Finset.sum_mul]
    refine congrArg₂ (· + ·) (Finset.sum_congr rfl fun m _ => ?_) (Finset.sum_congr rfl fun s _ => ?_)
    · rw [Finset.sum_mul]
      refine Finset.sum_congr rfl fun s _ => ?_
      rw [mul_assoc, ← Real.exp_add]
      push_cast
      ring_nf
    · push_cast
      ring_nf

/-- A row of queries against the state: the sum, over the chunks in the state, of the scores with their decays. -/
theorem row_eq (a x : ℝ) (e : Fin 256 → ℝ) (q : Fin 256 → ℝ) (K : ℕ → Fin 256 → Fin 256 → ℝ) (V : ℕ → Fin 256 → ℝ) (n : ℕ) :
    ∑ d, (q d * Real.exp (x * a)) * stR (Real.exp (256 * a)) (fun s => Real.exp (e s * a)) (fun m s => K m d s) V n
      = ∑ m ∈ Finset.range n, ∑ s : Fin 256, ((∑ d, q d * K m d s) * Real.exp ((256 * ((n : ℝ) - 1 - m) + e s + x) * a)) * V m s := by
  simp only [stR_eq, Finset.mul_sum]
  rw [Finset.sum_comm]
  refine Finset.sum_congr rfl fun m _ => ?_
  rw [Finset.sum_comm]
  refine Finset.sum_congr rfl fun s _ => ?_
  rw [Finset.sum_mul, Finset.sum_mul]
  refine Finset.sum_congr rfl fun d _ => ?_
  have : Real.exp ((256 * ((n : ℝ) - 1 - m) + e s + x) * a) = Real.exp (x * a) * Real.exp ((256 * ((n : ℝ) - 1 - m) + e s) * a) := by
    rw [← Real.exp_add]; ring_nf
  rw [this]
  ring

/-- Sixteen terms: those before `n`, the `n`th, and those after it from the last down. -/
theorem split16 (f : ℕ → ℝ) (n : ℕ) (hn : n < 16) :
    ∑ m ∈ Finset.range 16, f m = f n + (∑ m ∈ Finset.range n, f m + ∑ k ∈ Finset.range (15 - n), f (15 - k)) := by
  interval_cases n <;> simp [Finset.sum_range_succ] <;> ring

/-- A sum over 4096 positions, chunk by chunk. -/
theorem sum4096 (f : ℕ → ℝ) : ∑ S : Fin 4096, f S.val = ∑ m ∈ Finset.range 16, ∑ s : Fin 256, f (256 * m + s.val) := by
  rw [Finset.sum_range, ← Fintype.sum_prod_type', ← (finProdFinEquiv (m := 16) (n := 256)).sum_comp]
  refine Finset.sum_congr rfl fun x _ => ?_
  refine congrArg f ?_
  simp [finProdFinEquiv]
  omega

/-- The chunkwise form of one row: the diagonal chunk, the forward state and the backward state together are the sum over all positions. -/
theorem mix_eq (a b : ℝ) (q : Fin 256 → ℝ) (k : ℕ → Fin 256 → ℝ) (v : ℕ → ℝ) (n : ℕ) (hn : n < 16) (t : Fin 256) :
    (∑ s : Fin 256, ((∑ d, q d * k (256 * n + s) d) * wt a b t s) * v (256 * n + s))
      + (∑ d, (q d * Real.exp (((t.val : ℝ) + 1) * a)) * stR (Real.exp (256 * a)) (fun s => Real.exp ((255 - (s.val : ℝ)) * a))
            (fun m s => k (256 * m + s) d) (fun m s => v (256 * m + s)) n
        + ∑ d, (q d * Real.exp ((256 - (t.val : ℝ)) * b)) * stR (Real.exp (256 * b)) (fun s => Real.exp ((s.val : ℝ) * b))
            (fun m s => k (256 * (15 - m) + s) d) (fun m s => v (256 * (15 - m) + s)) (15 - n))
      = ∑ S : Fin 4096, ((∑ d, q d * k S d) * wt a b (256 * n + t) S) * v S := by
  rw [sum4096 (fun S => ((∑ d, q d * k S d) * wt a b (256 * n + t) S) * v S), split16 _ n hn]
  refine congrArg₂ (· + ·) ?_ (congrArg₂ (· + ·) ?_ ?_)
  · refine Finset.sum_congr rfl fun s _ => ?_
    have : wt a b t s = wt a b (256 * n + t) (256 * n + s) := by
      unfold wt
      simp only [add_le_add_iff_left]
      push_cast
      simp only [add_sub_add_left_eq_sub]
    rw [this]
  · rw [row_eq a _ (fun s => 255 - (s.val : ℝ)) q (fun m d s => k (256 * m + s) d) (fun m s => v (256 * m + s)) n]
    refine Finset.sum_congr rfl fun m hm => Finset.sum_congr rfl fun s _ => ?_
    rw [Finset.mem_range] at hm
    have : wt a b (256 * n + t) (256 * m + s) = Real.exp ((256 * ((n : ℝ) - 1 - m) + (255 - (s.val : ℝ)) + ((t.val : ℝ) + 1)) * a) := by
      unfold wt
      rw [if_pos (by omega)]
      push_cast
      ring_nf
    rw [this]
  · rw [row_eq b _ (fun s => (s.val : ℝ)) q (fun m d s => k (256 * (15 - m) + s) d) (fun m s => v (256 * (15 - m) + s)) (15 - n)]
    refine Finset.sum_congr rfl fun m hm => Finset.sum_congr rfl fun s _ => ?_
    rw [Finset.mem_range] at hm
    have : wt a b (256 * n + t) (256 * (15 - m) + s) = Real.exp ((256 * (((15 - n : ℕ) : ℝ) - 1 - m) + (s.val : ℝ) + (256 - (t.val : ℝ))) * b) := by
      unfold wt
      rw [if_neg (by omega)]
      rw [Nat.cast_sub (by omega)]
      push_cast
      rw [Nat.cast_sub (by omega)]
      push_cast
      ring_nf
    rw [this]

/-- The keys by position: position `S` is place `S % 256` of chunk `S / 256`. -/
def kk (y1 : Fin 8 → Fin 16 → Fin 1024 → Fin 256 → ℝ) (b : Fin 8) (h : Fin 4) (S : ℕ) (d : Fin 256) : ℝ :=
  y1 b ⟨S / 256 % 16, Nat.mod_lt _ (by omega)⟩ ⟨256 * h.val + d.val, by omega⟩ ⟨S % 256, Nat.mod_lt _ (by omega)⟩

/-- One column of the values by position. -/
def vv (y2 : Fin 8 → Fin 4 → Fin 4096 → Fin 512 → ℝ) (b : Fin 8) (h : Fin 4) (j : Fin 512) (S : ℕ) : ℝ :=
  y2 b h ⟨S % 4096, Nat.mod_lt _ (by omega)⟩ j

/-- Retention of both directions at row `T`, column `j`. -/
def rows (y0 : Fin 8 → Fin 4 → Fin 4096 → Fin 256 → ℝ) (y1 : Fin 8 → Fin 16 → Fin 1024 → Fin 256 → ℝ) (y2 : Fin 8 → Fin 4 → Fin 4096 → Fin 512 → ℝ)
    (b : Fin 8) (h : Fin 4) (T : Fin 4096) (j : Fin 512) : ℝ :=
  ∑ S : Fin 4096, ((∑ d, y0 b h T d * kk y1 b h S d) * wt (L h) (L h.rev) T S) * vv y2 b h j S

/-- A row centred and divided by its root mean square, with the f32 constants 512 and 1e-6. -/
def rowNorm (y : Fin 512 → EReal) (j : Fin 512) : EReal :=
  (y j - Ideal.div (∑ i, y i) (Ideal.ofBits .f32 0x44000000#32))
    * Ideal.rsqrt (Ideal.div (∑ i, (y i - Ideal.div (∑ i, y i) (Ideal.ofBits .f32 0x44000000#32)) * (y i - Ideal.div (∑ i, y i) (Ideal.ofBits .f32 0x44000000#32)))
        (Ideal.ofBits .f32 0x44000000#32) + Ideal.ofBits .f32 0x358637BD#32)

end Cert.Ret
-- ==== Proof.RetChunk.lean ====
module

public import proofs.«01_k».proof.Proof.RetPoint
public import proofs.«01_k».proof.Proof.RetReal
public import Idealize.ShloMosaic.Lib.Pointwise
public import Idealize.ShloMosaic.Lib.Pipeline.ValueKit.Geometry

/-!
# A chunk over real operands

With operands that are reals and the decay tables at their values, the row a grid point writes is the normalised row of the whole
retention of both directions.
-/

@[expose] public section

set_option maxRecDepth 16384

noncomputable section

namespace Cert.KernelIdeal.Ret

open Cert.KernelIdeal Cert.KernelIdeal.Gen Cert.Ret Idealize.ShloMosaic Idealize.ShloMosaic.TcCoe Idealize.SL.Sem

/-- The state over real operands is the real state. -/
theorem st_coe (g : EReal) (gr : ℝ) (hg : g = (gr : EReal)) (kd : Fin 256 → EReal) (kdr : Fin 256 → ℝ) (hkd : ∀ s, kd s = (kdr s : EReal))
    (K : ℕ → Fin 256 → Fin 256 → EReal) (Kr : ℕ → Fin 256 → Fin 256 → ℝ) (hK : ∀ n d s, K n d s = (Kr n d s : EReal))
    (V : ℕ → Fin 256 → Fin 512 → EReal) (Vr : ℕ → Fin 256 → Fin 512 → ℝ) (hV : ∀ n s j, V n s j = (Vr n s j : EReal)) (n : ℕ) (d : Fin 256) (j : Fin 512) :
    st g kd K V n d j = (stR gr kdr (fun n s => Kr n d s) (fun n s => Vr n s j) n : EReal) := by
  subst hg
  induction n with
  | zero => simp [st, stR]
  | succ n ih =>
    simp only [st, stR, ih, hkd, hK, hV, ← EReal.coe_mul, ← coe_sum, ← EReal.coe_add]

/-- The normalised chunk's row is `rowNorm` of the row. -/
theorem normV_row (y : FVec Ideal S256x512 .f32) (t : Fin 256) (j : Fin 512) : normV y (ix4 0 0 t j) = rowNorm (fun j => y (ix2 t j)) j := by
  rw [normV_apply, meanV_apply]
  unfold rowNorm
  rw [centreV_apply, meanV_apply]
  refine congrArg (fun z => _ * Ideal.rsqrt (Ideal.div z _ + _)) (Finset.sum_congr rfl fun k _ => ?_)
  show centreV y (ix2 t k) * centreV y (ix2 t k) = _
  rw [centreV_apply, meanV_apply]

theorem off1 : ∀ i : grid0.Coords, k0_off1 i = ![0, (i 1).val] := by decide +kernel

theorem off2 : ∀ i : grid0.Coords, k0_off2 i = ![1, (i 1).val] := by decide +kernel

/-- A key's row among all the heads' rows. -/
theorem key_lt (h : Fin 4) (d : Fin 256) : 256 * h.val + d.val < 1024 := by omega

/-- A row's position in the sequence. -/
theorem row_lt (n : ℕ) (hn : n < 16) (t : Fin 256) : 256 * n + t.val < 4096 := by omega

section Body

variable (c : Dev nD) (i : grid0.Coords) (arg2 : Memref sig .tc .smem S2x4 .f32) (harg2 : arg2.IsWhole) (arg3 : Memref sig .tc .vmem S1x1x4096x256 .bf16) (harg3 : arg3.IsWhole) (arg4 : Memref sig .tc .vmem S1x16x256x256 .bf16) (harg4 : arg4.IsWhole) (arg5 : Memref sig .tc .vmem S1x1x4096x512 .bf16) (harg5 : arg5.IsWhole) (arg6 : Memref sig .tc .vmem S1x256x256 .f32) (harg6 : arg6.IsWhole) (arg7 : Memref sig .tc .vmem S1x256x128 .f32) (harg7 : arg7.IsWhole) (arg8 : Memref sig .tc .vmem S1x256x128 .f32) (harg8 : arg8.IsWhole) (arg9 : Memref sig .tc .vmem S1x1x256 .f32) (harg9 : arg9.IsWhole) (arg10 : Memref sig .tc .vmem S1x1x256 .f32) (harg10 : arg10.IsWhole) (arg12 : Memref sig .tc .vmem S16x512x512 .bf16) (arg13 : Memref sig .tc .vmem S256x512 .f32) (arg14 : Memref sig .tc .vmem S256x512 .f32)
    (x0 : Vec Ideal S2x4 .f32) (x1 : Vec Ideal S1x1x4096x256 .bf16) (x2 : Vec Ideal S1x16x256x256 .bf16) (x3 : Vec Ideal S1x1x4096x512 .bf16) (x4 : Vec Ideal S1x256x256 .f32) (x5 : Vec Ideal S1x256x128 .f32) (x6 : Vec Ideal S1x256x128 .f32) (x7 : Vec Ideal S1x1x256 .f32) (x8 : Vec Ideal S1x1x256 .f32)

/-- The forward decay the point loads. -/
theorem r_apply (h : Fin 4) (hh : (i 1).val = h.val) : kernelRun0_A.sl.r c i arg2 harg2 x0 = x0 (ix2 0 h) := by
  unfold kernelRun0_A.sl.r
  rw [View.readAt_eq_ld, harg2.read_unread]
  pointwise
  blk_ext [off1 i]

/-- The backward decay the point loads. -/
theorem r1_apply (h : Fin 4) (hh : (i 1).val = h.val) : kernelRun0_A.sl.r_1 c i arg2 harg2 x0 = x0 (ix2 1 h) := by
  unfold kernelRun0_A.sl.r_1
  rw [View.readAt_eq_ld, harg2.read_unread]
  pointwise
  blk_ext [off2 i]

/-- The forward decays of the keys. -/
theorem r2_apply (s : Fin 256) : kernelRun0_A.sl.r_2 c arg9 harg9 x7 (ix2 0 s) = x7 (ix3 0 0 s) := by
  unfold kernelRun0_A.sl.r_2
  rw [View.readAt_eq_ld, harg9.read_unread]
  unfold k0_pay2
  pointwise

/-- The backward decays of the keys. -/
theorem r3_apply (s : Fin 256) : kernelRun0_A.sl.r_3 c arg10 harg10 x8 (ix2 0 s) = x8 (ix3 0 0 s) := by
  unfold kernelRun0_A.sl.r_3
  rw [View.readAt_eq_ld, harg10.read_unread]
  unfold k0_pay3
  pointwise

variable (y0 : Fin 8 → Fin 4 → Fin 4096 → Fin 256 → ℝ) (y1 : Fin 8 → Fin 16 → Fin 1024 → Fin 256 → ℝ) (y2 : Fin 8 → Fin 4 → Fin 4096 → Fin 512 → ℝ)
    (b : Fin 8) (h : Fin 4)
    (h0f : ∀ h : Fin 4, (x0 (ix2 0 h) : EReal) = (Real.exp (256 * L h) : ℝ)) (h0b : ∀ h : Fin 4, (x0 (ix2 1 h) : EReal) = (Real.exp (256 * L h.rev) : ℝ))
    (h1 : ∀ T d, (x1 (ix4 0 0 T d) : EReal) = (y0 b h T d : ℝ))
    (h2 : ∀ (n : Fin 16) (d s : Fin 256), (x2 (ix4 0 n d s) : EReal) = (y1 b n ⟨256 * h.val + d.val, key_lt h d⟩ s : ℝ))
    (h3 : ∀ T j, (x3 (ix4 0 0 T j) : EReal) = (y2 b h T j : ℝ))
    (h4 : ∀ t s : Fin 256, (x4 (ix3 0 t s) : EReal) = (wt (L h) (L h.rev) t s : ℝ))
    (h5 : ∀ (t : Fin 256) (l : Fin 128), (x5 (ix3 0 t l) : EReal) = (Real.exp (((t.val : ℝ) + 1) * L h) : ℝ))
    (h6 : ∀ (t : Fin 256) (l : Fin 128), (x6 (ix3 0 t l) : EReal) = (Real.exp ((256 - (t.val : ℝ)) * L h.rev) : ℝ))
    (h7 : ∀ s : Fin 256, (x7 (ix3 0 0 s) : EReal) = (Real.exp ((255 - (s.val : ℝ)) * L h) : ℝ))
    (h8 : ∀ s : Fin 256, (x8 (ix3 0 0 s) : EReal) = (Real.exp ((s.val : ℝ) * L h.rev) : ℝ))

include h2 in
/-- Chunk `p` of the keys by position. -/
theorem key_chunk (p : ℕ) (hp : p < 16) (d s : Fin 256) : (x2 (ix4 0 ⟨p, hp⟩ d s) : EReal) = (kk y1 b h (256 * p + s) d : ℝ) := by
  rw [h2]
  unfold kk
  have e1 : (⟨p, hp⟩ : Fin 16) = ⟨(256 * p + s.val) / 256 % 16, Nat.mod_lt _ (by omega)⟩ := Fin.ext (by simp only; omega)
  have e2 : s = ⟨(256 * p + s.val) % 256, Nat.mod_lt _ (by omega)⟩ := Fin.ext (by simp only; omega)
  rw [← e1, ← e2]

include h3 in
/-- Chunk `p` of the values by position. -/
theorem value_chunk (p : ℕ) (hp : p < 16) (s : Fin 256) (j : Fin 512) :
    (x3 (ix4 0 0 ⟨256 * p + s.val, by omega⟩ j) : EReal) = (vv y2 b h j (256 * p + s) : ℝ) := by
  rw [h3]
  unfold vv
  have e1 : (⟨256 * p + s.val, by omega⟩ : Fin 4096) = ⟨(256 * p + s.val) % 4096, Nat.mod_lt _ (by omega)⟩ := Fin.ext (by simp only; omega)
  rw [← e1]

variable (hh : (i 1).val = h.val)

include hh h0f h2 h3 h7 in
/-- The forward state kept for chunk `n`. -/
theorem kept_fwd_real (n : ℕ) (hn : n < 16) (d : Fin 256) (j : Fin 512) :
    (keptG c i arg2 harg2 arg4 harg4 arg5 harg5 arg9 harg9 arg10 harg10 arg13 arg14 x0 x2 x3 x7 x8 (ix3 ⟨n, hn⟩ ⟨d.val, by omega⟩ j) : EReal)
      = (stR (Real.exp (256 * L h)) (fun s => Real.exp ((255 - (s.val : ℝ)) * L h)) (fun m s => kk y1 b h (256 * (m % 16) + s) d)
          (fun m s => vv y2 b h j (256 * (m % 16) + s)) n : ℝ) := by
  unfold keptG
  rw [dif_pos (show ((ix3 (⟨n, hn⟩ : Fin 16) (⟨d.val, by omega⟩ : Fin 512) j : S16x512x512.Idx) 1).val < 256 from d.isLt)]
  unfold stepsF
  refine (steps_read arg4 harg4 arg5 harg5 x2 x3 arg13 _ _ _ _ n d j).trans ?_
  exact st_coe _ _ ((r_apply c i arg2 harg2 x0 h hh).trans (h0f h)) _ _ (fun s => (r2_apply c arg9 harg9 x7 s).trans (h7 s))
    _ (fun m d s => kk y1 b h (256 * (m % 16) + s) d) (fun m d s => key_chunk x2 y1 b h h2 (m % 16) (fwd_lt m) d s)
    _ (fun m s j => vv y2 b h j (256 * (m % 16) + s)) (fun m s j => value_chunk x3 y2 b h h3 (m % 16) (fwd_lt m) s j) n d j

include hh h0b h2 h3 h8 in
/-- The backward state kept for chunk `n`. -/
theorem kept_bwd_real (n : ℕ) (hn : n < 16) (d : Fin 256) (j : Fin 512) :
    (keptG c i arg2 harg2 arg4 harg4 arg5 harg5 arg9 harg9 arg10 harg10 arg13 arg14 x0 x2 x3 x7 x8 (ix3 ⟨n, hn⟩ ⟨256 + d.val, by omega⟩ j) : EReal)
      = (stR (Real.exp (256 * L h.rev)) (fun s => Real.exp ((s.val : ℝ) * L h.rev)) (fun m s => kk y1 b h (256 * (15 - m) + s) d)
          (fun m s => vv y2 b h j (256 * (15 - m) + s)) (15 - n) : ℝ) := by
  unfold keptG
  rw [dif_neg (show ¬ ((ix3 (⟨n, hn⟩ : Fin 16) (⟨256 + d.val, by omega⟩ : Fin 512) j : S16x512x512.Idx) 1).val < 256 from by
    show ¬ (256 + d.val < 256); omega)]
  unfold stepsB
  have e : (⟨((ix3 (⟨n, hn⟩ : Fin 16) (⟨256 + d.val, by omega⟩ : Fin 512) j : S16x512x512.Idx) 1).val - 256, by show 256 + d.val - 256 < 256; omega⟩ : Fin 256) = d :=
    Fin.ext (by show 256 + d.val - 256 = d.val; omega)
  rw [e]
  refine (steps_read arg4 harg4 arg5 harg5 x2 x3 arg14 _ _ _ _ (15 - n) d j).trans ?_
  exact st_coe _ _ ((r1_apply c i arg2 harg2 x0 h hh).trans (h0b h)) _ _ (fun s => (r3_apply c arg10 harg10 x8 s).trans (h8 s))
    _ (fun m d s => kk y1 b h (256 * (15 - m) + s) d) (fun m d s => key_chunk x2 y1 b h h2 (15 - m) (bwd_lt m) d s)
    _ (fun m s j => vv y2 b h j (256 * (15 - m) + s)) (fun m s j => value_chunk x3 y2 b h h3 (15 - m) (bwd_lt m) s j) (15 - n) d j

/-- The forward state reads only the chunks before its own. -/
theorem stR_mod (g : ℝ) (kd : Fin 256 → ℝ) (K : ℕ → Fin 256 → ℝ) (V : ℕ → Fin 256 → ℝ) (n : ℕ) (hn : n ≤ 16) :
    stR g kd (fun m s => K (m % 16) s) (fun m s => V (m % 16) s) n = stR g kd K V n := by
  induction n with
  | zero => rfl
  | succ n ih => simp only [stR, ih (by omega), Nat.mod_eq_of_lt (show n < 16 by omega)]

include hh h0f h0b h1 h2 h3 h4 h5 h6 h7 h8 in
/-- A chunk's row is the normalised row of the whole retention. -/
theorem chunk_real (n : ℕ) (hn : n < 16) (t : Fin 256) (j : Fin 512) :
    chunk c i arg2 harg2 arg3 harg3 arg4 harg4 arg5 harg5 arg6 harg6 arg7 harg7 arg8 harg8 arg9 harg9 arg10 harg10 arg12 arg13 arg14 x0 x1 x2 x3 x4 x5 x6 x7 x8 n hn (ix4 0 0 t j)
      = rowNorm (fun j => (rows y0 y1 y2 b h ⟨256 * n + t.val, row_lt n hn t⟩ j : EReal)) j := by
  unfold chunk
  rw [normV_row]
  refine congrArg (fun f => rowNorm f j) (funext fun j => ?_)
  rw [mixV_apply]
  simp only [View.readAt_eq_ld, harg6.read_unread, harg7.read_unread, harg8.read_unread, tileV_apply, rAt_apply,
    kept_fwd_real c i arg2 harg2 arg4 harg4 arg5 harg5 arg9 harg9 arg10 harg10 arg13 arg14 x0 x2 x3 x7 x8 y1 y2 b h h0f h2 h3 h7 hh,
    kept_bwd_real c i arg2 harg2 arg4 harg4 arg5 harg5 arg9 harg9 arg10 harg10 arg13 arg14 x0 x2 x3 x7 x8 y1 y2 b h h0b h2 h3 h8 hh,
    kAt_apply, qAt_apply, vAt_apply, h1, key_chunk x2 y1 b h h2, value_chunk x3 y2 b h h3 n hn]
  have e4 : ∀ t s : Fin 256, (View.ld x4 (Rect.unit (s := S1x256x256) ![0, 0, 0] S1x256x256.size inb_S1x256x256_S1x256x256_0_0_0) (ix3 0 t s) : EReal) = (wt (L h) (L h.rev) t s : ℝ) := by
    intro t s; rw [← h4]; pointwise
  have e5 : ∀ (t : Fin 256) (l : Fin 128), (View.ld x5 (Rect.unit (s := S1x256x128) ![0, 0, 0] S1x256x128.size inb_S1x256x128_S1x256x128_0_0_0) (ix3 0 t l) : EReal) = (Real.exp (((t.val : ℝ) + 1) * L h) : ℝ) := by
    intro t l; rw [← h5 t l]; pointwise
  have e6 : ∀ (t : Fin 256) (l : Fin 128), (View.ld x6 (Rect.unit (s := S1x256x128) ![0, 0, 0] S1x256x128.size inb_S1x256x128_S1x256x128_0_0_0) (ix3 0 t l) : EReal) = (Real.exp ((256 - (t.val : ℝ)) * L h.rev) : ℝ) := by
    intro t l; rw [← h6 t l]; pointwise
  simp only [e4, e5, e6, ← EReal.coe_mul, ← coe_sum, ← EReal.coe_add]
  refine congrArg Real.toEReal ?_
  unfold rows
  refine Eq.trans ?_ (mix_eq (L h) (L h.rev) (y0 b h ⟨256 * n + t.val, row_lt n hn t⟩) (kk y1 b h) (vv y2 b h j) n hn t)
  exact congrArg₂ (· + ·) rfl (congrArg₂ (· + ·) (Finset.sum_congr rfl fun d _ =>
    congrArg (_ * ·) (stR_mod _ _ (fun m s => kk y1 b h (256 * m + s) d) (fun m s => vv y2 b h j (256 * m + s)) n hn.le)) rfl)

end Body

end Cert.KernelIdeal.Ret
-- ==== Proof.RetWords.lean ====
/- Differences of positions as 32-bit words: their order and their value. -/
module

public import Idealize.ShloMosaic.PureOps.Ideal
public import Idealize.ShloMosaic.Lib.WordCmp

@[expose] public section

noncomputable section

namespace Cert.Ret

open Idealize.ShloMosaic

variable {t s : ℕ}

/-- The difference of two positions, as an integer. -/
theorem toInt_sub (ht : t < 8192) (hs : s < 8192) : (IntOp.subi (BitVec.ofNat 32 t) (BitVec.ofNat 32 s)).toInt = (t : ℤ) - s := by
  show (BitVec.ofNat 32 t - BitVec.ofNat 32 s).toInt = _
  rw [BitVec.toInt_sub, WordCmp.toInt_ofNat_of_lt (by omega), WordCmp.toInt_ofNat_of_lt (by omega), Int.bmod_eq_of_le] <;> omega

/-- Its negation. -/
theorem toInt_neg (ht : t < 8192) (hs : s < 8192) : (-IntOp.subi (BitVec.ofNat 32 t) (BitVec.ofNat 32 s)).toInt = (s : ℤ) - t := by
  rw [BitVec.toInt_neg, toInt_sub ht hs, Int.bmod_eq_of_le] <;> omega

/-- A position as a number. -/
theorem fl_nat (ht : t < 8192) : FloatOps.sitofp (F := Ideal) .f32 (BitVec.ofNat 32 t) = ((t : ℝ) : EReal) := by
  show (((BitVec.ofNat 32 t).toInt : ℝ) : EReal) = _
  rw [WordCmp.toInt_ofNat_of_lt (by omega)]
  norm_cast

/-- A difference as a number. -/
theorem fl_sub (ht : t < 8192) (hs : s < 8192) :
    FloatOps.sitofp (F := Ideal) .f32 (IntOp.subi (BitVec.ofNat 32 t) (BitVec.ofNat 32 s)) = (((t : ℝ) - s : ℝ) : EReal) := by
  show (((IntOp.subi (BitVec.ofNat 32 t) (BitVec.ofNat 32 s)).toInt : ℝ) : EReal) = _
  rw [toInt_sub ht hs]
  push_cast
  rfl

/-- A negated difference as a number. -/
theorem fl_neg (ht : t < 8192) (hs : s < 8192) :
    FloatOps.sitofp (F := Ideal) .f32 (-IntOp.subi (BitVec.ofNat 32 t) (BitVec.ofNat 32 s)) = (((s : ℝ) - t : ℝ) : EReal) := by
  show (((-IntOp.subi (BitVec.ofNat 32 t) (BitVec.ofNat 32 s)).toInt : ℝ) : EReal) = _
  rw [toInt_neg ht hs]
  push_cast
  rfl

/-- A choice by a difference that is not negative. -/
theorem sel_ge {α : Type} (ht : t < 8192) (hs : s < 8192) (x y : α) :
    Scalar.select (IntOp.cmpi .sge (IntOp.subi (BitVec.ofNat 32 t) (BitVec.ofNat 32 s)) 0#32) x y = if s ≤ t then x else y := by
  unfold Scalar.select
  rw [WordCmp.cmpi_sge_eq, toInt_sub ht hs]
  refine if_congr ?_ rfl rfl
  rw [WordCmp.ofBool_eq_one_iff', decide_eq_true_iff]
  simp

/-- A choice by a negative difference. -/
theorem sel_lt {α : Type} (ht : t < 8192) (hs : s < 8192) (x y : α) :
    Scalar.select (IntOp.cmpi .slt (IntOp.subi (BitVec.ofNat 32 t) (BitVec.ofNat 32 s)) 0#32) x y = if t < s then x else y := by
  unfold Scalar.select
  rw [WordCmp.cmpi_slt_eq, toInt_sub ht hs]
  refine if_congr ?_ rfl rfl
  rw [WordCmp.ofBool_eq_one_iff', decide_eq_true_iff]
  simp

/-- A choice by a positive difference. -/
theorem sel_gt {α : Type} (ht : t < 8192) (hs : s < 8192) (x y : α) :
    Scalar.select (IntOp.cmpi .sgt (IntOp.subi (BitVec.ofNat 32 t) (BitVec.ofNat 32 s)) 0#32) x y = if s < t then x else y := by
  unfold Scalar.select
  rw [WordCmp.cmpi_sgt_eq, toInt_sub ht hs]
  refine if_congr ?_ rfl rfl
  rw [WordCmp.ofBool_eq_one_iff', decide_eq_true_iff]
  simp

end Cert.Ret
-- ==== Proof.RetTables.lean ====
/- The decay tables that the host prepares for the retention call, read at an index. -/
module

public import proofs.«01_k».proof.Proof.Gen.KernelIdeal.Frame
public import proofs.«01_k».proof.Proof.RetReal
public import proofs.«01_k».proof.Proof.RetWords
public import Idealize.ShloMosaic.Lib.StableHlo.ReadAt
public import Idealize.ShloMosaic.Lib.Pointwise

@[expose] public section

set_option maxRecDepth 16384

noncomputable section

namespace Cert.KernelIdeal.Ret

open Cert.KernelIdeal Cert.KernelIdeal.Gen Cert.Ret Idealize.ShloMosaic Idealize.ShloMosaic.TcCoe Idealize.SL.Sem

variable (m : (ℓ : Loc nD τ sig) → Buf (Elt Ideal) ℓ) (c : Dev nD)

theorem bits_256 : Ideal.ofBits .f32 0x43800000#32 = ((256 : ℝ) : EReal) := by
  simp [Ideal.ofBits, Ideal.ieee]
  rw [← EReal.coe_mul]
  norm_num

theorem bits_255 : Ideal.ofBits .f32 0x437F0000#32 = ((255 : ℝ) : EReal) := by
  simp [Ideal.ofBits, Ideal.ieee]
  rw [← EReal.coe_mul]
  norm_num

/-- The exponential of a real multiple of a head's logarithm. -/
theorem exp_lg (x : ℝ) (h : Fin 4) : Ideal.exp ((x : EReal) * lg h) = ((Real.exp (x * L h) : ℝ) : EReal) := by
  rw [lg_eq, ← EReal.coe_mul, Ideal.exp_coe]

/-- The forward decay over one chunk. -/
theorem tab_cdf (h : Fin 4) : (V (F := Ideal) m c main_v88 (ix2 0 h) : EReal) = ((Real.exp (256 * L h) : ℝ) : EReal) := by
  rw [← exp_lg, ← bits_256]
  unfold V lg
  after_reads_at

/-- The backward decay over one chunk. -/
theorem tab_cdb (h : Fin 4) : (V (F := Ideal) m c main_v88 (ix2 1 h) : EReal) = ((Real.exp (256 * L h.rev) : ℝ) : EReal) := by
  rw [← exp_lg, ← bits_256]
  unfold V lg
  after_reads_at
  rfl

/-- The decays inside a chunk. -/
theorem tab_dm (h : Fin 4) (t s : Fin 256) : (V (F := Ideal) m c main_v37 (ix3 h t s) : EReal) = ((wt (L h) (L h.rev) t s : ℝ) : EReal) := by
  have ht : t.val < 8192 := by omega
  have hs : s.val < 8192 := by omega
  have e : (V (F := Ideal) m c main_v37 (ix3 h t s) : EReal) = if s.val ≤ t.val then Ideal.exp ((((t.val : ℝ) - s.val : ℝ) : EReal) * lg h)
      else Ideal.exp ((((s.val : ℝ) - t.val : ℝ) : EReal) * lg h.rev) := by
    rw [← fl_sub ht hs, ← fl_neg ht hs]
    unfold V
    after_reads_at
    rw [sel_ge ht hs, sel_ge ht hs, sel_lt ht hs]
    by_cases hle : s.val ≤ t.val
    · rw [if_pos hle, if_pos hle, if_pos hle]
      rfl
    · rw [if_neg hle, if_neg hle, if_pos (by omega)]
      rfl
  rw [e, exp_lg, exp_lg, wt]
  split_ifs <;> rfl

/-- The forward decay of the state into row `t`. -/
theorem tab_qdf (h : Fin 4) (t : Fin 256) (l : Fin 128) : (V (F := Ideal) m c main_v51 (ix3 h t l) : EReal) = ((Real.exp (((t.val : ℝ) + 1) * L h) : ℝ) : EReal) := by
  rw [← exp_lg, EReal.coe_add, EReal.coe_one, ← fl_nat (t := t.val) (by omega)]
  unfold V lg
  after_reads_at

/-- The backward decay of the state into row `t`. -/
theorem tab_qdb (h : Fin 4) (t : Fin 256) (l : Fin 128) : (V (F := Ideal) m c main_v63 (ix3 h t l) : EReal) = ((Real.exp ((256 - (t.val : ℝ)) * L h.rev) : ℝ) : EReal) := by
  rw [← exp_lg, EReal.coe_sub, ← fl_nat (t := t.val) (by omega), ← bits_256]
  unfold V lg
  after_reads_at
  rfl

/-- The forward decay of key `s` to the end of its chunk. -/
theorem tab_kdf (h : Fin 4) (s : Fin 256) : (V (F := Ideal) m c main_v72 (ix3 h 0 s) : EReal) = ((Real.exp ((255 - (s.val : ℝ)) * L h) : ℝ) : EReal) := by
  rw [← exp_lg, EReal.coe_sub, ← fl_nat (t := s.val) (by omega), ← bits_255]
  unfold V lg
  after_reads_at

/-- The backward decay of key `s` to the start of its chunk. -/
theorem tab_kdb (h : Fin 4) (s : Fin 256) : (V (F := Ideal) m c main_v79 (ix3 h 0 s) : EReal) = ((Real.exp ((s.val : ℝ) * L h.rev) : ℝ) : EReal) := by
  rw [← exp_lg, ← fl_nat (t := s.val) (by omega)]
  unfold V lg
  after_reads_at
  rfl

end Cert.KernelIdeal.Ret
-- ==== Proof.RetBlocks.lean ====
module

public import proofs.«01_k».proof.Proof.RetChunk
public import proofs.«01_k».proof.Proof.RetTables
public import proofs.«01_k».proof.Proof.Gen.KernelIdeal.Value
public import Idealize.ShloMosaic.Lib.Pointwise
public import Idealize.ShloMosaic.Lib.Pipeline.ValueKit.Geometry

/-!
# The kernel's result

What the windows bring to the grid point of batch `b` and head `h`, and the result array those points leave.
-/

@[expose] public section

set_option maxRecDepth 16384

noncomputable section

namespace Cert.KernelIdeal.Ret

open Cert.KernelIdeal Cert.KernelIdeal.Gen Cert.Ret Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t = ![0, 0] := by decide +kernel
theorem index1 : ∀ t : Fin cfg0.N, (cfg0.win 1).index t = ![(grid0.coords t 0).val, (grid0.coords t 1).val, 0, 0] := by decide +kernel
theorem index2 : ∀ t : Fin cfg0.N, (cfg0.win 2).index t = ![(grid0.coords t 0).val, 0, (grid0.coords t 1).val, 0] := by decide +kernel
theorem index3 : ∀ t : Fin cfg0.N, (cfg0.win 3).index t = ![(grid0.coords t 0).val, (grid0.coords t 1).val, 0, 0] := by decide +kernel
theorem index4 : ∀ t : Fin cfg0.N, (cfg0.win 4).index t = ![(grid0.coords t 1).val, 0, 0] := by decide +kernel
theorem index5 : ∀ t : Fin cfg0.N, (cfg0.win 5).index t = ![(grid0.coords t 1).val, 0, 0] := by decide +kernel
theorem index6 : ∀ t : Fin cfg0.N, (cfg0.win 6).index t = ![(grid0.coords t 1).val, 0, 0] := by decide +kernel
theorem index7 : ∀ t : Fin cfg0.N, (cfg0.win 7).index t = ![(grid0.coords t 1).val, 0, 0] := by decide +kernel
theorem index8 : ∀ t : Fin cfg0.N, (cfg0.win 8).index t = ![(grid0.coords t 1).val, 0, 0] := by decide +kernel
theorem index9 : ∀ t : Fin cfg0.N, (cfg0.win 9).index t = ![(grid0.coords t 0).val, (grid0.coords t 1).val, 0, 0] := by decide +kernel

section Windows

variable (t : Fin cfg0.N) (b : Fin 8) (h : Fin 4) (hb : (grid0.coords t 0).val = b.val) (hh : (grid0.coords t 1).val = h.val)

theorem win0 (u : Fin 2) (e : Fin 4) : iblk m c 0 t (ix2 u e) = V m c main_v88 (ix2 u e) := by
  blk_ext [iblk, index0 t]

include hb hh in
theorem win1 (T : Fin 4096) (d : Fin 256) : iblk m c 1 t (ix4 0 0 T d) = V m c main_arg0 (ix4 b h T d) := by
  blk_ext [iblk, index1 t]

include hb hh in
theorem win2 (n : Fin 16) (d s : Fin 256) : iblk m c 2 t (ix4 0 n d s) = V m c main_arg1 (ix4 b n ⟨256 * h.val + d.val, key_lt h d⟩ s) := by
  blk_ext [iblk, index2 t]

include hb hh in
theorem win3 (T : Fin 4096) (j : Fin 512) : iblk m c 3 t (ix4 0 0 T j) = V m c main_arg2 (ix4 b h T j) := by
  blk_ext [iblk, index3 t]

include hh in
theorem win4 (r s : Fin 256) : iblk m c 4 t (ix3 0 r s) = V m c main_v37 (ix3 h r s) := by
  blk_ext [iblk, index4 t]

include hh in
theorem win5 (r : Fin 256) (l : Fin 128) : iblk m c 5 t (ix3 0 r l) = V m c main_v51 (ix3 h r l) := by
  blk_ext [iblk, index5 t]

include hh in
theorem win6 (r : Fin 256) (l : Fin 128) : iblk m c 6 t (ix3 0 r l) = V m c main_v63 (ix3 h r l) := by
  blk_ext [iblk, index6 t]

include hh in
theorem win7 (s : Fin 256) : iblk m c 7 t (ix3 0 0 s) = V m c main_v72 (ix3 h 0 s) := by
  blk_ext [iblk, index7 t]

include hh in
theorem win8 (s : Fin 256) : iblk m c 8 t (ix3 0 0 s) = V m c main_v79 (ix3 h 0 s) := by
  blk_ext [iblk, index8 t]

end Windows

variable (y0 : Fin 8 → Fin 4 → Fin 4096 → Fin 256 → ℝ) (y1 : Fin 8 → Fin 16 → Fin 1024 → Fin 256 → ℝ) (y2 : Fin 8 → Fin 4 → Fin 4096 → Fin 512 → ℝ)
    (h0 : ∀ b h T d, m ((c : Thread nD τ).loc main_arg0) (ix4 b h T d) = ((y0 b h T d : ℝ) : EReal))
    (h1 : ∀ b n e s, m ((c : Thread nD τ).loc main_arg1) (ix4 b n e s) = ((y1 b n e s : ℝ) : EReal))
    (h2 : ∀ b h T j, m ((c : Thread nD τ).loc main_arg2) (ix4 b h T j) = ((y2 b h T j : ℝ) : EReal))

/-- The result the kernel computes from real operands. -/
def result : Vec Ideal S8x4x4096x512 .bf16 := fun y => rowNorm (fun j => (rows y0 y1 y2 (y 0) (y 1) (y 2) j : EReal)) (y 3)

/-- Equal coordinates give equal rows of the result. -/
theorem result_congr (b : Fin 8) (h : Fin 4) (T : Fin 4096) (j : Fin 512) (y : S8x4x4096x512.Idx) (e0 : (y 0).val = b.val) (e1 : (y 1).val = h.val)
    (e2 : (y 2).val = T.val) (e3 : (y 3).val = j.val) : rowNorm (fun j => (rows y0 y1 y2 b h T j : EReal)) j = result y0 y1 y2 y := by
  obtain rfl : (y 0 : Fin 8) = b := Fin.ext e0
  obtain rfl : (y 1 : Fin 4) = h := Fin.ext e1
  obtain rfl : (y 2 : Fin 4096) = T := Fin.ext e2
  obtain rfl : (y 3 : Fin 512) = j := Fin.ext e3
  rfl

include h0 h1 h2 in
/-- The result array after the run. -/
theorem arr_eq : (dats m 0 c).arrAt 9 cfg0.N = result y0 y1 y2 := by
  refine (dats m 0 c).arrAt_eq_of_covers 9 _ (by decide +kernel) fun t hf y => ?_
  refine (congrFun (Cert.KernelIdeal.Value.flushed9_A m c t) y).trans ?_
  have hb : (grid0.coords t 0).val < 8 := (grid0.coords t 0).isLt
  have hh : (grid0.coords t 1).val < 4 := (grid0.coords t 1).isLt
  refine (out_apply _ _ _ _ _ _ _ _ _ _ _ _ _ _ _ _ _ _ _ _ _ _ _ _ _ _ _ _ _ _ _ _ _ _ _ _ _ _).trans ?_
  unfold chunkG
  refine (chunk_real _ _ _ _ _ _ _ _ _ _ _ _ _ _ _ _ _ _ _ _ _ _ _ _ _ _ _ _ _ _ _ _ y0 y1 y2 ⟨_, hb⟩ ⟨_, hh⟩
    (fun e => (win0 m c t 0 e).trans (tab_cdf m c e)) (fun e => (win0 m c t 1 e).trans (tab_cdb m c e))
    (fun T d => ((win1 m c t _ _ rfl rfl T d).trans (congrFun (V_main_arg0 m c) _)).trans (h0 _ _ _ _))
    (fun n d s => ((win2 m c t _ _ rfl rfl n d s).trans (congrFun (V_main_arg1 m c) _)).trans (h1 _ _ _ _))
    (fun T j => ((win3 m c t _ _ rfl rfl T j).trans (congrFun (V_main_arg2 m c) _)).trans (h2 _ _ _ _))
    (fun r s => (win4 m c t _ rfl r s).trans (tab_dm m c _ r s))
    (fun r l => (win5 m c t _ rfl r l).trans (tab_qdf m c _ r l))
    (fun r l => (win6 m c t _ rfl r l).trans (tab_qdb m c _ r l))
    (fun s => (win7 m c t _ rfl s).trans (tab_kdf m c _ s))
    (fun s => (win8 m c t _ rfl s).trans (tab_kdb m c _ s))
    rfl _ _ _ _).trans ?_
  refine result_congr y0 y1 y2 _ _ _ _ _ ?_ ?_ ?_ ?_ <;> blk_simp [index9 t]
  exact (by omega : ∀ a b : ℕ, a = b → a = 256 * (b / 256) + b % 256) _ _ rfl

end Cert.KernelIdeal.Ret
-- ==== Proof.RetRef.lean ====
/- The retention reference read at an index: rows normalised after the sum of the two directions. -/
module

public import proofs.«01_k».proof.Proof.Gen.ReferenceIdeal.Read
public import proofs.«01_k».proof.Proof.RetReal
public import proofs.«01_k».proof.Proof.RetWords
public import Idealize.ShloMosaic.Lib.Pointwise

@[expose] public section

set_option maxRecDepth 16384

noncomputable section

namespace Cert.ReferenceIdeal.Ret

open Cert.ReferenceIdeal Cert.ReferenceIdeal.Gen Cert.ReferenceIdeal.Read Cert.Ret Idealize.ShloMosaic Idealize.ShloMosaic.TcCoe Idealize.SL.Sem

variable (x0 : (⟨S8x4x4096x256, .bf16⟩ : BufTy).Contents (Elt Ideal)) (x1 : (⟨S8x16x1024x256, .bf16⟩ : BufTy).Contents (Elt Ideal))
  (x2 : (⟨S8x4x4096x512, .bf16⟩ : BufTy).Contents (Elt Ideal))

/-- The queries. -/
theorem q_apply (b : Fin 8) (h : Fin 4) (T : Fin 4096) (d : Fin 256) : val_main_v12 (F := Ideal) x0 (ix4 b h T d) = x0 (ix4 b h T d) := by
  unfold val_main_v12
  pointwise

/-- The keys, by position. -/
theorem k_apply (b : Fin 8) (h : Fin 4) (S : Fin 4096) (d : Fin 256) :
    val_main_v13 (F := Ideal) x1 (ix4 b h S d) = x1 (ix4 b (⟨S.val / 256 % 16, by omega⟩ : Fin 16) (⟨256 * h.val + d.val, by omega⟩ : Fin 1024) (⟨S.val % 256, by omega⟩ : Fin 256)) := by
  unfold val_main_v13 val_main_v11 val_main_v10 val_main_v9
  pointwise
  have e1 : S.val / 256 = S.val / 256 % 16 := by omega
  have e2 : h.val * 256 + d.val = 256 * h.val + d.val := by omega
  exact congrArg x1 (congrFun (congr (congrArg (ix4 b) (Fin.ext e1)) (Fin.ext e2)) _)

/-- The values. -/
theorem v_apply (b : Fin 8) (h : Fin 4) (S : Fin 4096) (j : Fin 512) : val_main_v14 (F := Ideal) x2 (ix4 b h S j) = x2 (ix4 b h S j) := by
  unfold val_main_v14
  pointwise

/-- The forward weights. -/
theorem wf_apply (h : Fin 4) (T S : Fin 4096) :
    (val_main_v31 (F := Ideal) (ix3 h T S) : EReal) = ((if S.val ≤ T.val then Real.exp (((T.val : ℝ) - S.val) * L h) else 0 : ℝ) : EReal) := by
  have hT : T.val < 8192 := by omega
  have hS : S.val < 8192 := by omega
  have e : (val_main_v31 (F := Ideal) (ix3 h T S) : EReal) = if S.val ≤ T.val then Ideal.exp ((((T.val : ℝ) - S.val : ℝ) : EReal) * lg h) else 0 := by
    rw [← fl_sub hT hS]
    unfold val_main_v31 val_main_v30 val_main_v29 val_main_v28 val_main_v27 val_main_v26 val_main_v25 val_main_v24 val_main_v23 val_main_v22 val_main_v20 val_main_v21
      val_main_v19 val_main_v18 val_main_v17 val_main_v16 val_main_v15 val_main_v7 val_main_v6 val_main_v5 val_main_v4 val_main_v3 val_main_v2 val_main_v1 val_main_v0
      val_main_c val_main_cst val_main_cst_0 val_main_call1_v1 val_main_call1_v0 val_main_c_1 val_main_call2_v2 val_main_call2_v1 val_main_call2_v0 val_main_v22 val_main_v20 val_main_v21
      val_main_v19 val_main_v18 val_main_v17 val_main_v16 val_main_v15 val_main_c val_main_cst_2
    pointwise
    rw [sel_ge hT hS, sel_ge hT hS]
    by_cases hle : S.val ≤ T.val
    · rw [if_pos hle, if_pos hle, if_pos hle]
      rfl
    · rw [if_neg hle, if_neg hle]
      exact Ideal.ofBits_zero_f32
  rw [e, lg_eq, ← EReal.coe_mul, Ideal.exp_coe]
  split_ifs <;> rfl

/-- The backward weights, of the flipped positions. -/
theorem wb_apply (h : Fin 4) (T S : Fin 4096) :
    (val_main_v56 (F := Ideal) (ix3 h T S) : EReal) = ((if S.val < T.val then Real.exp (((T.val : ℝ) - S.val) * L h.rev) else 0 : ℝ) : EReal) := by
  have hT : T.val < 8192 := by omega
  have hS : S.val < 8192 := by omega
  have e : (val_main_v56 (F := Ideal) (ix3 h T S) : EReal) = if S.val < T.val then Ideal.exp ((((T.val : ℝ) - S.val : ℝ) : EReal) * lg h.rev) else 0 := by
    rw [← fl_sub hT hS]
    unfold val_main_v56 val_main_v55 val_main_v54 val_main_v53 val_main_v52 val_main_v51 val_main_v50 val_main_v49 val_main_v48 val_main_v47 val_main_v46 val_main_v45
      val_main_v44 val_main_v43 val_main_v42 val_main_v41 val_main_v40 val_main_v8 val_main_v7 val_main_v6 val_main_v5 val_main_v4 val_main_v3 val_main_v2 val_main_v1 val_main_v0
      val_main_c_3 val_main_cst val_main_cst_0 val_main_call6_v1 val_main_call6_v0 val_main_c_4 val_main_call7_v2 val_main_call7_v1 val_main_call7_v0 val_main_v47 val_main_v46 val_main_v45
      val_main_v44 val_main_v43 val_main_v42 val_main_v41 val_main_v40 val_main_c_3 val_main_cst_5
    pointwise
    rw [sel_gt hT hS, sel_gt hT hS]
    by_cases hle : S.val < T.val
    · rw [if_pos hle, if_pos hle, if_pos hle]
      rfl
    · rw [if_neg hle, if_neg hle]
      exact Ideal.ofBits_zero_f32
  rw [e, lg_eq, ← EReal.coe_mul, Ideal.exp_coe]
  split_ifs <;> rfl

/-- The forward direction. -/
theorem fwd_apply (b : Fin 8) (h : Fin 4) (T : Fin 4096) (j : Fin 512) :
    val_main_v36 (F := Ideal) x0 x1 x2 (ix4 b h T j)
      = ∑ S : Fin 4096, ((∑ d : Fin 256, val_main_v12 (F := Ideal) x0 (ix4 b h T d) * val_main_v13 (F := Ideal) x1 (ix4 b h S d)) * val_main_v31 (F := Ideal) (ix3 h T S))
          * val_main_v14 (F := Ideal) x2 (ix4 b h S j) := by
  unfold val_main_v36 val_main_v35 val_main_v34 val_main_v33 val_main_v32
  pointwise

/-- The backward direction: the flipped sequences, flipped back. -/
theorem bwd_apply (b : Fin 8) (h : Fin 4) (T : Fin 4096) (j : Fin 512) :
    val_main_v62 (F := Ideal) x0 x1 x2 (ix4 b h T j)
      = ∑ S : Fin 4096, ((∑ d : Fin 256, val_main_v12 (F := Ideal) x0 (ix4 b h T d) * val_main_v13 (F := Ideal) x1 (ix4 b h S.rev d)) * val_main_v56 (F := Ideal) (ix3 h T.rev S))
          * val_main_v14 (F := Ideal) x2 (ix4 b h S.rev j) := by
  unfold val_main_v62 val_main_v61 val_main_v60 val_main_v59 val_main_v58 val_main_v57 val_main_v39 val_main_v38 val_main_v37
  pointwise
  simp [Fin.rev_rev]

/-- The result: each row of the sum of the directions, normalised. -/
theorem out_apply (b : Fin 8) (h : Fin 4) (T : Fin 4096) (j : Fin 512) :
    (val_main_v82 (F := Ideal) x0 x1 x2 (ix4 b h T j) : EReal) = rowNorm (fun j => val_main_v63 (F := Ideal) x0 x1 x2 (ix4 b h T j)) j := by
  unfold val_main_v82 val_main_v81 val_main_v80 val_main_v79 val_main_v78 val_main_v77 val_main_v76 val_main_v75 val_main_v74 val_main_v73 val_main_v72 val_main_v71
    val_main_v70 val_main_v69 val_main_v68 val_main_v67 val_main_v66 val_main_v65 val_main_v64 val_main_cst_6 val_main_cst_7 val_main_cst_8 val_main_cst_9 val_main_cst_10
    rowNorm
  pointwise

/-- Where the arguments are real, a row before its normalisation is the sum over all positions. -/
theorem pre_apply (y0 : Fin 8 → Fin 4 → Fin 4096 → Fin 256 → ℝ) (y1 : Fin 8 → Fin 16 → Fin 1024 → Fin 256 → ℝ) (y2 : Fin 8 → Fin 4 → Fin 4096 → Fin 512 → ℝ)
    (h0 : ∀ b h T d, x0 (ix4 b h T d) = (y0 b h T d : EReal)) (h1 : ∀ b n e s, x1 (ix4 b n e s) = (y1 b n e s : EReal))
    (h2 : ∀ b h T j, x2 (ix4 b h T j) = (y2 b h T j : EReal)) (b : Fin 8) (h : Fin 4) (T : Fin 4096) (j : Fin 512) :
    (val_main_v63 (F := Ideal) x0 x1 x2 (ix4 b h T j) : EReal) = (rows y0 y1 y2 b h T j : EReal) := by
  have hk : ∀ S d, val_main_v13 (F := Ideal) x1 (ix4 b h S d) = (kk y1 b h S.val d : EReal) := fun S d => by rw [k_apply, h1]; rfl
  have hq : ∀ d, val_main_v12 (F := Ideal) x0 (ix4 b h T d) = (y0 b h T d : EReal) := fun d => by rw [q_apply, h0]
  have hv : ∀ S, val_main_v14 (F := Ideal) x2 (ix4 b h S j) = (vv y2 b h j S.val : EReal) := fun S => by
    rw [v_apply, h2]
    refine congrArg (fun S => ((y2 b h S j : ℝ) : EReal)) (Fin.ext ?_)
    show S.val = S.val % 4096
    omega
  have e : (val_main_v63 (F := Ideal) x0 x1 x2 (ix4 b h T j) : EReal) = val_main_v36 (F := Ideal) x0 x1 x2 (ix4 b h T j) + val_main_v62 (F := Ideal) x0 x1 x2 (ix4 b h T j) := rfl
  rw [e, fwd_apply, bwd_apply]
  simp only [hk, hq, hv, wf_apply, wb_apply, ← EReal.coe_mul, ← coe_sum, ← EReal.coe_add]
  refine congrArg _ ?_
  rw [← Equiv.sum_comp Fin.revPerm (fun S : Fin 4096 => ((∑ d, y0 b h T d * kk y1 b h (S.rev).val d) * _) * vv y2 b h j (S.rev).val), ← Finset.sum_add_distrib]
  unfold rows wt
  refine Finset.sum_congr rfl fun S _ => ?_
  simp only [Fin.revPerm_apply, Fin.rev_rev]
  by_cases hS : S.val ≤ T.val
  · rw [if_pos hS, if_pos hS, if_neg (by rw [Fin.val_rev, Fin.val_rev]; omega)]
    ring
  · rw [if_neg hS, if_neg hS, if_pos (by rw [Fin.val_rev, Fin.val_rev]; omega)]
    have : ((T.rev.val : ℝ) - S.rev.val) = (S.val : ℝ) - T.val := by
      rw [Fin.val_rev, Fin.val_rev, Nat.cast_sub (by omega), Nat.cast_sub (by omega)]
      push_cast
      ring
    rw [this]
    ring

end Cert.ReferenceIdeal.Ret
-- ==== Proof.RetFinite.lean ====
module

public import Idealize.ShloMosaic.Lib.ReduceAll
public import Idealize.ShloMosaic.PureOps.Ideal
public import proofs.«01_k».proof.Pre_finite

/-!
# What the precondition says

`finite` is all ones exactly when no entry of an argument is an infinity, so every entry is a real.
-/

@[expose] public section

noncomputable section

namespace Cert.Pre_finite

open Idealize.ShloMosaic

variable [Facts]
open Facts

theorem bits_inf : Ideal.ofBits .f32 0x7F800000#32 = (⊤ : EReal) := by
  simp [Ideal.ofBits, Ideal.ieee]

/-- A value whose absolute value is below `⊤` is a real. -/
theorem real_of_lt (x : EReal) (h : Ideal.cmp .olt (max x (-x)) (Ideal.ofBits .f32 0x7F800000#32) = 1#1) : x = (x.toReal : EReal) := by
  rw [bits_inf] at h
  induction x using EReal.rec with
  | bot => simp [Ideal.cmp] at h
  | top => simp [Ideal.cmp] at h
  | coe r => simp

theorem and_left (a b : BitVec 1) (h : IntOp.andi a b = 1#1) : a = 1#1 := by revert a b; decide

theorem and_right (a b : BitVec 1) (h : IntOp.andi a b = 1#1) : b = 1#1 := by revert a b; decide

/-- Under the precondition every entry of the three arguments is a real. -/
theorem real_of_fn (x0 : FVec Ideal S8x4x4096x256 .bf16) (x1 : FVec Ideal S8x16x1024x256 .bf16) (x2 : FVec Ideal S8x4x4096x512 .bf16)
    (h : fn (F := Ideal) x0 x1 x2 = fun _ => 1#1) :
    (∀ i, (x0 i : EReal) = ((x0 i : EReal).toReal : EReal)) ∧ (∀ i, (x1 i : EReal) = ((x1 i : EReal).toReal : EReal)) ∧ (∀ i, (x2 i : EReal) = ((x2 i : EReal).toReal : EReal)) := by
  have e := congrFun h (Shape.Idx.first h_S_)
  have e01 := and_left _ _ e
  have e2 := and_right _ _ e
  have e0 := and_left _ _ e01
  have e1 := and_right _ _ e01
  haveI : Subsingleton S_.Idx := ⟨fun a b => funext fun k => k.elim0⟩
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i)⟩

end Cert.Pre_finite
-- ==== Proof.RetClaim.lean ====
module

public import proofs.«01_k».proof.Defs
public import proofs.«01_k».proof.Proof.RetBlocks
public import proofs.«01_k».proof.Proof.RetRef
public import proofs.«01_k».proof.Proof.RetFinite
public import proofs.«01_k».proof.Proof.Gen.Pre_finite
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import Idealize.ShloMosaic.Adequacy
public import Idealize.ShloMosaic.Init

/-!
# The claims about the retention
-/

@[expose] public section

noncomputable section

namespace Cert.Proof.Ret

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_finite : Cert.quiescent_ReferenceIdeal_pre_finite := fun m ρ _ => frame_ri m ρ trivial

/-- From real operands the host's retention is the array the kernel's grid points leave. -/
theorem reference_eq (x0 : Vec Ideal Cert.ReferenceIdeal.S8x4x4096x256 .bf16) (x1 : Vec Ideal Cert.ReferenceIdeal.S8x16x1024x256 .bf16)
    (x2 : Vec Ideal Cert.ReferenceIdeal.S8x4x4096x512 .bf16)
    (y0 : Fin 8 → Fin 4 → Fin 4096 → Fin 256 → ℝ) (y1 : Fin 8 → Fin 16 → Fin 1024 → Fin 256 → ℝ) (y2 : Fin 8 → Fin 4 → Fin 4096 → Fin 512 → ℝ)
    (h0 : ∀ b h T d, x0 (ix4 b h T d) = ((y0 b h T d : ℝ) : EReal)) (h1 : ∀ b n e s, x1 (ix4 b n e s) = ((y1 b n e s : ℝ) : EReal))
    (h2 : ∀ b h T j, x2 (ix4 b h T j) = ((y2 b h T j : ℝ) : EReal)) :
    Cert.ReferenceIdeal.Read.val_main_v82 (F := Ideal) x0 x1 x2 = Cert.KernelIdeal.Ret.result y0 y1 y2 := by
  funext y
  have e : y = ix4 (y 0) (y 1) (y 2) (y 3) := by funext a; fin_cases a <;> rfl
  refine (congrArg (Cert.ReferenceIdeal.Read.val_main_v82 (F := Ideal) x0 x1 x2) e).trans ?_
  refine (Cert.ReferenceIdeal.Ret.out_apply x0 x1 x2 (y 0) (y 1) (y 2) (y 3)).trans ?_
  exact congrArg (fun f => Cert.Ret.rowNorm f (y 3)) (funext fun j => Cert.ReferenceIdeal.Ret.pre_apply x0 x1 x2 y0 y1 y2 h0 h1 h2 (y 0) (y 1) (y 2) j)

/-- The kernel's retention equals the host's. -/
theorem algebraic : Cert.algebraic_KernelIdeal_ReferenceIdeal_pre_finite := by
  intro m g m' g' hpre hm
  have hr := fun c => Cert.Pre_finite.real_of_fn _ _ _ (hpre c)
  refine ⟨fun c => Cert.ReferenceIdeal.Value.res_main_v82 m' c, (θ_run Cert.KernelIdeal.defs _ _).mono (fun r h c => ⟨(h c).1.trans ?_, (h c).2⟩)
    (Cert.KernelIdeal.Value.run_blocks (F := Ideal) m g), Cert.ReferenceIdeal.Value.run (F := Ideal) m' g'⟩
  refine (Cert.KernelIdeal.Ret.arr_eq m c (fun b h T d => (m ((c.tc : Thread Cert.KernelIdeal.nD Cert.KernelIdeal.τ).loc Cert.KernelIdeal.main_arg0) (ix4 b h T d) : EReal).toReal)
    (fun b n e s => (m ((c.tc : Thread Cert.KernelIdeal.nD Cert.KernelIdeal.τ).loc Cert.KernelIdeal.main_arg1) (ix4 b n e s) : EReal).toReal)
    (fun b h T j => (m ((c.tc : Thread Cert.KernelIdeal.nD Cert.KernelIdeal.τ).loc Cert.KernelIdeal.main_arg2) (ix4 b h T j) : EReal).toReal)
    (fun _ _ _ _ => (hr c).1 _) (fun _ _ _ _ => (hr c).2.1 _) (fun _ _ _ _ => (hr c).2.2 _)).trans ?_
  refine Eq.trans ?_ (Cert.ReferenceIdeal.Read.val_main_v82_eq m' c).symm
  obtain ⟨e0, e1, e2⟩ := hm c
  rw [e0, e1, e2]
  exact (reference_eq _ _ _ _ _ _ (fun _ _ _ _ => (hr c).1 _) (fun _ _ _ _ => (hr c).2.1 _) (fun _ _ _ _ => (hr c).2.2 _)).symm

end Cert.Proof.Ret
-- ==== Proof.FfnBody.lean ====
/- One grid point of the call of the last layer that mixes, feeds forward and normalizes, over any scalars. The body works on two
   halves of 256 rows and on eleven chunks of 256 hidden columns, every step a copy of the same text. These definitions state that
   once, and `out_eq` says that what the point leaves in its output is built of them. -/
module

public import proofs.«01_k».proof.Proof.Gen.Kernel2Ideal.Value

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.View (Piece)

variable {F : FTy → Type} [FloatOps F]

/-- One row of a table. -/
def rowV (v : Vec F S1x1x1024 .f32) : FVec F S1x1024 .f32 := shapeCast S1x1024 v shapeCasts_S1x1x1024_S1x1024

/-- One head's rows times its gates. -/
def gateV (s y : Vec F S1x1x256x512 .bf16) : FVec F S256x512 .bf16 :=
  mulf (shapeCast S256x512 s shapeCasts_S1x1x256x512_S256x512) (shapeCast S256x512 y shapeCasts_S1x1x256x512_S256x512)

/-- The four heads side by side, times the output weights. -/
def headsV (z0 z1 z2 z3 : FVec F S256x512 .bf16) (w : Vec F S2048x1024 .bf16) : FVec F S256x1024 .f32 :=
  matmul dot_S256x2048_S2048x1024_S256x1024_1_0_0_1_n_n none
    (concatenate S256x2048 1 [⟨S256x512, z0⟩, ⟨S256x512, z1⟩, ⟨S256x512, z2⟩, ⟨S256x512, z3⟩]
      concatenates_S256x512_S256x512_S256x512_S256x512_S256x2048_d1) w (constant S256x1024 .f32 0x00000000#32)

/-- Rows plus their gated update. -/
def addV (x : Vec F S1x256x1024 .f32) (g : FVec F S1x1024 .f32) (m : FVec F S256x1024 .f32) : FVec F S256x1024 .f32 :=
  addf (shapeCast S256x1024 x shapeCasts_S1x256x1024_S256x1024) (mulf (broadcastTo S256x1024 g broadcasts_S1x1024_S256x1024) m)

/-- Rows normalized by their mean square, scaled by the gain, then modulated. -/
def normV (x : FVec F S256x1024 .f32) (gain : Vec F S1x1024 .f32) (shift scale : FVec F S1x1024 .f32) : FVec F S256x1024 .f32 :=
  addf
    (mulf
      (mulf
        (mulf x
          (broadcastTo S256x1024
            (rsqrt
              (addf
                (divf
                  (shapeCast S256x1 (multiReduction .add [1] S256 (mulf x x) 0x00000000#32 reduces_S256x1024_S256 (.inl rfl) rfl)
                    shapeCasts_S256_S256x1)
                  (broadcast S256x1 (Scalar.ofBits .f32 0x44800000#32)))
                (broadcast S256x1 (Scalar.ofBits .f32 0x358637BD#32))))
            broadcasts_S256x1_S256x1024))
        (broadcastTo S256x1024 (shapeCast S1x1024 gain shapeCasts_S1x1024_S1x1024) broadcasts_S1x1024_S256x1024))
      (broadcastTo S256x1024 (addf (broadcast S1x1024 (Scalar.ofBits .f32 0x3F800000#32)) scale) broadcasts_S1x1024_S256x1024))
    (broadcastTo S256x1024 shift broadcasts_S1x1024_S256x1024)

/-- Normalized rows as the scratch keeps them. -/
def keepV (h : FVec F S256x1024 .f32) : FVec F S256x1024 .bf16 :=
  shapeCast S256x1024 (truncf .bf16 h bitsLt_bf16_f32) shapeCasts_S256x1024_S256x1024

/-- Rows times a chunk of weights. -/
def projV (h : Vec F S256x1024 .bf16) (w : Vec F S1024x256 .bf16) : FVec F S256x256 .f32 :=
  matmul dot_S256x1024_S1024x256_S256x256_1_0_0_1_n_n none h w (constant S256x256 .f32 0x00000000#32)

/-- A chunk of the hidden layer. -/
def hiddenV (h : Vec F S256x1024 .bf16) (wg wu : Vec F S1024x256 .bf16) : FVec F S256x256 .bf16 :=
  shapeCast S256x256 (truncf .bf16 (mulf (mulf (projV h wg) (logistic (projV h wg))) (projV h wu)) bitsLt_bf16_f32)
    shapeCasts_S256x256_S256x256

/-- The hidden layer times the weights that lead out of it. -/
def leaveV (a : Vec F S256x2816 .bf16) (w : Vec F S2816x1024 .bf16) : FVec F S256x1024 .f32 :=
  matmul dot_S256x2816_S2816x1024_S256x1024_1_0_0_1_n_n none a w (constant S256x1024 .f32 0x00000000#32)

/-- Rows as the output keeps them. -/
def blockV (x : FVec F S256x1024 .f32) : FVec F S1x256x1024 .f32 := shapeCast S1x256x1024 x shapeCasts_S256x1024_S1x256x1024

section Body

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S8x1024 .f32) (harg4 : arg4.IsWhole) (arg5 : Memref sig .tc .vmem S1x4x512x512 .bf16) (harg5 : arg5.IsWhole) (arg6 : Memref sig .tc .vmem S1x4x512x512 .bf16) (harg6 : arg6.IsWhole) (arg7 : Memref sig .tc .vmem S2048x1024 .bf16) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x512x1024 .f32) (harg10 : arg10.IsWhole) (arg11 : Memref sig .tc .vmem S512x1024 .bf16) (harg11 : arg11.IsWhole) (arg12 : Memref sig .tc .vmem S512x2816 .bf16) (harg12 : arg12.IsWhole)
    (x0 : Vec F S1x512x1024 .f32) (x1 : Vec F S1x8x1024 .f32) (x2 : Vec F S8x1024 .f32) (x3 : Vec F S1x4x512x512 .bf16) (x4 : Vec F S1x4x512x512 .bf16) (x5 : Vec F S2048x1024 .bf16) (x6 : Vec F S1024x5632 .bf16) (x7 : Vec F S2816x1024 .bf16)

theorem inbX (r : ℕ) (h : r < 2) : ∀ a, (![0, 256 * r, 0] : Fin 3 → ℕ) a + S1x256x1024.size a ≤ S1x512x1024.size a := by
  intro a; fin_cases a <;> simp [S1x256x1024, S1x512x1024] <;> omega

theorem inbT (r : ℕ) (h : r < 8) : ∀ a, (![0, r, 0] : Fin 3 → ℕ) a + S1x1x1024.size a ≤ S1x8x1024.size a := by
  intro a; fin_cases a <;> simp [S1x1x1024, S1x8x1024] <;> omega

theorem inbG (r : ℕ) (h : r < 8) : ∀ a, (![r, 0] : Fin 2 → ℕ) a + S1x1024.size a ≤ S8x1024.size a := by
  intro a; fin_cases a <;> simp [S1x1024, S8x1024] <;> omega

theorem inbY (n r : ℕ) (hn : n < 4) (h : r < 2) : ∀ a, (![0, n, 256 * r, 0] : Fin 4 → ℕ) a + S1x1x256x512.size a ≤ S1x4x512x512.size a := by
  intro a; fin_cases a <;> simp [S1x1x256x512, S1x4x512x512] <;> omega

theorem inbH (r : ℕ) (h : r < 2) : ∀ a, (![256 * r, 0] : Fin 2 → ℕ) a + S256x1024.size a ≤ S512x1024.size a := by
  intro a; fin_cases a <;> simp [S256x1024, S512x1024] <;> omega

theorem inbW (o : ℕ) (h : o ≤ 5376) : ∀ a, (![0, o] : Fin 2 → ℕ) a + S1024x256.size a ≤ S1024x5632.size a := by
  intro a; fin_cases a <;> simp [S1024x256, S1024x5632] <;> omega

theorem inbA (r n : ℕ) (h : r < 2) (hn : n < 11) : ∀ a, (![256 * r, 256 * n] : Fin 2 → ℕ) a + S256x256.size a ≤ S512x2816.size a := by
  intro a; fin_cases a <;> simp [S256x256, S512x2816] <;> omega

theorem inbL (r : ℕ) (h : r < 2) : ∀ a, (![256 * r, 0] : Fin 2 → ℕ) a + S256x2816.size a ≤ S512x2816.size a := by
  intro a; fin_cases a <;> simp [S256x2816, S512x2816] <;> omega

theorem zero_lt_two : 0 < 2 := by decide
theorem one_lt_two : 1 < 2 := by decide
theorem mod_lt (n : ℕ) : n % 11 < 11 := Nat.mod_lt _ (by decide)
theorem gate_le (n : ℕ) (hn : n < 11) : 256 * n ≤ 5376 := by omega
theorem up_le (n : ℕ) (hn : n < 11) : 2816 + 256 * n ≤ 5376 := by omega

/-- Row `r` of the modulation table, as the body loads it. -/
def tAt (r : ℕ) (h : r < 8) : FVec F S1x1024 .f32 :=
  rowV (View.readAt (Elt F) arg3.view (Rect.unit (s := S1x8x1024) ![0, r, 0] S1x1x1024.size (inbT r h)).toLoadRect (harg3.unread x1))

/-- Row `r` of the gains, as the body loads it. -/
def gAt (r : ℕ) (h : r < 8) : Vec F S1x1024 .f32 :=
  View.readAt (Elt F) arg4.view (Rect.unit (s := S8x1024) ![r, 0] S1x1024.size (inbG r h)).toLoadRect (harg4.unread x2)

/-- Head `n` of half `r`: its rows times its gates. -/
def zAt (n r : ℕ) (hn : n < 4) (h : r < 2) : FVec F S256x512 .bf16 :=
  gateV
    (View.readAt (Elt F) arg6.view (Rect.unit (s := S1x4x512x512) ![0, n, 256 * r, 0] S1x1x256x512.size (inbY n r hn h)).toLoadRect (harg6.unread x4))
    (View.readAt (Elt F) arg5.view (Rect.unit (s := S1x4x512x512) ![0, n, 256 * r, 0] S1x1x256x512.size (inbY n r hn h)).toLoadRect (harg5.unread x3))

/-- Half `r` after the mixer's update. -/
def mixedAt (r : ℕ) (h : r < 2) : FVec F S256x1024 .f32 :=
  addV (View.readAt (Elt F) arg2.view (Rect.unit (s := S1x512x1024) ![0, 256 * r, 0] S1x256x1024.size (inbX r h)).toLoadRect (harg2.unread x0))
    (tAt arg3 harg3 x1 0 (by decide))
    (headsV (zAt arg5 harg5 arg6 harg6 x3 x4 0 r (by decide) h) (zAt arg5 harg5 arg6 harg6 x3 x4 1 r (by decide) h)
      (zAt arg5 harg5 arg6 harg6 x3 x4 2 r (by decide) h) (zAt arg5 harg5 arg6 harg6 x3 x4 3 r (by decide) h)
      (View.readAt (Elt F) arg7.view (Rect.unit (s := S2048x1024) ![0, 0] S2048x1024.size inb_S2048x1024_S2048x1024_0_0).toLoadRect (harg7.unread x5)))

/-- Half `r`, normalized for the feed-forward layer, as the scratch keeps it. -/
def normedAt (r : ℕ) (h : r < 2) : FVec F S256x1024 .bf16 :=
  keepV (normV (mixedAt arg2 harg2 arg3 harg3 arg5 harg5 arg6 harg6 arg7 harg7 x0 x1 x3 x4 x5 r h) (gAt arg4 harg4 x2 0 (by decide))
    (tAt arg3 harg3 x1 1 (by decide)) (tAt arg3 harg3 x1 2 (by decide)))

/-- What the scratch of the normalized rows holds: both halves, last first. -/
def normedL : List (Piece (Elt F) S512x1024 .bf16) :=
  [⟨Rect.unit (s := S512x1024) ![256 * 1, 0] S256x1024.size (inbH 1 one_lt_two),
      normedAt arg2 harg2 arg3 harg3 arg4 harg4 arg5 harg5 arg6 harg6 arg7 harg7 x0 x1 x2 x3 x4 x5 1 one_lt_two⟩,
    ⟨Rect.unit (s := S512x1024) ![256 * 0, 0] S256x1024.size (inbH 0 zero_lt_two),
      normedAt arg2 harg2 arg3 harg3 arg4 harg4 arg5 harg5 arg6 harg6 arg7 harg7 x0 x1 x2 x3 x4 x5 0 zero_lt_two⟩]

/-- Half `r` of the normalized rows, as the body loads it back. -/
def hAt (r : ℕ) (h : r < 2) : Vec F S256x1024 .bf16 :=
  arg11.view.readCov (normedL arg2 harg2 arg3 harg3 arg4 harg4 arg5 harg5 arg6 harg6 arg7 harg7 x0 x1 x2 x3 x4 x5)
    (Rect.unit (s := S512x1024) ![256 * r, 0] S256x1024.size (inbH r h)).toLoadRect

/-- The 256 columns of the inward weights from column `o` on, as the body loads them. -/
def wAt (o : ℕ) (h : o ≤ 5376) : Vec F S1024x256 .bf16 :=
  View.readAt (Elt F) arg8.view (Rect.unit (s := S1024x5632) ![0, o] S1024x256.size (inbW o h)).toLoadRect (harg8.unread x6)

/-- Chunk `n` of the hidden layer on half `r`. -/
def hiddenAt (r n : ℕ) (h : r < 2) (hn : n < 11) : FVec F S256x256 .bf16 :=
  hiddenV (hAt arg2 harg2 arg3 harg3 arg4 harg4 arg5 harg5 arg6 harg6 arg7 harg7 arg11 x0 x1 x2 x3 x4 x5 r h)
    (wAt arg8 harg8 x6 (256 * n) (gate_le n hn)) (wAt arg8 harg8 x6 (2816 + 256 * n) (up_le n hn))

/-- What the scratch of the hidden layer holds after chunk `n`: the pieces, last first. -/
def hiddenL : ℕ → List (Piece (Elt F) S512x2816 .bf16)
  | 0 => [⟨Rect.unit (s := S512x2816) ![256 * 1, 256 * (0 % 11)] S256x256.size (inbA 1 (0 % 11) one_lt_two (mod_lt 0)),
        hiddenAt arg2 harg2 arg3 harg3 arg4 harg4 arg5 harg5 arg6 harg6 arg7 harg7 arg8 harg8 arg11 x0 x1 x2 x3 x4 x5 x6 1 (0 % 11) one_lt_two (mod_lt 0)⟩,
      ⟨Rect.unit (s := S512x2816) ![256 * 0, 256 * (0 % 11)] S256x256.size (inbA 0 (0 % 11) zero_lt_two (mod_lt 0)),
        hiddenAt arg2 harg2 arg3 harg3 arg4 harg4 arg5 harg5 arg6 harg6 arg7 harg7 arg8 harg8 arg11 x0 x1 x2 x3 x4 x5 x6 0 (0 % 11) zero_lt_two (mod_lt 0)⟩]
  | n + 1 => ⟨Rect.unit (s := S512x2816) ![256 * 1, 256 * ((n + 1) % 11)] S256x256.size (inbA 1 ((n + 1) % 11) one_lt_two (mod_lt (n + 1))),
        hiddenAt arg2 harg2 arg3 harg3 arg4 harg4 arg5 harg5 arg6 harg6 arg7 harg7 arg8 harg8 arg11 x0 x1 x2 x3 x4 x5 x6 1 ((n + 1) % 11) one_lt_two (mod_lt (n + 1))⟩ ::
      ⟨Rect.unit (s := S512x2816) ![256 * 0, 256 * ((n + 1) % 11)] S256x256.size (inbA 0 ((n + 1) % 11) zero_lt_two (mod_lt (n + 1))),
        hiddenAt arg2 harg2 arg3 harg3 arg4 harg4 arg5 harg5 arg6 harg6 arg7 harg7 arg8 harg8 arg11 x0 x1 x2 x3 x4 x5 x6 0 ((n + 1) % 11) zero_lt_two (mod_lt (n + 1))⟩ ::
      hiddenL n

/-- Half `r` of the hidden layer, as the body loads it back. -/
def aAt (r : ℕ) (h : r < 2) : Vec F S256x2816 .bf16 :=
  arg12.view.readCov (hiddenL arg2 harg2 arg3 harg3 arg4 harg4 arg5 harg5 arg6 harg6 arg7 harg7 arg8 harg8 arg11 x0 x1 x2 x3 x4 x5 x6 10)
    (Rect.unit (s := S512x2816) ![256 * r, 0] S256x2816.size (inbL r h)).toLoadRect

/-- What the output holds between the two layers: both halves after the mixer's update, last first. -/
def mixedL : List (Piece (Elt F) S1x512x1024 .f32) :=
  [⟨Rect.unit (s := S1x512x1024) ![0, 256 * 1, 0] S1x256x1024.size (inbX 1 one_lt_two),
      blockV (mixedAt arg2 harg2 arg3 harg3 arg5 harg5 arg6 harg6 arg7 harg7 x0 x1 x3 x4 x5 1 one_lt_two)⟩,
    ⟨Rect.unit (s := S1x512x1024) ![0, 256 * 0, 0] S1x256x1024.size (inbX 0 zero_lt_two),
      blockV (mixedAt arg2 harg2 arg3 harg3 arg5 harg5 arg6 harg6 arg7 harg7 x0 x1 x3 x4 x5 0 zero_lt_two)⟩]

/-- Half `r` of the result, from what the output holds at that half before. -/
def lastAt (r : ℕ) (h : r < 2) (L : List (Piece (Elt F) S1x512x1024 .f32)) : FVec F S1x256x1024 .f32 :=
  blockV (normV
    (addV (arg10.view.readCov L (Rect.unit (s := S1x512x1024) ![0, 256 * r, 0] S1x256x1024.size (inbX r h)).toLoadRect) (tAt arg3 harg3 x1 3 (by decide))
      (leaveV (aAt arg2 harg2 arg3 harg3 arg4 harg4 arg5 harg5 arg6 harg6 arg7 harg7 arg8 harg8 arg11 arg12 x0 x1 x2 x3 x4 x5 x6 r h)
        (View.readAt (Elt F) arg9.view (Rect.unit (s := S2816x1024) ![0, 0] S2816x1024.size inb_S2816x1024_S2816x1024_0_0).toLoadRect (harg9.unread x7))))
    (gAt arg4 harg4 x2 1 (by decide)) (tAt arg3 harg3 x1 4 (by decide)) (tAt arg3 harg3 x1 5 (by decide)))

/-- What the output holds once half 0 of the result is stored. -/
def firstL : List (Piece (Elt F) S1x512x1024 .f32) :=
  ⟨Rect.unit (s := S1x512x1024) ![0, 256 * 0, 0] S1x256x1024.size (inbX 0 zero_lt_two),
    lastAt arg2 harg2 arg3 harg3 arg4 harg4 arg5 harg5 arg6 harg6 arg7 harg7 arg8 harg8 arg9 harg9 arg10 arg11 arg12 x0 x1 x2 x3 x4 x5 x6 x7 0 zero_lt_two
      (mixedL arg2 harg2 arg3 harg3 arg5 harg5 arg6 harg6 arg7 harg7 x0 x1 x3 x4 x5)⟩ ::
  mixedL arg2 harg2 arg3 harg3 arg5 harg5 arg6 harg6 arg7 harg7 x0 x1 x3 x4 x5

/-- What the output holds at the end. -/
def outL : List (Piece (Elt F) S1x512x1024 .f32) :=
  ⟨Rect.unit (s := S1x512x1024) ![0, 256 * 1, 0] S1x256x1024.size (inbX 1 one_lt_two),
    lastAt arg2 harg2 arg3 harg3 arg4 harg4 arg5 harg5 arg6 harg6 arg7 harg7 arg8 harg8 arg9 harg9 arg10 arg11 arg12 x0 x1 x2 x3 x4 x5 x6 x7 1 one_lt_two
      (firstL arg2 harg2 arg3 harg3 arg4 harg4 arg5 harg5 arg6 harg6 arg7 harg7 arg8 harg8 arg9 harg9 arg10 arg11 arg12 x0 x1 x2 x3 x4 x5 x6 x7)⟩ ::
  firstL arg2 harg2 arg3 harg3 arg4 harg4 arg5 harg5 arg6 harg6 arg7 harg7 arg8 harg8 arg9 harg9 arg10 arg11 arg12 x0 x1 x2 x3 x4 x5 x6 x7

set_option maxHeartbeats 8000000 in
/-- What the body leaves in its output is the list of its two halves, over what it held between. -/
theorem out_eq : out0_A_8 c i arg2 harg2 arg3 harg3 arg4 harg4 arg5 harg5 arg6 harg6 arg7 harg7 arg8 harg8 arg9 harg9 arg10 harg10 arg11 harg11 arg12 harg12 x0 x1 x2 x3 x4 x5 x6 x7
    = View.canon (outL arg2 harg2 arg3 harg3 arg4 harg4 arg5 harg5 arg6 harg6 arg7 harg7 arg8 harg8 arg9 harg9 arg10 arg11 arg12 x0 x1 x2 x3 x4 x5 x6 x7) := by
  unfold out0_A_8
  rw [View.read_writes_junk_eq_canon]
  refine congrArg View.canon ?_
  rfl

end Body

end Cert.Kernel2Ideal.Ffn

end
-- ==== Proof.FfnRow.lean ====
/- The row functions of a layer's second half: the mixer's gated update, the normalization with its modulation, the SwiGLU
   feed-forward layer. Everything here is a function of one row and of the weights; program and reference are both read as these. -/
module

public import Idealize.ShloMosaic.PureOps.Ideal
public import Idealize.ShloMosaic.Lib.IdealHost

@[expose] public section

noncomputable section

namespace Cert.Ffn

open Idealize.ShloMosaic

/-- A row normalized by its mean square, scaled by the gain, then modulated. -/
def normRow (x gain shift scale : Fin 1024 → EReal) (j : Fin 1024) : EReal :=
  ((x j * Ideal.rsqrt (Ideal.div (∑ k : Fin 1024, x k * x k) (Ideal.ofBits .f32 0x44800000#32) + Ideal.ofBits .f32 0x358637BD#32)) * gain j)
      * (1 + scale j) + shift j

/-- One hidden unit: the gate's sigmoid-weighted value times the other half's. -/
def hiddenUnit (h : Fin 1024 → EReal) (win : Fin 1024 → Fin 5632 → EReal) (n : Fin 2816) : EReal :=
  ((∑ d : Fin 1024, h d * win d ⟨n.val, by omega⟩) * Ideal.logistic (∑ d : Fin 1024, h d * win d ⟨n.val, by omega⟩))
    * (∑ d : Fin 1024, h d * win d ⟨2816 + n.val, by omega⟩)

/-- The row after the mixer's update: the gated heads times the output weights, scaled, added. -/
def mixed (x g : Fin 1024 → EReal) (z : Fin 2048 → EReal) (wo : Fin 2048 → Fin 1024 → EReal) (j : Fin 1024) : EReal :=
  x j + g j * ∑ k : Fin 2048, z k * wo k j

/-- The row after the feed-forward update. -/
def fed (x h g : Fin 1024 → EReal) (win : Fin 1024 → Fin 5632 → EReal) (wout : Fin 2816 → Fin 1024 → EReal) (j : Fin 1024) : EReal :=
  x j + g j * ∑ k : Fin 2816, hiddenUnit h win k * wout k j

section Layer

variable (x : Fin 8 → Fin 4096 → Fin 1024 → EReal) (md : Fin 8 → Fin 6 → Fin 1024 → EReal) (fm : Fin 8 → Fin 2 → Fin 1024 → EReal) (gn gf : Fin 1024 → EReal)
  (y sg : Fin 8 → Fin 4 → Fin 4096 → Fin 512 → EReal) (wo : Fin 2048 → Fin 1024 → EReal) (win : Fin 1024 → Fin 5632 → EReal) (wout : Fin 2816 → Fin 1024 → EReal)
  (b : Fin 8) (T : Fin 4096)

/-- A token's row after the mixer: the heads side by side, gated, through the output weights. -/
def mixedRow : Fin 1024 → EReal :=
  mixed (x b T) (md b 2) (fun k => sg b ⟨k.val / 512, by omega⟩ T ⟨k.val % 512, by omega⟩ * y b ⟨k.val / 512, by omega⟩ T ⟨k.val % 512, by omega⟩) wo

/-- That row normalized for the feed-forward layer. -/
def normedRow : Fin 1024 → EReal := normRow (mixedRow x md y sg wo b T) gn (md b 3) (md b 4)

/-- The row after the feed-forward layer. -/
def fedRow : Fin 1024 → EReal := fed (mixedRow x md y sg wo b T) (normedRow x md gn y sg wo b T) (md b 5) win wout

/-- The row of the result: the last normalization of the row after both updates. -/
def lastRow : Fin 1024 → EReal := normRow (fedRow x md gn y sg wo win wout b T) gf (fm b 0) (fm b 1)

end Layer

end Cert.Ffn

end
-- ==== Proof.FfnPoint.lean ====
/- The body's steps read at an index, at the reals with infinities. -/
module

public import proofs.«01_k».proof.Proof.FfnBody
public import proofs.«01_k».proof.Proof.FfnRow
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

theorem rowV_apply (v : Vec Ideal S1x1x1024 .f32) (j : Fin 1024) : rowV v (ix2 0 j) = v (ix3 0 0 j) := by
  unfold rowV
  pointwise

theorem gateV_apply (s y : Vec Ideal S1x1x256x512 .bf16) (t : Fin 256) (j : Fin 512) :
    gateV s y (ix2 t j) = s (ix4 0 0 t j) * y (ix4 0 0 t j) := by
  unfold gateV
  pointwise

theorem headsV_apply (z0 z1 z2 z3 : FVec Ideal S256x512 .bf16) (w : Vec Ideal S2048x1024 .bf16) (t : Fin 256) (j : Fin 1024) (Z : Fin 4 → Fin 512 → EReal)
    (h0 : ∀ d, z0 (ix2 t d) = Z 0 d) (h1 : ∀ d, z1 (ix2 t d) = Z 1 d) (h2 : ∀ d, z2 (ix2 t d) = Z 2 d) (h3 : ∀ d, z3 (ix2 t d) = Z 3 d) :
    headsV z0 z1 z2 z3 w (ix2 t j)
      = ∑ k : Fin 2048, Z ⟨k.val / 512, by omega⟩ ⟨k.val % 512, by omega⟩ * w (ix2 k j) := by
  unfold headsV
  pointwise
  refine Finset.sum_congr rfl fun k _ => congrArg (· * w (ix2 k j)) ?_
  split_ifs <;> simp only [h0, h1, h2, h3]
  all_goals exact congr (congrArg Z (Fin.ext (by simp only [Fin.isValue]; omega))) (Fin.ext (by simp only; omega))

theorem addV_apply (x : Vec Ideal S1x256x1024 .f32) (g : FVec Ideal S1x1024 .f32) (m : FVec Ideal S256x1024 .f32) (t : Fin 256) (j : Fin 1024) :
    addV x g m (ix2 t j) = x (ix3 0 t j) + g (ix2 0 j) * m (ix2 t j) := by
  unfold addV
  pointwise

theorem normV_apply (x : FVec Ideal S256x1024 .f32) (gain : Vec Ideal S1x1024 .f32) (shift scale : FVec Ideal S1x1024 .f32) (t : Fin 256) (j : Fin 1024) :
    normV x gain shift scale (ix2 t j)
      = normRow (fun j => x (ix2 t j)) (fun j => gain (ix2 0 j)) (fun j => shift (ix2 0 j)) (fun j => scale (ix2 0 j)) j := by
  unfold normV normRow
  pointwise

theorem keepV_apply (h : FVec Ideal S256x1024 .f32) (t : Fin 256) (j : Fin 1024) : keepV h (ix2 t j) = h (ix2 t j) := by
  unfold keepV
  pointwise

theorem projV_apply (h : Vec Ideal S256x1024 .bf16) (w : Vec Ideal S1024x256 .bf16) (t n : Fin 256) :
    projV h w (ix2 t n) = ∑ d : Fin 1024, h (ix2 t d) * w (ix2 d n) := by
  unfold projV
  pointwise

theorem hiddenV_apply (h : Vec Ideal S256x1024 .bf16) (wg wu : Vec Ideal S1024x256 .bf16) (t n : Fin 256) :
    hiddenV h wg wu (ix2 t n) = (projV h wg (ix2 t n) * Ideal.logistic (projV h wg (ix2 t n))) * projV h wu (ix2 t n) := by
  unfold hiddenV
  pointwise

theorem leaveV_apply (a : Vec Ideal S256x2816 .bf16) (w : Vec Ideal S2816x1024 .bf16) (t : Fin 256) (j : Fin 1024) :
    leaveV a w (ix2 t j) = ∑ k : Fin 2816, a (ix2 t k) * w (ix2 k j) := by
  unfold leaveV
  pointwise

theorem blockV_apply (x : FVec Ideal S256x1024 .f32) (t : Fin 256) (j : Fin 1024) : blockV x (ix3 0 t j) = x (ix2 t j) := by
  unfold blockV
  pointwise

section Rows

variable (x0 : Vec Ideal S1x512x1024 .f32) (x1 : Vec Ideal S1x8x1024 .f32) (x2 : Vec Ideal S8x1024 .f32) (x3 : Vec Ideal S1x4x512x512 .bf16) (x4 : Vec Ideal S1x4x512x512 .bf16) (x5 : Vec Ideal S2048x1024 .bf16) (x6 : Vec Ideal S1024x5632 .bf16) (x7 : Vec Ideal S2816x1024 .bf16)

/-- Row `n` of the block after the mixer's update. -/
def mixedR (n : Fin 512) : Fin 1024 → EReal :=
  mixed (fun j => x0 (ix3 0 n j)) (fun j => x1 (ix3 0 0 j))
    (fun k => x4 (ix4 0 (⟨k.val / 512, by omega⟩ : Fin 4) n (⟨k.val % 512, by omega⟩ : Fin 512)) * x3 (ix4 0 (⟨k.val / 512, by omega⟩ : Fin 4) n (⟨k.val % 512, by omega⟩ : Fin 512)))
    (fun k j => x5 (ix2 k j))

/-- Row `n`, normalized for the feed-forward layer. -/
def normedR (n : Fin 512) : Fin 1024 → EReal :=
  normRow (mixedR x0 x1 x3 x4 x5 n) (fun j => x2 (ix2 0 j)) (fun j => x1 (ix3 0 1 j)) (fun j => x1 (ix3 0 2 j))

/-- Row `n` of the result. -/
def outR (n : Fin 512) : Fin 1024 → EReal :=
  normRow
    (fed (mixedR x0 x1 x3 x4 x5 n) (normedR x0 x1 x2 x3 x4 x5 n) (fun j => x1 (ix3 0 3 j)) (fun d k => x6 (ix2 d k)) (fun k j => x7 (ix2 k j)))
    (fun j => x2 (ix2 1 j)) (fun j => x1 (ix3 0 4 j)) (fun j => x1 (ix3 0 5 j))

end Rows

section Body

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S8x1024 .f32) (harg4 : arg4.IsWhole) (arg5 : Memref sig .tc .vmem S1x4x512x512 .bf16) (harg5 : arg5.IsWhole) (arg6 : Memref sig .tc .vmem S1x4x512x512 .bf16) (harg6 : arg6.IsWhole) (arg7 : Memref sig .tc .vmem S2048x1024 .bf16) (harg7 : arg7.IsWhole) (arg8 : Memref sig .tc .vmem S1024x5632 .bf16) (harg8 : arg8.IsWhole) (arg9 : Memref sig .tc .vmem S2816x1024 .bf16) (harg9 : arg9.IsWhole) (arg10 : Memref sig .tc .vmem S1x512x1024 .f32) (harg10 : arg10.IsWhole) (arg11 : Memref sig .tc .vmem S512x1024 .bf16) (harg11 : arg11.IsWhole) (arg12 : Memref sig .tc .vmem S512x2816 .bf16) (harg12 : arg12.IsWhole)
    (x0 : Vec Ideal S1x512x1024 .f32) (x1 : Vec Ideal S1x8x1024 .f32) (x2 : Vec Ideal S8x1024 .f32) (x3 : Vec Ideal S1x4x512x512 .bf16) (x4 : Vec Ideal S1x4x512x512 .bf16) (x5 : Vec Ideal S2048x1024 .bf16) (x6 : Vec Ideal S1024x5632 .bf16) (x7 : Vec Ideal S2816x1024 .bf16)

theorem row_lt (r : ℕ) (h : r < 2) (t : Fin 256) : 256 * r + t.val < 512 := by omega

theorem tAt_apply (r : ℕ) (h : r < 8) (j : Fin 1024) : tAt arg3 harg3 x1 r h (ix2 0 j) = x1 (ix3 0 ⟨r, h⟩ j) := by
  unfold tAt
  rw [rowV_apply, View.readAt_eq_ld, harg3.read_unread]
  pointwise

theorem gAt_apply (r : ℕ) (h : r < 8) (j : Fin 1024) : gAt arg4 harg4 x2 r h (ix2 0 j) = x2 (ix2 ⟨r, h⟩ j) := by
  unfold gAt
  rw [View.readAt_eq_ld, harg4.read_unread]
  pointwise

theorem zAt_apply (n r : ℕ) (hn : n < 4) (h : r < 2) (t : Fin 256) (j : Fin 512) :
    zAt arg5 harg5 arg6 harg6 x3 x4 n r hn h (ix2 t j)
      = x4 (ix4 0 ⟨n, hn⟩ ⟨256 * r + t, row_lt r h t⟩ j) * x3 (ix4 0 ⟨n, hn⟩ ⟨256 * r + t, row_lt r h t⟩ j) := by
  unfold zAt
  rw [gateV_apply, View.readAt_eq_ld, harg6.read_unread, View.readAt_eq_ld, harg5.read_unread]
  pointwise

theorem wAt_apply (o : ℕ) (h : o ≤ 5376) (d : Fin 1024) (n : Fin 256) : wAt arg8 harg8 x6 o h (ix2 d n) = x6 (ix2 d ⟨o + n, by omega⟩) := by
  unfold wAt
  rw [View.readAt_eq_ld, harg8.read_unread]
  pointwise

/-- A row after the mixer's update. -/
theorem mixedAt_apply (r : ℕ) (h : r < 2) (t : Fin 256) (j : Fin 1024) :
    mixedAt arg2 harg2 arg3 harg3 arg5 harg5 arg6 harg6 arg7 harg7 x0 x1 x3 x4 x5 r h (ix2 t j) = mixedR x0 x1 x3 x4 x5 ⟨256 * r + t, row_lt r h t⟩ j := by
  unfold mixedAt mixedR mixed
  rw [addV_apply, tAt_apply, headsV_apply (Z := fun n d => x4 (ix4 0 n ⟨256 * r + t, row_lt r h t⟩ d) * x3 (ix4 0 n ⟨256 * r + t, row_lt r h t⟩ d))
    (h0 := fun d => zAt_apply arg5 harg5 arg6 harg6 x3 x4 0 r _ h t d) (h1 := fun d => zAt_apply arg5 harg5 arg6 harg6 x3 x4 1 r _ h t d)
    (h2 := fun d => zAt_apply arg5 harg5 arg6 harg6 x3 x4 2 r _ h t d) (h3 := fun d => zAt_apply arg5 harg5 arg6 harg6 x3 x4 3 r _ h t d),
    View.readAt_eq_ld, harg2.read_unread, View.readAt_eq_ld, harg7.read_unread]
  pointwise

/-- A row, normalized for the feed-forward layer. -/
theorem normedAt_apply (r : ℕ) (h : r < 2) (t : Fin 256) (j : Fin 1024) :
    normedAt arg2 harg2 arg3 harg3 arg4 harg4 arg5 harg5 arg6 harg6 arg7 harg7 x0 x1 x2 x3 x4 x5 r h (ix2 t j) = normedR x0 x1 x2 x3 x4 x5 ⟨256 * r + t, row_lt r h t⟩ j := by
  unfold normedAt normedR
  rw [keepV_apply, normV_apply]
  simp only [mixedAt_apply, gAt_apply, tAt_apply]
  rfl

/-- A normalized row read back. -/
theorem hAt_apply (r : ℕ) (h : r < 2) (t : Fin 256) (j : Fin 1024) :
    hAt arg2 harg2 arg3 harg3 arg4 harg4 arg5 harg5 arg6 harg6 arg7 harg7 arg11 x0 x1 x2 x3 x4 x5 r h (ix2 t j) = normedR x0 x1 x2 x3 x4 x5 ⟨256 * r + t, row_lt r h t⟩ j := by
  unfold hAt normedL
  obtain rfl | rfl : r = 0 ∨ r = 1 := by omega
  · rw [View.readCov_skip _ _ _ _ _ rfl, View.readCov_cons_toLoadRect, normedAt_apply]
  · rw [View.readCov_cons_toLoadRect, normedAt_apply]

/-- A chunk of the hidden layer. -/
theorem hiddenAt_apply (r n : ℕ) (h : r < 2) (hn : n < 11) (t k : Fin 256) :
    hiddenAt arg2 harg2 arg3 harg3 arg4 harg4 arg5 harg5 arg6 harg6 arg7 harg7 arg8 harg8 arg11 x0 x1 x2 x3 x4 x5 x6 r n h hn (ix2 t k)
      = hiddenUnit (normedR x0 x1 x2 x3 x4 x5 ⟨256 * r + t, row_lt r h t⟩) (fun d k => x6 (ix2 d k)) ⟨256 * n + k, by omega⟩ := by
  unfold hiddenAt hiddenUnit
  rw [hiddenV_apply, projV_apply, projV_apply]
  simp only [hAt_apply, wAt_apply, Nat.add_assoc]

/-- The hidden layer as one array. -/
def hiddenG : Vec Ideal S512x2816 .bf16 := fun y => hiddenUnit (normedR x0 x1 x2 x3 x4 x5 (y 0)) (fun d k => x6 (ix2 d k)) (y 1)

theorem hidden_tile (r n : ℕ) (h : r < 2) (hn : n < 11) (y : S512x2816.Idx) :
    View.TileAt y (![256 * r, 256 * n] : Fin 2 → ℕ) S256x256.size (hiddenAt arg2 harg2 arg3 harg3 arg4 harg4 arg5 harg5 arg6 harg6 arg7 harg7 arg8 harg8 arg11 x0 x1 x2 x3 x4 x5 x6 r n h hn) (hiddenG x0 x1 x2 x3 x4 x5 x6 y) := by
  intro x hx
  have e0 : (y 0).val = 256 * r + (x 0).val := hx 0
  have e1 : (y 1).val = 256 * n + (x 1).val := hx 1
  have ex : x = ix2 (x 0) (x 1) := by funext a; fin_cases a <;> rfl
  rw [ex]
  refine (hiddenAt_apply arg2 harg2 arg3 harg3 arg4 harg4 arg5 harg5 arg6 harg6 arg7 harg7 arg8 harg8 arg11 x0 x1 x2 x3 x4 x5 x6 r n h hn (x 0) (x 1)).trans ?_
  unfold hiddenG
  exact congr (congrArg (fun u => hiddenUnit (normedR x0 x1 x2 x3 x4 x5 u) _) (Fin.ext e0.symm)) (Fin.ext e1.symm)

theorem hidden_allAt (n : ℕ) (hn : n < 11) (y : S512x2816.Idx) :
    View.AllAt (hiddenL arg2 harg2 arg3 harg3 arg4 harg4 arg5 harg5 arg6 harg6 arg7 harg7 arg8 harg8 arg11 x0 x1 x2 x3 x4 x5 x6 n) y (hiddenG x0 x1 x2 x3 x4 x5 x6 y) := by
  induction n with
  | zero =>
    exact View.allAt_cons_unit _ _ _ _ _ (hidden_tile arg2 harg2 arg3 harg3 arg4 harg4 arg5 harg5 arg6 harg6 arg7 harg7 arg8 harg8 arg11 x0 x1 x2 x3 x4 x5 x6 1 (0 % 11) one_lt_two (mod_lt 0) y)
      (View.allAt_cons_unit _ _ _ _ _ (hidden_tile arg2 harg2 arg3 harg3 arg4 harg4 arg5 harg5 arg6 harg6 arg7 harg7 arg8 harg8 arg11 x0 x1 x2 x3 x4 x5 x6 0 (0 % 11) zero_lt_two (mod_lt 0) y) (View.allAt_nil _ _))
  | succ n ih =>
    exact View.allAt_cons_unit _ _ _ _ _ (hidden_tile arg2 harg2 arg3 harg3 arg4 harg4 arg5 harg5 arg6 harg6 arg7 harg7 arg8 harg8 arg11 x0 x1 x2 x3 x4 x5 x6 1 ((n + 1) % 11) one_lt_two (mod_lt (n + 1)) y)
      (View.allAt_cons_unit _ _ _ _ _ (hidden_tile arg2 harg2 arg3 harg3 arg4 harg4 arg5 harg5 arg6 harg6 arg7 harg7 arg8 harg8 arg11 x0 x1 x2 x3 x4 x5 x6 0 ((n + 1) % 11) zero_lt_two (mod_lt (n + 1)) y) (ih (by omega)))

/-- A row of the hidden layer read back. -/
theorem aAt_apply (r : ℕ) (h : r < 2) (t : Fin 256) (k : Fin 2816) :
    aAt arg2 harg2 arg3 harg3 arg4 harg4 arg5 harg5 arg6 harg6 arg7 harg7 arg8 harg8 arg11 arg12 x0 x1 x2 x3 x4 x5 x6 r h (ix2 t k) = hiddenUnit (normedR x0 x1 x2 x3 x4 x5 ⟨256 * r + t, row_lt r h t⟩) (fun d k => x6 (ix2 d k)) k := by
  unfold aAt
  rw [View.readCov_eq_canon']
  show View.canon _ ((Rect.unit (s := S512x2816) ![256 * r, 0] S256x2816.size (inbL r h)).toLoadRect.idx (ix2 t k)) = _
  have e : (Rect.unit (s := S512x2816) ![256 * r, 0] S256x2816.size (inbL r h)).toLoadRect.idx (ix2 t k) = ix2 ⟨256 * r + t, row_lt r h t⟩ k := by
    pointwise
  rw [e]
  exact View.canon_eq_of_allAt _ _ _ (View.cover_of_tiled (s := S512x2816) _ S256x256.size rfl _)
    (hidden_allAt arg2 harg2 arg3 harg3 arg4 harg4 arg5 harg5 arg6 harg6 arg7 harg7 arg8 harg8 arg11 x0 x1 x2 x3 x4 x5 x6 10 (by decide) _)

/-- A row of the result, where the output holds that row after the mixer's update. -/
theorem lastAt_apply (r : ℕ) (h : r < 2) (L : List (View.Piece (Elt Ideal) S1x512x1024 .f32))
    (hL : arg10.view.readCov L (Rect.unit (s := S1x512x1024) ![0, 256 * r, 0] S1x256x1024.size (inbX r h)).toLoadRect
      = blockV (mixedAt arg2 harg2 arg3 harg3 arg5 harg5 arg6 harg6 arg7 harg7 x0 x1 x3 x4 x5 r h)) (t : Fin 256) (j : Fin 1024) :
    lastAt arg2 harg2 arg3 harg3 arg4 harg4 arg5 harg5 arg6 harg6 arg7 harg7 arg8 harg8 arg9 harg9 arg10 arg11 arg12 x0 x1 x2 x3 x4 x5 x6 x7 r h L (ix3 0 t j) = outR x0 x1 x2 x3 x4 x5 x6 x7 ⟨256 * r + t, row_lt r h t⟩ j := by
  unfold lastAt outR fed
  rw [blockV_apply, normV_apply, hL]
  simp only [addV_apply, blockV_apply, mixedAt_apply, gAt_apply, tAt_apply, leaveV_apply, aAt_apply]
  rw [View.readAt_eq_ld, harg9.read_unread]
  pointwise

/-- What the point leaves in its output, at an index. -/
theorem out_apply (y : S1x512x1024.Idx) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 y
      = outR x0 x1 x2 x3 x4 x5 x6 x7 (y 1) (y 2) := by
  have y0' : (y 0).val < 1 := (y 0).isLt
  have y1' : (y 1).val < 512 := (y 1).isLt
  rw [out_eq]
  unfold outL
  by_cases hy : (y 1).val < 256
  · rw [View.canon_cons_of_not_mem]
    · unfold firstL
      have e : y = (Rect.unit (s := S1x512x1024) ![0, 256 * 0, 0] S1x256x1024.size (inbX 0 zero_lt_two)).emb (ix3 0 (⟨(y 1).val, hy⟩ : Fin 256) (y 2)) := by
        funext a
        fin_cases a <;> refine Fin.ext ?_ <;> simp [Rect.emb_apply] <;> omega
      refine (congrArg (View.canon _) e).trans ?_
      refine (View.canon_cons_emb _ _ _ _).trans ((lastAt_apply arg2 harg2 arg3 harg3 arg4 harg4 arg5 harg5 arg6 harg6 arg7 harg7 arg8 harg8 arg9 harg9 arg10 arg11 arg12 x0 x1 x2 x3 x4 x5 x6 x7 0 _ _ ?_ _ _).trans ?_)
      · unfold mixedL
        rw [View.readCov_skip _ _ _ _ _ rfl, View.readCov_cons_toLoadRect]
      · exact congrArg (fun u => outR x0 x1 x2 x3 x4 x5 x6 x7 u (y 2)) (Fin.ext (by simp))
    · intro hm
      obtain ⟨x, hx⟩ := (Rect.unit (s := S1x512x1024) ![0, 256 * 1, 0] S1x256x1024.size (inbX 1 one_lt_two)).exists_idx_of_mem hm
      have e : 256 * 1 + 1 * (x 1).val = (y 1).val := congrArg (fun z : S1x512x1024.Idx => (z 1).val) hx
      omega
  · have e : y = (Rect.unit (s := S1x512x1024) ![0, 256 * 1, 0] S1x256x1024.size (inbX 1 one_lt_two)).emb (ix3 0 (⟨(y 1).val - 256, by omega⟩ : Fin 256) (y 2)) := by
      funext a
      fin_cases a <;> refine Fin.ext ?_ <;> simp [Rect.emb_apply] <;> omega
    refine (congrArg (View.canon _) e).trans ?_
    refine (View.canon_cons_emb _ _ _ _).trans ((lastAt_apply arg2 harg2 arg3 harg3 arg4 harg4 arg5 harg5 arg6 harg6 arg7 harg7 arg8 harg8 arg9 harg9 arg10 arg11 arg12 x0 x1 x2 x3 x4 x5 x6 x7 1 _ _ ?_ _ _).trans ?_)
    · unfold firstL mixedL
      rw [View.readCov_skip _ _ _ _ _ rfl, View.readCov_cons_toLoadRect]
    · exact congrArg (fun u => outR x0 x1 x2 x3 x4 x5 x6 x7 u (y 2)) (Fin.ext (by simp; omega))

end Body

end Cert.Kernel2Ideal.Ffn

end
-- ==== Proof.FfnBlocks.lean ====
module

public import proofs.«01_k».proof.Proof.FfnPoint
public import proofs.«01_k».proof.Proof.Gen.Kernel2Ideal.Value
public import Idealize.ShloMosaic.Lib.Pointwise
public import Idealize.ShloMosaic.Lib.StableHlo.ReadAt
public import Idealize.ShloMosaic.Lib.Pipeline.ValueKit.Geometry

/-!
# The result of the call of the last layer

What the host's two tables hold, what the windows bring to a grid point, and the result array those points leave.
-/

@[expose] public section

set_option maxRecDepth 16384

noncomputable section

namespace Cert.Kernel2Ideal.Ffn

open Cert.Kernel2Ideal Cert.Kernel2Ideal.Gen Cert.Ffn Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t = ![(grid0.coords t 0).val, (grid0.coords t 1).val, 0] := by decide +kernel
theorem index1 : ∀ t : Fin cfg0.N, (cfg0.win 1).index t = ![(grid0.coords t 0).val, 0, 0] := by decide +kernel
theorem index2 : ∀ t : Fin cfg0.N, (cfg0.win 2).index t = ![0, 0] := by decide +kernel
theorem index3 : ∀ t : Fin cfg0.N, (cfg0.win 3).index t = ![(grid0.coords t 0).val, 0, (grid0.coords t 1).val, 0] := by decide +kernel
theorem index4 : ∀ t : Fin cfg0.N, (cfg0.win 4).index t = ![(grid0.coords t 0).val, 0, (grid0.coords t 1).val, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, 0] := by decide +kernel
theorem index8 : ∀ t : Fin cfg0.N, (cfg0.win 8).index t = ![(grid0.coords t 0).val, (grid0.coords t 1).val, 0] := by decide +kernel

/-- The modulation table's first four rows are the layer's last four vectors. -/
theorem table_mod (b : Fin 8) (r : Fin 8) (hr : r.val < 4) (j : Fin 1024) :
    V (F := Ideal) m c main_v2 (ix3 b r j) = m ((c : Thread nD τ).loc main_arg1) (ix3 b ⟨2 + r.val, by omega⟩ j) := by
  unfold V
  after_reads_at
  rw [dif_pos hr]
  after_reads_at

/-- Its next two are the final norm's. -/
theorem table_final (b : Fin 8) (r : Fin 2) (j : Fin 1024) :
    V (F := Ideal) m c main_v2 (ix3 b (⟨4 + r.val, by omega⟩ : Fin 8) j) = m ((c : Thread nD τ).loc main_arg2) (ix3 b r j) := by
  unfold V
  after_reads_at

/-- The first row of gains is the layer's. -/
theorem table_gain (j : Fin 1024) : V (F := Ideal) m c main_v6 (ix2 0 j) = m ((c : Thread nD τ).loc main_arg3) (ix1 j) := by
  unfold V
  after_reads_at
  after_reads_at

/-- The second is the final norm's. -/
theorem table_last (j : Fin 1024) : V (F := Ideal) m c main_v6 (ix2 1 j) = m ((c : Thread nD τ).loc main_arg4) (ix1 j) := by
  unfold V
  after_reads_at
  after_reads_at

theorem tile_lt (s : Fin 8) (n : Fin 512) : 512 * s.val + n.val < 4096 := by omega

section Windows

variable (t : Fin cfg0.N) (b s : Fin 8) (hb : (grid0.coords t 0).val = b.val) (hs : (grid0.coords t 1).val = s.val)

include hb hs in
theorem win0 (n : Fin 512) (j : Fin 1024) : iblk m c 0 t (ix3 0 n j) = V m c main_arg0 (ix3 b ⟨512 * s.val + n.val, tile_lt s n⟩ j) := by
  blk_ext [iblk, index0 t]

include hb in
theorem win1 (r : Fin 8) (j : Fin 1024) : iblk m c 1 t (ix3 0 r j) = V m c main_v2 (ix3 b r j) := by
  blk_ext [iblk, index1 t]

theorem win2 (r : Fin 8) (j : Fin 1024) : iblk m c 2 t (ix2 r j) = V m c main_v6 (ix2 r j) := by
  blk_ext [iblk, index2 t]

include hb hs in
theorem win3 (h : Fin 4) (n j : Fin 512) : iblk m c 3 t (ix4 0 h n j) = V m c main_arg5 (ix4 b h ⟨512 * s.val + n.val, tile_lt s n⟩ j) := by
  blk_ext [iblk, index3 t]

include hb hs in
theorem win4 (h : Fin 4) (n j : Fin 512) : iblk m c 4 t (ix4 0 h n j) = V m c main_arg6 (ix4 b h ⟨512 * s.val + n.val, tile_lt s n⟩ j) := by
  blk_ext [iblk, index4 t]

theorem win5 (k : Fin 2048) (j : Fin 1024) : iblk m c 5 t (ix2 k j) = V m c main_arg7 (ix2 k j) := by
  blk_ext [iblk, index5 t]

theorem win6 (d : Fin 1024) (k : Fin 5632) : iblk m c 6 t (ix2 d k) = V m c main_arg8 (ix2 d k) := by
  blk_ext [iblk, index6 t]

theorem win7 (k : Fin 2816) (j : Fin 1024) : iblk m c 7 t (ix2 k j) = V m c main_arg9 (ix2 k j) := by
  blk_ext [iblk, index7 t]

end Windows

/-- The result the call computes. -/
def result : Vec Ideal S8x4096x1024 .f32 := fun y =>
  lastRow (fun b T j => m ((c : Thread nD τ).loc main_arg0) (ix3 b T j)) (fun b r j => m ((c : Thread nD τ).loc main_arg1) (ix3 b r j))
    (fun b r j => m ((c : Thread nD τ).loc main_arg2) (ix3 b r j)) (fun j => m ((c : Thread nD τ).loc main_arg3) (ix1 j))
    (fun j => m ((c : Thread nD τ).loc main_arg4) (ix1 j)) (fun b h T j => m ((c : Thread nD τ).loc main_arg5) (ix4 b h T j))
    (fun b h T j => m ((c : Thread nD τ).loc main_arg6) (ix4 b h T j)) (fun k j => m ((c : Thread nD τ).loc main_arg7) (ix2 k j))
    (fun d k => m ((c : Thread nD τ).loc main_arg8) (ix2 d k)) (fun k j => m ((c : Thread nD τ).loc main_arg9) (ix2 k j)) (y 0) (y 1) (y 2)

/-- The rows a point computes are rows of the result. -/
theorem outR_eq (t : Fin cfg0.N) (b s : Fin 8) (hb : (grid0.coords t 0).val = b.val) (hs : (grid0.coords t 1).val = s.val) (n : Fin 512) (j : Fin 1024) :
    outR (iblk m c 0 t) (iblk m c 1 t) (iblk m c 2 t) (iblk m c 3 t) (iblk m c 4 t) (iblk m c 5 t) (iblk m c 6 t) (iblk m c 7 t) n j
      = result m c (ix3 b ⟨512 * s.val + n.val, tile_lt s n⟩ j) := by
  have e0 : ∀ j, iblk m c 0 t (ix3 0 n j) = m ((c : Thread nD τ).loc main_arg0) (ix3 b ⟨512 * s.val + n.val, tile_lt s n⟩ j) :=
    fun j => (win0 m c t b s hb hs n j).trans (congrFun (V_main_arg0 m c) _)
  have t0 : ∀ j, iblk m c 1 t (ix3 0 0 j) = m ((c : Thread nD τ).loc main_arg1) (ix3 b 2 j) :=
    fun j => (win1 m c t b hb 0 j).trans (table_mod m c b 0 (by decide) j)
  have t1 : ∀ j, iblk m c 1 t (ix3 0 1 j) = m ((c : Thread nD τ).loc main_arg1) (ix3 b 3 j) :=
    fun j => (win1 m c t b hb 1 j).trans (table_mod m c b 1 (by decide) j)
  have t2 : ∀ j, iblk m c 1 t (ix3 0 2 j) = m ((c : Thread nD τ).loc main_arg1) (ix3 b 4 j) :=
    fun j => (win1 m c t b hb 2 j).trans (table_mod m c b 2 (by decide) j)
  have t3 : ∀ j, iblk m c 1 t (ix3 0 3 j) = m ((c : Thread nD τ).loc main_arg1) (ix3 b 5 j) :=
    fun j => (win1 m c t b hb 3 j).trans (table_mod m c b 3 (by decide) j)
  have t4 : ∀ j, iblk m c 1 t (ix3 0 4 j) = m ((c : Thread nD τ).loc main_arg2) (ix3 b 0 j) :=
    fun j => (win1 m c t b hb 4 j).trans (table_final m c b 0 j)
  have t5 : ∀ j, iblk m c 1 t (ix3 0 5 j) = m ((c : Thread nD τ).loc main_arg2) (ix3 b 1 j) :=
    fun j => (win1 m c t b hb 5 j).trans (table_final m c b 1 j)
  have g0 : ∀ j, iblk m c 2 t (ix2 0 j) = m ((c : Thread nD τ).loc main_arg3) (ix1 j) := fun j => (win2 m c t 0 j).trans (table_gain m c j)
  have g1 : ∀ j, iblk m c 2 t (ix2 1 j) = m ((c : Thread nD τ).loc main_arg4) (ix1 j) := fun j => (win2 m c t 1 j).trans (table_last m c j)
  have e3 : ∀ h j, iblk m c 3 t (ix4 0 h n j) = m ((c : Thread nD τ).loc main_arg5) (ix4 b h ⟨512 * s.val + n.val, tile_lt s n⟩ j) :=
    fun h j => (win3 m c t b s hb hs h n j).trans (congrFun (V_main_arg5 m c) _)
  have e4 : ∀ h j, iblk m c 4 t (ix4 0 h n j) = m ((c : Thread nD τ).loc main_arg6) (ix4 b h ⟨512 * s.val + n.val, tile_lt s n⟩ j) :=
    fun h j => (win4 m c t b s hb hs h n j).trans (congrFun (V_main_arg6 m c) _)
  have e5 : ∀ k j, iblk m c 5 t (ix2 k j) = m ((c : Thread nD τ).loc main_arg7) (ix2 k j) := fun k j => (win5 m c t k j).trans (congrFun (V_main_arg7 m c) _)
  have e6 : ∀ d k, iblk m c 6 t (ix2 d k) = m ((c : Thread nD τ).loc main_arg8) (ix2 d k) := fun d k => (win6 m c t d k).trans (congrFun (V_main_arg8 m c) _)
  have e7 : ∀ k j, iblk m c 7 t (ix2 k j) = m ((c : Thread nD τ).loc main_arg9) (ix2 k j) := fun k j => (win7 m c t k j).trans (congrFun (V_main_arg9 m c) _)
  unfold outR normedR mixedR
  simp only [e0, t0, t1, t2, t3, t4, t5, g0, g1, e3, e4, e5, e6, e7]
  rfl

/-- Equal coordinates give equal entries of the result. -/
theorem result_congr (x y : S8x4096x1024.Idx) (e0 : (x 0).val = (y 0).val) (e1 : (x 1).val = (y 1).val) (e2 : (x 2).val = (y 2).val) :
    result m c x = result m c y := by
  refine congrArg (result m c) (funext fun a => ?_)
  fin_cases a
  · exact Fin.ext e0
  · exact Fin.ext e1
  · exact Fin.ext e2

/-- The result array after the run. -/
theorem arr_eq : (dats m 0 c).arrAt 8 cfg0.N = result m c := by
  refine (dats m 0 c).arrAt_eq_of_covers 8 _ (by decide +kernel) fun t hf y => ?_
  refine (congrFun (Cert.Kernel2Ideal.Value.flushed8_A m c t) y).trans ?_
  have hb : (grid0.coords t 0).val < 8 := (grid0.coords t 0).isLt
  have hs : (grid0.coords t 1).val < 8 := (grid0.coords t 1).isLt
  refine (out_apply _ _ _ _ _ _ _ _ _ _ _ _ _ _ _ _ _ _ _ _ _ _ _ _ _ _ _ _ _ _ _ _ _).trans ?_
  refine (outR_eq m c t ⟨_, hb⟩ ⟨_, hs⟩ rfl rfl _ _).trans ?_
  refine result_congr m c _ _ ?_ ?_ ?_ <;> blk_simp [index8 t]
  exact (by omega : ∀ a b : ℕ, 512 * a + b = a * 512 + b) _ _

end Cert.Kernel2Ideal.Ffn
-- ==== Proof.FfnRef.lean ====
module

public import proofs.«01_k».proof.Proof.FfnRow
public import proofs.«01_k».proof.Proof.Gen.Reference2Ideal.Read
public import Idealize.ShloMosaic.Lib.Pointwise

/-!
# The last layer in the host's words

Each stage of the reference, read at one token, is the row function of that stage.
-/

@[expose] public section

set_option maxRecDepth 16384

noncomputable section

namespace Cert.Reference2Ideal.Ffn

open Cert.Reference2Ideal Cert.Reference2Ideal.Read Cert.Ffn Idealize.ShloMosaic Idealize.ShloMosaic.TcCoe Idealize.SL.Sem

variable (x0 : Vec Ideal S8x4096x1024 .f32) (x1 : Vec Ideal S8x6x1024 .f32) (x2 : Vec Ideal S8x2x1024 .f32) (x3 x4 : Vec Ideal S1024 .f32)
  (x5 x6 : Vec Ideal S8x4x4096x512 .bf16) (x7 : Vec Ideal S2048x1024 .bf16) (x8 : Vec Ideal S1024x5632 .bf16) (x9 : Vec Ideal S2816x1024 .bf16)
  (b : Fin 8) (T : Fin 4096)

/-- The gated heads side by side. -/
theorem gated_apply (k : Fin 2048) :
    val_main_v18 (F := Ideal) x5 x6 (ix3 b T k)
      = x6 (ix4 b (⟨k.val / 512, by omega⟩ : Fin 4) T (⟨k.val % 512, by omega⟩ : Fin 512)) * x5 (ix4 b (⟨k.val / 512, by omega⟩ : Fin 4) T (⟨k.val % 512, by omega⟩ : Fin 512)) := by
  unfold val_main_v18 val_main_v17 val_main_v16 val_main_v15 val_main_v14 val_main_v13 val_main_v12
  pointwise

/-- The rows after the mixer. -/
theorem mixed_apply (j : Fin 1024) :
    val_main_v24 (F := Ideal) x0 x1 x5 x6 x7 (ix3 b T j)
      = mixedRow (fun b T j => x0 (ix3 b T j)) (fun b r j => x1 (ix3 b r j)) (fun b h T j => x5 (ix4 b h T j)) (fun b h T j => x6 (ix4 b h T j)) (fun k j => x7 (ix2 k j)) b T j := by
  unfold mixedRow mixed
  unfold val_main_v24 val_main_v23 val_main_v22 val_main_v21 val_main_v5 val_main_v4 val_main_v20 val_main_v19
  pointwise
  simp only [gated_apply]

/-- The normalized rows. -/
theorem normed_apply (j : Fin 1024) :
    val_main_v45 (F := Ideal) x0 x1 x3 x5 x6 x7 (ix3 b T j)
      = normedRow (fun b T j => x0 (ix3 b T j)) (fun b r j => x1 (ix3 b r j)) (fun j => x3 (ix1 j)) (fun b h T j => x5 (ix4 b h T j)) (fun b h T j => x6 (ix4 b h T j)) (fun k j => x7 (ix2 k j)) b T j := by
  unfold normedRow normRow
  simp only [← mixed_apply]
  unfold val_main_v45 val_main_v44 val_main_v43 val_main_v42 val_main_v41 val_main_v40 val_main_v39 val_main_cst_2 val_main_v38 val_main_v37 val_main_v36 val_main_v35
    val_main_v34 val_main_v33 val_main_v32 val_main_v31 val_main_v30 val_main_cst_1 val_main_v29 val_main_v28 val_main_cst_0 val_main_v27 val_main_v26 val_main_cst val_main_v25
    val_main_v9 val_main_v8 val_main_v7 val_main_v6
  pointwise

/-- The hidden units of the feed-forward layer. -/
theorem hidden_apply (n : Fin 2816) :
    val_main_v52 (F := Ideal) x0 x1 x3 x5 x6 x7 x8 (ix3 b T n)
      = hiddenUnit (fun d => val_main_v45 (F := Ideal) x0 x1 x3 x5 x6 x7 (ix3 b T d)) (fun d k => x8 (ix2 d k)) n := by
  unfold hiddenUnit Ideal.logistic
  unfold val_main_v52 val_main_v51 val_main_call0_v5 val_main_call0_v4 val_main_call0_cst_0 val_main_call0_v3 val_main_call0_v2 val_main_call0_cst val_main_call0_v1 val_main_call0_v0
    val_main_v50 val_main_v49 val_main_v48 val_main_v47
  pointwise

/-- The rows after the feed-forward layer. -/
theorem fed_apply (j : Fin 1024) :
    val_main_v57 (F := Ideal) x0 x1 x3 x5 x6 x7 x8 x9 (ix3 b T j)
      = fedRow (fun b T j => x0 (ix3 b T j)) (fun b r j => x1 (ix3 b r j)) (fun j => x3 (ix1 j)) (fun b h T j => x5 (ix4 b h T j)) (fun b h T j => x6 (ix4 b h T j)) (fun k j => x7 (ix2 k j))
          (fun d k => x8 (ix2 d k)) (fun k j => x9 (ix2 k j)) b T j := by
  have e : normedRow (fun b T j => x0 (ix3 b T j)) (fun b r j => x1 (ix3 b r j)) (fun j => x3 (ix1 j)) (fun b h T j => x5 (ix4 b h T j)) (fun b h T j => x6 (ix4 b h T j)) (fun k j => x7 (ix2 k j)) b T
      = fun d => val_main_v45 (F := Ideal) x0 x1 x3 x5 x6 x7 (ix3 b T d) := funext fun d => (normed_apply x0 x1 x3 x5 x6 x7 b T d).symm
  unfold fedRow fed
  rw [e]
  simp only [← mixed_apply, ← hidden_apply]
  unfold val_main_v57 val_main_v56 val_main_v55 val_main_v46 val_main_v11 val_main_v10 val_main_v54 val_main_v53
  pointwise

/-- The rows of the result. -/
theorem last_apply (j : Fin 1024) :
    val_main_v82 (F := Ideal) x0 x1 x2 x3 x4 x5 x6 x7 x8 x9 (ix3 b T j)
      = lastRow (fun b T j => x0 (ix3 b T j)) (fun b r j => x1 (ix3 b r j)) (fun b r j => x2 (ix3 b r j)) (fun j => x3 (ix1 j)) (fun j => x4 (ix1 j)) (fun b h T j => x5 (ix4 b h T j))
          (fun b h T j => x6 (ix4 b h T j)) (fun k j => x7 (ix2 k j)) (fun d k => x8 (ix2 d k)) (fun k j => x9 (ix2 k j)) b T j := by
  unfold lastRow normRow
  simp only [← fed_apply]
  unfold val_main_v82 val_main_v81 val_main_v80 val_main_v79 val_main_v78 val_main_v77 val_main_v76 val_main_cst_6 val_main_v75 val_main_v74 val_main_v73 val_main_v72
    val_main_v71 val_main_v70 val_main_v69 val_main_v68 val_main_v67 val_main_cst_5 val_main_v66 val_main_v65 val_main_cst_4 val_main_v64 val_main_v63 val_main_cst_3 val_main_v62
    val_main_v61 val_main_v60 val_main_v59 val_main_v58
  pointwise

end Cert.Reference2Ideal.Ffn
-- ==== Proof.FfnClaim.lean ====
module

public import proofs.«01_k».proof.Defs
public import proofs.«01_k».proof.Proof.FfnBlocks
public import proofs.«01_k».proof.Proof.FfnRef
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import Idealize.ShloMosaic.Adequacy
public import Idealize.ShloMosaic.Init

/-!
# The claims about the last layer
-/

@[expose] public section

noncomputable section

namespace Cert.Proof.Ffn

open Idealize.ShloMosaic Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's last layer equals the host's. -/
theorem algebraic : Cert.algebraic_Kernel2Ideal_Reference2Ideal := by
  intro m g m' g' _ hm
  refine ⟨fun c => Cert.Reference2Ideal.Value.res_main_v82 m' c, (θ_run Cert.Kernel2Ideal.defs _ _).mono (fun r h c => ⟨(h c).1.trans ?_, (h c).2⟩)
    (Cert.Kernel2Ideal.Value.run_blocks (F := Ideal) m g), Cert.Reference2Ideal.Value.run (F := Ideal) m' g'⟩
  refine (Cert.Kernel2Ideal.Ffn.arr_eq m c).trans ?_
  refine Eq.trans ?_ (Cert.Reference2Ideal.Read.val_main_v82_eq m' c).symm
  obtain ⟨e0, e1, e2, e3, e4, e5, e6, e7, e8, e9⟩ := hm c
  rw [e0, e1, e2, e3, e4, e5, e6, e7, e8, e9]
  funext y
  have e : y = ix3 (y 0) (y 1) (y 2) := by funext a; fin_cases a <;> rfl
  refine Eq.trans ?_ (congrArg (Cert.Reference2Ideal.Read.val_main_v82 (F := Ideal) _ _ _ _ _ _ _ _ _ _) e).symm
  exact (Cert.Reference2Ideal.Ffn.last_apply _ _ _ _ _ _ _ _ _ _ (y 0) (y 1) (y 2)).symm

end Cert.Proof.Ffn
-- ==== Proof.ProjBody.lean ====
/- One grid point of the call that projects into queries, keys, values and gates, over any scalars. The body works head by head, every
   step a copy of the same text. These definitions state that once, and the theorems at the end say that what the point leaves in its
   outputs is built of them. -/
module

public import proofs.«01_k».proof.Proof.Gen.Kernel3Ideal.Value

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.View (Piece)

variable {F : FTy → Type} [FloatOps F]

/-- The rows of the tile. -/
def rowsV (x : Vec F S1x1024x1024 .bf16) : FVec F S1024x1024 .bf16 := shapeCast S1024x1024 x shapeCasts_S1x1024x1024_S1024x1024

/-- A table of angles, as the queries use it. -/
def tableV (x : Vec F S1024x128 .f32) : FVec F S1024x128 .f32 := shapeCast S1024x128 x shapeCasts_S1024x128_S1024x128

/-- A table of angles, as the keys use it. -/
def turnedV (x : FVec F S1024x128 .f32) : FVec F S128x1024 .f32 := transpose S128x1024 [1, 0] x transposes_S1024x128_p1_0_S128x1024

/-- Rows times 256 columns of the weights. -/
def projV (h : FVec F S1024x1024 .bf16) (w : Vec F S1024x256 .bf16) : FVec F S1024x256 .f32 :=
  matmul dot_S1024x1024_S1024x256_S1024x256_1_0_0_1_n_n none h w (constant S1024x256 .f32 0x00000000#32)

/-- The first half of a rotated query. -/
def queryLowV (p : FVec F S1024x256 .f32) (c s : FVec F S1024x128 .f32) : FVec F S1x1x1024x128 .bf16 :=
  shapeCast S1x1x1024x128
    (truncf .bf16
      (subf (mulf (extractStridedSlice S1024x128 ![0, 0] p slices_S1024x256_o0_0_S1024x128) c)
        (mulf (extractStridedSlice S1024x128 ![0, 128] p slices_S1024x256_o0_128_S1024x128) s)) bitsLt_bf16_f32)
    shapeCasts_S1024x128_S1x1x1024x128

/-- The second half of a rotated query. -/
def queryHighV (p : FVec F S1024x256 .f32) (c s : FVec F S1024x128 .f32) : FVec F S1x1x1024x128 .bf16 :=
  shapeCast S1x1x1024x128
    (truncf .bf16
      (addf (mulf (extractStridedSlice S1024x128 ![0, 0] p slices_S1024x256_o0_0_S1024x128) s)
        (mulf (extractStridedSlice S1024x128 ![0, 128] p slices_S1024x256_o0_128_S1024x128) c)) bitsLt_bf16_f32)
    shapeCasts_S1024x128_S1x1x1024x128

/-- A head's key weights, transposed, as the scratch keeps them. -/
def keepV (w : Vec F S1024x256 .bf16) : FVec F S256x1024 .bf16 :=
  shapeCast S256x1024 (truncf .bf16 (transpose S256x1024 [1, 0] (extf .f32 w bitsLt_bf16_f32) transposes_S1024x256_p1_0_S256x1024) bitsLt_bf16_f32)
    shapeCasts_S256x1024_S256x1024

/-- A head's keys, transposed. -/
def keyV (k : Vec F S256x1024 .bf16) (h : FVec F S1024x1024 .bf16) : FVec F S256x1024 .f32 :=
  matmul dot_S256x1024_S1024x1024_S256x1024_1_1_0_0_n_n none k h (constant S256x1024 .f32 0x00000000#32)

/-- The first half of a rotated and scaled key. -/
def keyLowV (p : FVec F S256x1024 .f32) (c s : FVec F S128x1024 .f32) : FVec F S128x1024 .f32 :=
  mulf
    (subf (mulf (extractStridedSlice S128x1024 ![0, 0] p slices_S256x1024_o0_0_S128x1024) c)
      (mulf (extractStridedSlice S128x1024 ![128, 0] p slices_S256x1024_o128_0_S128x1024) s))
    (broadcast S128x1024 (Scalar.ofBits .f32 0x3D800000#32))

/-- The second half of a rotated and scaled key. -/
def keyHighV (p : FVec F S256x1024 .f32) (c s : FVec F S128x1024 .f32) : FVec F S128x1024 .f32 :=
  mulf
    (addf (mulf (extractStridedSlice S128x1024 ![0, 0] p slices_S256x1024_o0_0_S128x1024) s)
      (mulf (extractStridedSlice S128x1024 ![128, 0] p slices_S256x1024_o128_0_S128x1024) c))
    (broadcast S128x1024 (Scalar.ofBits .f32 0x3D800000#32))

theorem slicesK (n : ℕ) (h : n < 4) : S128x1024.Slices ![0, 256 * n] S128x256 := by
  refine ⟨rfl, fun a => ?_⟩
  fin_cases a <;> simp [S128x256, S128x1024] <;> omega

/-- Positions `256 n` to `256 n + 255` of half a key, as the output keeps them. -/
def chunkV (n : ℕ) (h : n < 4) (r : FVec F S128x1024 .f32) : FVec F S1x1x128x256 .bf16 :=
  shapeCast S1x1x128x256 (truncf .bf16 (extractStridedSlice S128x256 ![0, 256 * n] r (slicesK n h)) bitsLt_bf16_f32) shapeCasts_S128x256_S1x1x128x256

/-- Half a head's values. -/
def valueV (p : FVec F S1024x256 .f32) : FVec F S1x1x1024x256 .bf16 :=
  shapeCast S1x1x1024x256 (truncf .bf16 p bitsLt_bf16_f32) shapeCasts_S1024x256_S1x1x1024x256

/-- Half a head's gates. -/
def gateV (p : FVec F S1024x256 .f32) : FVec F S1x1x1024x256 .bf16 :=
  shapeCast S1x1x1024x256 (truncf .bf16 (mulf p (logistic p)) bitsLt_bf16_f32) shapeCasts_S1024x256_S1x1x1024x256

theorem inbQ (n o : ℕ) (hn : n < 4) (ho : o < 2) : ∀ a, (![0, n, 0, 128 * o] : Fin 4 → ℕ) a + S1x1x1024x128.size a ≤ S1x4x1024x256.size a := by
  intro a; fin_cases a <;> simp [S1x1x1024x128, S1x4x1024x256] <;> omega

theorem inbK (j n o : ℕ) (hj : j < 4) (hn : n < 4) (ho : o < 2) : ∀ a, (![0, j, 256 * n + 128 * o, 0] : Fin 4 → ℕ) a + S1x1x128x256.size a ≤ S1x4x1024x256.size a := by
  intro a; fin_cases a <;> simp [S1x1x128x256, S1x4x1024x256] <;> omega

theorem inbV (n o : ℕ) (hn : n < 4) (ho : o < 2) : ∀ a, (![0, n, 0, 256 * o] : Fin 4 → ℕ) a + S1x1x1024x256.size a ≤ S1x4x1024x512.size a := by
  intro a; fin_cases a <;> simp [S1x1x1024x256, S1x4x1024x512] <;> omega

theorem inbS (n : ℕ) (hn : n < 4) : ∀ a, (![256 * n, 0] : Fin 2 → ℕ) a + S256x1024.size a ≤ S1024x1024.size a := by
  intro a; fin_cases a <;> simp [S256x1024, S1024x1024] <;> omega

theorem inbW (o : ℕ) (h : o ≤ 5888) : ∀ a, (![0, o] : Fin 2 → ℕ) a + S1024x256.size a ≤ S1024x6144.size a := by
  intro a; fin_cases a <;> simp [S1024x256, S1024x6144] <;> omega

theorem zero_lt_two : 0 < 2 := by decide
theorem one_lt_two : 1 < 2 := by decide
theorem mod4 (n : ℕ) : n % 4 < 4 := Nat.mod_lt _ (by decide)
theorem mod2 (n : ℕ) : n % 2 < 2 := Nat.mod_lt _ (by decide)
theorem query_le (n : ℕ) (hn : n < 4) : 256 * n ≤ 5888 := by omega
theorem key_le (n : ℕ) (hn : n < 4) : 1024 + 256 * n ≤ 5888 := by omega
theorem value_le (n o : ℕ) (hn : n < 4) (ho : o < 2) : 2048 + 512 * n + 256 * o ≤ 5888 := by omega
theorem gate_le (n o : ℕ) (hn : n < 4) (ho : o < 2) : 4096 + 512 * n + 256 * o ≤ 5888 := by omega

section Lists

variable (h : FVec F S1024x1024 .bf16) (w : ∀ o : ℕ, o ≤ 5888 → Vec F S1024x256 .bf16) (c s : FVec F S1024x128 .f32)
  (k : ∀ n : ℕ, n < 4 → Vec F S256x1024 .bf16)

/-- The queries of the first `n` heads: the pieces, last first. -/
def queryL : ℕ → List (Piece (Elt F) S1x4x1024x256 .bf16)
  | 0 => []
  | n + 1 => ⟨Rect.unit (s := S1x4x1024x256) ![0, n % 4, 0, 128 * 1] S1x1x1024x128.size (inbQ (n % 4) 1 (mod4 n) one_lt_two),
        queryHighV (projV h (w (256 * (n % 4)) (query_le _ (mod4 n)))) c s⟩ ::
      ⟨Rect.unit (s := S1x4x1024x256) ![0, n % 4, 0, 128 * 0] S1x1x1024x128.size (inbQ (n % 4) 0 (mod4 n) zero_lt_two),
        queryLowV (projV h (w (256 * (n % 4)) (query_le _ (mod4 n)))) c s⟩ ::
      queryL n

/-- The keys, `n` being four times the head plus the chunk of positions: the pieces, last first. -/
def keyL : ℕ → List (Piece (Elt F) S1x4x1024x256 .bf16)
  | 0 => []
  | n + 1 => ⟨Rect.unit (s := S1x4x1024x256) ![0, n % 4, 256 * (n / 4 % 4) + 128 * 1, 0] S1x1x128x256.size (inbK (n % 4) (n / 4 % 4) 1 (mod4 n) (mod4 (n / 4)) one_lt_two),
        chunkV (n % 4) (mod4 n) (keyHighV (keyV (k (n / 4 % 4) (mod4 (n / 4))) h) (turnedV c) (turnedV s))⟩ ::
      ⟨Rect.unit (s := S1x4x1024x256) ![0, n % 4, 256 * (n / 4 % 4) + 128 * 0, 0] S1x1x128x256.size (inbK (n % 4) (n / 4 % 4) 0 (mod4 n) (mod4 (n / 4)) zero_lt_two),
        chunkV (n % 4) (mod4 n) (keyLowV (keyV (k (n / 4 % 4) (mod4 (n / 4))) h) (turnedV c) (turnedV s))⟩ ::
      keyL n

/-- The values, `n` being twice the head plus the half: the pieces, last first. -/
def valueL : ℕ → List (Piece (Elt F) S1x4x1024x512 .bf16)
  | 0 => []
  | n + 1 => ⟨Rect.unit (s := S1x4x1024x512) ![0, n / 2 % 4, 0, 256 * (n % 2)] S1x1x1024x256.size (inbV (n / 2 % 4) (n % 2) (mod4 (n / 2)) (mod2 n)),
        valueV (projV h (w (2048 + 512 * (n / 2 % 4) + 256 * (n % 2)) (value_le _ _ (mod4 (n / 2)) (mod2 n))))⟩ :: valueL n

/-- The gates, `n` being twice the head plus the half: the pieces, last first. -/
def gateL : ℕ → List (Piece (Elt F) S1x4x1024x512 .bf16)
  | 0 => []
  | n + 1 => ⟨Rect.unit (s := S1x4x1024x512) ![0, n / 2 % 4, 0, 256 * (n % 2)] S1x1x1024x256.size (inbV (n / 2 % 4) (n % 2) (mod4 (n / 2)) (mod2 n)),
        gateV (projV h (w (4096 + 512 * (n / 2 % 4) + 256 * (n % 2)) (gate_le _ _ (mod4 (n / 2)) (mod2 n))))⟩ :: gateL n

/-- The transposed key weights of the first `n` heads: the pieces, last first. -/
def keptL : ℕ → List (Piece (Elt F) S1024x1024 .bf16)
  | 0 => []
  | n + 1 => ⟨Rect.unit (s := S1024x1024) ![256 * (n % 4), 0] S256x1024.size (inbS (n % 4) (mod4 n)),
        keepV (w (1024 + 256 * (n % 4)) (key_le _ (mod4 n)))⟩ :: keptL n

end Lists

section Body

variable (c : Dev nD) (i : grid0.Coords) (arg2 : Memref sig .tc .vmem S1x1024x1024 .bf16) (harg2 : arg2.IsWhole) (arg3 : Memref sig .tc .vmem S1024x6144 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x4x1024x256 .bf16) (harg6 : arg6.IsWhole) (arg7 : Memref sig .tc .vmem S1x4x1024x256 .bf16) (harg7 : arg7.IsWhole) (arg8 : Memref sig .tc .vmem S1x4x1024x512 .bf16) (harg8 : arg8.IsWhole) (arg9 : Memref sig .tc .vmem S1x4x1024x512 .bf16) (harg9 : arg9.IsWhole) (arg10 : Memref sig .tc .vmem S1024x1024 .bf16) (harg10 : arg10.IsWhole)
    (x0 : Vec F S1x1024x1024 .bf16) (x1 : Vec F S1024x6144 .bf16) (x2 : Vec F S1024x128 .f32) (x3 : Vec F S1024x128 .f32) (xs0 : Vec F S1024x1024 .bf16)

/-- The rows of the tile, as the body loads them. -/
def hAt : FVec F S1024x1024 .bf16 :=
  rowsV (View.readAt (Elt F) arg2.view (Rect.unit (s := S1x1024x1024) ![0, 0, 0] S1x1024x1024.size inb_S1x1024x1024_S1x1024x1024_0_0_0).toLoadRect (harg2.unread x0))

/-- The 256 columns of the weights from column `o` on, as the body loads them. -/
def wAt (o : ℕ) (h : o ≤ 5888) : Vec F S1024x256 .bf16 :=
  View.readAt (Elt F) arg3.view (Rect.unit (s := S1024x6144) ![0, o] S1024x256.size (inbW o h)).toLoadRect (harg3.unread x1)

/-- A table of angles, as the body loads it. -/
def tAt : FVec F S1024x128 .f32 :=
  tableV (View.readAt (Elt F) arg4.view (Rect.unit (s := S1024x128) ![0, 0] S1024x128.size inb_S1024x128_S1024x128_0_0).toLoadRect (harg4.unread x2))

/-- The transposed key weights of a head, loaded back at the point that stores them. -/
def newAt (n : ℕ) (h : n < 4) : Vec F S256x1024 .bf16 :=
  arg10.view.readCov (keptL (wAt arg3 harg3 x1) 4) (Rect.unit (s := S1024x1024) ![256 * n, 0] S256x1024.size (inbS n h)).toLoadRect

/-- The transposed key weights of a head, loaded at a later point. -/
def oldAt (n : ℕ) (h : n < 4) : Vec F S256x1024 .bf16 :=
  View.readAt (Elt F) arg10.view (Rect.unit (s := S1024x1024) ![256 * n, 0] S256x1024.size (inbS n h)).toLoadRect (harg10.unread xs0)

section First

variable (hc0 : cond0_0 i)

theorem query_eq_A : out0_A_4 c i arg2 harg2 arg3 harg3 arg4 harg4 arg5 harg5 arg6 harg6 arg7 harg7 arg8 harg8 arg9 harg9 arg10 harg10 hc0 x0 x1 x2 x3
    = View.canon (queryL (hAt arg2 harg2 x0) (wAt arg3 harg3 x1) (tAt arg4 harg4 x2) (tAt arg5 harg5 x3) 4) := by
  unfold out0_A_4
  rw [View.read_writes_junk_eq_canon]
  refine congrArg View.canon ?_
  rfl

theorem key_eq_A : out0_A_5 c i arg2 harg2 arg3 harg3 arg4 harg4 arg5 harg5 arg6 harg6 arg7 harg7 arg8 harg8 arg9 harg9 arg10 harg10 hc0 x0 x1 x2 x3
    = View.canon (keyL (hAt arg2 harg2 x0) (tAt arg4 harg4 x2) (tAt arg5 harg5 x3) (newAt arg3 harg3 arg10 x1) 16) := by
  unfold out0_A_5
  rw [View.read_writes_junk_eq_canon]
  refine congrArg View.canon ?_
  rfl

theorem value_eq_A : out0_A_6 c i arg2 harg2 arg3 harg3 arg4 harg4 arg5 harg5 arg6 harg6 arg7 harg7 arg8 harg8 arg9 harg9 arg10 harg10 hc0 x0 x1 x2 x3
    = View.canon (valueL (hAt arg2 harg2 x0) (wAt arg3 harg3 x1) 8) := by
  unfold out0_A_6
  rw [View.read_writes_junk_eq_canon]
  refine congrArg View.canon ?_
  rfl

theorem gate_eq_A : out0_A_7 c i arg2 harg2 arg3 harg3 arg4 harg4 arg5 harg5 arg6 harg6 arg7 harg7 arg8 harg8 arg9 harg9 arg10 harg10 hc0 x0 x1 x2 x3
    = View.canon (gateL (hAt arg2 harg2 x0) (wAt arg3 harg3 x1) 8) := by
  unfold out0_A_7
  rw [View.read_writes_junk_eq_canon]
  refine congrArg View.canon ?_
  rfl

theorem kept_eq_A : sout0_A_0 c i arg2 harg2 arg3 harg3 arg4 harg4 arg5 harg5 arg6 harg6 arg7 harg7 arg8 harg8 arg9 harg9 arg10 harg10 hc0 x0 x1 x2 x3
    = View.canon (keptL (wAt arg3 harg3 x1) 4) := by
  unfold sout0_A_0
  rw [View.read_writes_junk_eq_canon]
  refine congrArg View.canon ?_
  rfl

end First

section Later

variable (hc0 : ¬cond0_0 i)

theorem query_eq_B : out0_B_4 c i arg2 harg2 arg3 harg3 arg4 harg4 arg5 harg5 arg6 harg6 arg7 harg7 arg8 harg8 arg9 harg9 arg10 harg10 hc0 x0 x1 x2 x3 xs0
    = View.canon (queryL (hAt arg2 harg2 x0) (wAt arg3 harg3 x1) (tAt arg4 harg4 x2) (tAt arg5 harg5 x3) 4) := by
  unfold out0_B_4
  rw [View.read_writes_junk_eq_canon]
  refine congrArg View.canon ?_
  rfl

theorem key_eq_B : out0_B_5 c i arg2 harg2 arg3 harg3 arg4 harg4 arg5 harg5 arg6 harg6 arg7 harg7 arg8 harg8 arg9 harg9 arg10 harg10 hc0 x0 x1 x2 x3 xs0
    = View.canon (keyL (hAt arg2 harg2 x0) (tAt arg4 harg4 x2) (tAt arg5 harg5 x3) (oldAt arg10 harg10 xs0) 16) := by
  unfold out0_B_5
  rw [View.read_writes_junk_eq_canon]
  refine congrArg View.canon ?_
  rfl

theorem value_eq_B : out0_B_6 c i arg2 harg2 arg3 harg3 arg4 harg4 arg5 harg5 arg6 harg6 arg7 harg7 arg8 harg8 arg9 harg9 arg10 harg10 hc0 x0 x1 x2 x3 xs0
    = View.canon (valueL (hAt arg2 harg2 x0) (wAt arg3 harg3 x1) 8) := by
  unfold out0_B_6
  rw [View.read_writes_junk_eq_canon]
  refine congrArg View.canon ?_
  rfl

theorem gate_eq_B : out0_B_7 c i arg2 harg2 arg3 harg3 arg4 harg4 arg5 harg5 arg6 harg6 arg7 harg7 arg8 harg8 arg9 harg9 arg10 harg10 hc0 x0 x1 x2 x3 xs0
    = View.canon (gateL (hAt arg2 harg2 x0) (wAt arg3 harg3 x1) 8) := by
  unfold out0_B_7
  rw [View.read_writes_junk_eq_canon]
  refine congrArg View.canon ?_
  rfl

end Later

end Body

end Cert.Kernel3Ideal.Proj

end
-- ==== Proof.ProjRow.lean ====
/- One row of the projection into queries, keys, values and gates, in plain mathematics: what both the kernel and the host compute. -/
module

public import Idealize.ShloMosaic.PureOps.Ideal
public import Idealize.ShloMosaic.Lib.IdealHost

@[expose] public section

noncomputable section

namespace Cert.Proj

open Idealize.ShloMosaic

/-- A row times one column of the weights. -/
def proj (h : Fin 1024 → EReal) (w : Fin 1024 → Fin 6144 → EReal) (n : Fin 6144) : EReal := ∑ d : Fin 1024, h d * w d n

/-- A head's 256 numbers, the two halves rotated against each other by the row's angles. -/
def rot (p : Fin 256 → EReal) (c s : Fin 128 → EReal) (e : Fin 256) : EReal :=
  if h : e.val < 128 then p e * c ⟨e.val, h⟩ - p ⟨e.val + 128, by omega⟩ * s ⟨e.val, h⟩
  else p ⟨e.val - 128, by omega⟩ * s ⟨e.val - 128, by omega⟩ + p e * c ⟨e.val - 128, by omega⟩

theorem rot_low (p : Fin 256 → EReal) (c s : Fin 128 → EReal) (e : Fin 128) (e' : Fin 256) (he : e'.val = e.val) :
    rot p c s e' = p ⟨e.val, by omega⟩ * c e - p ⟨e.val + 128, by omega⟩ * s e := by
  obtain ⟨v, hv⟩ := e'
  obtain rfl : v = e.val := he
  unfold rot
  rw [dif_pos e.isLt]

theorem rot_high (p : Fin 256 → EReal) (c s : Fin 128 → EReal) (e : Fin 128) (e' : Fin 256) (he : e'.val = e.val + 128) :
    rot p c s e' = p ⟨e.val, by omega⟩ * s e + p ⟨e.val + 128, by omega⟩ * c e := by
  obtain ⟨v, hv⟩ := e'
  obtain rfl : v = e.val + 128 := he
  unfold rot
  rw [dif_neg (by simp)]
  simp only [Nat.add_sub_cancel]

section Row

variable (h : Fin 1024 → EReal) (w : Fin 1024 → Fin 6144 → EReal) (c s : Fin 128 → EReal)

/-- A query. -/
def query (n : Fin 4) (e : Fin 256) : EReal := rot (fun e => proj h w ⟨256 * n.val + e.val, by omega⟩) c s e

/-- A key, scaled by one over the root of the head's width. -/
def key (n : Fin 4) (e : Fin 256) : EReal :=
  rot (fun e => proj h w ⟨1024 + 256 * n.val + e.val, by omega⟩) c s e * Ideal.ofBits .f32 0x3D800000#32

/-- A value. -/
def value (n : Fin 4) (e : Fin 512) : EReal := proj h w ⟨2048 + 512 * n.val + e.val, by omega⟩

/-- A gate. -/
def gate (n : Fin 4) (e : Fin 512) : EReal :=
  proj h w ⟨4096 + 512 * n.val + e.val, by omega⟩ * Ideal.logistic (proj h w ⟨4096 + 512 * n.val + e.val, by omega⟩)

end Row

/-- The angle a pair of numbers is rotated by, at a position. -/
def angle (T : Fin 4096) (e : Fin 128) : EReal :=
  FloatOps.sitofp (F := Ideal) .f32 (BitVec.ofNat 32 T.val)
    * Ideal.pow (Ideal.ofBits .f32 0x461C4000#32) (Ideal.div (-FloatOps.sitofp (F := Ideal) .f32 (BitVec.ofNat 32 e.val)) (Ideal.ofBits .f32 0x43000000#32))

section Layer

variable (h : Fin 8 → Fin 4096 → Fin 1024 → EReal) (w : Fin 1024 → Fin 6144 → EReal) (b : Fin 8) (T : Fin 4096)

/-- A position's queries. -/
def queryRow (n : Fin 4) (e : Fin 256) : EReal := query (h b T) w (fun e => Ideal.cos (angle T e)) (fun e => Ideal.sin (angle T e)) n e

/-- A position's keys. -/
def keyRow (n : Fin 4) (e : Fin 256) : EReal := key (h b T) w (fun e => Ideal.cos (angle T e)) (fun e => Ideal.sin (angle T e)) n e

/-- A position's values. -/
def valueRow (n : Fin 4) (e : Fin 512) : EReal := value (h b T) w n e

/-- A position's gates. -/
def gateRow (n : Fin 4) (e : Fin 512) : EReal := gate (h b T) w n e

end Layer

end Cert.Proj

end
-- ==== Proof.ProjPoint.lean ====
/- The body's steps of the projection read at an index, at the reals with infinities. -/
module

public import proofs.«01_k».proof.Proof.ProjBody
public import proofs.«01_k».proof.Proof.ProjRow
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem

theorem rowsV_apply (x : Vec Ideal S1x1024x1024 .bf16) (t d : Fin 1024) : rowsV x (ix2 t d) = x (ix3 0 t d) := by
  unfold rowsV
  pointwise

theorem tableV_apply (x : Vec Ideal S1024x128 .f32) (t : Fin 1024) (e : Fin 128) : tableV x (ix2 t e) = x (ix2 t e) := by
  unfold tableV
  pointwise

theorem turnedV_apply (x : Vec Ideal S1024x128 .f32) (t : Fin 1024) (e : Fin 128) : turnedV (F := Ideal) x (ix2 e t) = x (ix2 t e) := by
  unfold turnedV
  pointwise

theorem projV_apply (h : FVec Ideal S1024x1024 .bf16) (w : Vec Ideal S1024x256 .bf16) (t : Fin 1024) (n : Fin 256) :
    projV h w (ix2 t n) = ∑ d : Fin 1024, h (ix2 t d) * w (ix2 d n) := by
  unfold projV
  pointwise

theorem queryLowV_apply (p : FVec Ideal S1024x256 .f32) (c s : FVec Ideal S1024x128 .f32) (t : Fin 1024) (e : Fin 128) :
    queryLowV p c s (ix4 0 0 t e) = p (ix2 t ⟨e.val, by omega⟩) * c (ix2 t e) - p (ix2 t ⟨128 + e.val, by omega⟩) * s (ix2 t e) := by
  unfold queryLowV
  pointwise

theorem queryHighV_apply (p : FVec Ideal S1024x256 .f32) (c s : FVec Ideal S1024x128 .f32) (t : Fin 1024) (e : Fin 128) :
    queryHighV p c s (ix4 0 0 t e) = p (ix2 t ⟨e.val, by omega⟩) * s (ix2 t e) + p (ix2 t ⟨128 + e.val, by omega⟩) * c (ix2 t e) := by
  unfold queryHighV
  pointwise

theorem keepV_apply (w : Vec Ideal S1024x256 .bf16) (n : Fin 256) (d : Fin 1024) : keepV w (ix2 n d) = w (ix2 d n) := by
  unfold keepV
  pointwise

theorem keyV_apply (k : Vec Ideal S256x1024 .bf16) (h : FVec Ideal S1024x1024 .bf16) (n : Fin 256) (t : Fin 1024) :
    keyV k h (ix2 n t) = ∑ d : Fin 1024, k (ix2 n d) * h (ix2 t d) := by
  unfold keyV
  pointwise

theorem keyLowV_apply (p : FVec Ideal S256x1024 .f32) (c s : FVec Ideal S128x1024 .f32) (e : Fin 128) (t : Fin 1024) :
    keyLowV p c s (ix2 e t)
      = (p (ix2 ⟨e.val, by omega⟩ t) * c (ix2 e t) - p (ix2 ⟨128 + e.val, by omega⟩ t) * s (ix2 e t)) * Ideal.ofBits .f32 0x3D800000#32 := by
  unfold keyLowV
  pointwise

theorem keyHighV_apply (p : FVec Ideal S256x1024 .f32) (c s : FVec Ideal S128x1024 .f32) (e : Fin 128) (t : Fin 1024) :
    keyHighV p c s (ix2 e t)
      = (p (ix2 ⟨e.val, by omega⟩ t) * s (ix2 e t) + p (ix2 ⟨128 + e.val, by omega⟩ t) * c (ix2 e t)) * Ideal.ofBits .f32 0x3D800000#32 := by
  unfold keyHighV
  pointwise

theorem chunkV_apply (n : ℕ) (h : n < 4) (r : FVec Ideal S128x1024 .f32) (e : Fin 128) (t : Fin 256) :
    chunkV n h r (ix4 0 0 e t) = r (ix2 e ⟨256 * n + t.val, by omega⟩) := by
  unfold chunkV
  pointwise

theorem valueV_apply (p : FVec Ideal S1024x256 .f32) (t : Fin 1024) (e : Fin 256) : valueV p (ix4 0 0 t e) = p (ix2 t e) := by
  unfold valueV
  pointwise

theorem gateV_apply (p : FVec Ideal S1024x256 .f32) (t : Fin 1024) (e : Fin 256) :
    gateV p (ix4 0 0 t e) = p (ix2 t e) * Ideal.logistic (p (ix2 t e)) := by
  unfold gateV
  pointwise

section Lists

variable (h : FVec Ideal S1024x1024 .bf16) (w : ∀ o : ℕ, o ≤ 5888 → Vec Ideal S1024x256 .bf16) (c s : FVec Ideal S1024x128 .f32)
  (k : ∀ n : ℕ, n < 4 → Vec Ideal S256x1024 .bf16) (W : Fin 1024 → Fin 6144 → EReal)
  (hw : ∀ (o : ℕ) (ho : o ≤ 5888) (d : Fin 1024) (n : Fin 256), w o ho (ix2 d n) = W d ⟨o + n.val, by omega⟩)
  (hk : ∀ (n : ℕ) (hn : n < 4) (e : Fin 256) (d : Fin 1024), k n hn (ix2 e d) = W d ⟨1024 + 256 * n + e.val, by omega⟩)

/-- An index of a piece of queries. -/
theorem ixQ (x : S1x1x1024x128.Idx) : x = ix4 0 0 (x 2) (x 3) := by
  funext a
  fin_cases a
  · exact Fin.ext (by have : (x 0).val < 1 := (x 0).isLt; show (x 0).val = 0; omega)
  · exact Fin.ext (by have : (x 1).val < 1 := (x 1).isLt; show (x 1).val = 0; omega)
  · rfl
  · rfl

/-- An index of a piece of keys. -/
theorem ixK (x : S1x1x128x256.Idx) : x = ix4 0 0 (x 2) (x 3) := by
  funext a
  fin_cases a
  · exact Fin.ext (by have : (x 0).val < 1 := (x 0).isLt; show (x 0).val = 0; omega)
  · exact Fin.ext (by have : (x 1).val < 1 := (x 1).isLt; show (x 1).val = 0; omega)
  · rfl
  · rfl

/-- An index of a piece of values or gates. -/
theorem ixV (x : S1x1x1024x256.Idx) : x = ix4 0 0 (x 2) (x 3) := by
  funext a
  fin_cases a
  · exact Fin.ext (by have : (x 0).val < 1 := (x 0).isLt; show (x 0).val = 0; omega)
  · exact Fin.ext (by have : (x 1).val < 1 := (x 1).isLt; show (x 1).val = 0; omega)
  · rfl
  · rfl

include hw in
/-- Rows times 256 columns of the weights. -/
theorem proj_at (o : ℕ) (ho : o ≤ 5888) (t : Fin 1024) (n : Fin 256) :
    projV h (w o ho) (ix2 t n) = proj (fun d => h (ix2 t d)) W ⟨o + n.val, by omega⟩ := by
  unfold proj
  rw [projV_apply]
  simp only [hw]

include hk in
/-- Transposed key weights times rows are rows times key weights. -/
theorem key_at (n : ℕ) (hn : n < 4) (e : Fin 256) (t : Fin 1024) :
    keyV (k n hn) h (ix2 e t) = proj (fun d => h (ix2 t d)) W ⟨1024 + 256 * n + e.val, by omega⟩ := by
  unfold proj
  rw [keyV_apply]
  exact Finset.sum_congr rfl fun d _ => by rw [hk, mul_comm]

/-- A query of row `t`. -/
def queryF (t : Fin 1024) (n : Fin 4) (e : Fin 256) : EReal := query (fun d => h (ix2 t d)) W (fun e => c (ix2 t e)) (fun e => s (ix2 t e)) n e

/-- A key of row `t`. -/
def keyF (t : Fin 1024) (n : Fin 4) (e : Fin 256) : EReal := key (fun d => h (ix2 t d)) W (fun e => c (ix2 t e)) (fun e => s (ix2 t e)) n e

/-- A value of row `t`. -/
def valueF (t : Fin 1024) (n : Fin 4) (e : Fin 512) : EReal := value (fun d => h (ix2 t d)) W n e

/-- A gate of row `t`. -/
def gateF (t : Fin 1024) (n : Fin 4) (e : Fin 512) : EReal := gate (fun d => h (ix2 t d)) W n e

/-- A tile's queries as one array. -/
def queryG : Vec Ideal S1x4x1024x256 .bf16 := fun y => queryF h c s W (y 2) (y 1) (y 3)

/-- A tile's keys as one array: four chunks of 256 positions, the four heads one under the other. -/
def keyG : Vec Ideal S1x4x1024x256 .bf16 := fun y =>
  keyF h c s W ⟨256 * (y 1).val + (y 3).val, by have h1 : (y 1).val < 4 := (y 1).isLt; have h3 : (y 3).val < 256 := (y 3).isLt; omega⟩
    ⟨(y 2).val / 256, by have h2 : (y 2).val < 1024 := (y 2).isLt; omega⟩ ⟨(y 2).val % 256, by omega⟩

/-- A tile's values as one array. -/
def valueG : Vec Ideal S1x4x1024x512 .bf16 := fun y => valueF h W (y 2) (y 1) (y 3)

/-- A tile's gates as one array. -/
def gateG : Vec Ideal S1x4x1024x512 .bf16 := fun y => gateF h W (y 2) (y 1) (y 3)

/-- The transposed key weights as one array. -/
def keptG : Vec Ideal S1024x1024 .bf16 := fun y => W (y 1) ⟨1024 + (y 0).val, by have h0 : (y 0).val < 1024 := (y 0).isLt; omega⟩

include hw in
theorem queryLow_at (n : ℕ) (hn : n < 4) (t : Fin 1024) (e : Fin 128) :
    queryLowV (projV h (w (256 * n) (query_le n hn))) c s (ix4 0 0 t e) = queryF h c s W t ⟨n, hn⟩ ⟨e.val, by omega⟩ := by
  unfold queryF query
  rw [queryLowV_apply, rot_low _ _ _ e _ rfl, proj_at h w W hw, proj_at h w W hw]
  simp only [Nat.add_comm]

include hw in
theorem queryHigh_at (n : ℕ) (hn : n < 4) (t : Fin 1024) (e : Fin 128) :
    queryHighV (projV h (w (256 * n) (query_le n hn))) c s (ix4 0 0 t e) = queryF h c s W t ⟨n, hn⟩ ⟨e.val + 128, by omega⟩ := by
  unfold queryF query
  rw [queryHighV_apply, rot_high _ _ _ e _ rfl, proj_at h w W hw, proj_at h w W hw]
  simp only [Nat.add_comm]

include hk in
theorem keyLow_at (j n : ℕ) (hj : j < 4) (hn : n < 4) (e : Fin 128) (t : Fin 256) :
    chunkV j hj (keyLowV (keyV (k n hn) h) (turnedV c) (turnedV s)) (ix4 0 0 e t)
      = keyF h c s W ⟨256 * j + t.val, by omega⟩ ⟨n, hn⟩ ⟨e.val, by omega⟩ := by
  unfold keyF key
  rw [chunkV_apply, keyLowV_apply, rot_low _ _ _ e _ rfl, key_at h k W hk, key_at h k W hk, turnedV_apply, turnedV_apply]
  simp only [Nat.add_comm]

include hk in
theorem keyHigh_at (j n : ℕ) (hj : j < 4) (hn : n < 4) (e : Fin 128) (t : Fin 256) :
    chunkV j hj (keyHighV (keyV (k n hn) h) (turnedV c) (turnedV s)) (ix4 0 0 e t)
      = keyF h c s W ⟨256 * j + t.val, by omega⟩ ⟨n, hn⟩ ⟨e.val + 128, by omega⟩ := by
  unfold keyF key
  rw [chunkV_apply, keyHighV_apply, rot_high _ _ _ e _ rfl, key_at h k W hk, key_at h k W hk, turnedV_apply, turnedV_apply]
  simp only [Nat.add_comm]

include hw in
theorem value_at (n o : ℕ) (hn : n < 4) (ho : o < 2) (t : Fin 1024) (e : Fin 256) :
    valueV (projV h (w (2048 + 512 * n + 256 * o) (value_le n o hn ho))) (ix4 0 0 t e) = valueF h W t ⟨n, hn⟩ ⟨256 * o + e.val, by omega⟩ := by
  unfold valueF value
  rw [valueV_apply, proj_at h w W hw]
  simp only [Nat.add_assoc]

include hw in
theorem gate_at (n o : ℕ) (hn : n < 4) (ho : o < 2) (t : Fin 1024) (e : Fin 256) :
    gateV (projV h (w (4096 + 512 * n + 256 * o) (gate_le n o hn ho))) (ix4 0 0 t e) = gateF h W t ⟨n, hn⟩ ⟨256 * o + e.val, by omega⟩ := by
  unfold gateF gate
  rw [gateV_apply, proj_at h w W hw]
  simp only [Nat.add_assoc]

include hw in
theorem queryLow_tile (n : ℕ) (hn : n < 4) (y : S1x4x1024x256.Idx) :
    View.TileAt y (![0, n, 0, 128 * 0] : Fin 4 → ℕ) S1x1x1024x128.size (queryLowV (projV h (w (256 * n) (query_le n hn))) c s) (queryG h c s W y) := by
  intro x hx
  have e1 : (y 1).val = n + (x 1).val := hx 1
  have e2 : (y 2).val = 0 + (x 2).val := hx 2
  have e3 : (y 3).val = 128 * 0 + (x 3).val := hx 3
  have x1 : (x 1).val < 1 := (x 1).isLt
  obtain rfl : n = (y 1).val := by omega
  rw [ixQ x]
  refine (queryLow_at h w c s W hw _ hn (x 2) (x 3)).trans ?_
  exact congr (congr (congrArg (queryF h c s W) (Fin.ext (show (x 2).val = (y 2).val by omega))) (Fin.ext (show (y 1).val = (y 1).val from rfl))) (Fin.ext (show (x 3).val = (y 3).val by omega))

include hw in
theorem queryHigh_tile (n : ℕ) (hn : n < 4) (y : S1x4x1024x256.Idx) :
    View.TileAt y (![0, n, 0, 128 * 1] : Fin 4 → ℕ) S1x1x1024x128.size (queryHighV (projV h (w (256 * n) (query_le n hn))) c s) (queryG h c s W y) := by
  intro x hx
  have e1 : (y 1).val = n + (x 1).val := hx 1
  have e2 : (y 2).val = 0 + (x 2).val := hx 2
  have e3 : (y 3).val = 128 * 1 + (x 3).val := hx 3
  have x1 : (x 1).val < 1 := (x 1).isLt
  obtain rfl : n = (y 1).val := by omega
  rw [ixQ x]
  refine (queryHigh_at h w c s W hw _ hn (x 2) (x 3)).trans ?_
  exact congr (congr (congrArg (queryF h c s W) (Fin.ext (show (x 2).val = (y 2).val by omega))) (Fin.ext (show (y 1).val = (y 1).val from rfl))) (Fin.ext (show (x 3).val + 128 = (y 3).val by omega))

include hw in
theorem query_allAt (n : ℕ) (y : S1x4x1024x256.Idx) : View.AllAt (queryL h w c s n) y (queryG h c s W y) := by
  induction n with
  | zero => exact View.allAt_nil _ _
  | succ n ih =>
    exact View.allAt_cons_unit _ _ _ _ _ (queryHigh_tile h w c s W hw (n % 4) (mod4 n) y)
      (View.allAt_cons_unit _ _ _ _ _ (queryLow_tile h w c s W hw (n % 4) (mod4 n) y) ih)

include hw in
theorem query_canon : View.canon (queryL h w c s 4) = queryG h c s W := funext fun y =>
  View.canon_eq_of_allAt _ _ _ (View.cover_of_tiled (s := S1x4x1024x256) _ S1x1x1024x128.size rfl _) (query_allAt h w c s W hw 4 y)

include hk in
theorem keyLow_tile (j n : ℕ) (hj : j < 4) (hn : n < 4) (y : S1x4x1024x256.Idx) :
    View.TileAt y (![0, j, 256 * n + 128 * 0, 0] : Fin 4 → ℕ) S1x1x128x256.size (chunkV j hj (keyLowV (keyV (k n hn) h) (turnedV c) (turnedV s))) (keyG h c s W y) := by
  intro x hx
  have e1 : (y 1).val = j + (x 1).val := hx 1
  have e2 : (y 2).val = 256 * n + 128 * 0 + (x 2).val := hx 2
  have e3 : (y 3).val = 0 + (x 3).val := hx 3
  have x1 : (x 1).val < 1 := (x 1).isLt
  have x2 : (x 2).val < 128 := (x 2).isLt
  obtain rfl : j = (y 1).val := by omega
  rw [ixK x]
  refine (keyLow_at h c s k W hk _ n hj hn (x 2) (x 3)).trans ?_
  exact congr (congr (congrArg (keyF h c s W) (Fin.ext (show 256 * (y 1).val + (x 3).val = 256 * (y 1).val + (y 3).val by omega))) (Fin.ext (show n = (y 2).val / 256 by omega))) (Fin.ext (show (x 2).val = (y 2).val % 256 by omega))

include hk in
theorem keyHigh_tile (j n : ℕ) (hj : j < 4) (hn : n < 4) (y : S1x4x1024x256.Idx) :
    View.TileAt y (![0, j, 256 * n + 128 * 1, 0] : Fin 4 → ℕ) S1x1x128x256.size (chunkV j hj (keyHighV (keyV (k n hn) h) (turnedV c) (turnedV s))) (keyG h c s W y) := by
  intro x hx
  have e1 : (y 1).val = j + (x 1).val := hx 1
  have e2 : (y 2).val = 256 * n + 128 * 1 + (x 2).val := hx 2
  have e3 : (y 3).val = 0 + (x 3).val := hx 3
  have x1 : (x 1).val < 1 := (x 1).isLt
  have x2 : (x 2).val < 128 := (x 2).isLt
  obtain rfl : j = (y 1).val := by omega
  rw [ixK x]
  refine (keyHigh_at h c s k W hk _ n hj hn (x 2) (x 3)).trans ?_
  exact congr (congr (congrArg (keyF h c s W) (Fin.ext (show 256 * (y 1).val + (x 3).val = 256 * (y 1).val + (y 3).val by omega))) (Fin.ext (show n = (y 2).val / 256 by omega))) (Fin.ext (show (x 2).val + 128 = (y 2).val % 256 by omega))

include hk in
theorem key_allAt (n : ℕ) (y : S1x4x1024x256.Idx) : View.AllAt (keyL h c s k n) y (keyG h c s W y) := by
  induction n with
  | zero => exact View.allAt_nil _ _
  | succ n ih =>
    exact View.allAt_cons_unit _ _ _ _ _ (keyHigh_tile h c s k W hk (n % 4) (n / 4 % 4) (mod4 n) (mod4 (n / 4)) y)
      (View.allAt_cons_unit _ _ _ _ _ (keyLow_tile h c s k W hk (n % 4) (n / 4 % 4) (mod4 n) (mod4 (n / 4)) y) ih)

include hk in
theorem key_canon : View.canon (keyL h c s k 16) = keyG h c s W := funext fun y =>
  View.canon_eq_of_allAt _ _ _ (View.cover_of_tiled (s := S1x4x1024x256) _ S1x1x128x256.size rfl _) (key_allAt h c s k W hk 16 y)

include hw in
theorem value_tile (n o : ℕ) (hn : n < 4) (ho : o < 2) (y : S1x4x1024x512.Idx) :
    View.TileAt y (![0, n, 0, 256 * o] : Fin 4 → ℕ) S1x1x1024x256.size (valueV (projV h (w (2048 + 512 * n + 256 * o) (value_le n o hn ho)))) (valueG h W y) := by
  intro x hx
  have e1 : (y 1).val = n + (x 1).val := hx 1
  have e2 : (y 2).val = 0 + (x 2).val := hx 2
  have e3 : (y 3).val = 256 * o + (x 3).val := hx 3
  have x1 : (x 1).val < 1 := (x 1).isLt
  obtain rfl : n = (y 1).val := by omega
  rw [ixV x]
  refine (value_at h w W hw _ o hn ho (x 2) (x 3)).trans ?_
  exact congr (congr (congrArg (valueF h W) (Fin.ext (show (x 2).val = (y 2).val by omega))) (Fin.ext (show (y 1).val = (y 1).val from rfl))) (Fin.ext (show 256 * o + (x 3).val = (y 3).val by omega))

include hw in
theorem gate_tile (n o : ℕ) (hn : n < 4) (ho : o < 2) (y : S1x4x1024x512.Idx) :
    View.TileAt y (![0, n, 0, 256 * o] : Fin 4 → ℕ) S1x1x1024x256.size (gateV (projV h (w (4096 + 512 * n + 256 * o) (gate_le n o hn ho)))) (gateG h W y) := by
  intro x hx
  have e1 : (y 1).val = n + (x 1).val := hx 1
  have e2 : (y 2).val = 0 + (x 2).val := hx 2
  have e3 : (y 3).val = 256 * o + (x 3).val := hx 3
  have x1 : (x 1).val < 1 := (x 1).isLt
  obtain rfl : n = (y 1).val := by omega
  rw [ixV x]
  refine (gate_at h w W hw _ o hn ho (x 2) (x 3)).trans ?_
  exact congr (congr (congrArg (gateF h W) (Fin.ext (show (x 2).val = (y 2).val by omega))) (Fin.ext (show (y 1).val = (y 1).val from rfl))) (Fin.ext (show 256 * o + (x 3).val = (y 3).val by omega))

include hw in
theorem value_allAt (n : ℕ) (y : S1x4x1024x512.Idx) : View.AllAt (valueL h w n) y (valueG h W y) := by
  induction n with
  | zero => exact View.allAt_nil _ _
  | succ n ih => exact View.allAt_cons_unit _ _ _ _ _ (value_tile h w W hw (n / 2 % 4) (n % 2) (mod4 (n / 2)) (mod2 n) y) ih

include hw in
theorem gate_allAt (n : ℕ) (y : S1x4x1024x512.Idx) : View.AllAt (gateL h w n) y (gateG h W y) := by
  induction n with
  | zero => exact View.allAt_nil _ _
  | succ n ih => exact View.allAt_cons_unit _ _ _ _ _ (gate_tile h w W hw (n / 2 % 4) (n % 2) (mod4 (n / 2)) (mod2 n) y) ih

include hw in
theorem value_canon : View.canon (valueL h w 8) = valueG h W := funext fun y =>
  View.canon_eq_of_allAt _ _ _ (View.cover_of_tiled (s := S1x4x1024x512) _ S1x1x1024x256.size rfl _) (value_allAt h w W hw 8 y)

include hw in
theorem gate_canon : View.canon (gateL h w 8) = gateG h W := funext fun y =>
  View.canon_eq_of_allAt _ _ _ (View.cover_of_tiled (s := S1x4x1024x512) _ S1x1x1024x256.size rfl _) (gate_allAt h w W hw 8 y)

include hw in
theorem kept_tile (n : ℕ) (hn : n < 4) (y : S1024x1024.Idx) :
    View.TileAt y (![256 * n, 0] : Fin 2 → ℕ) S256x1024.size (keepV (w (1024 + 256 * n) (key_le n hn))) (keptG W y) := by
  intro x hx
  have e0 : (y 0).val = 256 * n + (x 0).val := hx 0
  have e1 : (y 1).val = 0 + (x 1).val := hx 1
  have ex : x = ix2 (x 0) (x 1) := by funext a; fin_cases a <;> rfl
  rw [ex]
  refine (keepV_apply _ (x 0) (x 1)).trans ((hw _ _ (x 1) (x 0)).trans ?_)
  exact congr (congrArg W (Fin.ext (show (x 1).val = (y 1).val by omega))) (Fin.ext (show 1024 + 256 * n + (x 0).val = 1024 + (y 0).val by omega))

include hw in
theorem kept_allAt (n : ℕ) (y : S1024x1024.Idx) : View.AllAt (keptL w n) y (keptG W y) := by
  induction n with
  | zero => exact View.allAt_nil _ _
  | succ n ih => exact View.allAt_cons_unit _ _ _ _ _ (kept_tile w W hw (n % 4) (mod4 n) y) ih

include hw in
theorem kept_canon : View.canon (keptL w 4) = keptG W := funext fun y =>
  View.canon_eq_of_allAt _ _ _ (View.cover_of_tiled (s := S1024x1024) _ S256x1024.size rfl _) (kept_allAt w W hw 4 y)

end Lists

section Windows

variable (x0 : Vec Ideal S1x1024x1024 .bf16) (x1 : Vec Ideal S1024x6144 .bf16) (x2 : Vec Ideal S1024x128 .f32) (x3 : Vec Ideal S1024x128 .f32) (t : Fin 1024)

/-- A query of row `t`, from what the windows hold. -/
def queryW (n : Fin 4) (e : Fin 256) : EReal := query (fun d => x0 (ix3 0 t d)) (fun d n => x1 (ix2 d n)) (fun e => x2 (ix2 t e)) (fun e => x3 (ix2 t e)) n e

/-- A key of row `t`, from what the windows hold. -/
def keyW (n : Fin 4) (e : Fin 256) : EReal := key (fun d => x0 (ix3 0 t d)) (fun d n => x1 (ix2 d n)) (fun e => x2 (ix2 t e)) (fun e => x3 (ix2 t e)) n e

/-- A value of row `t`, from what the windows hold. -/
def valueW (n : Fin 4) (e : Fin 512) : EReal := value (fun d => x0 (ix3 0 t d)) (fun d n => x1 (ix2 d n)) n e

/-- A gate of row `t`, from what the windows hold. -/
def gateW (n : Fin 4) (e : Fin 512) : EReal := gate (fun d => x0 (ix3 0 t d)) (fun d n => x1 (ix2 d n)) n e

end Windows

section Body

variable (c : Dev nD) (i : grid0.Coords) (arg2 : Memref sig .tc .vmem S1x1024x1024 .bf16) (harg2 : arg2.IsWhole) (arg3 : Memref sig .tc .vmem S1024x6144 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1x4x1024x256 .bf16) (harg6 : arg6.IsWhole) (arg7 : Memref sig .tc .vmem S1x4x1024x256 .bf16) (harg7 : arg7.IsWhole) (arg8 : Memref sig .tc .vmem S1x4x1024x512 .bf16) (harg8 : arg8.IsWhole) (arg9 : Memref sig .tc .vmem S1x4x1024x512 .bf16) (harg9 : arg9.IsWhole) (arg10 : Memref sig .tc .vmem S1024x1024 .bf16) (harg10 : arg10.IsWhole)
    (x0 : Vec Ideal S1x1024x1024 .bf16) (x1 : Vec Ideal S1024x6144 .bf16) (x2 : Vec Ideal S1024x128 .f32) (x3 : Vec Ideal S1024x128 .f32) (xs0 : Vec Ideal S1024x1024 .bf16)

theorem hAt_apply (t d : Fin 1024) : hAt arg2 harg2 x0 (ix2 t d) = x0 (ix3 0 t d) := by
  unfold hAt
  rw [rowsV_apply, View.readAt_eq_ld, harg2.read_unread]
  pointwise

theorem wAt_apply (o : ℕ) (h : o ≤ 5888) (d : Fin 1024) (n : Fin 256) : wAt arg3 harg3 x1 o h (ix2 d n) = x1 (ix2 d ⟨o + n.val, by omega⟩) := by
  unfold wAt
  rw [View.readAt_eq_ld, harg3.read_unread]
  pointwise

theorem tAt_apply (t : Fin 1024) (e : Fin 128) : tAt arg4 harg4 x2 (ix2 t e) = x2 (ix2 t e) := by
  unfold tAt
  rw [tableV_apply, View.readAt_eq_ld, harg4.read_unread]
  pointwise

theorem newAt_apply (n : ℕ) (hn : n < 4) (e : Fin 256) (d : Fin 1024) :
    newAt arg3 harg3 arg10 x1 n hn (ix2 e d) = x1 (ix2 d ⟨1024 + 256 * n + e.val, by omega⟩) := by
  unfold newAt
  rw [View.readCov_eq_canon', kept_canon _ (fun d n => x1 (ix2 d n)) (wAt_apply arg3 harg3 x1)]
  show keptG _ ((Rect.unit (s := S1024x1024) ![256 * n, 0] S256x1024.size (inbS n hn)).toLoadRect.idx (ix2 e d)) = _
  have ey : (Rect.unit (s := S1024x1024) ![256 * n, 0] S256x1024.size (inbS n hn)).toLoadRect.idx (ix2 e d) = ix2 ⟨256 * n + e.val, by omega⟩ d := by
    pointwise
  rw [ey]
  unfold keptG
  simp only [Nat.add_assoc]
  rfl

theorem oldAt_apply (hxs : xs0 = keptG fun d n => x1 (ix2 d n)) (n : ℕ) (hn : n < 4) (e : Fin 256) (d : Fin 1024) :
    oldAt arg10 harg10 xs0 n hn (ix2 e d) = x1 (ix2 d ⟨1024 + 256 * n + e.val, by omega⟩) := by
  unfold oldAt
  rw [View.readAt_eq_ld, harg10.read_unread, hxs]
  show keptG _ ((Rect.unit (s := S1024x1024) ![256 * n, 0] S256x1024.size (inbS n hn)).toLoadRect.idx (ix2 e d)) = _
  have ey : (Rect.unit (s := S1024x1024) ![256 * n, 0] S256x1024.size (inbS n hn)).toLoadRect.idx (ix2 e d) = ix2 ⟨256 * n + e.val, by omega⟩ d := by
    pointwise
  rw [ey]
  unfold keptG
  simp only [Nat.add_assoc]
  rfl

/-- A tile's queries, from what the windows hold. -/
def queryB : Vec Ideal S1x4x1024x256 .bf16 := fun y => queryW x0 x1 x2 x3 (y 2) (y 1) (y 3)

/-- A tile's keys, from what the windows hold. -/
def keyB : Vec Ideal S1x4x1024x256 .bf16 := fun y =>
  keyW x0 x1 x2 x3 ⟨256 * (y 1).val + (y 3).val, by have h1 : (y 1).val < 4 := (y 1).isLt; have h3 : (y 3).val < 256 := (y 3).isLt; omega⟩
    ⟨(y 2).val / 256, by have h2 : (y 2).val < 1024 := (y 2).isLt; omega⟩ ⟨(y 2).val % 256, by omega⟩

/-- A tile's values, from what the windows hold. -/
def valueB : Vec Ideal S1x4x1024x512 .bf16 := fun y => valueW x0 x1 (y 2) (y 1) (y 3)

/-- A tile's gates, from what the windows hold. -/
def gateB : Vec Ideal S1x4x1024x512 .bf16 := fun y => gateW x0 x1 (y 2) (y 1) (y 3)

theorem queryG_eq : queryG (hAt arg2 harg2 x0) (tAt arg4 harg4 x2) (tAt arg5 harg5 x3) (fun d n => x1 (ix2 d n)) = queryB x0 x1 x2 x3 := by
  have e : ∀ t n e, queryF (hAt arg2 harg2 x0) (tAt arg4 harg4 x2) (tAt arg5 harg5 x3) (fun d n => x1 (ix2 d n)) t n e = queryW x0 x1 x2 x3 t n e := by
    intro t n e
    unfold queryF queryW
    simp only [hAt_apply, tAt_apply]
  exact funext fun y => e _ _ _

theorem keyG_eq : keyG (hAt arg2 harg2 x0) (tAt arg4 harg4 x2) (tAt arg5 harg5 x3) (fun d n => x1 (ix2 d n)) = keyB x0 x1 x2 x3 := by
  have e : ∀ t n e, keyF (hAt arg2 harg2 x0) (tAt arg4 harg4 x2) (tAt arg5 harg5 x3) (fun d n => x1 (ix2 d n)) t n e = keyW x0 x1 x2 x3 t n e := by
    intro t n e
    unfold keyF keyW
    simp only [hAt_apply, tAt_apply]
  exact funext fun y => e _ _ _

theorem valueG_eq : valueG (hAt arg2 harg2 x0) (fun d n => x1 (ix2 d n)) = valueB x0 x1 := by
  have e : ∀ t n e, valueF (hAt arg2 harg2 x0) (fun d n => x1 (ix2 d n)) t n e = valueW x0 x1 t n e := by
    intro t n e
    unfold valueF valueW
    simp only [hAt_apply]
  exact funext fun y => e _ _ _

theorem gateG_eq : gateG (hAt arg2 harg2 x0) (fun d n => x1 (ix2 d n)) = gateB x0 x1 := by
  have e : ∀ t n e, gateF (hAt arg2 harg2 x0) (fun d n => x1 (ix2 d n)) t n e = gateW x0 x1 t n e := by
    intro t n e
    unfold gateF gateW
    simp only [hAt_apply]
  exact funext fun y => e _ _ _

section First

variable (hc0 : cond0_0 i)

theorem query_A : out0_A_4 c i arg2 harg2 arg3 harg3 arg4 harg4 arg5 harg5 arg6 harg6 arg7 harg7 arg8 harg8 arg9 harg9 arg10 harg10 hc0 x0 x1 x2 x3 = queryB x0 x1 x2 x3 := by
  rw [query_eq_A, query_canon _ _ _ _ (fun d n => x1 (ix2 d n)) (wAt_apply arg3 harg3 x1), queryG_eq]

theorem key_A : out0_A_5 c i arg2 harg2 arg3 harg3 arg4 harg4 arg5 harg5 arg6 harg6 arg7 harg7 arg8 harg8 arg9 harg9 arg10 harg10 hc0 x0 x1 x2 x3 = keyB x0 x1 x2 x3 := by
  rw [key_eq_A, key_canon _ _ _ _ (fun d n => x1 (ix2 d n)) (newAt_apply arg3 harg3 arg10 x1), keyG_eq]

theorem value_A : out0_A_6 c i arg2 harg2 arg3 harg3 arg4 harg4 arg5 harg5 arg6 harg6 arg7 harg7 arg8 harg8 arg9 harg9 arg10 harg10 hc0 x0 x1 x2 x3 = valueB x0 x1 := by
  rw [value_eq_A, value_canon _ _ (fun d n => x1 (ix2 d n)) (wAt_apply arg3 harg3 x1), valueG_eq]

theorem gate_A : out0_A_7 c i arg2 harg2 arg3 harg3 arg4 harg4 arg5 harg5 arg6 harg6 arg7 harg7 arg8 harg8 arg9 harg9 arg10 harg10 hc0 x0 x1 x2 x3 = gateB x0 x1 := by
  rw [gate_eq_A, gate_canon _ _ (fun d n => x1 (ix2 d n)) (wAt_apply arg3 harg3 x1), gateG_eq]

theorem kept_A : sout0_A_0 c i arg2 harg2 arg3 harg3 arg4 harg4 arg5 harg5 arg6 harg6 arg7 harg7 arg8 harg8 arg9 harg9 arg10 harg10 hc0 x0 x1 x2 x3 = keptG fun d n => x1 (ix2 d n) := by
  rw [kept_eq_A, kept_canon _ (fun d n => x1 (ix2 d n)) (wAt_apply arg3 harg3 x1)]

end First

section Later

variable (hc0 : ¬cond0_0 i)

theorem query_B : out0_B_4 c i arg2 harg2 arg3 harg3 arg4 harg4 arg5 harg5 arg6 harg6 arg7 harg7 arg8 harg8 arg9 harg9 arg10 harg10 hc0 x0 x1 x2 x3 xs0 = queryB x0 x1 x2 x3 := by
  rw [query_eq_B, query_canon _ _ _ _ (fun d n => x1 (ix2 d n)) (wAt_apply arg3 harg3 x1), queryG_eq]

theorem key_B (hxs : xs0 = keptG fun d n => x1 (ix2 d n)) : out0_B_5 c i arg2 harg2 arg3 harg3 arg4 harg4 arg5 harg5 arg6 harg6 arg7 harg7 arg8 harg8 arg9 harg9 arg10 harg10 hc0 x0 x1 x2 x3 xs0 = keyB x0 x1 x2 x3 := by
  rw [key_eq_B, key_canon _ _ _ _ (fun d n => x1 (ix2 d n)) (oldAt_apply arg10 harg10 x1 xs0 hxs), keyG_eq]

theorem value_B : out0_B_6 c i arg2 harg2 arg3 harg3 arg4 harg4 arg5 harg5 arg6 harg6 arg7 harg7 arg8 harg8 arg9 harg9 arg10 harg10 hc0 x0 x1 x2 x3 xs0 = valueB x0 x1 := by
  rw [value_eq_B, value_canon _ _ (fun d n => x1 (ix2 d n)) (wAt_apply arg3 harg3 x1), valueG_eq]

theorem gate_B : out0_B_7 c i arg2 harg2 arg3 harg3 arg4 harg4 arg5 harg5 arg6 harg6 arg7 harg7 arg8 harg8 arg9 harg9 arg10 harg10 hc0 x0 x1 x2 x3 xs0 = gateB x0 x1 := by
  rw [gate_eq_B, gate_canon _ _ (fun d n => x1 (ix2 d n)) (wAt_apply arg3 harg3 x1), gateG_eq]

end Later

end Body

end Cert.Kernel3Ideal.Proj

end
-- ==== Proof.ProjBlocks.lean ====
module

public import proofs.«01_k».proof.Proof.ProjPoint
public import proofs.«01_k».proof.Proof.Gen.Kernel3Ideal.Value
public import Idealize.ShloMosaic.Lib.Pointwise
public import Idealize.ShloMosaic.Lib.StableHlo.ReadAt
public import Idealize.ShloMosaic.Lib.Pipeline.ValueKit.Geometry

/-!
# The results of the projection

What the host's two tables hold, what the windows bring to a grid point, what the scratch holds between points, and the four result
arrays those points leave.
-/

@[expose] public section

set_option maxRecDepth 16384

noncomputable section

namespace Cert.Kernel3Ideal.Proj

open Cert.Kernel3Ideal Cert.Kernel3Ideal.Gen Cert.Proj Idealize.ShloMosaic Idealize.ShloMosaic.TcCoe Idealize.SL.Sem

variable (m : (ℓ : Loc nD τ sig) → Buf (Elt Ideal) ℓ) (c : Dev nD)

theorem index0 : ∀ t : Fin cfg0.N, (cfg0.win 0).index t = ![(grid0.coords t 0).val, (grid0.coords t 1).val, 0] := by decide +kernel
theorem index1 : ∀ t : Fin cfg0.N, (cfg0.win 1).index t = ![0, 0] := by decide +kernel
theorem index2 : ∀ t : Fin cfg0.N, (cfg0.win 2).index t = ![(grid0.coords t 1).val, 0] := by decide +kernel
theorem index3 : ∀ t : Fin cfg0.N, (cfg0.win 3).index t = ![(grid0.coords t 1).val, 0] := by decide +kernel
theorem index4 : ∀ t : Fin cfg0.N, (cfg0.win 4).index t = ![(grid0.coords t 0).val, 0, (grid0.coords t 1).val, 0] := by decide +kernel
theorem index5 : ∀ t : Fin cfg0.N, (cfg0.win 5).index t = ![(grid0.coords t 0).val, (grid0.coords t 1).val, 0, 0] := by decide +kernel
theorem index6 : ∀ t : Fin cfg0.N, (cfg0.win 6).index t = ![(grid0.coords t 0).val, 0, (grid0.coords t 1).val, 0] := by decide +kernel
theorem index7 : ∀ t : Fin cfg0.N, (cfg0.win 7).index t = ![(grid0.coords t 0).val, 0, (grid0.coords t 1).val, 0] := by decide +kernel

/-- The host's table of cosines. -/
theorem table_cos (T : Fin 4096) (e : Fin 128) : V (F := Ideal) m c main_v12 (ix2 T e) = Ideal.cos (angle T e) := by
  unfold V angle
  after_reads_at

/-- The host's table of sines. -/
theorem table_sin (T : Fin 4096) (e : Fin 128) : V (F := Ideal) m c main_v13 (ix2 T e) = Ideal.sin (angle T e) := by
  unfold V angle
  after_reads_at

theorem tile_lt (s : Fin 4) (n : Fin 1024) : 1024 * s.val + n.val < 4096 := by omega

section Windows

variable (t : Fin cfg0.N) (b : Fin 8) (s : Fin 4) (hb : (grid0.coords t 0).val = b.val) (hs : (grid0.coords t 1).val = s.val)

include hb hs in
theorem win0 (n d : Fin 1024) : iblk m c 0 t (ix3 0 n d) = V m c main_arg0 (ix3 b ⟨1024 * s.val + n.val, tile_lt s n⟩ d) := by
  blk_ext [iblk, index0 t]

theorem win1 (d : Fin 1024) (n : Fin 6144) : iblk m c 1 t (ix2 d n) = V m c main_arg1 (ix2 d n) := by
  blk_ext [iblk, index1 t]

include hs in
theorem win2 (n : Fin 1024) (e : Fin 128) : iblk m c 2 t (ix2 n e) = V m c main_v12 (ix2 ⟨1024 * s.val + n.val, tile_lt s n⟩ e) := by
  blk_ext [iblk, index2 t]

include hs in
theorem win3 (n : Fin 1024) (e : Fin 128) : iblk m c 3 t (ix2 n e) = V m c main_v13 (ix2 ⟨1024 * s.val + n.val, tile_lt s n⟩ e) := by
  blk_ext [iblk, index3 t]

end Windows

/-- The rows the call is given. -/
def rows (b : Fin 8) (T : Fin 4096) (d : Fin 1024) : EReal := m ((c : Thread nD τ).loc main_arg0) (ix3 b T d)

/-- The weights the call is given. -/
def weights (d : Fin 1024) (n : Fin 6144) : EReal := m ((c : Thread nD τ).loc main_arg1) (ix2 d n)

section Point

variable (t : Fin cfg0.N) (b : Fin 8) (s : Fin 4) (hb : (grid0.coords t 0).val = b.val) (hs : (grid0.coords t 1).val = s.val) (n : Fin 1024)

theorem e1 (t : Fin cfg0.N) (d : Fin 1024) (n : Fin 6144) : iblk m c 1 t (ix2 d n) = weights m c d n := (win1 m c t d n).trans (congrFun (V_main_arg1 m c) _)

include hb hs in
theorem e0 (d : Fin 1024) : iblk m c 0 t (ix3 0 n d) = rows m c b ⟨1024 * s.val + n.val, tile_lt s n⟩ d :=
  (win0 m c t b s hb hs n d).trans (congrFun (V_main_arg0 m c) _)

include hs in
theorem e2 (e : Fin 128) : iblk m c 2 t (ix2 n e) = Ideal.cos (angle ⟨1024 * s.val + n.val, tile_lt s n⟩ e) := (win2 m c t s hs n e).trans (table_cos m c _ e)

include hs in
theorem e3 (e : Fin 128) : iblk m c 3 t (ix2 n e) = Ideal.sin (angle ⟨1024 * s.val + n.val, tile_lt s n⟩ e) := (win3 m c t s hs n e).trans (table_sin m c _ e)

include hb hs in
theorem queryW_eq (k : Fin 4) (e : Fin 256) : queryW
    (iblk m c 0 t) (iblk m c 1 t) (iblk m c 2 t) (iblk m c 3 t) n k e = queryRow (rows m c) (weights m c) b ⟨1024 * s.val + n.val, tile_lt s n⟩ k e := by
  unfold queryW queryRow
  simp only [e0 m c t b s hb hs, e1 m c t, e2 m c t s hs, e3 m c t s hs]

include hb hs in
theorem keyW_eq (k : Fin 4) (e : Fin 256) : keyW
    (iblk m c 0 t) (iblk m c 1 t) (iblk m c 2 t) (iblk m c 3 t) n k e = keyRow (rows m c) (weights m c) b ⟨1024 * s.val + n.val, tile_lt s n⟩ k e := by
  unfold keyW keyRow
  simp only [e0 m c t b s hb hs, e1 m c t, e2 m c t s hs, e3 m c t s hs]

include hb hs in
theorem valueW_eq (k : Fin 4) (e : Fin 512) : valueW (iblk m c 0 t) (iblk m c 1 t) n k e = valueRow (rows m c) (weights m c) b ⟨1024 * s.val + n.val, tile_lt s n⟩ k e := by
  unfold valueW valueRow
  simp only [e0 m c t b s hb hs, e1 m c t]

include hb hs in
theorem gateW_eq (k : Fin 4) (e : Fin 512) : gateW (iblk m c 0 t) (iblk m c 1 t) n k e = gateRow (rows m c) (weights m c) b ⟨1024 * s.val + n.val, tile_lt s n⟩ k e := by
  unfold gateW gateRow
  simp only [e0 m c t b s hb hs, e1 m c t]

end Point

/-- After every point the scratch holds the transposed key weights. -/
theorem kept_eq (n : ℕ) (hn : n < cfg0.N) : (outsAt0 m c n hn).2.2.2.2 = keptG (weights m c) := by
  have first : ∀ (t : Fin cfg0.N) (h0 : t.val % 32 = 0), (outsAt0 m c t.val t.isLt).2.2.2.2 = keptG (weights m c) := by
    intro t h0
    rw [outsAt0_A m c t h0]
    dsimp only
    rw [kept_A]
    exact congrArg keptG (funext fun d => funext fun n => e1 m c t d n)
  induction n with
  | zero => exact first ⟨0, hn⟩ rfl
  | succ n ih =>
    by_cases h0 : (n + 1) % 32 = 0
    · exact first ⟨n + 1, hn⟩ h0
    · have e := outsAt0_B m c ⟨n + 1, hn⟩ h0
      dsimp only at e
      rw [e]
      dsimp only [sout0_B_0]
      exact ih _

/-- The scratch as a later point finds it. -/
theorem found (t : Fin cfg0.N) (n : ℕ) (hn : n < cfg0.N) : (outsAt0 m c n hn).2.2.2.2 = keptG fun d n => iblk m c 1 t (ix2 d n) :=
  (kept_eq m c n hn).trans (congrArg keptG (funext fun d => funext fun n => (e1 m c t d n).symm))

theorem query_flushed (t : Fin cfg0.N) : (dats m 0 c).flushed 4 t = (cfg0.win 4).cut (grid0.coords t) (queryB
    (iblk m c 0 t) (iblk m c 1 t) (iblk m c 2 t) (iblk m c 3 t)) := by
  by_cases h0 : t.val % 32 = 0
  · exact (Cert.Kernel3Ideal.Value.flushed4_A m c t h0).trans (congrArg _ (query_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _))
  · exact (Cert.Kernel3Ideal.Value.flushed4_B m c t h0).trans (congrArg _ (query_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _ _))

theorem key_flushed (t : Fin cfg0.N) : (dats m 0 c).flushed 5 t = (cfg0.win 5).cut (grid0.coords t) (keyB
    (iblk m c 0 t) (iblk m c 1 t) (iblk m c 2 t) (iblk m c 3 t)) := by
  by_cases h0 : t.val % 32 = 0
  · exact (Cert.Kernel3Ideal.Value.flushed5_A m c t h0).trans (congrArg _ (key_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _))
  · exact (Cert.Kernel3Ideal.Value.flushed5_B m c t h0).trans (congrArg _ (key_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _ _ (found m c t _ _)))

theorem value_flushed (t : Fin cfg0.N) : (dats m 0 c).flushed 6 t = (cfg0.win 6).cut (grid0.coords t) (valueB (iblk m c 0 t) (iblk m c 1 t)) := by
  by_cases h0 : t.val % 32 = 0
  · exact (Cert.Kernel3Ideal.Value.flushed6_A m c t h0).trans (congrArg _ (value_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _))
  · exact (Cert.Kernel3Ideal.Value.flushed6_B m c t h0).trans (congrArg _ (value_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _ _))

theorem gate_flushed (t : Fin cfg0.N) : (dats m 0 c).flushed 7 t = (cfg0.win 7).cut (grid0.coords t) (gateB (iblk m c 0 t) (iblk m c 1 t)) := by
  by_cases h0 : t.val % 32 = 0
  · exact (Cert.Kernel3Ideal.Value.flushed7_A m c t h0).trans (congrArg _ (gate_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _))
  · exact (Cert.Kernel3Ideal.Value.flushed7_B m c t h0).trans (congrArg _ (gate_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) _ _))

/-- The queries the call computes. -/
def queries : Vec Ideal S8x4x4096x256 .bf16 := fun y => queryRow (rows m c) (weights m c) (y 0) (y 2) (y 1) (y 3)

/-- The keys the call computes: transposed, sixteen chunks of 256 positions, the four heads one under the other. -/
def keys : Vec Ideal S8x16x1024x256 .bf16 := fun y =>
  keyRow (rows m c) (weights m c) (y 0) ⟨256 * (y 1).val + (y 3).val, by have h1 : (y 1).val < 16 := (y 1).isLt; have h3 : (y 3).val < 256 := (y 3).isLt; omega⟩
    ⟨(y 2).val / 256, by have h2 : (y 2).val < 1024 := (y 2).isLt; omega⟩ ⟨(y 2).val % 256, by omega⟩

/-- The values the call computes. -/
def values : Vec Ideal S8x4x4096x512 .bf16 := fun y => valueRow (rows m c) (weights m c) (y 0) (y 2) (y 1) (y 3)

/-- The gates the call computes. -/
def gates : Vec Ideal S8x4x4096x512 .bf16 := fun y => gateRow (rows m c) (weights m c) (y 0) (y 2) (y 1) (y 3)

/-- Equal coordinates give equal values of a function of four. -/
theorem congr4 {α₀ α₁ α₂ : ℕ} {α₃ : ℕ} (f : Fin α₀ → Fin α₁ → Fin α₂ → Fin α₃ → EReal) (x0 y0 : Fin α₀) (x1 y1 : Fin α₁) (x2 y2 : Fin α₂) (x3 y3 : Fin α₃)
    (h0 : x0.val = y0.val) (h1 : x1.val = y1.val) (h2 : x2.val = y2.val) (h3 : x3.val = y3.val) : f x0 x1 x2 x3 = f y0 y1 y2 y3 := by
  rw [Fin.ext h0, Fin.ext h1, Fin.ext h2, Fin.ext h3]

theorem place (a b : ℕ) : 1024 * a + b = a * 1024 + b := by omega

theorem queries_eq : (dats m 0 c).arrAt 4 cfg0.N = queries m c := by
  refine (dats m 0 c).arrAt_eq_of_covers 4 _ (by decide +kernel) fun t hf y => ?_
  refine (congrFun (query_flushed m c t) y).trans ?_
  have hb : (grid0.coords t 0).val < 8 := (grid0.coords t 0).isLt
  have hs : (grid0.coords t 1).val < 4 := (grid0.coords t 1).isLt
  refine (queryW_eq m c t ⟨_, hb⟩ ⟨_, hs⟩ rfl rfl _ _ _).trans ?_
  refine congr4 (queryRow (rows m c) (weights m c)) _ _ _ _ _ _ _ _ ?_ ?_ ?_ ?_ <;> blk_simp [index4 t]
  exact place _ _

theorem values_eq : (dats m 0 c).arrAt 6 cfg0.N = values m c := by
  refine (dats m 0 c).arrAt_eq_of_covers 6 _ (by decide +kernel) fun t hf y => ?_
  refine (congrFun (value_flushed m c t) y).trans ?_
  have hb : (grid0.coords t 0).val < 8 := (grid0.coords t 0).isLt
  have hs : (grid0.coords t 1).val < 4 := (grid0.coords t 1).isLt
  refine (valueW_eq m c t ⟨_, hb⟩ ⟨_, hs⟩ rfl rfl _ _ _).trans ?_
  refine congr4 (valueRow (rows m c) (weights m c)) _ _ _ _ _ _ _ _ ?_ ?_ ?_ ?_ <;> blk_simp [index6 t]
  exact place _ _

theorem gates_eq : (dats m 0 c).arrAt 7 cfg0.N = gates m c := by
  refine (dats m 0 c).arrAt_eq_of_covers 7 _ (by decide +kernel) fun t hf y => ?_
  refine (congrFun (gate_flushed m c t) y).trans ?_
  have hb : (grid0.coords t 0).val < 8 := (grid0.coords t 0).isLt
  have hs : (grid0.coords t 1).val < 4 := (grid0.coords t 1).isLt
  refine (gateW_eq m c t ⟨_, hb⟩ ⟨_, hs⟩ rfl rfl _ _ _).trans ?_
  refine congr4 (gateRow (rows m c) (weights m c)) _ _ _ _ _ _ _ _ ?_ ?_ ?_ ?_ <;> blk_simp [index7 t]
  exact place _ _

theorem keys_eq : (dats m 0 c).arrAt 5 cfg0.N = keys m c := by
  refine (dats m 0 c).arrAt_eq_of_covers 5 _ (by decide +kernel) fun t hf y => ?_
  refine (congrFun (key_flushed m c t) y).trans ?_
  have hb : (grid0.coords t 0).val < 8 := (grid0.coords t 0).isLt
  have hs : (grid0.coords t 1).val < 4 := (grid0.coords t 1).isLt
  refine (keyW_eq m c t ⟨_, hb⟩ ⟨_, hs⟩ rfl rfl _ _ _).trans ?_
  refine congr4 (keyRow (rows m c) (weights m c)) _ _ _ _ _ _ _ _ ?_ ?_ ?_ ?_ <;> blk_simp [index5 t]
  exact (by omega : ∀ a b d : ℕ, 1024 * a + (256 * b + d) = 256 * (a * 4 + b) + d) _ _ _

end Cert.Kernel3Ideal.Proj

end
-- ==== Proof.ProjRef.lean ====
module

public import proofs.«01_k».proof.Proof.ProjRow
public import proofs.«01_k».proof.Proof.Gen.Reference3Ideal.Read
public import Idealize.ShloMosaic.Lib.Pointwise

/-!
# The projection in the host's words

Each result of the reference, read at one index, is the row function of that result.
-/

@[expose] public section

set_option maxRecDepth 16384

noncomputable section

namespace Cert.Reference3Ideal.Proj

open Cert.Reference3Ideal Cert.Reference3Ideal.Read Cert.Proj Idealize.ShloMosaic Idealize.ShloMosaic.TcCoe Idealize.SL.Sem

variable (x0 : Vec Ideal S8x4096x1024 .bf16) (x1 : Vec Ideal S1024x6144 .bf16) (b : Fin 8) (T : Fin 4096)

/-- Rows times weights. -/
theorem proj_apply (n : Fin 6144) : val_main_v2 (F := Ideal) x0 x1 (ix3 b T n) = proj (fun d => x0 (ix3 b T d)) (fun d n => x1 (ix2 d n)) n := by
  unfold proj
  unfold val_main_v2 val_main_v1 val_main_v0
  pointwise

/-- The queries' columns, head by head. -/
theorem query_heads (n : Fin 4) (e : Fin 256) : val_main_v9 (F := Ideal) x0 x1 (ix4 b n T e) = val_main_v2 (F := Ideal) x0 x1 (ix3 b T ⟨256 * n.val + e.val, by omega⟩) := by
  unfold val_main_v9 val_main_v8 val_main_v3
  pointwise
  simp only [Nat.mul_comm, Nat.add_assoc]

/-- The keys' columns, head by head. -/
theorem key_heads (n : Fin 4) (e : Fin 256) : val_main_v41 (F := Ideal) x0 x1 (ix4 b n T e) = val_main_v2 (F := Ideal) x0 x1 (ix3 b T ⟨1024 + 256 * n.val + e.val, by omega⟩) := by
  unfold val_main_v41 val_main_v40 val_main_v4
  pointwise
  simp only [Nat.mul_comm, Nat.add_assoc]

theorem cos_query (e : Fin 128) : val_main_v21 (F := Ideal) (ix2 T e) = Ideal.cos (angle T e) := by
  unfold angle
  unfold val_main_v21 val_main_v20 val_main_v19 val_main_v18 val_main_v17 val_main_v16 val_main_v15 val_main_v14 val_main_cst_0 val_main_v13 val_main_v12 val_main_cst val_main_v11
    val_main_v10 val_main_v7
  pointwise

theorem sin_query (e : Fin 128) : val_main_v22 (F := Ideal) (ix2 T e) = Ideal.sin (angle T e) := by
  unfold angle
  unfold val_main_v22 val_main_v20 val_main_v19 val_main_v18 val_main_v17 val_main_v16 val_main_v15 val_main_v14 val_main_cst_0 val_main_v13 val_main_v12 val_main_cst val_main_v11
    val_main_v10 val_main_v7
  pointwise

theorem cos_key (e : Fin 128) : val_main_v53 (F := Ideal) (ix2 T e) = Ideal.cos (angle T e) := by
  unfold angle
  unfold val_main_v53 val_main_v52 val_main_v51 val_main_v50 val_main_v49 val_main_v48 val_main_v47 val_main_v46 val_main_cst_2 val_main_v45 val_main_v44 val_main_cst_1 val_main_v43
    val_main_v42 val_main_v7
  pointwise

theorem sin_key (e : Fin 128) : val_main_v54 (F := Ideal) (ix2 T e) = Ideal.sin (angle T e) := by
  unfold angle
  unfold val_main_v54 val_main_v52 val_main_v51 val_main_v50 val_main_v49 val_main_v48 val_main_v47 val_main_v46 val_main_cst_2 val_main_v45 val_main_v44 val_main_cst_1 val_main_v43
    val_main_v42 val_main_v7
  pointwise

/-- The queries' halves rotated against each other. -/
theorem query_rot (n : Fin 4) (e : Fin 256) :
    val_main_v82 (F := Ideal) x0 x1 (ix4 b n T e)
      = rot (fun e => val_main_v9 (F := Ideal) x0 x1 (ix4 b n T e)) (fun e => val_main_v21 (F := Ideal) (ix2 T e)) (fun e => val_main_v22 (F := Ideal) (ix2 T e)) e := by
  unfold rot
  unfold val_main_v82 val_main_v39 val_main_v38 val_main_v37 val_main_v36 val_main_v35 val_main_v34 val_main_v33 val_main_v32 val_main_v31 val_main_v30 val_main_v29 val_main_v28
    val_main_v27 val_main_v26 val_main_v25 val_main_v24 val_main_v23
  pointwise
  split_ifs with h
  · simp only [Nat.add_comm]
  · have he : (⟨128 + (e.val - 128), by omega⟩ : Fin 256) = e := Fin.ext (by simp only; omega)
    exact congrArg (fun u : Fin 256 => val_main_v9 (F := Ideal) x0 x1 (ix4 b n T (⟨e.val - 128, by omega⟩ : Fin 256)) * val_main_v22 (F := Ideal) (ix2 T (⟨e.val - 128, by omega⟩ : Fin 128))
      + val_main_v9 (F := Ideal) x0 x1 (ix4 b n T u) * val_main_v21 (F := Ideal) (ix2 T (⟨e.val - 128, by omega⟩ : Fin 128))) he
  · rename_i h'; exact absurd rfl h'

/-- The keys' halves rotated against each other, then scaled. -/
theorem key_rot (n : Fin 4) (e : Fin 256) :
    val_main_v73 (F := Ideal) x0 x1 (ix4 b n T e)
      = rot (fun e => val_main_v41 (F := Ideal) x0 x1 (ix4 b n T e)) (fun e => val_main_v53 (F := Ideal) (ix2 T e)) (fun e => val_main_v54 (F := Ideal) (ix2 T e)) e
          * Ideal.ofBits .f32 0x3D800000#32 := by
  unfold rot
  unfold val_main_v73 val_main_v72 val_main_cst_3 val_main_v71 val_main_v70 val_main_v69 val_main_v68 val_main_v67 val_main_v66 val_main_v65 val_main_v64 val_main_v63 val_main_v62
    val_main_v61 val_main_v60 val_main_v59 val_main_v58 val_main_v57 val_main_v56 val_main_v55
  pointwise
  split_ifs with h
  · simp only [Nat.add_comm]
  · have he : (⟨128 + (e.val - 128), by omega⟩ : Fin 256) = e := Fin.ext (by simp only; omega)
    exact congrArg (fun u : Fin 256 => (val_main_v41 (F := Ideal) x0 x1 (ix4 b n T (⟨e.val - 128, by omega⟩ : Fin 256)) * val_main_v54 (F := Ideal) (ix2 T (⟨e.val - 128, by omega⟩ : Fin 128))
      + val_main_v41 (F := Ideal) x0 x1 (ix4 b n T u) * val_main_v53 (F := Ideal) (ix2 T (⟨e.val - 128, by omega⟩ : Fin 128))) * Ideal.ofBits .f32 0x3D800000#32) he
  · rename_i h'; exact absurd rfl h'

/-- The queries. -/
theorem query_apply (n : Fin 4) (e : Fin 256) :
    val_main_v82 (F := Ideal) x0 x1 (ix4 b n T e) = queryRow (fun b T d => x0 (ix3 b T d)) (fun d n => x1 (ix2 d n)) b T n e := by
  unfold queryRow query
  rw [query_rot]
  simp only [query_heads, proj_apply, cos_query, sin_query]

/-- The scaled keys before they are turned. -/
theorem key_apply (n : Fin 4) (e : Fin 256) :
    val_main_v73 (F := Ideal) x0 x1 (ix4 b n T e) = keyRow (fun b T d => x0 (ix3 b T d)) (fun d n => x1 (ix2 d n)) b T n e := by
  unfold keyRow key
  rw [key_rot]
  simp only [key_heads, proj_apply, cos_key, sin_key]

/-- The keys: transposed, sixteen chunks of 256 positions, the four heads one under the other. -/
theorem turned_apply (j : Fin 16) (r : Fin 1024) (s : Fin 256) :
    val_main_v83 (F := Ideal) x0 x1 (ix4 b j r s)
      = keyRow (fun b T d => x0 (ix3 b T d)) (fun d n => x1 (ix2 d n)) b ⟨256 * j.val + s.val, by omega⟩ ⟨r.val / 256, by omega⟩ ⟨r.val % 256, by omega⟩ := by
  rw [← key_apply]
  unfold val_main_v83 val_main_v76 val_main_v75 val_main_v74
  pointwise
  simp only [Nat.mul_comm, Nat.add_assoc]

/-- The values. -/
theorem value_apply (n : Fin 4) (e : Fin 512) :
    val_main_v84 (F := Ideal) x0 x1 (ix4 b n T e) = valueRow (fun b T d => x0 (ix3 b T d)) (fun d n => x1 (ix2 d n)) b T n e := by
  unfold valueRow value
  rw [← proj_apply]
  unfold val_main_v84 val_main_v78 val_main_v77 val_main_v5
  pointwise
  simp only [Nat.mul_comm, Nat.add_assoc]

/-- The gates. -/
theorem gate_apply (n : Fin 4) (e : Fin 512) :
    val_main_v85 (F := Ideal) x0 x1 (ix4 b n T e) = gateRow (fun b T d => x0 (ix3 b T d)) (fun d n => x1 (ix2 d n)) b T n e := by
  unfold gateRow gate Ideal.logistic
  simp only [← proj_apply]
  unfold val_main_v85 val_main_v81 val_main_v80 val_main_v79 val_main_call0_v5 val_main_call0_v4 val_main_call0_cst_0 val_main_call0_v3 val_main_call0_v2 val_main_call0_cst val_main_call0_v1
    val_main_call0_v0 val_main_v6
  pointwise
  simp only [Nat.mul_comm, Nat.add_assoc]

end Cert.Reference3Ideal.Proj

end
-- ==== Proof.ProjClaim.lean ====
module

public import proofs.«01_k».proof.Defs
public import proofs.«01_k».proof.Proof.ProjBlocks
public import proofs.«01_k».proof.Proof.ProjRef
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Adequacy
public import Idealize.ShloMosaic.Init

/-!
# The claims about the projections
-/

@[expose] public section

noncomputable section

namespace Cert.Proof.Proj

open Idealize.ShloMosaic Idealize.SL.Sem

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

section Results

variable (m : (ℓ : Loc Cert.Kernel3Ideal.nD Cert.Kernel3Ideal.τ Cert.Kernel3Ideal.sig) → Buf (Elt Ideal) ℓ) (c : Dev Cert.Kernel3Ideal.nD)

/-- The host's queries are the kernel's. -/
theorem queries_ref : Cert.Reference3Ideal.Read.val_main_v82 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)) = Cert.Kernel3Ideal.Proj.queries m c := by
  funext y
  have e : y = ix4 (y 0) (y 1) (y 2) (y 3) := by funext a; fin_cases a <;> rfl
  refine (congrArg (Cert.Reference3Ideal.Read.val_main_v82 (F := Ideal) _ _) e).trans ?_
  exact Cert.Reference3Ideal.Proj.query_apply _ _ (y 0) (y 2) (y 1) (y 3)

/-- The host's keys are the kernel's. -/
theorem keys_ref : Cert.Reference3Ideal.Read.val_main_v83 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)) = Cert.Kernel3Ideal.Proj.keys m c := by
  funext y
  have e : y = ix4 (y 0) (y 1) (y 2) (y 3) := by funext a; fin_cases a <;> rfl
  refine (congrArg (Cert.Reference3Ideal.Read.val_main_v83 (F := Ideal) _ _) e).trans ?_
  exact Cert.Reference3Ideal.Proj.turned_apply _ _ (y 0) (y 1) (y 2) (y 3)

/-- The host's values are the kernel's. -/
theorem values_ref : Cert.Reference3Ideal.Read.val_main_v84 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)) = Cert.Kernel3Ideal.Proj.values m c := by
  funext y
  have e : y = ix4 (y 0) (y 1) (y 2) (y 3) := by funext a; fin_cases a <;> rfl
  refine (congrArg (Cert.Reference3Ideal.Read.val_main_v84 (F := Ideal) _ _) e).trans ?_
  exact Cert.Reference3Ideal.Proj.value_apply _ _ (y 0) (y 2) (y 1) (y 3)

/-- The host's gates are the kernel's. -/
theorem gates_ref : Cert.Reference3Ideal.Read.val_main_v85 (F := Ideal) (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)) = Cert.Kernel3Ideal.Proj.gates m c := by
  funext y
  have e : y = ix4 (y 0) (y 1) (y 2) (y 3) := by funext a; fin_cases a <;> rfl
  refine (congrArg (Cert.Reference3Ideal.Read.val_main_v85 (F := Ideal) _ _) e).trans ?_
  exact Cert.Reference3Ideal.Proj.gate_apply _ _ (y 0) (y 2) (y 1) (y 3)

end Results

/-- The kernel's projections equal the host's. -/
theorem algebraic : Cert.algebraic_Kernel3Ideal_Reference3Ideal := by
  intro m g m' g' _ hm
  refine ⟨fun c => Cert.Kernel3Ideal.Proj.queries m c, fun c => Cert.Kernel3Ideal.Proj.keys m c, fun c => Cert.Kernel3Ideal.Proj.values m c, fun c => Cert.Kernel3Ideal.Proj.gates m c,
    (θ_run Cert.Kernel3Ideal.defs _ _).mono (fun r h c => ?_) (Cert.Kernel3Ideal.Value.run_blocks (F := Ideal) m g),
    (θ_run Cert.Reference3Ideal.defs _ _).mono (fun r h c => ?_) (Cert.Reference3Ideal.Value.run (F := Ideal) m' g')⟩
  · obtain ⟨h0, h1, h2, h3, h4⟩ := h c
    exact ⟨h0.trans (Cert.Kernel3Ideal.Proj.queries_eq m c), h1.trans (Cert.Kernel3Ideal.Proj.keys_eq m c), h2.trans (Cert.Kernel3Ideal.Proj.values_eq m c),
      h3.trans (Cert.Kernel3Ideal.Proj.gates_eq m c), h4⟩
  · obtain ⟨h0, h1, h2, h3, h4⟩ := h c
    obtain ⟨e0, e1⟩ := hm c
    have k0 := Cert.Reference3Ideal.Read.val_main_v82_eq (F := Ideal) m' c
    have k1 := Cert.Reference3Ideal.Read.val_main_v83_eq (F := Ideal) m' c
    have k2 := Cert.Reference3Ideal.Read.val_main_v84_eq (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
    have k3 := Cert.Reference3Ideal.Read.val_main_v85_eq (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
    have l0 := h0.trans k0
    have l1 := h1.trans k1
    have l2 := h2.trans k2
    have l3 := h3.trans k3
    rw [e0, e1] at l0 l1 l2 l3
    exact ⟨l0.trans (queries_ref m c), l1.trans (keys_ref m c), l2.trans (values_ref m c), l3.trans (gates_ref m c), h4⟩

end Cert.Proof.Proj

end
-- ==== Proof.MixICast.lean ====
module

public import proofs.«01_k».proof.Proof.Gen.Kernel4Ideal.Frame
public import proofs.«01_k».proof.Proof.Gen.Kernel4Ideal.Skeleton
public import Idealize.ShloMosaic.Lib.VecWindow

@[expose] public section

set_option maxRecDepth 16384

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (UR sig nD τ) ℕ

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x2x512x512 .bf16) (harg5 : arg5.IsWhole)
    (arg6 : Memref sig .tc .vmem S1024x1024 .bf16) (harg6 : arg6.IsWhole)
    (arg7 : Memref sig .tc .vmem S1024x5632 .bf16) (harg7 : arg7.IsWhole)
    (arg8 : Memref sig .tc .vmem S2816x1024 .bf16) (harg8 : arg8.IsWhole)
    (arg9 : Memref sig .tc .vmem S1x16x6144 .f32) (harg9 : arg9.IsWhole)
    (arg10 : Memref sig .tc .vmem S1x32x1024 .f32) (harg10 : arg10.IsWhole)
    (arg11 : Memref sig .tc .vmem S1x16x5632 .f32) (harg11 : arg11.IsWhole)
    (arg12 : Memref sig .tc .vmem S1x176x1024 .f32) (harg12 : arg12.IsWhole)
    (arg13 : Memref sig .tc .vmem S1x512x1024 .f32) (harg13 : arg13.IsWhole)
    (arg14 : Memref sig .tc .vmem S1x512x1024 .bf16) (harg14 : arg14.IsWhole)
    (arg15 : Memref sig .tc .vmem S16x6144 .bf16) (harg15 : arg15.IsWhole)
    (arg16 : Memref sig .tc .vmem S32x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)

/-- The first part of the body: it casts the four weight blocks, the last of them only at the points where its condition holds, and elsewhere
    leaves that block's buffer as it was. -/
theorem cast_part (x7 : Vec F S1x16x6144 .f32) (x8 : Vec F S1x32x1024 .f32) (x9 : Vec F S1x16x5632 .f32) (x10 : Vec F S1x176x1024 .f32)
    (d18 : Vec F S176x1024 .bf16) (E : Set ℕ) (K : PUnit → sProp 𝕄) :
    iprop(owns (c : Thread nD τ) arg9 fullShare x7 ∗ owns (c : Thread nD τ) arg10 fullShare x8 ∗ owns (c : Thread nD τ) arg11 fullShare x9
        ∗ owns (c : Thread nD τ) arg12 fullShare x10 ∗ (∃ d, owns (c : Thread nD τ) arg15 fullShare d) ∗ (∃ d, owns (c : Thread nD τ) arg16 fullShare d)
        ∗ (∃ d, owns (c : Thread nD τ) arg17 fullShare d) ∗ owns (c : Thread nD τ) arg18 fullShare d18
        ∗ (iprop(owns (c : Thread nD τ) arg9 fullShare x7 ∗ owns (c : Thread nD τ) arg10 fullShare x8 ∗ owns (c : Thread nD τ) arg11 fullShare x9
            ∗ owns (c : Thread nD τ) arg12 fullShare x10 ∗ owns (c : Thread nD τ) arg15 fullShare (k0_pay3 x7)
            ∗ owns (c : Thread nD τ) arg16 fullShare (k0_pay4 x8) ∗ owns (c : Thread nD τ) arg17 fullShare (k0_pay5 x9)
            ∗ owns (c : Thread nD τ) arg18 fullShare (if k0_cond1 i = 1#1 then k0_pay6 x10 else d18)) -∗ K ⟨⟩))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [k0_part1_eq_skeleton]; unfold k0_part1_skel
  unfold owns
  iintro ⟨⟨%f7, %hf7, H7⟩, ⟨%f8, %hf8, H8⟩, ⟨%f9, %hf9, H9⟩, ⟨%f10, %hf10, H10⟩, ⟨%d13, %f13, -, H13⟩, ⟨%d14, %f14, -, H14⟩, ⟨%d15, %f15, -, H15⟩,
    ⟨%f16, %hf16, H16⟩, Hk⟩
  obtain rfl := hf7; obtain rfl := hf8; obtain rfl := hf9; obtain rfl := hf10; obtain rfl := hf16
  by_cases hc : k0_cond1 i = 1#1
  · rw [if_pos hc]
    sl_exec (disch := first | sl_exact hc)
    sl_step
    iapply Hk
    isplitl [H7]; · iexists _; isplitr; swap; · iexact H7
                    ipureintro; rfl
    isplitl [H8]; · iexists _; isplitr; swap; · iexact H8
                    ipureintro; rfl
    isplitl [H9]; · iexists _; isplitr; swap; · iexact H9
                    ipureintro; rfl
    isplitl [H10]; · iexists _; isplitr; swap; · iexact H10
                     ipureintro; rfl
    isplitl [H13]; · iexists _; isplitr; swap; · iexact H13
                     ipureintro; exact (View.read_writes_full ..).trans (congrArg k0_pay3 (View.readAt_full ..))
    isplitl [H14]; · iexists _; isplitr; swap; · iexact H14
                     ipureintro; exact (View.read_writes_full ..).trans (congrArg k0_pay4 (View.readAt_full ..))
    isplitl [H15]; · iexists _; isplitr; swap; · iexact H15
                     ipureintro; exact (View.read_writes_full ..).trans (congrArg k0_pay5 (View.readAt_full ..))
    iexists _; isplitr; swap; · iexact H16
    ipureintro; exact (View.read_writes_full ..).trans (congrArg k0_pay6 (View.readAt_full ..))
  · rw [if_neg hc]
    sl_exec (disch := first | sl_exact hc)
    sl_step
    iapply Hk
    isplitl [H7]; · iexists _; isplitr; swap; · iexact H7
                    ipureintro; rfl
    isplitl [H8]; · iexists _; isplitr; swap; · iexact H8
                    ipureintro; rfl
    isplitl [H9]; · iexists _; isplitr; swap; · iexact H9
                    ipureintro; rfl
    isplitl [H10]; · iexists _; isplitr; swap; · iexact H10
                     ipureintro; rfl
    isplitl [H13]; · iexists _; isplitr; swap; · iexact H13
                     ipureintro; exact (View.read_writes_full ..).trans (congrArg k0_pay3 (View.readAt_full ..))
    isplitl [H14]; · iexists _; isplitr; swap; · iexact H14
                     ipureintro; exact (View.read_writes_full ..).trans (congrArg k0_pay4 (View.readAt_full ..))
    isplitl [H15]; · iexists _; isplitr; swap; · iexact H15
                     ipureintro; exact (View.read_writes_full ..).trans (congrArg k0_pay5 (View.readAt_full ..))
    iexists _; isplitr; swap; · iexact H16
    ipureintro; rfl

end Cert.Kernel4Ideal.Mix

end
-- ==== Proof.MixIRun.lean ====
module

public import proofs.«01_k».proof.Proof.MixICast

@[expose] public section

set_option maxRecDepth 16384
set_option maxHeartbeats 1000000

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen

variable {F : FTy → Type} [FloatOps F]

local notation "𝕄" => MT nD τ sig Unit (Elt F) ℕ (UR sig nD τ) ℕ

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x2x512x512 .bf16) (harg5 : arg5.IsWhole)
    (arg6 : Memref sig .tc .vmem S1024x1024 .bf16) (harg6 : arg6.IsWhole)
    (arg7 : Memref sig .tc .vmem S1024x5632 .bf16) (harg7 : arg7.IsWhole)
    (arg8 : Memref sig .tc .vmem S2816x1024 .bf16) (harg8 : arg8.IsWhole)
    (arg9 : Memref sig .tc .vmem S1x16x6144 .f32) (harg9 : arg9.IsWhole)
    (arg10 : Memref sig .tc .vmem S1x32x1024 .f32) (harg10 : arg10.IsWhole)
    (arg11 : Memref sig .tc .vmem S1x16x5632 .f32) (harg11 : arg11.IsWhole)
    (arg12 : Memref sig .tc .vmem S1x176x1024 .f32) (harg12 : arg12.IsWhole)
    (arg13 : Memref sig .tc .vmem S1x512x1024 .f32) (harg13 : arg13.IsWhole)
    (arg14 : Memref sig .tc .vmem S1x512x1024 .bf16) (harg14 : arg14.IsWhole)
    (arg15 : Memref sig .tc .vmem S16x6144 .bf16) (harg15 : arg15.IsWhole)
    (arg16 : Memref sig .tc .vmem S32x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)

    (x0 : Vec F S1x512x1024 .f32) (x1 : Vec F S1x8x1024 .f32) (x2 : Vec F S8x1024 .f32) (x3 : Vec F S1x2x512x512 .bf16) (x4 : Vec F S1024x1024 .bf16) (x5 : Vec F S1024x5632 .bf16) (x6 : Vec F S2816x1024 .bf16) (x7 : Vec F S1x16x6144 .f32) (x8 : Vec F S1x32x1024 .f32) (x9 : Vec F S1x16x5632 .f32) (x10 : Vec F S1x176x1024 .f32)

/-- What the body leaves in the buffers of its two large results and in its two scratch arrays, as the pieces it stored (last first), with the proof that the
    body, on buffers holding the blocks it reads, hands those back as they were, leaves the four cast blocks cast (the last one only at the points where its
    condition holds, and otherwise as it was found), and leaves the other four buffers with those pieces written. -/
noncomputable def mixRun :
    Σ' (L11 : List (View.Piece (Elt F) S1x512x1024 .f32)), Σ' (L12 : List (View.Piece (Elt F) S1x512x1024 .bf16)),
    Σ' (LT0 : List (View.Piece (Elt F) S512x1024 .bf16)), { LT1 : List (View.Piece (Elt F) S512x2816 .bf16) //
      ∀ (d16 : Vec F S176x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
            ∗ (∃ d, owns (c : Thread nD τ) arg13 fullShare d) ∗ (∃ d, owns (c : Thread nD τ) arg14 fullShare d) ∗ (∃ d, owns (c : Thread nD τ) arg15 fullShare d)
            ∗ (∃ d, owns (c : Thread nD τ) arg16 fullShare d) ∗ (∃ d, owns (c : Thread nD τ) arg17 fullShare d) ∗ owns (c : Thread nD τ) arg18 fullShare d16
            ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
                ∗ (∃ f, arg13.view.loc (c : Thread nD τ) ↦[arg13.view.set]{fullShare} arg13.view.writes (Elt F) f L11)
                ∗ (∃ f, arg14.view.loc (c : Thread nD τ) ↦[arg14.view.set]{fullShare} arg14.view.writes (Elt F) f L12)
                ∗ owns (c : Thread nD τ) arg15 fullShare (k0_pay3 x7) ∗ owns (c : Thread nD τ) arg16 fullShare (k0_pay4 x8) ∗ owns (c : Thread nD τ) arg17 fullShare (k0_pay5 x9)
                ∗ owns (c : Thread nD τ) arg18 fullShare (if k0_cond1 i = 1#1 then k0_pay6 x10 else d16)
                ∗ (∃ f, arg19.view.loc (c : Thread nD τ) ↦[arg19.view.set]{fullShare} arg19.view.writes (Elt F) f LT0)
                ∗ (∃ f, arg20.view.loc (c : Thread nD τ) ↦[arg20.view.set]{fullShare} arg20.view.writes (Elt F) f LT1)) -∗ K ⟨⟩))
          ⊢ wp frame (wpE (defs₀ (F := F)) Variants.none c none) E (cc0_mix_ffn_fourier i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun d16 E K => ?run⟩
  case run =>
    rw [cc0_mix_ffn_fourier_eq_skeleton]; unfold cc0_mix_ffn_fourier_skel
    rw [wp_bind]
    iintro ⟨H0, H1, H2, H3, H4, H5, H6, H7, H8, H9, H10, H11, H12, H13, H14, H15, H16, HS0, HS1, Hk⟩
    iapply (cast_part c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x7 x8 x9 x10 d16 E _)
    isplitl [H7]; · iexact H7
    isplitl [H8]; · iexact H8
    isplitl [H9]; · iexact H9
    isplitl [H10]; · iexact H10
    isplitl [H13]; · iexact H13
    isplitl [H14]; · iexact H14
    isplitl [H15]; · iexact H15
    isplitl [H16]; · iexact H16
    iintro ⟨H7, H8, H9, H10, H13, H14, H15, H16⟩
    simp only [k0_part2_eq_skeleton, k0_part3_eq_skeleton, k0_part4_eq_skeleton, k0_part5_eq_skeleton, k0_part6_eq_skeleton, k0_part7_eq_skeleton,
      k0_part8_eq_skeleton, k0_part9_eq_skeleton, k0_part10_eq_skeleton, k0_part11_eq_skeleton, k0_part12_eq_skeleton, k0_part13_eq_skeleton,
      k0_part14_eq_skeleton, k0_part15_eq_skeleton]
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H11 with ⟨%d11, %f11, -, H11⟩
    icases H12 with ⟨%d12, %f12, -, H12⟩
    icases HS0 with ⟨%ds0, %fs0, -, HS0⟩
    icases HS1 with ⟨%ds1, %fs1, -, HS1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexact H14
    isplitl [H15]; · iexact H15
    isplitl [H16]; · iexact H16
    isplitl [HS0]; · iexists _; iexact HS0
    iexists _; iexact HS1

end Cert.Kernel4Ideal.Mix

end
-- ==== Proof.MixIBody.lean ====
/- One grid point of the call that ends a Fourier layer, over any scalars. The body works on two halves of 256 rows and on eleven chunks
   of 256 hidden columns, every step a copy of the same text. These definitions state that once; `stream_eq` and `next_eq` say that what
   the point stores in its two large results is built of them. -/
module

public import proofs.«01_k».proof.Proof.MixIRun
public import proofs.«01_k».proof.Proof.FfnBody

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.View (Piece)
open Cert.Kernel2Ideal.Ffn (rowV addV normV keepV projV hiddenV leaveV blockV inbX inbT inbG inbH inbW inbA inbL mod_lt gate_le up_le)

variable {F : FTy → Type} [FloatOps F]

/-- One group of columns, as its rows. -/
def groupV (f : Vec F S1x1x256x512 .bf16) : FVec F S256x512 .bf16 := shapeCast S256x512 f shapeCasts_S1x1x256x512_S256x512

/-- The two groups side by side, times the output weights. -/
def pairV (z0 z1 : FVec F S256x512 .bf16) (w : Vec F S1024x1024 .bf16) : FVec F S256x1024 .f32 :=
  matmul dot_S256x1024_S1024x1024_S256x1024_1_0_0_1_n_n none
    (concatenate S256x1024 1 [⟨S256x512, z0⟩, ⟨S256x512, z1⟩] concatenates_S256x512_S256x512_S256x1024_d1) w (constant S256x1024 .f32 0x00000000#32)

/-- Normalized rows as the second result keeps them. -/
def emitV (x : FVec F S256x1024 .f32) : FVec F S1x256x1024 .bf16 :=
  shapeCast S1x256x1024 (truncf .bf16 x bitsLt_bf16_f32) shapeCasts_S256x1024_S1x256x1024

section Body

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x2x512x512 .bf16) (harg5 : arg5.IsWhole)
    (arg6 : Memref sig .tc .vmem S1024x1024 .bf16) (harg6 : arg6.IsWhole)
    (arg7 : Memref sig .tc .vmem S1024x5632 .bf16) (harg7 : arg7.IsWhole)
    (arg8 : Memref sig .tc .vmem S2816x1024 .bf16) (harg8 : arg8.IsWhole)
    (arg9 : Memref sig .tc .vmem S1x16x6144 .f32) (harg9 : arg9.IsWhole)
    (arg10 : Memref sig .tc .vmem S1x32x1024 .f32) (harg10 : arg10.IsWhole)
    (arg11 : Memref sig .tc .vmem S1x16x5632 .f32) (harg11 : arg11.IsWhole)
    (arg12 : Memref sig .tc .vmem S1x176x1024 .f32) (harg12 : arg12.IsWhole)
    (arg13 : Memref sig .tc .vmem S1x512x1024 .f32) (harg13 : arg13.IsWhole)
    (arg14 : Memref sig .tc .vmem S1x512x1024 .bf16) (harg14 : arg14.IsWhole)
    (arg15 : Memref sig .tc .vmem S16x6144 .bf16) (harg15 : arg15.IsWhole)
    (arg16 : Memref sig .tc .vmem S32x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)
    (x0 : Vec F S1x512x1024 .f32) (x1 : Vec F S1x8x1024 .f32) (x2 : Vec F S8x1024 .f32) (x3 : Vec F S1x2x512x512 .bf16) (x4 : Vec F S1024x1024 .bf16)
    (x5 : Vec F S1024x5632 .bf16) (x6 : Vec F S2816x1024 .bf16) (x7 : Vec F S1x16x6144 .f32) (x8 : Vec F S1x32x1024 .f32) (x9 : Vec F S1x16x5632 .f32)
    (x10 : Vec F S1x176x1024 .f32)

theorem half0 : 0 < 2 := by decide
theorem half1 : 1 < 2 := by decide

theorem inbF (n r : ℕ) (hn : n < 2) (h : r < 2) : ∀ a, (![0, n, 256 * r, 0] : Fin 4 → ℕ) a + S1x1x256x512.size a ≤ S1x2x512x512.size a := by
  intro a; fin_cases a <;> simp [S1x1x256x512, S1x2x512x512] <;> omega

/-- Row `r` of the modulation table, as the body loads it. -/
def tAt (r : ℕ) (h : r < 8) : FVec F S1x1024 .f32 :=
  rowV (View.readAt (Elt F) arg3.view (Rect.unit (s := S1x8x1024) ![0, r, 0] S1x1x1024.size (inbT r h)).toLoadRect (harg3.unread x1))

/-- Row `r` of the gains, as the body loads it. -/
def gAt (r : ℕ) (h : r < 8) : Vec F S1x1024 .f32 :=
  View.readAt (Elt F) arg4.view (Rect.unit (s := S8x1024) ![r, 0] S1x1024.size (inbG r h)).toLoadRect (harg4.unread x2)

/-- Group `n` of half `r`. -/
def zAt (n r : ℕ) (hn : n < 2) (h : r < 2) : FVec F S256x512 .bf16 :=
  groupV (View.readAt (Elt F) arg5.view (Rect.unit (s := S1x2x512x512) ![0, n, 256 * r, 0] S1x1x256x512.size (inbF n r hn h)).toLoadRect (harg5.unread x3))

/-- Half `r` after the mixer's update. -/
def blendAt (r : ℕ) (h : r < 2) : FVec F S256x1024 .f32 :=
  addV (View.readAt (Elt F) arg2.view (Rect.unit (s := S1x512x1024) ![0, 256 * r, 0] S1x256x1024.size (inbX r h)).toLoadRect (harg2.unread x0))
    (tAt arg3 harg3 x1 0 (by decide))
    (pairV (zAt arg5 harg5 x3 0 r (by decide) h) (zAt arg5 harg5 x3 1 r (by decide) h)
      (View.readAt (Elt F) arg6.view (Rect.unit (s := S1024x1024) ![0, 0] S1024x1024.size inb_S1024x1024_S1024x1024_0_0).toLoadRect (harg6.unread x4)))

/-- Half `r`, normalized for the feed-forward layer, as the scratch keeps it. -/
def readyAt (r : ℕ) (h : r < 2) : FVec F S256x1024 .bf16 :=
  keepV (normV (blendAt arg2 harg2 arg3 harg3 arg5 harg5 arg6 harg6 x0 x1 x3 x4 r h) (gAt arg4 harg4 x2 0 (by decide)) (tAt arg3 harg3 x1 1 (by decide)) (tAt arg3 harg3 x1 2 (by decide)))

/-- What the scratch of the normalized rows holds: both halves, last first. -/
def readyL : List (Piece (Elt F) S512x1024 .bf16) :=
  [⟨Rect.unit (s := S512x1024) ![256 * 1, 0] S256x1024.size (inbH 1 half1), readyAt arg2 harg2 arg3 harg3 arg4 harg4 arg5 harg5 arg6 harg6 x0 x1 x2 x3 x4 1 half1⟩,
    ⟨Rect.unit (s := S512x1024) ![256 * 0, 0] S256x1024.size (inbH 0 half0), readyAt arg2 harg2 arg3 harg3 arg4 harg4 arg5 harg5 arg6 harg6 x0 x1 x2 x3 x4 0 half0⟩]

/-- Half `r` of the normalized rows, as the body loads it back. -/
def hAt (r : ℕ) (h : r < 2) : Vec F S256x1024 .bf16 :=
  arg19.view.readCov (readyL arg2 harg2 arg3 harg3 arg4 harg4 arg5 harg5 arg6 harg6 x0 x1 x2 x3 x4) (Rect.unit (s := S512x1024) ![256 * r, 0] S256x1024.size (inbH r h)).toLoadRect

/-- The 256 columns of the inward weights from column `o` on, as the body loads them. -/
def wAt (o : ℕ) (h : o ≤ 5376) : Vec F S1024x256 .bf16 :=
  View.readAt (Elt F) arg7.view (Rect.unit (s := S1024x5632) ![0, o] S1024x256.size (inbW o h)).toLoadRect (harg7.unread x5)

/-- Chunk `n` of the hidden layer on half `r`. -/
def hiddenAt (r n : ℕ) (h : r < 2) (hn : n < 11) : FVec F S256x256 .bf16 :=
  hiddenV (hAt arg2 harg2 arg3 harg3 arg4 harg4 arg5 harg5 arg6 harg6 arg19 x0 x1 x2 x3 x4 r h) (wAt arg7 harg7 x5 (256 * n) (gate_le n hn)) (wAt arg7 harg7 x5 (2816 + 256 * n) (up_le n hn))

/-- What the scratch of the hidden layer holds after chunk `n`: the pieces, last first. -/
def hiddenL : ℕ → List (Piece (Elt F) S512x2816 .bf16)
  | 0 => [⟨Rect.unit (s := S512x2816) ![256 * 1, 256 * (0 % 11)] S256x256.size (inbA 1 (0 % 11) half1 (mod_lt 0)), hiddenAt arg2 harg2 arg3 harg3 arg4 harg4 arg5 harg5 arg6 harg6 arg7 harg7 arg19 x0 x1 x2 x3 x4 x5 1 (0 % 11) half1 (mod_lt 0)⟩,
      ⟨Rect.unit (s := S512x2816) ![256 * 0, 256 * (0 % 11)] S256x256.size (inbA 0 (0 % 11) half0 (mod_lt 0)), hiddenAt arg2 harg2 arg3 harg3 arg4 harg4 arg5 harg5 arg6 harg6 arg7 harg7 arg19 x0 x1 x2 x3 x4 x5 0 (0 % 11) half0 (mod_lt 0)⟩]
  | n + 1 => ⟨Rect.unit (s := S512x2816) ![256 * 1, 256 * ((n + 1) % 11)] S256x256.size (inbA 1 ((n + 1) % 11) half1 (mod_lt (n + 1))),
        hiddenAt arg2 harg2 arg3 harg3 arg4 harg4 arg5 harg5 arg6 harg6 arg7 harg7 arg19 x0 x1 x2 x3 x4 x5 1 ((n + 1) % 11) half1 (mod_lt (n + 1))⟩ ::
      ⟨Rect.unit (s := S512x2816) ![256 * 0, 256 * ((n + 1) % 11)] S256x256.size (inbA 0 ((n + 1) % 11) half0 (mod_lt (n + 1))),
        hiddenAt arg2 harg2 arg3 harg3 arg4 harg4 arg5 harg5 arg6 harg6 arg7 harg7 arg19 x0 x1 x2 x3 x4 x5 0 ((n + 1) % 11) half0 (mod_lt (n + 1))⟩ ::
      hiddenL n

/-- Half `r` of the hidden layer, as the body loads it back. -/
def aAt (r : ℕ) (h : r < 2) : Vec F S256x2816 .bf16 :=
  arg20.view.readCov (hiddenL arg2 harg2 arg3 harg3 arg4 harg4 arg5 harg5 arg6 harg6 arg7 harg7 arg19 x0 x1 x2 x3 x4 x5 10) (Rect.unit (s := S512x2816) ![256 * r, 0] S256x2816.size (inbL r h)).toLoadRect

/-- What the first result holds between the two layers: both halves after the mixer's update, last first. -/
def blendL : List (Piece (Elt F) S1x512x1024 .f32) :=
  [⟨Rect.unit (s := S1x512x1024) ![0, 256 * 1, 0] S1x256x1024.size (inbX 1 half1), blockV (blendAt arg2 harg2 arg3 harg3 arg5 harg5 arg6 harg6 x0 x1 x3 x4 1 half1)⟩,
    ⟨Rect.unit (s := S1x512x1024) ![0, 256 * 0, 0] S1x256x1024.size (inbX 0 half0), blockV (blendAt arg2 harg2 arg3 harg3 arg5 harg5 arg6 harg6 x0 x1 x3 x4 0 half0)⟩]

/-- Half `r` after the feed-forward update, from what the first result holds before. -/
def streamAt (r : ℕ) (h : r < 2) (L : List (Piece (Elt F) S1x512x1024 .f32)) : FVec F S256x1024 .f32 :=
  addV (arg13.view.readCov L (Rect.unit (s := S1x512x1024) ![0, 256 * r, 0] S1x256x1024.size (inbX r h)).toLoadRect) (tAt arg3 harg3 x1 3 (by decide))
    (leaveV (aAt arg2 harg2 arg3 harg3 arg4 harg4 arg5 harg5 arg6 harg6 arg7 harg7 arg19 arg20 x0 x1 x2 x3 x4 x5 r h)
      (View.readAt (Elt F) arg8.view (Rect.unit (s := S2816x1024) ![0, 0] S2816x1024.size inb_S2816x1024_S2816x1024_0_0).toLoadRect (harg8.unread x6)))

/-- Half `r` of the second result. -/
def nextAt (r : ℕ) (h : r < 2) (L : List (Piece (Elt F) S1x512x1024 .f32)) : FVec F S1x256x1024 .bf16 :=
  emitV (normV (streamAt arg2 harg2 arg3 harg3 arg4 harg4 arg5 harg5 arg6 harg6 arg7 harg7 arg8 harg8 arg13 arg19 arg20 x0 x1 x2 x3 x4 x5 x6 r h L) (gAt arg4 harg4 x2 1 (by decide)) (tAt arg3 harg3 x1 4 (by decide)) (tAt arg3 harg3 x1 5 (by decide)))

/-- What the first result holds once its half 0 is stored. -/
def firstL : List (Piece (Elt F) S1x512x1024 .f32) :=
  ⟨Rect.unit (s := S1x512x1024) ![0, 256 * 0, 0] S1x256x1024.size (inbX 0 half0), blockV (streamAt arg2 harg2 arg3 harg3 arg4 harg4 arg5 harg5 arg6 harg6 arg7 harg7 arg8 harg8 arg13 arg19 arg20 x0 x1 x2 x3 x4 x5 x6 0 half0 (blendL arg2 harg2 arg3 harg3 arg5 harg5 arg6 harg6 x0 x1 x3 x4))⟩ :: blendL arg2 harg2 arg3 harg3 arg5 harg5 arg6 harg6 x0 x1 x3 x4

/-- What the first result holds at the end. -/
def streamL : List (Piece (Elt F) S1x512x1024 .f32) :=
  ⟨Rect.unit (s := S1x512x1024) ![0, 256 * 1, 0] S1x256x1024.size (inbX 1 half1), blockV (streamAt arg2 harg2 arg3 harg3 arg4 harg4 arg5 harg5 arg6 harg6 arg7 harg7 arg8 harg8 arg13 arg19 arg20 x0 x1 x2 x3 x4 x5 x6 1 half1 (firstL arg2 harg2 arg3 harg3 arg4 harg4 arg5 harg5 arg6 harg6 arg7 harg7 arg8 harg8 arg13 arg19 arg20 x0 x1 x2 x3 x4 x5 x6))⟩ :: firstL arg2 harg2 arg3 harg3 arg4 harg4 arg5 harg5 arg6 harg6 arg7 harg7 arg8 harg8 arg13 arg19 arg20 x0 x1 x2 x3 x4 x5 x6

/-- What the second result holds at the end. -/
def nextL : List (Piece (Elt F) S1x512x1024 .bf16) :=
  [⟨Rect.unit (s := S1x512x1024) ![0, 256 * 1, 0] S1x256x1024.size (inbX 1 half1), nextAt arg2 harg2 arg3 harg3 arg4 harg4 arg5 harg5 arg6 harg6 arg7 harg7 arg8 harg8 arg13 arg19 arg20 x0 x1 x2 x3 x4 x5 x6 1 half1 (firstL arg2 harg2 arg3 harg3 arg4 harg4 arg5 harg5 arg6 harg6 arg7 harg7 arg8 harg8 arg13 arg19 arg20 x0 x1 x2 x3 x4 x5 x6)⟩,
    ⟨Rect.unit (s := S1x512x1024) ![0, 256 * 0, 0] S1x256x1024.size (inbX 0 half0), nextAt arg2 harg2 arg3 harg3 arg4 harg4 arg5 harg5 arg6 harg6 arg7 harg7 arg8 harg8 arg13 arg19 arg20 x0 x1 x2 x3 x4 x5 x6 0 half0 (blendL arg2 harg2 arg3 harg3 arg5 harg5 arg6 harg6 x0 x1 x3 x4)⟩]

set_option maxHeartbeats 8000000 in
/-- What the body stores in its first large result. -/
theorem stream_eq : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10).1 = streamL arg2 harg2 arg3 harg3 arg4 harg4 arg5 harg5 arg6 harg6 arg7 harg7 arg8 harg8 arg13 arg19 arg20 x0 x1 x2 x3 x4 x5 x6 := rfl

set_option maxHeartbeats 8000000 in
/-- What the body stores in its second large result. -/
theorem next_eq : (mixRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10).2.1 = nextL arg2 harg2 arg3 harg3 arg4 harg4 arg5 harg5 arg6 harg6 arg7 harg7 arg8 harg8 arg13 arg19 arg20 x0 x1 x2 x3 x4 x5 x6 := rfl

end Body

end Cert.Kernel4Ideal.Mix

end
-- ==== Proof.MixRow.lean ====
/- The row functions of a Fourier layer's second half: its mixer has one product over 1024 columns; the rest is as in the other layers. -/
module

public import proofs.«01_k».proof.Proof.FfnRow

@[expose] public section

noncomputable section

namespace Cert.Mix

open Idealize.ShloMosaic Cert.Ffn

/-- The row after the mixer's update: the transformed columns times the output weights, scaled, added. -/
def blended (x g z : Fin 1024 → EReal) (wo : Fin 1024 → Fin 1024 → EReal) (j : Fin 1024) : EReal :=
  x j + g j * ∑ k : Fin 1024, z k * wo k j

section Layer

variable (x : Fin 8 → Fin 4096 → Fin 1024 → EReal) (md nx : Fin 8 → Fin 6 → Fin 1024 → EReal) (gn gx : Fin 1024 → EReal)
  (f : Fin 8 → Fin 2 → Fin 4096 → Fin 512 → EReal) (wo : Fin 1024 → Fin 1024 → EReal) (win : Fin 1024 → Fin 5632 → EReal) (wout : Fin 2816 → Fin 1024 → EReal)
  (b : Fin 8) (T : Fin 4096)

/-- A token's row after the mixer. -/
def blendRow : Fin 1024 → EReal :=
  blended (x b T) (md b 2) (fun k => f b ⟨k.val / 512, by omega⟩ T ⟨k.val % 512, by omega⟩) wo

/-- That row normalized for the feed-forward layer. -/
def readyRow : Fin 1024 → EReal := normRow (blendRow x md f wo b T) gn (md b 3) (md b 4)

/-- The row after the feed-forward layer: the residual stream the layer hands on. -/
def streamRow : Fin 1024 → EReal := fed (blendRow x md f wo b T) (readyRow x md gn f wo b T) (md b 5) win wout

/-- That row normalized with the next layer's modulation: the next mixer's input. -/
def nextRow : Fin 1024 → EReal := normRow (streamRow x md gn f wo win wout b T) gx (nx b 0) (nx b 1)

end Layer

end Cert.Mix

end
-- ==== Proof.MixIPoint.lean ====
/- The body's steps read at an index, at the reals with infinities. -/
module

public import proofs.«01_k».proof.Proof.MixIBody
public import proofs.«01_k».proof.Proof.MixRow
public import proofs.«01_k».proof.Proof.FfnPoint
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.Kernel4Ideal.Mix

open Cert.Kernel4Ideal Cert.Kernel4Ideal.Gen Cert.Ffn Cert.Mix Idealize.ShloMosaic Idealize.ShloMosaic.TcCoe Idealize.SL.Sem
open Cert.Kernel2Ideal.Ffn (rowV addV normV keepV projV hiddenV leaveV blockV inbX inbT inbG inbH inbW inbA inbL mod_lt gate_le up_le
  rowV_apply addV_apply normV_apply keepV_apply projV_apply hiddenV_apply leaveV_apply blockV_apply row_lt)

theorem groupV_apply (f : Vec Ideal S1x1x256x512 .bf16) (t : Fin 256) (j : Fin 512) : groupV f (ix2 t j) = f (ix4 0 0 t j) := by
  unfold groupV
  pointwise

theorem pairV_apply (z0 z1 : FVec Ideal S256x512 .bf16) (w : Vec Ideal S1024x1024 .bf16) (t : Fin 256) (j : Fin 1024) (Z : Fin 2 → Fin 512 → EReal)
    (h0 : ∀ d, z0 (ix2 t d) = Z 0 d) (h1 : ∀ d, z1 (ix2 t d) = Z 1 d) :
    pairV z0 z1 w (ix2 t j) = ∑ k : Fin 1024, Z ⟨k.val / 512, by omega⟩ ⟨k.val % 512, by omega⟩ * w (ix2 k j) := by
  unfold pairV
  pointwise
  refine Eq.trans ?_ (Fin.sum_univ_add (a := 512) (b := 512) fun k : Fin 1024 => Z ⟨k.val / 512, by omega⟩ ⟨k.val % 512, by omega⟩ * w (ix2 k j)).symm
  refine congrArg₂ (· + ·) (Finset.sum_congr rfl fun k _ => ?_) (Finset.sum_congr rfl fun k _ => ?_)
  · rw [h0]
    exact congrArg₂ (· * ·) (congr (congrArg Z (Fin.ext (by simp only [Fin.isValue, Fin.val_castAdd]; omega))) (Fin.ext (by simp only [Fin.val_castAdd]; omega))) rfl
  · rw [h1]
    exact congrArg₂ (· * ·) (congr (congrArg Z (Fin.ext (by simp only [Fin.isValue, Fin.val_natAdd]; omega))) (Fin.ext (by simp only [Fin.val_natAdd]; omega))) rfl

theorem emitV_apply (x : FVec Ideal S256x1024 .f32) (t : Fin 256) (j : Fin 1024) : emitV x (ix3 0 t j) = x (ix2 t j) := by
  unfold emitV
  pointwise

section Rows

variable (x0 : Vec Ideal S1x512x1024 .f32) (x1 : Vec Ideal S1x8x1024 .f32) (x2 : Vec Ideal S8x1024 .f32) (x3 : Vec Ideal S1x2x512x512 .bf16)
    (x4 : Vec Ideal S1024x1024 .bf16) (x5 : Vec Ideal S1024x5632 .bf16) (x6 : Vec Ideal S2816x1024 .bf16)

/-- Row `n` of the block after the mixer's update. -/
def blendR (n : Fin 512) : Fin 1024 → EReal :=
  blended (fun j => x0 (ix3 0 n j)) (fun j => x1 (ix3 0 0 j))
    (fun k => x3 (ix4 0 (⟨k.val / 512, by omega⟩ : Fin 2) n (⟨k.val % 512, by omega⟩ : Fin 512))) (fun k j => x4 (ix2 k j))

/-- Row `n`, normalized for the feed-forward layer. -/
def readyR (n : Fin 512) : Fin 1024 → EReal :=
  normRow (blendR x0 x1 x3 x4 n) (fun j => x2 (ix2 0 j)) (fun j => x1 (ix3 0 1 j)) (fun j => x1 (ix3 0 2 j))

/-- Row `n` of the first result. -/
def streamR (n : Fin 512) : Fin 1024 → EReal :=
  fed (blendR x0 x1 x3 x4 n) (readyR x0 x1 x2 x3 x4 n) (fun j => x1 (ix3 0 3 j)) (fun d k => x5 (ix2 d k)) (fun k j => x6 (ix2 k j))

/-- Row `n` of the second result. -/
def nextR (n : Fin 512) : Fin 1024 → EReal :=
  normRow (streamR x0 x1 x2 x3 x4 x5 x6 n) (fun j => x2 (ix2 1 j)) (fun j => x1 (ix3 0 4 j)) (fun j => x1 (ix3 0 5 j))

end Rows

/-- Two halves of 256 rows, the second stored last, hold at an index what they hold at its row and column. -/
theorem halves_apply {e : EltTy} (R : Fin 512 → Fin 1024 → Elt Ideal e) (v0 v1 : Vec Ideal S1x256x1024 e) (L : List (View.Piece (Elt Ideal) S1x512x1024 e))
    (h0 : ∀ (t : Fin 256) (j : Fin 1024), v0 (ix3 0 t j) = R ⟨256 * 0 + t, row_lt 0 half0 t⟩ j)
    (h1 : ∀ (t : Fin 256) (j : Fin 1024), v1 (ix3 0 t j) = R ⟨256 * 1 + t, row_lt 1 half1 t⟩ j) (y : S1x512x1024.Idx) :
    View.canon ((⟨Rect.unit (s := S1x512x1024) ![0, 256 * 1, 0] S1x256x1024.size (inbX 1 half1), v1⟩ : View.Piece (Elt Ideal) S1x512x1024 e) ::
      ⟨Rect.unit (s := S1x512x1024) ![0, 256 * 0, 0] S1x256x1024.size (inbX 0 half0), v0⟩ :: L) y = R (y 1) (y 2) := by
  have y0' : (y 0).val < 1 := (y 0).isLt
  have y1' : (y 1).val < 512 := (y 1).isLt
  by_cases hy : (y 1).val < 256
  · rw [View.canon_cons_of_not_mem]
    · have e : y = (Rect.unit (s := S1x512x1024) ![0, 256 * 0, 0] S1x256x1024.size (inbX 0 half0)).emb (ix3 0 (⟨(y 1).val, hy⟩ : Fin 256) (y 2)) := by
        funext a
        fin_cases a <;> refine Fin.ext ?_ <;> simp [Rect.emb_apply] <;> omega
      refine (congrArg (View.canon _) e).trans ?_
      refine (View.canon_cons_emb _ _ _ _).trans ((h0 _ _).trans ?_)
      exact congrArg (fun u => R u (y 2)) (Fin.ext (by simp))
    · intro hm
      obtain ⟨x, hx⟩ := (Rect.unit (s := S1x512x1024) ![0, 256 * 1, 0] S1x256x1024.size (inbX 1 half1)).exists_idx_of_mem hm
      have e : 256 * 1 + 1 * (x 1).val = (y 1).val := congrArg (fun z : S1x512x1024.Idx => (z 1).val) hx
      omega
  · have e : y = (Rect.unit (s := S1x512x1024) ![0, 256 * 1, 0] S1x256x1024.size (inbX 1 half1)).emb (ix3 0 (⟨(y 1).val - 256, by omega⟩ : Fin 256) (y 2)) := by
      funext a
      fin_cases a <;> refine Fin.ext ?_ <;> simp [Rect.emb_apply] <;> omega
    refine (congrArg (View.canon _) e).trans ?_
    refine (View.canon_cons_emb _ _ _ _).trans ((h1 _ _).trans ?_)
    exact congrArg (fun u => R u (y 2)) (Fin.ext (by simp; omega))

section Body

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x2x512x512 .bf16) (harg5 : arg5.IsWhole)
    (arg6 : Memref sig .tc .vmem S1024x1024 .bf16) (harg6 : arg6.IsWhole)
    (arg7 : Memref sig .tc .vmem S1024x5632 .bf16) (harg7 : arg7.IsWhole)
    (arg8 : Memref sig .tc .vmem S2816x1024 .bf16) (harg8 : arg8.IsWhole)
    (arg9 : Memref sig .tc .vmem S1x16x6144 .f32) (harg9 : arg9.IsWhole)
    (arg10 : Memref sig .tc .vmem S1x32x1024 .f32) (harg10 : arg10.IsWhole)
    (arg11 : Memref sig .tc .vmem S1x16x5632 .f32) (harg11 : arg11.IsWhole)
    (arg12 : Memref sig .tc .vmem S1x176x1024 .f32) (harg12 : arg12.IsWhole)
    (arg13 : Memref sig .tc .vmem S1x512x1024 .f32) (harg13 : arg13.IsWhole)
    (arg14 : Memref sig .tc .vmem S1x512x1024 .bf16) (harg14 : arg14.IsWhole)
    (arg15 : Memref sig .tc .vmem S16x6144 .bf16) (harg15 : arg15.IsWhole)
    (arg16 : Memref sig .tc .vmem S32x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)
    (x0 : Vec Ideal S1x512x1024 .f32) (x1 : Vec Ideal S1x8x1024 .f32) (x2 : Vec Ideal S8x1024 .f32) (x3 : Vec Ideal S1x2x512x512 .bf16)
    (x4 : Vec Ideal S1024x1024 .bf16) (x5 : Vec Ideal S1024x5632 .bf16) (x6 : Vec Ideal S2816x1024 .bf16)

theorem tAt_apply (r : ℕ) (h : r < 8) (j : Fin 1024) : tAt arg3 harg3 x1 r h (ix2 0 j) = x1 (ix3 0 ⟨r, h⟩ j) := by
  unfold tAt
  rw [rowV_apply, View.readAt_eq_ld, harg3.read_unread]
  pointwise

theorem gAt_apply (r : ℕ) (h : r < 8) (j : Fin 1024) : gAt arg4 harg4 x2 r h (ix2 0 j) = x2 (ix2 ⟨r, h⟩ j) := by
  unfold gAt
  rw [View.readAt_eq_ld, harg4.read_unread]
  pointwise

theorem zAt_apply (n r : ℕ) (hn : n < 2) (h : r < 2) (t : Fin 256) (j : Fin 512) :
    zAt arg5 harg5 x3 n r hn h (ix2 t j) = x3 (ix4 0 ⟨n, hn⟩ ⟨256 * r + t, row_lt r h t⟩ j) := by
  unfold zAt
  rw [groupV_apply, View.readAt_eq_ld, harg5.read_unread]
  pointwise

theorem wAt_apply (o : ℕ) (h : o ≤ 5376) (d : Fin 1024) (n : Fin 256) : wAt arg7 harg7 x5 o h (ix2 d n) = x5 (ix2 d ⟨o + n, by omega⟩) := by
  unfold wAt
  rw [View.readAt_eq_ld, harg7.read_unread]
  pointwise

/-- A row after the mixer's update. -/
theorem blendAt_apply (r : ℕ) (h : r < 2) (t : Fin 256) (j : Fin 1024) :
    blendAt arg2 harg2 arg3 harg3 arg5 harg5 arg6 harg6 x0 x1 x3 x4 r h (ix2 t j) = blendR x0 x1 x3 x4 ⟨256 * r + t, row_lt r h t⟩ j := by
  unfold blendAt blendR blended
  rw [addV_apply, tAt_apply, pairV_apply (Z := fun n d => x3 (ix4 0 n ⟨256 * r + t, row_lt r h t⟩ d))
    (h0 := fun d => zAt_apply arg5 harg5 x3 0 r _ h t d) (h1 := fun d => zAt_apply arg5 harg5 x3 1 r _ h t d),
    View.readAt_eq_ld, harg2.read_unread, View.readAt_eq_ld, harg6.read_unread]
  pointwise

/-- A row, normalized for the feed-forward layer. -/
theorem readyAt_apply (r : ℕ) (h : r < 2) (t : Fin 256) (j : Fin 1024) :
    readyAt arg2 harg2 arg3 harg3 arg4 harg4 arg5 harg5 arg6 harg6 x0 x1 x2 x3 x4 r h (ix2 t j) = readyR x0 x1 x2 x3 x4 ⟨256 * r + t, row_lt r h t⟩ j := by
  unfold readyAt readyR
  rw [keepV_apply, normV_apply]
  simp only [blendAt_apply, gAt_apply, tAt_apply]
  rfl

/-- A normalized row read back. -/
theorem hAt_apply (r : ℕ) (h : r < 2) (t : Fin 256) (j : Fin 1024) :
    hAt arg2 harg2 arg3 harg3 arg4 harg4 arg5 harg5 arg6 harg6 arg19 x0 x1 x2 x3 x4 r h (ix2 t j) = readyR x0 x1 x2 x3 x4 ⟨256 * r + t, row_lt r h t⟩ j := by
  unfold hAt readyL
  obtain rfl | rfl : r = 0 ∨ r = 1 := by omega
  · rw [View.readCov_skip _ _ _ _ _ rfl, View.readCov_cons_toLoadRect, readyAt_apply]
  · rw [View.readCov_cons_toLoadRect, readyAt_apply]

/-- A chunk of the hidden layer. -/
theorem hiddenAt_apply (r n : ℕ) (h : r < 2) (hn : n < 11) (t k : Fin 256) :
    hiddenAt arg2 harg2 arg3 harg3 arg4 harg4 arg5 harg5 arg6 harg6 arg7 harg7 arg19 x0 x1 x2 x3 x4 x5 r n h hn (ix2 t k)
      = hiddenUnit (readyR x0 x1 x2 x3 x4 ⟨256 * r + t, row_lt r h t⟩) (fun d k => x5 (ix2 d k)) ⟨256 * n + k, by omega⟩ := by
  unfold hiddenAt hiddenUnit
  rw [hiddenV_apply, projV_apply, projV_apply]
  simp only [hAt_apply, wAt_apply, Nat.add_assoc]

/-- The hidden layer as one array. -/
def hiddenG : Vec Ideal S512x2816 .bf16 := fun y => hiddenUnit (readyR x0 x1 x2 x3 x4 (y 0)) (fun d k => x5 (ix2 d k)) (y 1)

theorem hidden_tile (r n : ℕ) (h : r < 2) (hn : n < 11) (y : S512x2816.Idx) :
    View.TileAt y (![256 * r, 256 * n] : Fin 2 → ℕ) S256x256.size (hiddenAt arg2 harg2 arg3 harg3 arg4 harg4 arg5 harg5 arg6 harg6 arg7 harg7 arg19 x0 x1 x2 x3 x4 x5 r n h hn) (hiddenG x0 x1 x2 x3 x4 x5 y) := by
  intro x hx
  have e0 : (y 0).val = 256 * r + (x 0).val := hx 0
  have e1 : (y 1).val = 256 * n + (x 1).val := hx 1
  have ex : x = ix2 (x 0) (x 1) := by funext a; fin_cases a <;> rfl
  rw [ex]
  refine (hiddenAt_apply arg2 harg2 arg3 harg3 arg4 harg4 arg5 harg5 arg6 harg6 arg7 harg7 arg19 x0 x1 x2 x3 x4 x5 r n h hn (x 0) (x 1)).trans ?_
  unfold hiddenG
  exact congr (congrArg (fun u => hiddenUnit (readyR x0 x1 x2 x3 x4 u) _) (Fin.ext e0.symm)) (Fin.ext e1.symm)

theorem hidden_allAt (n : ℕ) (hn : n < 11) (y : S512x2816.Idx) : View.AllAt (hiddenL arg2 harg2 arg3 harg3 arg4 harg4 arg5 harg5 arg6 harg6 arg7 harg7 arg19 x0 x1 x2 x3 x4 x5 n) y (hiddenG x0 x1 x2 x3 x4 x5 y) := by
  have two : ∀ (k : ℕ) (hk : k < 11) (L : List (View.Piece (Elt Ideal) S512x2816 .bf16)), View.AllAt L y (hiddenG x0 x1 x2 x3 x4 x5 y) →
      View.AllAt (⟨Rect.unit (s := S512x2816) ![256 * 1, 256 * k] S256x256.size (inbA 1 k half1 hk), hiddenAt arg2 harg2 arg3 harg3 arg4 harg4 arg5 harg5 arg6 harg6 arg7 harg7 arg19 x0 x1 x2 x3 x4 x5 1 k half1 hk⟩ ::
        ⟨Rect.unit (s := S512x2816) ![256 * 0, 256 * k] S256x256.size (inbA 0 k half0 hk), hiddenAt arg2 harg2 arg3 harg3 arg4 harg4 arg5 harg5 arg6 harg6 arg7 harg7 arg19 x0 x1 x2 x3 x4 x5 0 k half0 hk⟩ :: L) y (hiddenG x0 x1 x2 x3 x4 x5 y) :=
    fun k hk L hL => View.allAt_cons_unit _ _ _ _ _ (hidden_tile arg2 harg2 arg3 harg3 arg4 harg4 arg5 harg5 arg6 harg6 arg7 harg7 arg19 x0 x1 x2 x3 x4 x5 1 k half1 hk y) (View.allAt_cons_unit _ _ _ _ _ (hidden_tile arg2 harg2 arg3 harg3 arg4 harg4 arg5 harg5 arg6 harg6 arg7 harg7 arg19 x0 x1 x2 x3 x4 x5 0 k half0 hk y) hL)
  induction n with
  | zero => exact two (0 % 11) (mod_lt 0) [] (View.allAt_nil _ _)
  | succ n ih => exact two ((n + 1) % 11) (mod_lt (n + 1)) _ (ih (by omega))

/-- A row of the hidden layer read back. -/
theorem aAt_apply (r : ℕ) (h : r < 2) (t : Fin 256) (k : Fin 2816) :
    aAt arg2 harg2 arg3 harg3 arg4 harg4 arg5 harg5 arg6 harg6 arg7 harg7 arg19 arg20 x0 x1 x2 x3 x4 x5 r h (ix2 t k) = hiddenUnit (readyR x0 x1 x2 x3 x4 ⟨256 * r + t, row_lt r h t⟩) (fun d k => x5 (ix2 d k)) k := by
  unfold aAt
  rw [View.readCov_eq_canon']
  show View.canon _ ((Rect.unit (s := S512x2816) ![256 * r, 0] S256x2816.size (inbL r h)).toLoadRect.idx (ix2 t k)) = _
  have e : (Rect.unit (s := S512x2816) ![256 * r, 0] S256x2816.size (inbL r h)).toLoadRect.idx (ix2 t k) = ix2 ⟨256 * r + t, row_lt r h t⟩ k := by
    pointwise
  rw [e]
  exact View.canon_eq_of_allAt _ _ _ (View.cover_of_tiled (s := S512x2816) _ S256x256.size rfl _) (hidden_allAt arg2 harg2 arg3 harg3 arg4 harg4 arg5 harg5 arg6 harg6 arg7 harg7 arg19 x0 x1 x2 x3 x4 x5 10 (by decide) _)

/-- A row of the first result, where it holds that row after the mixer's update before. -/
theorem streamAt_apply (r : ℕ) (h : r < 2) (L : List (View.Piece (Elt Ideal) S1x512x1024 .f32))
    (hL : arg13.view.readCov L (Rect.unit (s := S1x512x1024) ![0, 256 * r, 0] S1x256x1024.size (inbX r h)).toLoadRect = blockV (blendAt arg2 harg2 arg3 harg3 arg5 harg5 arg6 harg6 x0 x1 x3 x4 r h))
    (t : Fin 256) (j : Fin 1024) :
    streamAt arg2 harg2 arg3 harg3 arg4 harg4 arg5 harg5 arg6 harg6 arg7 harg7 arg8 harg8 arg13 arg19 arg20 x0 x1 x2 x3 x4 x5 x6 r h L (ix2 t j) = streamR x0 x1 x2 x3 x4 x5 x6 ⟨256 * r + t, row_lt r h t⟩ j := by
  unfold streamAt streamR fed
  rw [hL]
  simp only [addV_apply, blockV_apply, blendAt_apply, tAt_apply, leaveV_apply, aAt_apply]
  rw [View.readAt_eq_ld, harg8.read_unread]
  pointwise

/-- A row of the second result. -/
theorem nextAt_apply (r : ℕ) (h : r < 2) (L : List (View.Piece (Elt Ideal) S1x512x1024 .f32))
    (hL : arg13.view.readCov L (Rect.unit (s := S1x512x1024) ![0, 256 * r, 0] S1x256x1024.size (inbX r h)).toLoadRect = blockV (blendAt arg2 harg2 arg3 harg3 arg5 harg5 arg6 harg6 x0 x1 x3 x4 r h))
    (t : Fin 256) (j : Fin 1024) :
    nextAt arg2 harg2 arg3 harg3 arg4 harg4 arg5 harg5 arg6 harg6 arg7 harg7 arg8 harg8 arg13 arg19 arg20 x0 x1 x2 x3 x4 x5 x6 r h L (ix3 0 t j) = nextR x0 x1 x2 x3 x4 x5 x6 ⟨256 * r + t, row_lt r h t⟩ j := by
  unfold nextAt nextR
  rw [emitV_apply, normV_apply]
  simp only [streamAt_apply arg2 harg2 arg3 harg3 arg4 harg4 arg5 harg5 arg6 harg6 arg7 harg7 arg8 harg8 arg13 arg19 arg20 x0 x1 x2 x3 x4 x5 x6 r h L hL, gAt_apply, tAt_apply]
  rfl

theorem blend_first : arg13.view.readCov (blendL arg2 harg2 arg3 harg3 arg5 harg5 arg6 harg6 x0 x1 x3 x4) (Rect.unit (s := S1x512x1024) ![0, 256 * 0, 0] S1x256x1024.size (inbX 0 half0)).toLoadRect
    = blockV (blendAt arg2 harg2 arg3 harg3 arg5 harg5 arg6 harg6 x0 x1 x3 x4 0 half0) := by
  unfold blendL
  rw [View.readCov_skip _ _ _ _ _ rfl, View.readCov_cons_toLoadRect]

theorem blend_second : arg13.view.readCov (firstL arg2 harg2 arg3 harg3 arg4 harg4 arg5 harg5 arg6 harg6 arg7 harg7 arg8 harg8 arg13 arg19 arg20 x0 x1 x2 x3 x4 x5 x6) (Rect.unit (s := S1x512x1024) ![0, 256 * 1, 0] S1x256x1024.size (inbX 1 half1)).toLoadRect
    = blockV (blendAt arg2 harg2 arg3 harg3 arg5 harg5 arg6 harg6 x0 x1 x3 x4 1 half1) := by
  unfold firstL blendL
  rw [View.readCov_skip _ _ _ _ _ rfl, View.readCov_cons_toLoadRect]

/-- What the point stores in its first large result, at an index. -/
theorem stream_apply (y : S1x512x1024.Idx) : View.canon (streamL arg2 harg2 arg3 harg3 arg4 harg4 arg5 harg5 arg6 harg6 arg7 harg7 arg8 harg8 arg13 arg19 arg20 x0 x1 x2 x3 x4 x5 x6) y = streamR x0 x1 x2 x3 x4 x5 x6 (y 1) (y 2) := by
  unfold streamL
  conv_lhs => unfold firstL
  exact halves_apply (e := .f32) (streamR x0 x1 x2 x3 x4 x5 x6) _ _ _
    (fun t j => (blockV_apply _ t j).trans (streamAt_apply arg2 harg2 arg3 harg3 arg4 harg4 arg5 harg5 arg6 harg6 arg7 harg7 arg8 harg8 arg13 arg19 arg20 x0 x1 x2 x3 x4 x5 x6 0 half0 _ (blend_first arg2 harg2 arg3 harg3 arg5 harg5 arg6 harg6 arg13 x0 x1 x3 x4) t j))
    (fun t j => (blockV_apply _ t j).trans (streamAt_apply arg2 harg2 arg3 harg3 arg4 harg4 arg5 harg5 arg6 harg6 arg7 harg7 arg8 harg8 arg13 arg19 arg20 x0 x1 x2 x3 x4 x5 x6 1 half1 _ (blend_second arg2 harg2 arg3 harg3 arg4 harg4 arg5 harg5 arg6 harg6 arg7 harg7 arg8 harg8 arg13 arg19 arg20 x0 x1 x2 x3 x4 x5 x6) t j)) y

/-- What the point stores in its second large result, at an index. -/
theorem next_apply (y : S1x512x1024.Idx) : View.canon (nextL arg2 harg2 arg3 harg3 arg4 harg4 arg5 harg5 arg6 harg6 arg7 harg7 arg8 harg8 arg13 arg19 arg20 x0 x1 x2 x3 x4 x5 x6) y = nextR x0 x1 x2 x3 x4 x5 x6 (y 1) (y 2) := by
  unfold nextL
  exact halves_apply (e := .bf16) (nextR x0 x1 x2 x3 x4 x5 x6) _ _ _
    (fun t j => nextAt_apply arg2 harg2 arg3 harg3 arg4 harg4 arg5 harg5 arg6 harg6 arg7 harg7 arg8 harg8 arg13 arg19 arg20 x0 x1 x2 x3 x4 x5 x6 0 half0 _ (blend_first arg2 harg2 arg3 harg3 arg5 harg5 arg6 harg6 arg13 x0 x1 x3 x4) t j)
    (fun t j => nextAt_apply arg2 harg2 arg3 harg3 arg4 harg4 arg5 harg5 arg6 harg6 arg7 harg7 arg8 harg8 arg13 arg19 arg20 x0 x1 x2 x3 x4 x5 x6 1 half1 _ (blend_second arg2 harg2 arg3 harg3 arg4 harg4 arg5 harg5 arg6 harg6 arg7 harg7 arg8 harg8 arg13 arg19 arg20 x0 x1 x2 x3 x4 x5 x6) t j) y

end Body

end Cert.Kernel4Ideal.Mix

end
-- ==== Proof.MixIFrame.lean ====
module

public import proofs.«01_k».proof.Proof.MixIRun
public import Idealize.ShloMosaic.Lib.Claim

@[expose] public section

set_option maxRecDepth 16384
set_option maxHeartbeats 1000000

noncomputable section

namespace Cert.Kernel4Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The two scratch arrays of the call. -/
abbrev scr0 : Memref sig .tc .vmem S512x1024 .bf16 := Memref.whole cc0_scratch0
abbrev scr1 : Memref sig .tc .vmem S512x2816 .bf16 := Memref.whole cc0_scratch1

/-- The body's run at grid point `t`, on the buffers it is called with there and the blocks they hold. -/
noncomputable abbrev runAt (c : Dev nD) (t : Fin cfg0.N) :=
  mixRun (F := F) c (grid0.coords t)
    (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (st0_9 t) (hstage0_9 ((cfg0.slots t 9).cast nbuf0_9))
    (st0_10 t) (hstage0_10 ((cfg0.slots t 10).cast nbuf0_10))
    (st0_11 t) (hstage0_11 ((cfg0.slots t 11).cast nbuf0_11))
    (st0_12 t) (hstage0_12 ((cfg0.slots t 12).cast nbuf0_12))
    (st0_13 t) (hstage0_13 ((cfg0.slots t 13).cast nbuf0_13))
    (st0_14 t) (hstage0_14 ((cfg0.slots t 14).cast nbuf0_14))
    (st0_15 t) (hstage0_15 ((cfg0.slots t 15).cast nbuf0_15))
    (st0_16 t) (hstage0_16 ((cfg0.slots t 16).cast nbuf0_16))
    scr0 (Memref.isWhole_whole _) scr1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A buffer of the first and of the second result, through which their contents are stated. -/
abbrev view11 : View sig .tc .vmem S1x512x1024 .f32 := (Memref.whole cc0_stg11_0 : Memref sig .tc .vmem S1x512x1024 .f32).view
abbrev view12 : View sig .tc .vmem S1x512x1024 .bf16 := (Memref.whole cc0_stg12_0 : Memref sig .tc .vmem S1x512x1024 .bf16).view

/-- The pieces of the first result fill its block, -/
theorem cover11 (c : Dev nD) (t : Fin cfg0.N) (y : S1x512x1024.Idx) : ∃ pc ∈ (runAt m c t).1, y ∈ pc.1.set :=
  View.cover_of_tiledL (runAt m c t).1 S1x256x1024.size (by sl_kernel_rfl) y

/-- and so do those of the second. -/
theorem cover12 (c : Dev nD) (t : Fin cfg0.N) (y : S1x512x1024.Idx) : ∃ pc ∈ (runAt m c t).2.1, y ∈ pc.1.set :=
  View.cover_of_tiledL (runAt m c t).2.1 S1x256x1024.size (by sl_kernel_rfl) y

/-- What the body leaves in the buffer of the first result at `t`, -/
def out11 (c : Dev nD) (t : Fin cfg0.N) : Vec F S1x512x1024 .f32 :=
  view11.read (Elt F) (view11.writes (Elt F) view11.junk (runAt m c t).1)

/-- and in that of the second. -/
def out12 (c : Dev nD) (t : Fin cfg0.N) : Vec F S1x512x1024 .bf16 :=
  view12.read (Elt F) (view12.writes (Elt F) view12.junk (runAt m c t).2.1)

/-! ## The proof data -/

/-- What every buffer holds after the body at each point: an input its block, the two large results what the run leaves, a cast block the cast of the
    block it is made from. The last cast block is stated so at every point, also at those where the body does not store it: the block it is made from is
    then the same as at the point that did. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 m c t
    | ⟨12, _⟩ => out12 m c t
    | ⟨13, _⟩ => k0_pay3 (iblk m c 7 t)
    | ⟨14, _⟩ => k0_pay4 (iblk m c 8 t)
    | ⟨15, _⟩ => k0_pay5 (iblk m c 9 t)
    | ⟨16, _⟩ => k0_pay6 (iblk m c 10 t)
    | ⟨_ + 17, h⟩ => absurd h (Nat.not_lt.2 (Nat.le_add_left _ _))
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-! What each buffer holds after the body, one by one. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = out11 m c t := by dsimp only [dats]
theorem after_12 (c : Dev nD) (t : Fin cfg0.N) : (dats m 0 c).after 12 t = out12 m c t := by dsimp only [dats]
theorem after_13 (c : Dev nD) (t : Fin cfg0.N) : (dats m 0 c).after 13 t = k0_pay3 (iblk m c 7 t) := by dsimp only [dats]
theorem after_14 (c : Dev nD) (t : Fin cfg0.N) : (dats m 0 c).after 14 t = k0_pay4 (iblk m c 8 t) := by dsimp only [dats]
theorem after_15 (c : Dev nD) (t : Fin cfg0.N) : (dats m 0 c).after 15 t = k0_pay5 (iblk m c 9 t) := by dsimp only [dats]
theorem after_16 (c : Dev nD) (t : Fin cfg0.N) : (dats m 0 c).after 16 t = k0_pay6 (iblk m c 10 t) := by dsimp only [dats]

/-! An input's buffer holds its block when the body runs. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-! ## The last cast block -/

/-- The body stores the last cast block at every fourth point. -/
theorem cond_iff : ∀ t : Fin cfg0.N, k0_cond1 (grid0.coords t) = 1#1 ↔ t.val % 4 = 0 := by
  decide +kernel

/-- Where it does not, the block's buffer is idle, -/
theorem idle_iff : ∀ t : Fin cfg0.N, cfg0.idle 16 (grid0.coords t) = decide (t.val % 4 ≠ 0) := by
  decide +kernel

/-- and at every fourth point, the last of a run of four, the buffer is written back. -/
theorem flush_eq : ∀ t : Fin cfg0.N, (cfg0.win 16).flush t = decide (t.val % 4 = 3) := by
  decide +kernel

/-- The source block is the same as at the point before, except where a run of four begins. -/
theorem source_step (c : Dev nD) (t : Fin cfg0.N) (h : t.val % 4 ≠ 0) :
    iblk m c 10 t = iblk m c 10 ⟨t.val - 1, Nat.lt_of_le_of_lt (Nat.sub_le _ _) t.isLt⟩ := by
  have hf : (cfg0.win 10).fetch t = false := Bool.eq_false_iff.mpr fun e => h ((fetch0_10 t).mp e)
  exact ((before_10 m c t (iblk m c 10 t)).symm.trans
    ((dats m 0 c).before_unfetched_in 10 rfl t hf (fun _ => rfl) _)).trans (after_10 m c _)

/-- What the buffer holds when the body runs, except where a run of four begins, is the cast of the source block there. -/
theorem found16 (c : Dev nD) (t : Fin cfg0.N) (h : t.val % 4 ≠ 0) (d) : (dats m 0 c).before 16 t d = k0_pay6 (iblk m c 10 t) := by
  induction hn : t.val % 4 using Nat.strongRecOn generalizing t with
  | _ n ih =>
    have ht : t.val ≠ 0 := fun e => h (by rw [e])
    have hlt : t.val - 1 < cfg0.N := Nat.lt_of_le_of_lt (Nat.sub_le _ _) t.isLt
    rw [(dats m 0 c).before_of_pos 16 t ht ((cfg0.win 16).fetch_out rfl t), flush_eq,
      if_neg (by simp only [decide_eq_true_eq]; omega), source_step m c t h]
    unfold Dat.left
    by_cases h0 : (t.val - 1) % 4 = 0
    · rw [idle_iff, decide_eq_false (by simpa using h0)]
      exact after_16 m c _
    · rw [idle_iff, decide_eq_true (by simpa using h0)]
      exact ih _ (by simp only; omega) ⟨t.val - 1, hlt⟩ h0 rfl

/-! ## The body obligation -/

/-- The scratch arrays and the generator's register, as the body is handed them. -/
theorem scratch_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (dats m 0 c).leavesExact 16 t)

/-- The last cast block's buffer after the body, from what the run leaves in it. -/
theorem leaves16 (c : Dev nD) (t : Fin cfg0.N) (d) :
    (owns (c : Thread nD τ) (st0_16 t) fullShare
        (if k0_cond1 (grid0.coords t) = 1#1 then k0_pay6 (iblk m c 10 t) else (dats m 0 c).before 16 t d) : sProp 𝕄)
      ⊢ (dats m 0 c).leavesExact 16 t := by
  by_cases h0 : t.val % 4 = 0
  · rw [if_pos ((cond_iff t).mpr h0)]
    unfold Dat.leavesExact
    rw [idle_iff, decide_eq_false (by simpa using h0), after_16]
  · rw [if_neg fun e => h0 ((cond_iff t).mp e)]
    unfold Dat.leavesExact
    rw [idle_iff, decide_eq_true (by simpa using h0), flush_eq]
    by_cases h3 : t.val % 4 = 3
    · rw [decide_eq_true h3, found16 m c t h0, after_16]
    · rw [decide_eq_false h3]
      iintro H
      iexists d
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl, scratch_eq]
  unfold out11 out12
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runAt m c t).2.2.2.2 ((dats m 0 c).before 16 t d16) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexact H16
  isplitl [HS0]; · iexact HS0
  isplitl [HS1]; · iexact HS1
  iintro ⟨H0, H1, H2, H3, H4, H5, H6, H7, H8, H9, H10, ⟨%e11, H11⟩, ⟨%e12, H12⟩, H13, H14, H15, H16, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover11 m c t)
  isplitl [H12]
  · unfold owns; iexists _; isplitr
    swap; · iexact H12
    ipureintro; exact View.read_writes_of_cover _ _ _ _ _ (cover12 m c t)
  isplitl [H13]; · iexact H13
  isplitl [H14]; · iexact H14
  isplitl [H15]; · iexact H15
  iapply (leaves16 m c t d16)
  iexact H16

/-- The body the pipeline calls at point `t`. -/
theorem body_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- The launch: every run ends, with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the run ends, the argument arrays end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_quiescent m ρ))

end Cert.Kernel4Ideal.Mix

end
-- ==== Proof.MixIBlocks.lean ====
module

public import proofs.«01_k».proof.Proof.MixIPoint
public import proofs.«01_k».proof.Proof.MixIFrame
public import Idealize.ShloMosaic.Lib.Pointwise
public import Idealize.ShloMosaic.Lib.StableHlo.ReadAt
public import Idealize.ShloMosaic.Lib.Pipeline.ValueKit.Geometry

/-!
# The results of the call that ends a Fourier layer

What the host's two tables hold, what the windows bring to a grid point, and the six result arrays those points leave.
-/

@[expose] public section

set_option maxRecDepth 16384

noncomputable section

namespace Cert.Kernel4Ideal.Mix

open Cert.Kernel4Ideal Cert.Kernel4Ideal.Gen Cert.Ffn Cert.Mix Idealize.ShloMosaic Idealize.ShloMosaic.TcCoe Idealize.SL.Sem

variable (m : (ℓ : Loc nD τ sig) → Buf (Elt Ideal) ℓ) (ρ : Dev nD → PrngReg) (c : Dev nD)

theorem index0 : ∀ t : Fin cfg0.N, (cfg0.win 0).index t = ![(grid0.coords t 0).val, (grid0.coords t 1).val, 0] := by decide +kernel
theorem index1 : ∀ t : Fin cfg0.N, (cfg0.win 1).index t = ![(grid0.coords t 0).val, 0, 0] := by decide +kernel
theorem index2 : ∀ t : Fin cfg0.N, (cfg0.win 2).index t = ![0, 0] := by decide +kernel
theorem index3 : ∀ t : Fin cfg0.N, (cfg0.win 3).index t = ![(grid0.coords t 0).val, 0, (grid0.coords t 1).val, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, t.val, 0] := by decide +kernel
theorem index8 : ∀ t : Fin cfg0.N, (cfg0.win 8).index t = ![0, t.val, 0] := by decide +kernel
theorem index9 : ∀ t : Fin cfg0.N, (cfg0.win 9).index t = ![1, t.val, 0] := by decide +kernel
theorem index10 : ∀ t : Fin cfg0.N, (cfg0.win 10).index t = ![1, t.val / 4, 0] := by decide +kernel
theorem index11 : ∀ t : Fin cfg0.N, (cfg0.win 11).index t = ![(grid0.coords t 0).val, (grid0.coords t 1).val, 0] := by decide +kernel
theorem index12 : ∀ t : Fin cfg0.N, (cfg0.win 12).index t = ![(grid0.coords t 0).val, (grid0.coords t 1).val, 0] := by decide +kernel
theorem index13 : ∀ t : Fin cfg0.N, (cfg0.win 13).index t = ![t.val, 0] := by decide +kernel
theorem index14 : ∀ t : Fin cfg0.N, (cfg0.win 14).index t = ![t.val, 0] := by decide +kernel
theorem index15 : ∀ t : Fin cfg0.N, (cfg0.win 15).index t = ![t.val, 0] := by decide +kernel
theorem index16 : ∀ t : Fin cfg0.N, (cfg0.win 16).index t = ![t.val / 4, 0] := by decide +kernel

/-- The modulation table's first four rows are the layer's last four vectors. -/
theorem table_mod (b : Fin 8) (r : Fin 8) (hr : r.val < 4) (j : Fin 1024) :
    V (F := Ideal) m c main_v3 (ix3 b r j) = m ((c : Thread nD τ).loc main_arg1) (ix3 b ⟨2 + r.val, by omega⟩ j) := by
  unfold V
  after_reads_at
  rw [dif_pos hr]
  after_reads_at

/-- Its next two are the next layer's first two. -/
theorem table_next (b : Fin 8) (r : Fin 2) (j : Fin 1024) :
    V (F := Ideal) m c main_v3 (ix3 b (⟨4 + r.val, by omega⟩ : Fin 8) j) = m ((c : Thread nD τ).loc main_arg2) (ix3 b ⟨r.val, by omega⟩ j) := by
  unfold V
  after_reads_at
  after_reads_at

/-- The first row of gains is the feed-forward layer's. -/
theorem table_gain (j : Fin 1024) : V (F := Ideal) m c main_v7 (ix2 0 j) = m ((c : Thread nD τ).loc main_arg3) (ix1 j) := by
  unfold V
  after_reads_at
  after_reads_at

/-- The second is the next mixer's. -/
theorem table_next_gain (j : Fin 1024) : V (F := Ideal) m c main_v7 (ix2 1 j) = m ((c : Thread nD τ).loc main_arg4) (ix1 j) := by
  unfold V
  after_reads_at
  after_reads_at

theorem tile_lt (s : Fin 8) (n : Fin 512) : 512 * s.val + n.val < 4096 := by omega

section Windows

variable (t : Fin cfg0.N) (b s : Fin 8) (hb : (grid0.coords t 0).val = b.val) (hs : (grid0.coords t 1).val = s.val)

include hb hs in
theorem win0 (n : Fin 512) (j : Fin 1024) : iblk m c 0 t (ix3 0 n j) = V m c main_arg0 (ix3 b ⟨512 * s.val + n.val, tile_lt s n⟩ j) := by
  blk_ext [iblk, index0 t]

include hb in
theorem win1 (r : Fin 8) (j : Fin 1024) : iblk m c 1 t (ix3 0 r j) = V m c main_v3 (ix3 b r j) := by
  blk_ext [iblk, index1 t]

theorem win2 (r : Fin 8) (j : Fin 1024) : iblk m c 2 t (ix2 r j) = V m c main_v7 (ix2 r j) := by
  blk_ext [iblk, index2 t]

include hb hs in
theorem win3 (h : Fin 2) (n j : Fin 512) : iblk m c 3 t (ix4 0 h n j) = V m c main_arg5 (ix4 b h ⟨512 * s.val + n.val, tile_lt s n⟩ j) := by
  blk_ext [iblk, index3 t]

theorem win4 (k : Fin 1024) (j : Fin 1024) : iblk m c 4 t (ix2 k j) = V m c main_arg6 (ix2 k j) := by
  blk_ext [iblk, index4 t]

theorem win5 (d : Fin 1024) (k : Fin 5632) : iblk m c 5 t (ix2 d k) = V m c main_arg7 (ix2 d k) := by
  blk_ext [iblk, index5 t]

theorem win6 (k : Fin 2816) (j : Fin 1024) : iblk m c 6 t (ix2 k j) = V m c main_arg8 (ix2 k j) := by
  blk_ext [iblk, index6 t]

end Windows

section Casts

variable (t : Fin 64)

theorem rows16 (r : Fin 16) : 16 * t.val + r.val < 1024 := by omega
theorem rows32 (r : Fin 32) : 32 * t.val + r.val < 2048 := by omega
theorem rows176 (r : Fin 176) : 176 * (t.val / 4) + r.val < 2816 := by omega

theorem win7 (t : Fin cfg0.N) (r : Fin 16) (j : Fin 6144) : iblk m c 7 t (ix3 0 r j) = V m c main_arg9 (ix3 0 ⟨16 * t.val + r.val, rows16 t r⟩ j) := by
  blk_ext [iblk, index7 t]

theorem win8 (t : Fin cfg0.N) (r : Fin 32) (j : Fin 1024) : iblk m c 8 t (ix3 0 r j) = V m c main_arg10 (ix3 0 ⟨32 * t.val + r.val, rows32 t r⟩ j) := by
  blk_ext [iblk, index8 t]

theorem win9 (t : Fin cfg0.N) (r : Fin 16) (j : Fin 5632) : iblk m c 9 t (ix3 0 r j) = V m c main_arg11 (ix3 1 ⟨16 * t.val + r.val, rows16 t r⟩ j) := by
  blk_ext [iblk, index9 t]

theorem win10 (t : Fin cfg0.N) (r : Fin 176) (j : Fin 1024) : iblk m c 10 t (ix3 0 r j) = V m c main_arg12 (ix3 1 ⟨176 * (t.val / 4) + r.val, rows176 t r⟩ j) := by
  blk_ext [iblk, index10 t]

theorem cast7 (v : Vec Ideal S1x16x6144 .f32) (r : Fin 16) (j : Fin 6144) : k0_pay3 v (ix2 r j) = v (ix3 0 r j) := by
  unfold k0_pay3
  pointwise

theorem cast8 (v : Vec Ideal S1x32x1024 .f32) (r : Fin 32) (j : Fin 1024) : k0_pay4 v (ix2 r j) = v (ix3 0 r j) := by
  unfold k0_pay4
  pointwise

theorem cast9 (v : Vec Ideal S1x16x5632 .f32) (r : Fin 16) (j : Fin 5632) : k0_pay5 v (ix2 r j) = v (ix3 0 r j) := by
  unfold k0_pay5
  pointwise

theorem cast10 (v : Vec Ideal S1x176x1024 .f32) (r : Fin 176) (j : Fin 1024) : k0_pay6 v (ix2 r j) = v (ix3 0 r j) := by
  unfold k0_pay6
  pointwise

end Casts

/-- The residual stream the call computes. -/
def stream : Vec Ideal S8x4096x1024 .f32 := fun y =>
  streamRow (fun b T j => m ((c : Thread nD τ).loc main_arg0) (ix3 b T j)) (fun b r j => m ((c : Thread nD τ).loc main_arg1) (ix3 b r j))
    (fun j => m ((c : Thread nD τ).loc main_arg3) (ix1 j)) (fun b h T j => m ((c : Thread nD τ).loc main_arg5) (ix4 b h T j))
    (fun k j => m ((c : Thread nD τ).loc main_arg6) (ix2 k j)) (fun d k => m ((c : Thread nD τ).loc main_arg7) (ix2 d k))
    (fun k j => m ((c : Thread nD τ).loc main_arg8) (ix2 k j)) (y 0) (y 1) (y 2)

/-- The next mixer's input the call computes. -/
def next : Vec Ideal S8x4096x1024 .bf16 := fun y =>
  nextRow (fun b T j => m ((c : Thread nD τ).loc main_arg0) (ix3 b T j)) (fun b r j => m ((c : Thread nD τ).loc main_arg1) (ix3 b r j))
    (fun b r j => m ((c : Thread nD τ).loc main_arg2) (ix3 b r j)) (fun j => m ((c : Thread nD τ).loc main_arg3) (ix1 j))
    (fun j => m ((c : Thread nD τ).loc main_arg4) (ix1 j)) (fun b h T j => m ((c : Thread nD τ).loc main_arg5) (ix4 b h T j))
    (fun k j => m ((c : Thread nD τ).loc main_arg6) (ix2 k j)) (fun d k => m ((c : Thread nD τ).loc main_arg7) (ix2 d k))
    (fun k j => m ((c : Thread nD τ).loc main_arg8) (ix2 k j)) (y 0) (y 1) (y 2)

/-- The four cast weights: one layer of each stack. -/
def castA : Vec Ideal S1024x6144 .bf16 := fun y => m ((c : Thread nD τ).loc main_arg9) (ix3 0 (y 0) (y 1))
def castB : Vec Ideal S2048x1024 .bf16 := fun y => m ((c : Thread nD τ).loc main_arg10) (ix3 0 (y 0) (y 1))
def castC : Vec Ideal S1024x5632 .bf16 := fun y => m ((c : Thread nD τ).loc main_arg11) (ix3 1 (y 0) (y 1))
def castD : Vec Ideal S2816x1024 .bf16 := fun y => m ((c : Thread nD τ).loc main_arg12) (ix3 1 (y 0) (y 1))

section Point

variable (t : Fin cfg0.N) (b s : Fin 8) (hb : (grid0.coords t 0).val = b.val) (hs : (grid0.coords t 1).val = s.val) (n : Fin 512) (j : Fin 1024)

include hb hs in
/-- The rows a point computes are rows of the residual stream. -/
theorem streamR_eq :
    streamR (iblk m c 0 t) (iblk m c 1 t) (iblk m c 2 t) (iblk m c 3 t) (iblk m c 4 t) (iblk m c 5 t) (iblk m c 6 t) n j
      = stream m c (ix3 b ⟨512 * s.val + n.val, tile_lt s n⟩ j) := by
  have e0 : ∀ j, iblk m c 0 t (ix3 0 n j) = m ((c : Thread nD τ).loc main_arg0) (ix3 b ⟨512 * s.val + n.val, tile_lt s n⟩ j) :=
    fun j => (win0 m c t b s hb hs n j).trans (congrFun (V_main_arg0 m c) _)
  have t0 : ∀ j, iblk m c 1 t (ix3 0 0 j) = m ((c : Thread nD τ).loc main_arg1) (ix3 b 2 j) :=
    fun j => (win1 m c t b hb 0 j).trans (table_mod m c b 0 (by decide) j)
  have t1 : ∀ j, iblk m c 1 t (ix3 0 1 j) = m ((c : Thread nD τ).loc main_arg1) (ix3 b 3 j) :=
    fun j => (win1 m c t b hb 1 j).trans (table_mod m c b 1 (by decide) j)
  have t2 : ∀ j, iblk m c 1 t (ix3 0 2 j) = m ((c : Thread nD τ).loc main_arg1) (ix3 b 4 j) :=
    fun j => (win1 m c t b hb 2 j).trans (table_mod m c b 2 (by decide) j)
  have t3 : ∀ j, iblk m c 1 t (ix3 0 3 j) = m ((c : Thread nD τ).loc main_arg1) (ix3 b 5 j) :=
    fun j => (win1 m c t b hb 3 j).trans (table_mod m c b 3 (by decide) j)
  have g0 : ∀ j, iblk m c 2 t (ix2 0 j) = m ((c : Thread nD τ).loc main_arg3) (ix1 j) := fun j => (win2 m c t 0 j).trans (table_gain m c j)
  have e3 : ∀ h j, iblk m c 3 t (ix4 0 h n j) = m ((c : Thread nD τ).loc main_arg5) (ix4 b h ⟨512 * s.val + n.val, tile_lt s n⟩ j) :=
    fun h j => (win3 m c t b s hb hs h n j).trans (congrFun (V_main_arg5 m c) _)
  have e4 : ∀ k j, iblk m c 4 t (ix2 k j) = m ((c : Thread nD τ).loc main_arg6) (ix2 k j) := fun k j => (win4 m c t k j).trans (congrFun (V_main_arg6 m c) _)
  have e5 : ∀ d k, iblk m c 5 t (ix2 d k) = m ((c : Thread nD τ).loc main_arg7) (ix2 d k) := fun d k => (win5 m c t d k).trans (congrFun (V_main_arg7 m c) _)
  have e6 : ∀ k j, iblk m c 6 t (ix2 k j) = m ((c : Thread nD τ).loc main_arg8) (ix2 k j) := fun k j => (win6 m c t k j).trans (congrFun (V_main_arg8 m c) _)
  unfold streamR readyR blendR
  simp only [e0, t0, t1, t2, t3, g0, e3, e4, e5, e6]
  rfl

include hb hs in
/-- And their normalization is the next mixer's input. -/
theorem nextR_eq :
    nextR (iblk m c 0 t) (iblk m c 1 t) (iblk m c 2 t) (iblk m c 3 t) (iblk m c 4 t) (iblk m c 5 t) (iblk m c 6 t) n j
      = next m c (ix3 b ⟨512 * s.val + n.val, tile_lt s n⟩ j) := by
  have e : streamR (iblk m c 0 t) (iblk m c 1 t) (iblk m c 2 t) (iblk m c 3 t) (iblk m c 4 t) (iblk m c 5 t) (iblk m c 6 t) n
      = fun j => stream m c (ix3 b ⟨512 * s.val + n.val, tile_lt s n⟩ j) := funext fun j => streamR_eq m c t b s hb hs n j
  have t4 : ∀ j, iblk m c 1 t (ix3 0 4 j) = m ((c : Thread nD τ).loc main_arg2) (ix3 b 0 j) :=
    fun j => (win1 m c t b hb 4 j).trans (table_next m c b 0 j)
  have t5 : ∀ j, iblk m c 1 t (ix3 0 5 j) = m ((c : Thread nD τ).loc main_arg2) (ix3 b 1 j) :=
    fun j => (win1 m c t b hb 5 j).trans (table_next m c b 1 j)
  have g1 : ∀ j, iblk m c 2 t (ix2 1 j) = m ((c : Thread nD τ).loc main_arg4) (ix1 j) := fun j => (win2 m c t 1 j).trans (table_next_gain m c j)
  unfold nextR
  rw [e]
  simp only [t4, t5, g1]
  rfl

end Point

/-- What a point leaves in the buffer of the first result. -/
theorem out11_apply (t : Fin cfg0.N) (y : S1x512x1024.Idx) :
    out11 m c t y = streamR (iblk m c 0 t) (iblk m c 1 t) (iblk m c 2 t) (iblk m c 3 t) (iblk m c 4 t) (iblk m c 5 t) (iblk m c 6 t) (y 1) (y 2) := by
  unfold out11
  rw [View.read_writes_junk_eq_canon, stream_eq]
  exact stream_apply _ _ _ _ _ _ _ _ _ _ _ _ _ _ _ _ _ _ _ _ _ _ _ _ y

/-- What a point leaves in the buffer of the second result. -/
theorem out12_apply (t : Fin cfg0.N) (y : S1x512x1024.Idx) :
    out12 m c t y = nextR (iblk m c 0 t) (iblk m c 1 t) (iblk m c 2 t) (iblk m c 3 t) (iblk m c 4 t) (iblk m c 5 t) (iblk m c 6 t) (y 1) (y 2) := by
  unfold out12
  rw [View.read_writes_junk_eq_canon, next_eq]
  exact next_apply _ _ _ _ _ _ _ _ _ _ _ _ _ _ _ _ _ _ _ _ _ _ _ _ y

/-- Indices with equal coordinates are equal. -/
theorem idx3_eq {s : Fin 3 → ℕ} (x y : (⟨3, s⟩ : Shape).Idx) (e0 : (x 0).val = (y 0).val) (e1 : (x 1).val = (y 1).val) (e2 : (x 2).val = (y 2).val) : x = y := by
  funext a
  fin_cases a
  · exact Fin.ext e0
  · exact Fin.ext e1
  · exact Fin.ext e2

theorem idx2_eq {s : Fin 2 → ℕ} (x y : (⟨2, s⟩ : Shape).Idx) (e0 : (x 0).val = (y 0).val) (e1 : (x 1).val = (y 1).val) : x = y := by
  funext a
  fin_cases a
  · exact Fin.ext e0
  · exact Fin.ext e1

theorem place (k a b : ℕ) : k * a + b = a * k + b := by rw [Nat.mul_comm]

/-! ## The arrays after the run -/

theorem stream_arr : (dats m 0 c).arrAt 11 cfg0.N = stream m c := by
  refine (dats m 0 c).arrAt_eq_of_covers 11 _ (by decide +kernel) fun t hf y => ?_
  refine (congrFun (congrArg ((cfg0.win 11).cut (grid0.coords t)) (after_11 m c t)) y).trans ?_
  have hb : (grid0.coords t 0).val < 8 := (grid0.coords t 0).isLt
  have hs : (grid0.coords t 1).val < 8 := (grid0.coords t 1).isLt
  refine (out11_apply m c t _).trans ((streamR_eq m c t ⟨_, hb⟩ ⟨_, hs⟩ rfl rfl _ _).trans ?_)
  refine congrArg (stream m c) (idx3_eq _ _ ?_ ?_ ?_) <;> blk_simp [index11 t]
  exact place 512 _ _

theorem next_arr : (dats m 0 c).arrAt 12 cfg0.N = next m c := by
  refine (dats m 0 c).arrAt_eq_of_covers 12 _ (by decide +kernel) fun t hf y => ?_
  refine (congrFun (congrArg ((cfg0.win 12).cut (grid0.coords t)) (after_12 m c t)) y).trans ?_
  have hb : (grid0.coords t 0).val < 8 := (grid0.coords t 0).isLt
  have hs : (grid0.coords t 1).val < 8 := (grid0.coords t 1).isLt
  refine (out12_apply m c t _).trans ((nextR_eq m c t ⟨_, hb⟩ ⟨_, hs⟩ rfl rfl _ _).trans ?_)
  refine congrArg (next m c) (idx3_eq _ _ ?_ ?_ ?_) <;> blk_simp [index12 t]
  exact place 512 _ _

theorem castA_at (t : Fin cfg0.N) (r : Fin 16) (j : Fin 6144) : k0_pay3 (iblk m c 7 t) (ix2 r j) = castA m c (ix2 ⟨16 * t.val + r.val, rows16 t r⟩ j) :=
  (cast7 _ r j).trans ((win7 m c t r j).trans (congrFun (V_main_arg9 m c) _))

theorem castB_at (t : Fin cfg0.N) (r : Fin 32) (j : Fin 1024) : k0_pay4 (iblk m c 8 t) (ix2 r j) = castB m c (ix2 ⟨32 * t.val + r.val, rows32 t r⟩ j) :=
  (cast8 _ r j).trans ((win8 m c t r j).trans (congrFun (V_main_arg10 m c) _))

theorem castC_at (t : Fin cfg0.N) (r : Fin 16) (j : Fin 5632) : k0_pay5 (iblk m c 9 t) (ix2 r j) = castC m c (ix2 ⟨16 * t.val + r.val, rows16 t r⟩ j) :=
  (cast9 _ r j).trans ((win9 m c t r j).trans (congrFun (V_main_arg11 m c) _))

theorem castD_at (t : Fin cfg0.N) (r : Fin 176) (j : Fin 1024) :
    k0_pay6 (iblk m c 10 t) (ix2 r j) = castD m c (ix2 ⟨176 * (t.val / 4) + r.val, rows176 t r⟩ j) :=
  (cast10 _ r j).trans ((win10 m c t r j).trans (congrFun (V_main_arg12 m c) _))

theorem castA_arr : (dats m 0 c).arrAt 13 cfg0.N = castA m c := by
  refine (dats m 0 c).arrAt_eq_of_covers 13 _ (by decide +kernel) fun t hf y => ?_
  refine (congrFun (congrArg ((cfg0.win 13).cut (grid0.coords t)) (after_13 m c t)) y).trans ?_
  refine (congrArg (k0_pay3 (iblk m c 7 t)) (idx2_eq _ (ix2 (y 0) (y 1)) rfl rfl)).trans ((castA_at m c t (y 0) (y 1)).trans ?_)
  refine congrArg (castA m c) (idx2_eq _ _ ?_ ?_) <;> blk_simp [index13 t]
  exact place 16 _ _

theorem castB_arr : (dats m 0 c).arrAt 14 cfg0.N = castB m c := by
  refine (dats m 0 c).arrAt_eq_of_covers 14 _ (by decide +kernel) fun t hf y => ?_
  refine (congrFun (congrArg ((cfg0.win 14).cut (grid0.coords t)) (after_14 m c t)) y).trans ?_
  refine (congrArg (k0_pay4 (iblk m c 8 t)) (idx2_eq _ (ix2 (y 0) (y 1)) rfl rfl)).trans ((castB_at m c t (y 0) (y 1)).trans ?_)
  refine congrArg (castB m c) (idx2_eq _ _ ?_ ?_) <;> blk_simp [index14 t]
  exact place 32 _ _

theorem castC_arr : (dats m 0 c).arrAt 15 cfg0.N = castC m c := by
  refine (dats m 0 c).arrAt_eq_of_covers 15 _ (by decide +kernel) fun t hf y => ?_
  refine (congrFun (congrArg ((cfg0.win 15).cut (grid0.coords t)) (after_15 m c t)) y).trans ?_
  refine (congrArg (k0_pay5 (iblk m c 9 t)) (idx2_eq _ (ix2 (y 0) (y 1)) rfl rfl)).trans ((castC_at m c t (y 0) (y 1)).trans ?_)
  refine congrArg (castC m c) (idx2_eq _ _ ?_ ?_) <;> blk_simp [index15 t]
  exact place 16 _ _

theorem castD_arr : (dats m 0 c).arrAt 16 cfg0.N = castD m c := by
  refine (dats m 0 c).arrAt_eq_of_covers 16 _ (by decide +kernel) fun t hf y => ?_
  refine (congrFun (congrArg ((cfg0.win 16).cut (grid0.coords t)) (after_16 m c t)) y).trans ?_
  refine (congrArg (k0_pay6 (iblk m c 10 t)) (idx2_eq _ (ix2 (y 0) (y 1)) rfl rfl)).trans ((castD_at m c t (y 0) (y 1)).trans ?_)
  refine congrArg (castD m c) (idx2_eq _ _ ?_ ?_) <;> blk_simp [index16 t]
  exact place 176 _ _

/-- The run, with the six results and the argument arrays read. -/
theorem run_results : θ_run defs (onTc (τ := τ) (main (F := Ideal))) ⟨m, fun _ => 0, ρ⟩ fun r => ∀ c : Dev nD,
      (r.2.mem ((c.tc : Thread nD τ).loc main_v8_0) = stream m c
      ∧ r.2.mem ((c.tc : Thread nD τ).loc main_v8_1) = next m c
      ∧ r.2.mem ((c.tc : Thread nD τ).loc main_v8_2) = castA m c
      ∧ r.2.mem ((c.tc : Thread nD τ).loc main_v8_3) = castB m c
      ∧ r.2.mem ((c.tc : Thread nD τ).loc main_v8_4) = castC m c
      ∧ r.2.mem ((c.tc : Thread nD τ).loc main_v8_5) = castD m c) :=
  (θ_run defs _ _).mono (fun _ h c => ⟨((h c).1 11).trans (stream_arr m c), ((h c).1 12).trans (next_arr m c), ((h c).1 13).trans (castA_arr m c),
    ((h c).1 14).trans (castB_arr m c), ((h c).1 15).trans (castC_arr m c), ((h c).1 16).trans (castD_arr m c)⟩) (run_main m ρ)

end Cert.Kernel4Ideal.Mix

end
-- ==== Proof.MixRef.lean ====
module

public import proofs.«01_k».proof.Proof.MixRow
public import proofs.«01_k».proof.Proof.Gen.Reference4Ideal.Read
public import Idealize.ShloMosaic.Lib.Pointwise

/-!
# A Fourier layer's second half in the host's words

Each stage of the reference, read at one token, is the row function of that stage; each cast weight is its layer of the stack.
-/

@[expose] public section

set_option maxRecDepth 16384

noncomputable section

namespace Cert.Reference4Ideal.Mix

open Cert.Reference4Ideal Cert.Reference4Ideal.Read Cert.Ffn Cert.Mix Idealize.ShloMosaic Idealize.ShloMosaic.TcCoe Idealize.SL.Sem

variable (x0 : Vec Ideal S8x4096x1024 .f32) (x1 x2 : Vec Ideal S8x6x1024 .f32) (x3 x4 : Vec Ideal S1024 .f32)
  (x5 : Vec Ideal S8x2x4096x512 .bf16) (x6 : Vec Ideal S1024x1024 .bf16) (x7 : Vec Ideal S1024x5632 .bf16) (x8 : Vec Ideal S2816x1024 .bf16)
  (b : Fin 8) (T : Fin 4096)

/-- The two column groups of the transform side by side. -/
theorem spread_apply (k : Fin 1024) :
    val_main_v14 (F := Ideal) x5 (ix3 b T k) = x5 (ix4 b (⟨k.val / 512, by omega⟩ : Fin 2) T (⟨k.val % 512, by omega⟩ : Fin 512)) := by
  unfold val_main_v14 val_main_v13 val_main_v12
  pointwise

/-- The rows after the mixer. -/
theorem blend_apply (j : Fin 1024) :
    val_main_v20 (F := Ideal) x0 x1 x5 x6 (ix3 b T j)
      = blendRow (fun b T j => x0 (ix3 b T j)) (fun b r j => x1 (ix3 b r j)) (fun b h T j => x5 (ix4 b h T j)) (fun k j => x6 (ix2 k j)) b T j := by
  unfold blendRow blended
  unfold val_main_v20 val_main_v19 val_main_v18 val_main_v17 val_main_v5 val_main_v4 val_main_v16 val_main_v15
  pointwise
  simp only [spread_apply]

/-- The normalized rows. -/
theorem ready_apply (j : Fin 1024) :
    val_main_v41 (F := Ideal) x0 x1 x3 x5 x6 (ix3 b T j)
      = readyRow (fun b T j => x0 (ix3 b T j)) (fun b r j => x1 (ix3 b r j)) (fun j => x3 (ix1 j)) (fun b h T j => x5 (ix4 b h T j)) (fun k j => x6 (ix2 k j)) b T j := by
  unfold readyRow normRow
  simp only [← blend_apply]
  unfold val_main_v41 val_main_v40 val_main_v39 val_main_v7 val_main_v6 val_main_v38 val_main_v37 val_main_v36 val_main_v35 val_main_cst_2 val_main_v34 val_main_v9 val_main_v8
    val_main_v33 val_main_v32 val_main_v31 val_main_v30 val_main_v29 val_main_v28 val_main_v27 val_main_v26 val_main_cst_1 val_main_v25 val_main_v24 val_main_cst_0 val_main_v23
    val_main_v22 val_main_cst val_main_v21
  pointwise

/-- The hidden units of the feed-forward layer. -/
theorem hidden_apply (n : Fin 2816) :
    val_main_v48 (F := Ideal) x0 x1 x3 x5 x6 x7 (ix3 b T n)
      = hiddenUnit (fun d => val_main_v41 (F := Ideal) x0 x1 x3 x5 x6 (ix3 b T d)) (fun d k => x7 (ix2 d k)) n := by
  unfold hiddenUnit Ideal.logistic
  unfold val_main_v48 val_main_v47 val_main_call0_v5 val_main_call0_v4 val_main_call0_cst_0 val_main_call0_v3 val_main_call0_v2 val_main_call0_cst val_main_call0_v1 val_main_call0_v0
    val_main_v46 val_main_v45 val_main_v44 val_main_v43
  pointwise

/-- The rows of the residual stream handed on. -/
theorem stream_apply (j : Fin 1024) :
    val_main_v53 (F := Ideal) x0 x1 x3 x5 x6 x7 x8 (ix3 b T j)
      = streamRow (fun b T j => x0 (ix3 b T j)) (fun b r j => x1 (ix3 b r j)) (fun j => x3 (ix1 j)) (fun b h T j => x5 (ix4 b h T j)) (fun k j => x6 (ix2 k j))
          (fun d k => x7 (ix2 d k)) (fun k j => x8 (ix2 k j)) b T j := by
  have e : readyRow (fun b T j => x0 (ix3 b T j)) (fun b r j => x1 (ix3 b r j)) (fun j => x3 (ix1 j)) (fun b h T j => x5 (ix4 b h T j)) (fun k j => x6 (ix2 k j)) b T
      = fun d => val_main_v41 (F := Ideal) x0 x1 x3 x5 x6 (ix3 b T d) := funext fun d => (ready_apply x0 x1 x3 x5 x6 b T d).symm
  unfold streamRow fed
  rw [e]
  simp only [← blend_apply, ← hidden_apply]
  unfold val_main_v53 val_main_v52 val_main_v51 val_main_v42 val_main_v11 val_main_v10 val_main_v50 val_main_v49
  pointwise

/-- The rows of the next mixer's input. -/
theorem next_apply (j : Fin 1024) :
    val_main_v87 (F := Ideal) x0 x1 x2 x3 x4 x5 x6 x7 x8 (ix3 b T j)
      = nextRow (fun b T j => x0 (ix3 b T j)) (fun b r j => x1 (ix3 b r j)) (fun b r j => x2 (ix3 b r j)) (fun j => x3 (ix1 j)) (fun j => x4 (ix1 j)) (fun b h T j => x5 (ix4 b h T j))
          (fun k j => x6 (ix2 k j)) (fun d k => x7 (ix2 d k)) (fun k j => x8 (ix2 k j)) b T j := by
  unfold nextRow normRow
  simp only [← stream_apply]
  unfold val_main_v87 val_main_v78 val_main_v77 val_main_v76 val_main_v68 val_main_v67 val_main_v75 val_main_v74 val_main_v73 val_main_v72 val_main_cst_6 val_main_v71 val_main_v70
    val_main_v69 val_main_v66 val_main_v65 val_main_v64 val_main_v63 val_main_v62 val_main_v61 val_main_v60 val_main_v59 val_main_cst_5 val_main_v58 val_main_v57 val_main_cst_4
    val_main_v56 val_main_v55 val_main_cst_3 val_main_v54
  pointwise

/-! ## The cast weights -/

theorem castA_apply (x9 : Vec Ideal S2x1024x6144 .f32) (r : Fin 1024) (j : Fin 6144) : val_main_v88 (F := Ideal) x9 (ix2 r j) = x9 (ix3 0 r j) := by
  unfold val_main_v88 val_main_v80 val_main_v79
  pointwise

theorem castB_apply (x10 : Vec Ideal S2x2048x1024 .f32) (r : Fin 2048) (j : Fin 1024) : val_main_v89 (F := Ideal) x10 (ix2 r j) = x10 (ix3 0 r j) := by
  unfold val_main_v89 val_main_v82 val_main_v81
  pointwise

theorem castC_apply (x11 : Vec Ideal S4x1024x5632 .f32) (r : Fin 1024) (j : Fin 5632) : val_main_v90 (F := Ideal) x11 (ix2 r j) = x11 (ix3 1 r j) := by
  unfold val_main_v90 val_main_v84 val_main_v83
  pointwise

theorem castD_apply (x12 : Vec Ideal S4x2816x1024 .f32) (r : Fin 2816) (j : Fin 1024) : val_main_v91 (F := Ideal) x12 (ix2 r j) = x12 (ix3 1 r j) := by
  unfold val_main_v91 val_main_v86 val_main_v85
  pointwise

end Cert.Reference4Ideal.Mix
-- ==== Proof.MixClaim.lean ====
module

public import proofs.«01_k».proof.Defs
public import proofs.«01_k».proof.Proof.MixIBlocks
public import proofs.«01_k».proof.Proof.MixRef
public import proofs.«01_k».proof.Proof.MixFrame
public import proofs.«01_k».proof.Proof.Gen.Reference4Ideal.Run
public import proofs.«01_k».proof.Proof.Gen.Reference4Ideal.Read
public import Idealize.ShloMosaic.Lib.Claim
public import Idealize.ShloMosaic.Adequacy
public import Idealize.ShloMosaic.Init

/-!
# The claims about the end of a Fourier layer
-/

@[expose] public section

noncomputable section

namespace Cert.Proof.Mix

open Idealize.ShloMosaic Idealize.SL.Sem

theorem frame_p : Cert.quiescent_Kernel4 := fun m ρ _ => Cert.Kernel4.Mix.frame m ρ

theorem frame_pi : Cert.quiescent_Kernel4Ideal := fun m ρ _ => Cert.Kernel4Ideal.Mix.frame m ρ

theorem frame_ri : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

section Results

variable (m : (ℓ : Loc Cert.Kernel4Ideal.nD Cert.Kernel4Ideal.τ Cert.Kernel4Ideal.sig) → Buf (Elt Ideal) ℓ) (c : Dev Cert.Kernel4Ideal.nD)

/-- The host's residual stream is the kernel's. -/
theorem stream_ref : Cert.Reference4Ideal.Read.val_main_v53 (F := Ideal) (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6))
    (m ((c.tc : Thread Cert.Kernel4Ideal.nD Cert.Kernel4Ideal.τ).loc Cert.Kernel4Ideal.main_arg7))
    (m ((c.tc : Thread Cert.Kernel4Ideal.nD Cert.Kernel4Ideal.τ).loc Cert.Kernel4Ideal.main_arg8)) = Cert.Kernel4Ideal.Mix.stream m c := by
  funext y
  have e : y = ix3 (y 0) (y 1) (y 2) := by funext a; fin_cases a <;> rfl
  refine (congrArg (Cert.Reference4Ideal.Read.val_main_v53 (F := Ideal) _ _ _ _ _ _ _) e).trans ?_
  exact Cert.Reference4Ideal.Mix.stream_apply _ _ _ _ _ _ _ (y 0) (y 1) (y 2)

/-- The host's input of the next mixer is the kernel's. -/
theorem next_ref : Cert.Reference4Ideal.Read.val_main_v87 (F := Ideal) (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2))
    (m ((c.tc : Thread Cert.Kernel4Ideal.nD Cert.Kernel4Ideal.τ).loc Cert.Kernel4Ideal.main_arg3))
    (m ((c.tc : Thread Cert.Kernel4Ideal.nD Cert.Kernel4Ideal.τ).loc Cert.Kernel4Ideal.main_arg4))
    (m ((c.tc : Thread Cert.Kernel4Ideal.nD Cert.Kernel4Ideal.τ).loc Cert.Kernel4Ideal.main_arg5))
    (m ((c.tc : Thread Cert.Kernel4Ideal.nD Cert.Kernel4Ideal.τ).loc Cert.Kernel4Ideal.main_arg6))
    (m ((c.tc : Thread Cert.Kernel4Ideal.nD Cert.Kernel4Ideal.τ).loc Cert.Kernel4Ideal.main_arg7))
    (m ((c.tc : Thread Cert.Kernel4Ideal.nD Cert.Kernel4Ideal.τ).loc Cert.Kernel4Ideal.main_arg8)) = Cert.Kernel4Ideal.Mix.next m c := by
  funext y
  have e : y = ix3 (y 0) (y 1) (y 2) := by funext a; fin_cases a <;> rfl
  refine (congrArg (Cert.Reference4Ideal.Read.val_main_v87 (F := Ideal) _ _ _ _ _ _ _ _ _) e).trans ?_
  exact Cert.Reference4Ideal.Mix.next_apply _ _ _ _ _ _ _ _ _ (y 0) (y 1) (y 2)

/-- The host's first cast weight is the kernel's. -/
theorem castA_ref : Cert.Reference4Ideal.Read.val_main_v88 (F := Ideal) (m ((c.tc : Thread Cert.Kernel4Ideal.nD Cert.Kernel4Ideal.τ).loc Cert.Kernel4Ideal.main_arg9)) = Cert.Kernel4Ideal.Mix.castA m c := by
  funext y
  have e : y = ix2 (y 0) (y 1) := by funext a; fin_cases a <;> rfl
  refine (congrArg (Cert.Reference4Ideal.Read.val_main_v88 (F := Ideal) _) e).trans ?_
  exact Cert.Reference4Ideal.Mix.castA_apply _ (y 0) (y 1)

/-- The host's second cast weight is the kernel's. -/
theorem castB_ref : Cert.Reference4Ideal.Read.val_main_v89 (F := Ideal) (m ((c.tc : Thread Cert.Kernel4Ideal.nD Cert.Kernel4Ideal.τ).loc Cert.Kernel4Ideal.main_arg10)) = Cert.Kernel4Ideal.Mix.castB m c := by
  funext y
  have e : y = ix2 (y 0) (y 1) := by funext a; fin_cases a <;> rfl
  refine (congrArg (Cert.Reference4Ideal.Read.val_main_v89 (F := Ideal) _) e).trans ?_
  exact Cert.Reference4Ideal.Mix.castB_apply _ (y 0) (y 1)

/-- The host's third cast weight is the kernel's. -/
theorem castC_ref : Cert.Reference4Ideal.Read.val_main_v90 (F := Ideal) (m ((c.tc : Thread Cert.Kernel4Ideal.nD Cert.Kernel4Ideal.τ).loc Cert.Kernel4Ideal.main_arg11)) = Cert.Kernel4Ideal.Mix.castC m c := by
  funext y
  have e : y = ix2 (y 0) (y 1) := by funext a; fin_cases a <;> rfl
  refine (congrArg (Cert.Reference4Ideal.Read.val_main_v90 (F := Ideal) _) e).trans ?_
  exact Cert.Reference4Ideal.Mix.castC_apply _ (y 0) (y 1)

/-- The host's fourth cast weight is the kernel's. -/
theorem castD_ref : Cert.Reference4Ideal.Read.val_main_v91 (F := Ideal) (m ((c.tc : Thread Cert.Kernel4Ideal.nD Cert.Kernel4Ideal.τ).loc Cert.Kernel4Ideal.main_arg12)) = Cert.Kernel4Ideal.Mix.castD m c := by
  funext y
  have e : y = ix2 (y 0) (y 1) := by funext a; fin_cases a <;> rfl
  refine (congrArg (Cert.Reference4Ideal.Read.val_main_v91 (F := Ideal) _) e).trans ?_
  exact Cert.Reference4Ideal.Mix.castD_apply _ (y 0) (y 1)

end Results

/-- The kernel's results equal the host's. -/
theorem algebraic : Cert.algebraic_Kernel4Ideal_Reference4Ideal := by
  intro m g m' g' _ hm
  refine ⟨fun c => Cert.Kernel4Ideal.Mix.stream m c, fun c => Cert.Kernel4Ideal.Mix.next m c, fun c => Cert.Kernel4Ideal.Mix.castA m c, fun c => Cert.Kernel4Ideal.Mix.castB m c,
    fun c => Cert.Kernel4Ideal.Mix.castC m c, fun c => Cert.Kernel4Ideal.Mix.castD m c,
    (θ_run Cert.Kernel4Ideal.defs _ _).mono (fun r h c => ?_) (θ_run_and (Cert.Kernel4Ideal.Mix.run_results m g) (Cert.Kernel4Ideal.Mix.frame m g)),
    (θ_run Cert.Reference4Ideal.defs _ _).mono (fun r h c => ?_) (Cert.Reference4Ideal.Value.run (F := Ideal) m' g')⟩
  · obtain ⟨h0, h1, h2, h3, h4, h5⟩ := h.1 c
    exact ⟨h0, h1, h2, h3, h4, h5, h.2.1 c⟩
  · obtain ⟨h0, h1, h2, h3, h4, h5, h6⟩ := h c
    obtain ⟨e0, e1, e2, e3, e4, e5, e6, e7, e8, e9, e10, e11, e12⟩ := hm c
    have l0 := h0.trans (Cert.Reference4Ideal.Read.val_main_v53_eq (F := Ideal) m' c)
    have l1 := h1.trans (Cert.Reference4Ideal.Read.val_main_v87_eq (F := Ideal) m' c)
    have l2 := h2.trans (Cert.Reference4Ideal.Read.val_main_v88_eq (F := Ideal) (m' ((c.tc : Thread Cert.Reference4Ideal.nD Cert.Reference4Ideal.τ).loc Cert.Reference4Ideal.main_arg9)))
    have l3 := h3.trans (Cert.Reference4Ideal.Read.val_main_v89_eq (F := Ideal) (m' ((c.tc : Thread Cert.Reference4Ideal.nD Cert.Reference4Ideal.τ).loc Cert.Reference4Ideal.main_arg10)))
    have l4 := h4.trans (Cert.Reference4Ideal.Read.val_main_v90_eq (F := Ideal) (m' ((c.tc : Thread Cert.Reference4Ideal.nD Cert.Reference4Ideal.τ).loc Cert.Reference4Ideal.main_arg11)))
    have l5 := h5.trans (Cert.Reference4Ideal.Read.val_main_v91_eq (F := Ideal) (m' ((c.tc : Thread Cert.Reference4Ideal.nD Cert.Reference4Ideal.τ).loc Cert.Reference4Ideal.main_arg12)))
    rw [e0, e1, e3, e5, e6, e7, e8] at l0
    rw [e0, e1, e2, e3, e4, e5, e6, e7, e8] at l1
    rw [e9] at l2
    rw [e10] at l3
    rw [e11] at l4
    rw [e12] at l5
    exact ⟨l0.trans (stream_ref m c), l1.trans (next_ref m c), l2.trans (castA_ref m c), l3.trans (castB_ref m c), l4.trans (castC_ref m c), l5.trans (castD_ref m c), h6⟩

end Cert.Proof.Mix

end
-- ==== Proof.MidICast.lean ====
module

public import proofs.«01_k».proof.Proof.Gen.Kernel5Ideal.Frame
public import proofs.«01_k».proof.Proof.Gen.Kernel5Ideal.Skeleton
public import Idealize.ShloMosaic.Lib.VecWindow

@[expose] public section

set_option maxRecDepth 16384

noncomputable section

namespace Cert.Kernel5Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

variable {F : FTy → Type} [FloatOps F]

local notation "𝕄" => MT nD τ sig Unit (Elt F) ℕ (UR sig nD τ) ℕ

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x4x512x512 .bf16) (harg5 : arg5.IsWhole)
    (arg6 : Memref sig .tc .vmem S1x4x512x512 .bf16) (harg6 : arg6.IsWhole)
    (arg7 : Memref sig .tc .vmem S2048x1024 .bf16) (harg7 : arg7.IsWhole)
    (arg8 : Memref sig .tc .vmem S1024x5632 .bf16) (harg8 : arg8.IsWhole)
    (arg9 : Memref sig .tc .vmem S2816x1024 .bf16) (harg9 : arg9.IsWhole)
    (arg10 : Memref sig .tc .vmem S256x256 .bf16) (harg10 : arg10.IsWhole)
    (arg11 : Memref sig .tc .vmem S1x16x1024 .f32) (harg11 : arg11.IsWhole)
    (arg12 : Memref sig .tc .vmem S1x16x5632 .f32) (harg12 : arg12.IsWhole)
    (arg13 : Memref sig .tc .vmem S1x176x1024 .f32) (harg13 : arg13.IsWhole)
    (arg14 : Memref sig .tc .vmem S1x512x1024 .f32) (harg14 : arg14.IsWhole)
    (arg15 : Memref sig .tc .vmem S1x2x16x32x512 .bf16) (harg15 : arg15.IsWhole)
    (arg16 : Memref sig .tc .vmem S16x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)

/-- The first part of the body: it casts the three weight blocks, the last of them only at the points where its condition holds, and elsewhere
    leaves that block's buffer as it was; then it reads the first two modulation rows. -/
theorem cast_part (x1 : Vec F S1x8x1024 .f32) (x9 : Vec F S1x16x1024 .f32) (x10 : Vec F S1x16x5632 .f32) (x11 : Vec F S1x176x1024 .f32)
    (d18 : Vec F S176x1024 .bf16) (E : Set ℕ) (K : (Σ' (_ : FVec F S1x1024 .f32), FVec F S1x1024 .f32) → sProp 𝕄) :
    iprop(owns (c : Thread nD τ) arg3 fullShare x1 ∗ owns (c : Thread nD τ) arg11 fullShare x9 ∗ owns (c : Thread nD τ) arg12 fullShare x10
        ∗ owns (c : Thread nD τ) arg13 fullShare x11 ∗ (∃ d, owns (c : Thread nD τ) arg16 fullShare d)
        ∗ (∃ d, owns (c : Thread nD τ) arg17 fullShare d) ∗ owns (c : Thread nD τ) arg18 fullShare d18
        ∗ (iprop(owns (c : Thread nD τ) arg3 fullShare x1 ∗ owns (c : Thread nD τ) arg11 fullShare x9 ∗ owns (c : Thread nD τ) arg12 fullShare x10
            ∗ owns (c : Thread nD τ) arg13 fullShare x11
            ∗ owns (c : Thread nD τ) arg16 fullShare (k0_pay2 x9) ∗ owns (c : Thread nD τ) arg17 fullShare (k0_pay3 x10)
            ∗ owns (c : Thread nD τ) arg18 fullShare (if k0_cond1 i = 1#1 then k0_pay4 x11 else d18)) -∗
          K ⟨k0_pay5 (arg3.view.readAt (Elt F) (Rect.unit (s := S1x8x1024) ![0, 0, 0] S1x1x1024.size inb_S1x8x1024_S1x1x1024_0_0_0).toLoadRect (harg3.unread x1)), k0_pay6 (arg3.view.readAt (Elt F) (Rect.unit (s := S1x8x1024) ![0, 1, 0] S1x1x1024.size inb_S1x8x1024_S1x1x1024_0_1_0).toLoadRect (harg3.unread x1))⟩))
      ⊢ wp frame (wpE (defs₀ (F := F)) Variants.none c none) E (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [k0_part1_eq_skeleton]; unfold k0_part1_skel
  unfold owns
  iintro ⟨⟨%f1, %hf1, H1⟩, ⟨%f9, %hf9, H9⟩, ⟨%f10, %hf10, H10⟩, ⟨%f11, %hf11, H11⟩, ⟨%d14, %f14, -, H14⟩, ⟨%d15, %f15, -, H15⟩,
    ⟨%f16, %hf16, H16⟩, Hk⟩
  obtain rfl := harg3.eq_unread hf1; obtain rfl := hf9; obtain rfl := hf10; obtain rfl := hf11; obtain rfl := hf16
  by_cases hc : k0_cond1 i = 1#1
  · rw [if_pos hc]
    sl_exec (disch := first | sl_exact hc)
    sl_step
    iapply Hk
    isplitl [H1]; · iexists _; isplitr; · ipureintro; exact harg3.read_unread _
                    iexact H1
    isplitl [H9]; · iexists _; isplitr; swap; · iexact H9
                    ipureintro; rfl
    isplitl [H10]; · iexists _; isplitr; swap; · iexact H10
                     ipureintro; rfl
    isplitl [H11]; · iexists _; isplitr; swap; · iexact H11
                     ipureintro; rfl
    isplitl [H14]; · iexists _; isplitr; swap; · iexact H14
                     ipureintro; exact (View.read_writes_full ..).trans (congrArg k0_pay2 (View.readAt_full ..))
    isplitl [H15]; · iexists _; isplitr; swap; · iexact H15
                     ipureintro; exact (View.read_writes_full ..).trans (congrArg k0_pay3 (View.readAt_full ..))
    iexists _; isplitr; swap; · iexact H16
    ipureintro; exact (View.read_writes_full ..).trans (congrArg k0_pay4 (View.readAt_full ..))
  · rw [if_neg hc]
    sl_exec (disch := first | sl_exact hc)
    sl_step
    iapply Hk
    isplitl [H1]; · iexists _; isplitr; · ipureintro; exact harg3.read_unread _
                    iexact H1
    isplitl [H9]; · iexists _; isplitr; swap; · iexact H9
                    ipureintro; rfl
    isplitl [H10]; · iexists _; isplitr; swap; · iexact H10
                     ipureintro; rfl
    isplitl [H11]; · iexists _; isplitr; swap; · iexact H11
                     ipureintro; rfl
    isplitl [H14]; · iexists _; isplitr; swap; · iexact H14
                     ipureintro; exact (View.read_writes_full ..).trans (congrArg k0_pay2 (View.readAt_full ..))
    isplitl [H15]; · iexists _; isplitr; swap; · iexact H15
                     ipureintro; exact (View.read_writes_full ..).trans (congrArg k0_pay3 (View.readAt_full ..))
    iexists _; isplitr; swap; · iexact H16
    ipureintro; rfl

end Cert.Kernel5Ideal.Mid

end
-- ==== Proof.MidIRun.lean ====
module

public import proofs.«01_k».proof.Proof.MidICast

@[expose] public section

set_option maxRecDepth 16384
set_option maxHeartbeats 4000000

noncomputable section

namespace Cert.Kernel5Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal.Gen

variable {F : FTy → Type} [FloatOps F]

local notation "𝕄" => MT nD τ sig Unit (Elt F) ℕ (UR sig nD τ) ℕ

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x4x512x512 .bf16) (harg5 : arg5.IsWhole)
    (arg6 : Memref sig .tc .vmem S1x4x512x512 .bf16) (harg6 : arg6.IsWhole)
    (arg7 : Memref sig .tc .vmem S2048x1024 .bf16) (harg7 : arg7.IsWhole)
    (arg8 : Memref sig .tc .vmem S1024x5632 .bf16) (harg8 : arg8.IsWhole)
    (arg9 : Memref sig .tc .vmem S2816x1024 .bf16) (harg9 : arg9.IsWhole)
    (arg10 : Memref sig .tc .vmem S256x256 .bf16) (harg10 : arg10.IsWhole)
    (arg11 : Memref sig .tc .vmem S1x16x1024 .f32) (harg11 : arg11.IsWhole)
    (arg12 : Memref sig .tc .vmem S1x16x5632 .f32) (harg12 : arg12.IsWhole)
    (arg13 : Memref sig .tc .vmem S1x176x1024 .f32) (harg13 : arg13.IsWhole)
    (arg14 : Memref sig .tc .vmem S1x512x1024 .f32) (harg14 : arg14.IsWhole)
    (arg15 : Memref sig .tc .vmem S1x2x16x32x512 .bf16) (harg15 : arg15.IsWhole)
    (arg16 : Memref sig .tc .vmem S16x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)
    (x0 : Vec F S1x512x1024 .f32) (x1 : Vec F S1x8x1024 .f32) (x2 : Vec F S8x1024 .f32) (x3 : Vec F S1x4x512x512 .bf16) (x4 : Vec F S1x4x512x512 .bf16) (x5 : Vec F S2048x1024 .bf16) (x6 : Vec F S1024x5632 .bf16) (x7 : Vec F S2816x1024 .bf16) (x8 : Vec F S256x256 .bf16) (x9 : Vec F S1x16x1024 .f32) (x10 : Vec F S1x16x5632 .f32) (x11 : Vec F S1x176x1024 .f32)

/-- What the body leaves in the buffers of its two large results and in its two scratch arrays, as the pieces it stored (last first), with the proof that the
    body, on buffers holding the blocks it reads, hands those back as they were, leaves the three cast blocks cast (the last one only at the points where its
    condition holds, and otherwise as it was found), and leaves the other four buffers with those pieces written. -/
noncomputable def midRun :
    Σ' (L12 : List (View.Piece (Elt F) S1x512x1024 .f32)), Σ' (L13 : List (View.Piece (Elt F) S1x2x16x32x512 .bf16)),
    Σ' (LT0 : List (View.Piece (Elt F) S512x1024 .bf16)), { LT1 : List (View.Piece (Elt F) S512x2816 .bf16) //
      ∀ (d16 : Vec F S176x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
            ∗ (∃ d, owns (c : Thread nD τ) arg14 fullShare d) ∗ (∃ d, owns (c : Thread nD τ) arg15 fullShare d)
            ∗ (∃ d, owns (c : Thread nD τ) arg16 fullShare d) ∗ (∃ d, owns (c : Thread nD τ) arg17 fullShare d) ∗ owns (c : Thread nD τ) arg18 fullShare d16
            ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
                ∗ (∃ f, arg14.view.loc (c : Thread nD τ) ↦[arg14.view.set]{fullShare} arg14.view.writes (Elt F) f L12)
                ∗ (∃ f, arg15.view.loc (c : Thread nD τ) ↦[arg15.view.set]{fullShare} arg15.view.writes (Elt F) f L13)
                ∗ owns (c : Thread nD τ) arg16 fullShare (k0_pay2 x9) ∗ owns (c : Thread nD τ) arg17 fullShare (k0_pay3 x10)
                ∗ owns (c : Thread nD τ) arg18 fullShare (if k0_cond1 i = 1#1 then k0_pay4 x11 else d16)
                ∗ (∃ f, arg19.view.loc (c : Thread nD τ) ↦[arg19.view.set]{fullShare} arg19.view.writes (Elt F) f LT0)
                ∗ (∃ f, arg20.view.loc (c : Thread nD τ) ↦[arg20.view.set]{fullShare} arg20.view.writes (Elt F) f LT1)) -∗ K ⟨⟩))
          ⊢ wp frame (wpE (defs₀ (F := F)) Variants.none c none) E (cc0_mix_ffn_ret i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun d16 E K => ?run⟩
  case run =>
    rw [cc0_mix_ffn_ret_eq_skeleton]; unfold cc0_mix_ffn_ret_skel
    rw [wp_bind]
    iintro ⟨H0, H1, H2, H3, H4, H5, H6, H7, H8, H9, H10, H11, H12, H13, H14, H15, H16, HS0, HS1, Hk⟩
    iapply (cast_part c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x9 x10 x11 d16 E _)
    isplitl [H1]; · iexact H1
    isplitl [H9]; · iexact H9
    isplitl [H10]; · iexact H10
    isplitl [H11]; · iexact H11
    isplitl [H14]; · iexact H14
    isplitl [H15]; · iexact H15
    isplitl [H16]; · iexact H16
    iintro ⟨H1, H9, H10, H11, H14, H15, H16⟩
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H12 with ⟨%d12, %f12, -, H12⟩
    icases H13 with ⟨%d13, %f13, -, H13⟩
    icases HS0 with ⟨%ds0, %fs0, -, HS0⟩
    icases HS1 with ⟨%ds1, %fs1, -, HS1⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexact H15
    isplitl [H16]; · iexact H16
    isplitl [HS0]; · iexists _; iexact HS0
    iexists _; iexact HS1

end Cert.Kernel5Ideal.Mid

end
-- ==== Proof.MidIBody.lean ====
/- One grid point of the call that ends the first retention layer, over any scalars. The body works on two halves of 256 rows and on eleven
   chunks of 256 hidden columns, and stores the rows for the next mixer in 64 pieces, every step a copy of the same text. These definitions
   state that once; `stream_eq` and `next_eq` say that what the point stores in its two large results is built of them. -/
module

public import proofs.«01_k».proof.Proof.MidIRun
public import proofs.«01_k».proof.Proof.FfnBody

@[expose] public section

set_option maxRecDepth 16384

noncomputable section

namespace Cert.Kernel5Ideal.Mid

open Cert.Kernel5Ideal Cert.Kernel5Ideal.Gen Idealize.ShloMosaic Idealize.ShloMosaic.TcCoe Idealize.SL.Sem
open Idealize.ShloMosaic.View (Piece)
open Cert.Kernel2Ideal.Ffn (rowV gateV headsV addV normV keepV projV hiddenV leaveV blockV inbX inbT inbG inbY inbH inbW inbA inbL mod_lt gate_le up_le)

variable {F : FTy → Type} [FloatOps F]

/-- Normalized rows times the table that reorders them. -/
def permV (p : Vec F S256x256 .bf16) (x : FVec F S256x1024 .f32) : FVec F S256x1024 .bf16 :=
  truncf .bf16 (matmul dot_S256x256_S256x1024_S256x1024_1_0_0_1_n_n none (shapeCast S256x256 p shapeCasts_S256x256_S256x256)
    (truncf .bf16 x bitsLt_bf16_f32) (constant S256x1024 .f32 0x00000000#32)) bitsLt_bf16_f32

theorem two_lt (n : ℕ) : n % 2 < 2 := Nat.mod_lt _ (by decide)
theorem sixteen_lt (n : ℕ) : n % 16 < 16 := Nat.mod_lt _ (by decide)

theorem slicesP (s k : ℕ) (hs : s < 16) (hk : k < 2) : S256x1024.Slices ![16 * s, 512 * k] S16x512 := by
  refine ⟨rfl, fun a => ?_⟩
  fin_cases a <;> simp [S16x512, S256x1024] <;> omega

theorem inbP (k s r : ℕ) (hk : k < 2) (hs : s < 16) (h : r < 2) :
    ∀ a, (![0, k, s, 16 * r, 0] : Fin 5 → ℕ) a + S1x1x1x16x512.size a ≤ S1x2x16x32x512.size a := by
  intro a; fin_cases a <;> simp [S1x1x1x16x512, S1x2x16x32x512] <;> omega

/-- Sixteen of the reordered rows and half of their columns, as the second result keeps them. -/
def pieceV (v : FVec F S256x1024 .bf16) (s k : ℕ) (hs : s < 16) (hk : k < 2) : FVec F S1x1x1x16x512 .bf16 :=
  shapeCast S1x1x1x16x512 (extractStridedSlice S16x512 ![16 * s, 512 * k] v (slicesP s k hs hk)) shapeCasts_S16x512_S1x1x1x16x512

/-- The pieces of half `r` of the second result, up to the `n`-th, last first, after `rest`. -/
def piecesL (r : ℕ) (h : r < 2) (v : FVec F S256x1024 .bf16) (rest : List (Piece (Elt F) S1x2x16x32x512 .bf16)) :
    ℕ → List (Piece (Elt F) S1x2x16x32x512 .bf16)
  | 0 => rest
  | n + 1 => ⟨Rect.unit (s := S1x2x16x32x512) ![0, n / 16 % 2, n % 16, 16 * r, 0] S1x1x1x16x512.size (inbP (n / 16 % 2) (n % 16) r (two_lt _) (sixteen_lt n) h),
      pieceV v (n % 16) (n / 16 % 2) (sixteen_lt n) (two_lt _)⟩ :: piecesL r h v rest n

section Body

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x4x512x512 .bf16) (harg5 : arg5.IsWhole)
    (arg6 : Memref sig .tc .vmem S1x4x512x512 .bf16) (harg6 : arg6.IsWhole)
    (arg7 : Memref sig .tc .vmem S2048x1024 .bf16) (harg7 : arg7.IsWhole)
    (arg8 : Memref sig .tc .vmem S1024x5632 .bf16) (harg8 : arg8.IsWhole)
    (arg9 : Memref sig .tc .vmem S2816x1024 .bf16) (harg9 : arg9.IsWhole)
    (arg10 : Memref sig .tc .vmem S256x256 .bf16) (harg10 : arg10.IsWhole)
    (arg11 : Memref sig .tc .vmem S1x16x1024 .f32) (harg11 : arg11.IsWhole)
    (arg12 : Memref sig .tc .vmem S1x16x5632 .f32) (harg12 : arg12.IsWhole)
    (arg13 : Memref sig .tc .vmem S1x176x1024 .f32) (harg13 : arg13.IsWhole)
    (arg14 : Memref sig .tc .vmem S1x512x1024 .f32) (harg14 : arg14.IsWhole)
    (arg15 : Memref sig .tc .vmem S1x2x16x32x512 .bf16) (harg15 : arg15.IsWhole)
    (arg16 : Memref sig .tc .vmem S16x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)
    (x0 : Vec F S1x512x1024 .f32) (x1 : Vec F S1x8x1024 .f32) (x2 : Vec F S8x1024 .f32) (x3 : Vec F S1x4x512x512 .bf16) (x4 : Vec F S1x4x512x512 .bf16) (x5 : Vec F S2048x1024 .bf16) (x6 : Vec F S1024x5632 .bf16) (x7 : Vec F S2816x1024 .bf16) (x8 : Vec F S256x256 .bf16) (x9 : Vec F S1x16x1024 .f32) (x10 : Vec F S1x16x5632 .f32) (x11 : Vec F S1x176x1024 .f32)

theorem half0 : 0 < 2 := by decide
theorem half1 : 1 < 2 := by decide

/-- Row `r` of the modulation table, as the body loads it. -/
def tAt (r : ℕ) (h : r < 8) : FVec F S1x1024 .f32 :=
  rowV (View.readAt (Elt F) arg3.view (Rect.unit (s := S1x8x1024) ![0, r, 0] S1x1x1024.size (inbT r h)).toLoadRect (harg3.unread x1))

/-- Row `r` of the gains, as the body loads it. -/
def gAt (r : ℕ) (h : r < 8) : Vec F S1x1024 .f32 :=
  View.readAt (Elt F) arg4.view (Rect.unit (s := S8x1024) ![r, 0] S1x1024.size (inbG r h)).toLoadRect (harg4.unread x2)

/-- Head `n` of half `r`: its rows times its gates. -/
def zAt (n r : ℕ) (hn : n < 4) (h : r < 2) : FVec F S256x512 .bf16 :=
  gateV
    (View.readAt (Elt F) arg6.view (Rect.unit (s := S1x4x512x512) ![0, n, 256 * r, 0] S1x1x256x512.size (inbY n r hn h)).toLoadRect (harg6.unread x4))
    (View.readAt (Elt F) arg5.view (Rect.unit (s := S1x4x512x512) ![0, n, 256 * r, 0] S1x1x256x512.size (inbY n r hn h)).toLoadRect (harg5.unread x3))

/-- Half `r` after the mixer's update. -/
def mixedAt (r : ℕ) (h : r < 2) : FVec F S256x1024 .f32 :=
  addV (View.readAt (Elt F) arg2.view (Rect.unit (s := S1x512x1024) ![0, 256 * r, 0] S1x256x1024.size (inbX r h)).toLoadRect (harg2.unread x0))
    (tAt arg3 harg3 x1 0 (by decide))
    (headsV (zAt arg5 harg5 arg6 harg6 x3 x4 0 r (by decide) h) (zAt arg5 harg5 arg6 harg6 x3 x4 1 r (by decide) h)
      (zAt arg5 harg5 arg6 harg6 x3 x4 2 r (by decide) h) (zAt arg5 harg5 arg6 harg6 x3 x4 3 r (by decide) h)
      (View.readAt (Elt F) arg7.view (Rect.unit (s := S2048x1024) ![0, 0] S2048x1024.size inb_S2048x1024_S2048x1024_0_0).toLoadRect (harg7.unread x5)))

/-- Half `r`, normalized for the feed-forward layer, as the scratch keeps it. -/
def normedAt (r : ℕ) (h : r < 2) : FVec F S256x1024 .bf16 :=
  keepV (normV (mixedAt arg2 harg2 arg3 harg3 arg5 harg5 arg6 harg6 arg7 harg7 x0 x1 x3 x4 x5 r h) (gAt arg4 harg4 x2 0 (by decide)) (tAt arg3 harg3 x1 1 (by decide)) (tAt arg3 harg3 x1 2 (by decide)))

/-- What the scratch of the normalized rows holds: both halves, last first. -/
def normedL : List (Piece (Elt F) S512x1024 .bf16) :=
  [⟨Rect.unit (s := S512x1024) ![256 * 1, 0] S256x1024.size (inbH 1 half1), normedAt arg2 harg2 arg3 harg3 arg4 harg4 arg5 harg5 arg6 harg6 arg7 harg7 x0 x1 x2 x3 x4 x5 1 half1⟩,
    ⟨Rect.unit (s := S512x1024) ![256 * 0, 0] S256x1024.size (inbH 0 half0), normedAt arg2 harg2 arg3 harg3 arg4 harg4 arg5 harg5 arg6 harg6 arg7 harg7 x0 x1 x2 x3 x4 x5 0 half0⟩]

/-- Half `r` of the normalized rows, as the body loads it back. -/
def hAt (r : ℕ) (h : r < 2) : Vec F S256x1024 .bf16 :=
  arg19.view.readCov (normedL arg2 harg2 arg3 harg3 arg4 harg4 arg5 harg5 arg6 harg6 arg7 harg7 x0 x1 x2 x3 x4 x5) (Rect.unit (s := S512x1024) ![256 * r, 0] S256x1024.size (inbH r h)).toLoadRect

/-- The 256 columns of the inward weights from column `o` on, as the body loads them. -/
def wAt (o : ℕ) (h : o ≤ 5376) : Vec F S1024x256 .bf16 :=
  View.readAt (Elt F) arg8.view (Rect.unit (s := S1024x5632) ![0, o] S1024x256.size (inbW o h)).toLoadRect (harg8.unread x6)

/-- Chunk `n` of the hidden layer on half `r`. -/
def hiddenAt (r n : ℕ) (h : r < 2) (hn : n < 11) : FVec F S256x256 .bf16 :=
  hiddenV (hAt arg2 harg2 arg3 harg3 arg4 harg4 arg5 harg5 arg6 harg6 arg7 harg7 arg19 x0 x1 x2 x3 x4 x5 r h) (wAt arg8 harg8 x6 (256 * n) (gate_le n hn)) (wAt arg8 harg8 x6 (2816 + 256 * n) (up_le n hn))

/-- What the scratch of the hidden layer holds after chunk `n`: the pieces, last first. -/
def hiddenL : ℕ → List (Piece (Elt F) S512x2816 .bf16)
  | 0 => [⟨Rect.unit (s := S512x2816) ![256 * 1, 256 * (0 % 11)] S256x256.size (inbA 1 (0 % 11) half1 (mod_lt 0)), hiddenAt arg2 harg2 arg3 harg3 arg4 harg4 arg5 harg5 arg6 harg6 arg7 harg7 arg8 harg8 arg19 x0 x1 x2 x3 x4 x5 x6 1 (0 % 11) half1 (mod_lt 0)⟩,
      ⟨Rect.unit (s := S512x2816) ![256 * 0, 256 * (0 % 11)] S256x256.size (inbA 0 (0 % 11) half0 (mod_lt 0)), hiddenAt arg2 harg2 arg3 harg3 arg4 harg4 arg5 harg5 arg6 harg6 arg7 harg7 arg8 harg8 arg19 x0 x1 x2 x3 x4 x5 x6 0 (0 % 11) half0 (mod_lt 0)⟩]
  | n + 1 => ⟨Rect.unit (s := S512x2816) ![256 * 1, 256 * ((n + 1) % 11)] S256x256.size (inbA 1 ((n + 1) % 11) half1 (mod_lt (n + 1))),
        hiddenAt arg2 harg2 arg3 harg3 arg4 harg4 arg5 harg5 arg6 harg6 arg7 harg7 arg8 harg8 arg19 x0 x1 x2 x3 x4 x5 x6 1 ((n + 1) % 11) half1 (mod_lt (n + 1))⟩ ::
      ⟨Rect.unit (s := S512x2816) ![256 * 0, 256 * ((n + 1) % 11)] S256x256.size (inbA 0 ((n + 1) % 11) half0 (mod_lt (n + 1))),
        hiddenAt arg2 harg2 arg3 harg3 arg4 harg4 arg5 harg5 arg6 harg6 arg7 harg7 arg8 harg8 arg19 x0 x1 x2 x3 x4 x5 x6 0 ((n + 1) % 11) half0 (mod_lt (n + 1))⟩ ::
      hiddenL n

/-- Half `r` of the hidden layer, as the body loads it back. -/
def aAt (r : ℕ) (h : r < 2) : Vec F S256x2816 .bf16 :=
  arg20.view.readCov (hiddenL arg2 harg2 arg3 harg3 arg4 harg4 arg5 harg5 arg6 harg6 arg7 harg7 arg8 harg8 arg19 x0 x1 x2 x3 x4 x5 x6 10) (Rect.unit (s := S512x2816) ![256 * r, 0] S256x2816.size (inbL r h)).toLoadRect

/-- What the first result holds between the two layers: both halves after the mixer's update, last first. -/
def mixedL : List (Piece (Elt F) S1x512x1024 .f32) :=
  [⟨Rect.unit (s := S1x512x1024) ![0, 256 * 1, 0] S1x256x1024.size (inbX 1 half1), blockV (mixedAt arg2 harg2 arg3 harg3 arg5 harg5 arg6 harg6 arg7 harg7 x0 x1 x3 x4 x5 1 half1)⟩,
    ⟨Rect.unit (s := S1x512x1024) ![0, 256 * 0, 0] S1x256x1024.size (inbX 0 half0), blockV (mixedAt arg2 harg2 arg3 harg3 arg5 harg5 arg6 harg6 arg7 harg7 x0 x1 x3 x4 x5 0 half0)⟩]

/-- Half `r` after the feed-forward update, from what the first result holds before. -/
def streamAt (r : ℕ) (h : r < 2) (L : List (Piece (Elt F) S1x512x1024 .f32)) : FVec F S256x1024 .f32 :=
  addV (arg14.view.readCov L (Rect.unit (s := S1x512x1024) ![0, 256 * r, 0] S1x256x1024.size (inbX r h)).toLoadRect) (tAt arg3 harg3 x1 3 (by decide))
    (leaveV (aAt arg2 harg2 arg3 harg3 arg4 harg4 arg5 harg5 arg6 harg6 arg7 harg7 arg8 harg8 arg19 arg20 x0 x1 x2 x3 x4 x5 x6 r h)
      (View.readAt (Elt F) arg9.view (Rect.unit (s := S2816x1024) ![0, 0] S2816x1024.size inb_S2816x1024_S2816x1024_0_0).toLoadRect (harg9.unread x7)))

/-- Half `r` normalized for the next mixer, its rows reordered. -/
def nextAt (r : ℕ) (h : r < 2) (L : List (Piece (Elt F) S1x512x1024 .f32)) : FVec F S256x1024 .bf16 :=
  permV (View.readAt (Elt F) arg10.view (Rect.unit (s := S256x256) ![0, 0] S256x256.size inb_S256x256_S256x256_0_0).toLoadRect (harg10.unread x8))
    (normV (streamAt arg2 harg2 arg3 harg3 arg4 harg4 arg5 harg5 arg6 harg6 arg7 harg7 arg8 harg8 arg9 harg9 arg14 arg19 arg20 x0 x1 x2 x3 x4 x5 x6 x7 r h L) (gAt arg4 harg4 x2 1 (by decide)) (tAt arg3 harg3 x1 4 (by decide)) (tAt arg3 harg3 x1 5 (by decide)))

/-- What the first result holds once its half 0 is stored. -/
def firstL : List (Piece (Elt F) S1x512x1024 .f32) :=
  ⟨Rect.unit (s := S1x512x1024) ![0, 256 * 0, 0] S1x256x1024.size (inbX 0 half0), blockV (streamAt arg2 harg2 arg3 harg3 arg4 harg4 arg5 harg5 arg6 harg6 arg7 harg7 arg8 harg8 arg9 harg9 arg14 arg19 arg20 x0 x1 x2 x3 x4 x5 x6 x7 0 half0 (mixedL arg2 harg2 arg3 harg3 arg5 harg5 arg6 harg6 arg7 harg7 x0 x1 x3 x4 x5))⟩ :: mixedL arg2 harg2 arg3 harg3 arg5 harg5 arg6 harg6 arg7 harg7 x0 x1 x3 x4 x5

/-- What the first result holds at the end. -/
def streamL : List (Piece (Elt F) S1x512x1024 .f32) :=
  ⟨Rect.unit (s := S1x512x1024) ![0, 256 * 1, 0] S1x256x1024.size (inbX 1 half1), blockV (streamAt arg2 harg2 arg3 harg3 arg4 harg4 arg5 harg5 arg6 harg6 arg7 harg7 arg8 harg8 arg9 harg9 arg14 arg19 arg20 x0 x1 x2 x3 x4 x5 x6 x7 1 half1 (firstL arg2 harg2 arg3 harg3 arg4 harg4 arg5 harg5 arg6 harg6 arg7 harg7 arg8 harg8 arg9 harg9 arg14 arg19 arg20 x0 x1 x2 x3 x4 x5 x6 x7))⟩ :: firstL arg2 harg2 arg3 harg3 arg4 harg4 arg5 harg5 arg6 harg6 arg7 harg7 arg8 harg8 arg9 harg9 arg14 arg19 arg20 x0 x1 x2 x3 x4 x5 x6 x7

/-- What the second result holds at the end: 32 pieces for each half. -/
def nextL : List (Piece (Elt F) S1x2x16x32x512 .bf16) :=
  piecesL 1 half1 (nextAt arg2 harg2 arg3 harg3 arg4 harg4 arg5 harg5 arg6 harg6 arg7 harg7 arg8 harg8 arg9 harg9 arg10 harg10 arg14 arg19 arg20 x0 x1 x2 x3 x4 x5 x6 x7 x8 1 half1 (firstL arg2 harg2 arg3 harg3 arg4 harg4 arg5 harg5 arg6 harg6 arg7 harg7 arg8 harg8 arg9 harg9 arg14 arg19 arg20 x0 x1 x2 x3 x4 x5 x6 x7)) (piecesL 0 half0 (nextAt arg2 harg2 arg3 harg3 arg4 harg4 arg5 harg5 arg6 harg6 arg7 harg7 arg8 harg8 arg9 harg9 arg10 harg10 arg14 arg19 arg20 x0 x1 x2 x3 x4 x5 x6 x7 x8 0 half0 (mixedL arg2 harg2 arg3 harg3 arg5 harg5 arg6 harg6 arg7 harg7 x0 x1 x3 x4 x5)) [] 32) 32

set_option maxHeartbeats 8000000 in
/-- What the body stores in its first large result. -/
theorem stream_eq : (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).1 = streamL arg2 harg2 arg3 harg3 arg4 harg4 arg5 harg5 arg6 harg6 arg7 harg7 arg8 harg8 arg9 harg9 arg14 arg19 arg20 x0 x1 x2 x3 x4 x5 x6 x7 := rfl

set_option maxHeartbeats 8000000 in
/-- What the body stores in its second large result. -/
theorem next_eq : (midRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.1 = nextL arg2 harg2 arg3 harg3 arg4 harg4 arg5 harg5 arg6 harg6 arg7 harg7 arg8 harg8 arg9 harg9 arg10 harg10 arg14 arg19 arg20 x0 x1 x2 x3 x4 x5 x6 x7 x8 := rfl

end Body

end Cert.Kernel5Ideal.Mid

end
-- ==== Proof.MidIPoint.lean ====
/- The body's steps read at an index, at the reals with infinities. -/
module

public import proofs.«01_k».proof.Proof.MidIBody
public import proofs.«01_k».proof.Proof.MixIPoint

@[expose] public section

set_option maxRecDepth 16384

noncomputable section

namespace Cert.Kernel5Ideal.Mid

open Cert.Kernel5Ideal Cert.Kernel5Ideal.Gen Cert.Ffn Idealize.ShloMosaic Idealize.ShloMosaic.TcCoe Idealize.SL.Sem
open Cert.Kernel2Ideal.Ffn (rowV gateV headsV addV normV keepV projV hiddenV leaveV blockV inbX inbT inbG inbY inbH inbW inbA inbL mod_lt gate_le up_le
  rowV_apply gateV_apply headsV_apply addV_apply normV_apply keepV_apply projV_apply hiddenV_apply leaveV_apply blockV_apply row_lt mixedR normedR outR)
open Cert.Kernel4Ideal.Mix (halves_apply)

/-- What the table that reorders the rows holds: row `16 s + j` takes row `16 j + s`. -/
def Reorders (p : Vec Ideal S256x256 .bf16) : Prop :=
  ∀ t k : Fin 256, p (ix2 t k) = if 16 * (t.val % 16) + t.val / 16 = k.val then 1 else 0

/-- The product with the table picks a row. -/
theorem permV_apply (p : Vec Ideal S256x256 .bf16) (hp : Reorders p) (x : FVec Ideal S256x1024 .f32) (s j : Fin 16) (e : Fin 1024) :
    permV p x (ix2 (⟨16 * s.val + j.val, by omega⟩ : Fin 256) e) = x (ix2 (⟨16 * j.val + s.val, by omega⟩ : Fin 256) e) := by
  have h : permV p x (ix2 (⟨16 * s.val + j.val, by omega⟩ : Fin 256) e)
      = ∑ k : Fin 256, p (ix2 (⟨16 * s.val + j.val, by omega⟩ : Fin 256) k) * x (ix2 k e) := by
    unfold permV
    pointwise
  rw [h, Finset.sum_eq_single (⟨16 * j.val + s.val, by omega⟩ : Fin 256)]
  · rw [hp, if_pos (by simp only; omega), one_mul]
  · intro k _ hk
    rw [hp, if_neg fun h => hk (Fin.ext (by simp only at h ⊢; omega)), zero_mul]
  · exact fun h => absurd (Finset.mem_univ _) h

/-- Sixteen reordered rows and half of their columns. -/
theorem pieceV_apply (v : FVec Ideal S256x1024 .bf16) (s k : ℕ) (hs : s < 16) (hk : k < 2) (j : Fin 16) (e : Fin 512) :
    pieceV v s k hs hk (ix5 0 0 0 j e) = v (ix2 (⟨16 * s + j.val, by omega⟩ : Fin 256) (⟨512 * k + e.val, by omega⟩ : Fin 1024)) := by
  unfold pieceV
  pointwise

/-- Row `n` of the residual stream handed on. -/
def streamR (x0 : Vec Ideal S1x512x1024 .f32) (x1 : Vec Ideal S1x8x1024 .f32) (x2 : Vec Ideal S8x1024 .f32) (x3 x4 : Vec Ideal S1x4x512x512 .bf16)
    (x5 : Vec Ideal S2048x1024 .bf16) (x6 : Vec Ideal S1024x5632 .bf16) (x7 : Vec Ideal S2816x1024 .bf16) (n : Fin 512) : Fin 1024 → EReal :=
  fed (mixedR x0 x1 x3 x4 x5 n) (normedR x0 x1 x2 x3 x4 x5 n) (fun j => x1 (ix3 0 3 j)) (fun d k => x6 (ix2 d k)) (fun k j => x7 (ix2 k j))

section Body

variable (c : Dev nD) (i : grid0.Coords)
    (arg2 : Memref sig .tc .vmem S1x512x1024 .f32) (harg2 : arg2.IsWhole)
    (arg3 : Memref sig .tc .vmem S1x8x1024 .f32) (harg3 : arg3.IsWhole)
    (arg4 : Memref sig .tc .vmem S8x1024 .f32) (harg4 : arg4.IsWhole)
    (arg5 : Memref sig .tc .vmem S1x4x512x512 .bf16) (harg5 : arg5.IsWhole)
    (arg6 : Memref sig .tc .vmem S1x4x512x512 .bf16) (harg6 : arg6.IsWhole)
    (arg7 : Memref sig .tc .vmem S2048x1024 .bf16) (harg7 : arg7.IsWhole)
    (arg8 : Memref sig .tc .vmem S1024x5632 .bf16) (harg8 : arg8.IsWhole)
    (arg9 : Memref sig .tc .vmem S2816x1024 .bf16) (harg9 : arg9.IsWhole)
    (arg10 : Memref sig .tc .vmem S256x256 .bf16) (harg10 : arg10.IsWhole)
    (arg11 : Memref sig .tc .vmem S1x16x1024 .f32) (harg11 : arg11.IsWhole)
    (arg12 : Memref sig .tc .vmem S1x16x5632 .f32) (harg12 : arg12.IsWhole)
    (arg13 : Memref sig .tc .vmem S1x176x1024 .f32) (harg13 : arg13.IsWhole)
    (arg14 : Memref sig .tc .vmem S1x512x1024 .f32) (harg14 : arg14.IsWhole)
    (arg15 : Memref sig .tc .vmem S1x2x16x32x512 .bf16) (harg15 : arg15.IsWhole)
    (arg16 : Memref sig .tc .vmem S16x1024 .bf16) (harg16 : arg16.IsWhole)
    (arg17 : Memref sig .tc .vmem S16x5632 .bf16) (harg17 : arg17.IsWhole)
    (arg18 : Memref sig .tc .vmem S176x1024 .bf16) (harg18 : arg18.IsWhole)
    (arg19 : Memref sig .tc .vmem S512x1024 .bf16) (harg19 : arg19.IsWhole)
    (arg20 : Memref sig .tc .vmem S512x2816 .bf16) (harg20 : arg20.IsWhole)
    (x0 : Vec Ideal S1x512x1024 .f32) (x1 : Vec Ideal S1x8x1024 .f32) (x2 : Vec Ideal S8x1024 .f32) (x3 x4 : Vec Ideal S1x4x512x512 .bf16)
    (x5 : Vec Ideal S2048x1024 .bf16) (x6 : Vec Ideal S1024x5632 .bf16) (x7 : Vec Ideal S2816x1024 .bf16) (x8 : Vec Ideal S256x256 .bf16)

theorem tAt_apply (r : ℕ) (h : r < 8) (j : Fin 1024) : tAt arg3 harg3 x1 r h (ix2 0 j) = x1 (ix3 0 ⟨r, h⟩ j) := by
  unfold tAt
  rw [rowV_apply, View.readAt_eq_ld, harg3.read_unread]
  pointwise

theorem gAt_apply (r : ℕ) (h : r < 8) (j : Fin 1024) : gAt arg4 harg4 x2 r h (ix2 0 j) = x2 (ix2 ⟨r, h⟩ j) := by
  unfold gAt
  rw [View.readAt_eq_ld, harg4.read_unread]
  pointwise

theorem zAt_apply (n r : ℕ) (hn : n < 4) (h : r < 2) (t : Fin 256) (j : Fin 512) :
    zAt arg5 harg5 arg6 harg6 x3 x4 n r hn h (ix2 t j)
      = x4 (ix4 0 ⟨n, hn⟩ ⟨256 * r + t, row_lt r h t⟩ j) * x3 (ix4 0 ⟨n, hn⟩ ⟨256 * r + t, row_lt r h t⟩ j) := by
  unfold zAt
  rw [gateV_apply, View.readAt_eq_ld, harg6.read_unread, View.readAt_eq_ld, harg5.read_unread]
  pointwise

theorem wAt_apply (o : ℕ) (h : o ≤ 5376) (d : Fin 1024) (n : Fin 256) : wAt arg8 harg8 x6 o h (ix2 d n) = x6 (ix2 d ⟨o + n, by omega⟩) := by
  unfold wAt
  rw [View.readAt_eq_ld, harg8.read_unread]
  pointwise

/-- A row after the mixer's update. -/
theorem mixedAt_apply (r : ℕ) (h : r < 2) (t : Fin 256) (j : Fin 1024) :
    mixedAt arg2 harg2 arg3 harg3 arg5 harg5 arg6 harg6 arg7 harg7 x0 x1 x3 x4 x5 r h (ix2 t j) = mixedR x0 x1 x3 x4 x5 ⟨256 * r + t, row_lt r h t⟩ j := by
  unfold mixedAt mixedR mixed
  rw [addV_apply, tAt_apply, headsV_apply (Z := fun n d => x4 (ix4 0 n ⟨256 * r + t, row_lt r h t⟩ d) * x3 (ix4 0 n ⟨256 * r + t, row_lt r h t⟩ d))
    (h0 := fun d => zAt_apply arg5 harg5 arg6 harg6 x3 x4 0 r _ h t d) (h1 := fun d => zAt_apply arg5 harg5 arg6 harg6 x3 x4 1 r _ h t d)
    (h2 := fun d => zAt_apply arg5 harg5 arg6 harg6 x3 x4 2 r _ h t d) (h3 := fun d => zAt_apply arg5 harg5 arg6 harg6 x3 x4 3 r _ h t d),
    View.readAt_eq_ld, harg2.read_unread, View.readAt_eq_ld, harg7.read_unread]
  pointwise

/-- A row, normalized for the feed-forward layer. -/
theorem normedAt_apply (r : ℕ) (h : r < 2) (t : Fin 256) (j : Fin 1024) :
    normedAt arg2 harg2 arg3 harg3 arg4 harg4 arg5 harg5 arg6 harg6 arg7 harg7 x0 x1 x2 x3 x4 x5 r h (ix2 t j) = normedR x0 x1 x2 x3 x4 x5 ⟨256 * r + t, row_lt r h t⟩ j := by
  unfold normedAt normedR
  rw [keepV_apply, normV_apply]
  simp only [mixedAt_apply, gAt_apply, tAt_apply]
  rfl

/-- A normalized row read back. -/
theorem hAt_apply (r : ℕ) (h : r < 2) (t : Fin 256) (j : Fin 1024) :
    hAt arg2 harg2 arg3 harg3 arg4 harg4 arg5 harg5 arg6 harg6 arg7 harg7 arg19 x0 x1 x2 x3 x4 x5 r h (ix2 t j) = normedR x0 x1 x2 x3 x4 x5 ⟨256 * r + t, row_lt r h t⟩ j := by
  unfold hAt normedL
  obtain rfl | rfl : r = 0 ∨ r = 1 := by omega
  · rw [View.readCov_skip _ _ _ _ _ rfl, View.readCov_cons_toLoadRect, normedAt_apply]
  · rw [View.readCov_cons_toLoadRect, normedAt_apply]

/-- A chunk of the hidden layer. -/
theorem hiddenAt_apply (r n : ℕ) (h : r < 2) (hn : n < 11) (t k : Fin 256) :
    hiddenAt arg2 harg2 arg3 harg3 arg4 harg4 arg5 harg5 arg6 harg6 arg7 harg7 arg8 harg8 arg19 x0 x1 x2 x3 x4 x5 x6 r n h hn (ix2 t k)
      = hiddenUnit (normedR x0 x1 x2 x3 x4 x5 ⟨256 * r + t, row_lt r h t⟩) (fun d k => x6 (ix2 d k)) ⟨256 * n + k, by omega⟩ := by
  unfold hiddenAt hiddenUnit
  rw [hiddenV_apply, projV_apply, projV_apply]
  simp only [hAt_apply, wAt_apply, Nat.add_assoc]

/-- The hidden layer as one array. -/
def hiddenG : Vec Ideal S512x2816 .bf16 := fun y => hiddenUnit (normedR x0 x1 x2 x3 x4 x5 (y 0)) (fun d k => x6 (ix2 d k)) (y 1)

theorem hidden_tile (r n : ℕ) (h : r < 2) (hn : n < 11) (y : S512x2816.Idx) :
    View.TileAt y (![256 * r, 256 * n] : Fin 2 → ℕ) S256x256.size (hiddenAt arg2 harg2 arg3 harg3 arg4 harg4 arg5 harg5 arg6 harg6 arg7 harg7 arg8 harg8 arg19 x0 x1 x2 x3 x4 x5 x6 r n h hn) (hiddenG x0 x1 x2 x3 x4 x5 x6 y) := by
  intro x hx
  have e0 : (y 0).val = 256 * r + (x 0).val := hx 0
  have e1 : (y 1).val = 256 * n + (x 1).val := hx 1
  have ex : x = ix2 (x 0) (x 1) := by funext a; fin_cases a <;> rfl
  rw [ex]
  refine (hiddenAt_apply arg2 harg2 arg3 harg3 arg4 harg4 arg5 harg5 arg6 harg6 arg7 harg7 arg8 harg8 arg19 x0 x1 x2 x3 x4 x5 x6 r n h hn (x 0) (x 1)).trans ?_
  unfold hiddenG
  exact congr (congrArg (fun u => hiddenUnit (normedR x0 x1 x2 x3 x4 x5 u) _) (Fin.ext e0.symm)) (Fin.ext e1.symm)

theorem hidden_allAt (n : ℕ) (hn : n < 11) (y : S512x2816.Idx) : View.AllAt (hiddenL arg2 harg2 arg3 harg3 arg4 harg4 arg5 harg5 arg6 harg6 arg7 harg7 arg8 harg8 arg19 x0 x1 x2 x3 x4 x5 x6 n) y (hiddenG x0 x1 x2 x3 x4 x5 x6 y) := by
  have two : ∀ (k : ℕ) (hk : k < 11) (L : List (View.Piece (Elt Ideal) S512x2816 .bf16)), View.AllAt L y (hiddenG x0 x1 x2 x3 x4 x5 x6 y) →
      View.AllAt (⟨Rect.unit (s := S512x2816) ![256 * 1, 256 * k] S256x256.size (inbA 1 k half1 hk), hiddenAt arg2 harg2 arg3 harg3 arg4 harg4 arg5 harg5 arg6 harg6 arg7 harg7 arg8 harg8 arg19 x0 x1 x2 x3 x4 x5 x6 1 k half1 hk⟩ ::
        ⟨Rect.unit (s := S512x2816) ![256 * 0, 256 * k] S256x256.size (inbA 0 k half0 hk), hiddenAt arg2 harg2 arg3 harg3 arg4 harg4 arg5 harg5 arg6 harg6 arg7 harg7 arg8 harg8 arg19 x0 x1 x2 x3 x4 x5 x6 0 k half0 hk⟩ :: L) y (hiddenG x0 x1 x2 x3 x4 x5 x6 y) :=
    fun k hk L hL => View.allAt_cons_unit _ _ _ _ _ (hidden_tile arg2 harg2 arg3 harg3 arg4 harg4 arg5 harg5 arg6 harg6 arg7 harg7 arg8 harg8 arg19 x0 x1 x2 x3 x4 x5 x6 1 k half1 hk y) (View.allAt_cons_unit _ _ _ _ _ (hidden_tile arg2 harg2 arg3 harg3 arg4 harg4 arg5 harg5 arg6 harg6 arg7 harg7 arg8 harg8 arg19 x0 x1 x2 x3 x4 x5 x6 0 k half0 hk y) hL)
  induction n with
  | zero => exact two (0 % 11) (mod_lt 0) [] (View.allAt_nil _ _)
  | succ n ih => exact two ((n + 1) % 11) (mod_lt (n + 1)) _ (ih (by omega))

/-- A row of the hidden layer read back. -/
theorem aAt_apply (r : ℕ) (h : r < 2) (t : Fin 256) (k : Fin 2816) :
    aAt arg2 harg2 arg3 harg3 arg4 harg4 arg5 harg5 arg6 harg6 arg7 harg7 arg8 harg8 arg19 arg20 x0 x1 x2 x3 x4 x5 x6 r h (ix2 t k) = hiddenUnit (normedR x0 x1 x2 x3 x4 x5 ⟨256 * r + t, row_lt r h t⟩) (fun d k => x6 (ix2 d k)) k := by
  unfold aAt
  rw [View.readCov_eq_canon']
  show View.canon _ ((Rect.unit (s := S512x2816) ![256 * r, 0] S256x2816.size (inbL r h)).toLoadRect.idx (ix2 t k)) = _
  have e : (Rect.unit (s := S512x2816) ![256 * r, 0] S256x2816.size (inbL r h)).toLoadRect.idx (ix2 t k) = ix2 ⟨256 * r + t, row_lt r h t⟩ k := by
    pointwise
  rw [e]
  exact View.canon_eq_of_allAt _ _ _ (View.cover_of_tiled (s := S512x2816) _ S256x256.size rfl _) (hidden_allAt arg2 harg2 arg3 harg3 arg4 harg4 arg5 harg5 arg6 harg6 arg7 harg7 arg8 harg8 arg19 x0 x1 x2 x3 x4 x5 x6 10 (by decide) _)

/-- A row of the first result, where it holds that row after the mixer's update before. -/
theorem streamAt_apply (r : ℕ) (h : r < 2) (L : List (View.Piece (Elt Ideal) S1x512x1024 .f32))
    (hL : arg14.view.readCov L (Rect.unit (s := S1x512x1024) ![0, 256 * r, 0] S1x256x1024.size (inbX r h)).toLoadRect = blockV (mixedAt arg2 harg2 arg3 harg3 arg5 harg5 arg6 harg6 arg7 harg7 x0 x1 x3 x4 x5 r h))
    (t : Fin 256) (j : Fin 1024) :
    streamAt arg2 harg2 arg3 harg3 arg4 harg4 arg5 harg5 arg6 harg6 arg7 harg7 arg8 harg8 arg9 harg9 arg14 arg19 arg20 x0 x1 x2 x3 x4 x5 x6 x7 r h L (ix2 t j) = streamR x0 x1 x2 x3 x4 x5 x6 x7 ⟨256 * r + t, row_lt r h t⟩ j := by
  unfold streamAt streamR fed
  rw [hL]
  simp only [addV_apply, blockV_apply, mixedAt_apply, tAt_apply, leaveV_apply, aAt_apply]
  rw [View.readAt_eq_ld, harg9.read_unread]
  pointwise

/-- A row of half `r`, normalized for the next mixer, at its place among the reordered rows. -/
theorem nextAt_apply (hp : Reorders x8) (r : ℕ) (h : r < 2) (L : List (View.Piece (Elt Ideal) S1x512x1024 .f32))
    (hL : arg14.view.readCov L (Rect.unit (s := S1x512x1024) ![0, 256 * r, 0] S1x256x1024.size (inbX r h)).toLoadRect = blockV (mixedAt arg2 harg2 arg3 harg3 arg5 harg5 arg6 harg6 arg7 harg7 x0 x1 x3 x4 x5 r h))
    (s j : Fin 16) (e : Fin 1024) :
    nextAt arg2 harg2 arg3 harg3 arg4 harg4 arg5 harg5 arg6 harg6 arg7 harg7 arg8 harg8 arg9 harg9 arg10 harg10 arg14 arg19 arg20 x0 x1 x2 x3 x4 x5 x6 x7 x8 r h L (ix2 (⟨16 * s.val + j.val, by omega⟩ : Fin 256) e)
      = outR x0 x1 x2 x3 x4 x5 x6 x7 ⟨256 * r + (16 * j.val + s.val), by omega⟩ e := by
  have e8 : View.readAt (Elt Ideal) arg10.view (Rect.unit (s := S256x256) ![0, 0] S256x256.size inb_S256x256_S256x256_0_0).toLoadRect (harg10.unread x8) = x8 := by
    rw [View.readAt_eq_ld, harg10.read_unread]
    funext y
    have ey : y = ix2 (y 0) (y 1) := by funext a; fin_cases a <;> rfl
    rw [ey]
    pointwise
  unfold nextAt outR
  rw [e8, permV_apply x8 hp, normV_apply]
  simp only [streamAt_apply arg2 harg2 arg3 harg3 arg4 harg4 arg5 harg5 arg6 harg6 arg7 harg7 arg8 harg8 arg9 harg9 arg14 arg19 arg20 x0 x1 x2 x3 x4 x5 x6 x7 r h L hL, gAt_apply, tAt_apply]
  rfl

theorem mixed_first : arg14.view.readCov (mixedL arg2 harg2 arg3 harg3 arg5 harg5 arg6 harg6 arg7 harg7 x0 x1 x3 x4 x5) (Rect.unit (s := S1x512x1024) ![0, 256 * 0, 0] S1x256x1024.size (inbX 0 half0)).toLoadRect
    = blockV (mixedAt arg2 harg2 arg3 harg3 arg5 harg5 arg6 harg6 arg7 harg7 x0 x1 x3 x4 x5 0 half0) := by
  unfold mixedL
  rw [View.readCov_skip _ _ _ _ _ rfl, View.readCov_cons_toLoadRect]

theorem mixed_second : arg14.view.readCov (firstL arg2 harg2 arg3 harg3 arg4 harg4 arg5 harg5 arg6 harg6 arg7 harg7 arg8 harg8 arg9 harg9 arg14 arg19 arg20 x0 x1 x2 x3 x4 x5 x6 x7) (Rect.unit (s := S1x512x1024) ![0, 256 * 1, 0] S1x256x1024.size (inbX 1 half1)).toLoadRect
    = blockV (mixedAt arg2 harg2 arg3 harg3 arg5 harg5 arg6 harg6 arg7 harg7 x0 x1 x3 x4 x5 1 half1) := by
  unfold firstL mixedL
  rw [View.readCov_skip _ _ _ _ _ rfl, View.readCov_cons_toLoadRect]

/-- What the point stores in its first large result, at an index. -/
theorem stream_apply (y : S1x512x1024.Idx) : View.canon (streamL arg2 harg2 arg3 harg3 arg4 harg4 arg5 harg5 arg6 harg6 arg7 harg7 arg8 harg8 arg9 harg9 arg14 arg19 arg20 x0 x1 x2 x3 x4 x5 x6 x7) y = streamR x0 x1 x2 x3 x4 x5 x6 x7 (y 1) (y 2) := by
  unfold streamL
  conv_lhs => unfold firstL
  exact halves_apply (e := .f32) (streamR x0 x1 x2 x3 x4 x5 x6 x7) _ _ _
    (fun t j => (blockV_apply _ t j).trans (streamAt_apply arg2 harg2 arg3 harg3 arg4 harg4 arg5 harg5 arg6 harg6 arg7 harg7 arg8 harg8 arg9 harg9 arg14 arg19 arg20 x0 x1 x2 x3 x4 x5 x6 x7 0 half0 _ (mixed_first arg2 harg2 arg3 harg3 arg5 harg5 arg6 harg6 arg7 harg7 arg14 x0 x1 x3 x4 x5) t j))
    (fun t j => (blockV_apply _ t j).trans (streamAt_apply arg2 harg2 arg3 harg3 arg4 harg4 arg5 harg5 arg6 harg6 arg7 harg7 arg8 harg8 arg9 harg9 arg14 arg19 arg20 x0 x1 x2 x3 x4 x5 x6 x7 1 half1 _ (mixed_second arg2 harg2 arg3 harg3 arg4 harg4 arg5 harg5 arg6 harg6 arg7 harg7 arg8 harg8 arg9 harg9 arg14 arg19 arg20 x0 x1 x2 x3 x4 x5 x6 x7) t j)) y

theorem rowG (y : S1x2x16x32x512.Idx) : 16 * (y 3).val + (y 2).val < 512 := by
  have h3 : (y 3).val < 32 := (y 3).isLt
  have h2 : (y 2).val < 16 := (y 2).isLt
  omega

theorem colG (y : S1x2x16x32x512.Idx) : 512 * (y 1).val + (y 4).val < 1024 := by
  have h1 : (y 1).val < 2 := (y 1).isLt
  have h4 : (y 4).val < 512 := (y 4).isLt
  omega

/-- The second result as one array. -/
def nextG : Vec Ideal S1x2x16x32x512 .bf16 := fun y => outR x0 x1 x2 x3 x4 x5 x6 x7 ⟨16 * (y 3).val + (y 2).val, rowG y⟩ ⟨512 * (y 1).val + (y 4).val, colG y⟩

theorem idx_piece (x : S1x1x1x16x512.Idx) : x = ix5 0 0 0 (x 3) (x 4) := by
  have l0 : (x 0).val < 1 := (x 0).isLt
  have l1 : (x 1).val < 1 := (x 1).isLt
  have l2 : (x 2).val < 1 := (x 2).isLt
  funext a
  fin_cases a
  · exact Fin.ext (Nat.lt_one_iff.1 l0)
  · exact Fin.ext (Nat.lt_one_iff.1 l1)
  · exact Fin.ext (Nat.lt_one_iff.1 l2)
  · rfl
  · rfl

/-- A half's reordered rows make its pieces rows of the second result. -/
theorem pieces_allAt (r : ℕ) (h : r < 2) (v : FVec Ideal S256x1024 .bf16) (y : S1x2x16x32x512.Idx) (L : List (View.Piece (Elt Ideal) S1x2x16x32x512 .bf16))
    (hv : ∀ (s j : Fin 16) (e : Fin 1024), v (ix2 (⟨16 * s.val + j.val, by omega⟩ : Fin 256) e) = outR x0 x1 x2 x3 x4 x5 x6 x7 ⟨256 * r + (16 * j.val + s.val), by omega⟩ e)
    (hL : View.AllAt L y (nextG x0 x1 x2 x3 x4 x5 x6 x7 y)) (n : ℕ) : View.AllAt (piecesL r h v L n) y (nextG x0 x1 x2 x3 x4 x5 x6 x7 y) := by
  induction n with
  | zero => exact hL
  | succ n ih =>
    refine View.allAt_cons_unit _ _ _ _ _ (fun x hx => ?_) ih
    have e1 : (y 1).val = n / 16 % 2 + (x 1).val := hx 1
    have e2 : (y 2).val = n % 16 + (x 2).val := hx 2
    have e3 : (y 3).val = 16 * r + (x 3).val := hx 3
    have e4 : (y 4).val = 0 + (x 4).val := hx 4
    have l0 : (x 0).val < 1 := (x 0).isLt
    have l1 : (x 1).val < 1 := (x 1).isLt
    have l2 : (x 2).val < 1 := (x 2).isLt
    have l3 : (x 3).val < 16 := (x 3).isLt
    refine (congrArg (pieceV v (n % 16) (n / 16 % 2) (sixteen_lt n) (two_lt _)) (idx_piece x)).trans ?_
    refine (pieceV_apply v (n % 16) (n / 16 % 2) (sixteen_lt n) (two_lt _) (x 3) (x 4)).trans ((hv ⟨n % 16, sixteen_lt n⟩ (x 3) _).trans ?_)
    unfold nextG
    exact congr (congrArg (outR x0 x1 x2 x3 x4 x5 x6 x7) (Fin.ext (by simp only; omega))) (Fin.ext (by simp only; omega))

/-- What the point stores in its second large result, at an index. -/
theorem next_apply (hp : Reorders x8) (y : S1x2x16x32x512.Idx) : View.canon (nextL arg2 harg2 arg3 harg3 arg4 harg4 arg5 harg5 arg6 harg6 arg7 harg7 arg8 harg8 arg9 harg9 arg10 harg10 arg14 arg19 arg20 x0 x1 x2 x3 x4 x5 x6 x7 x8) y = nextG x0 x1 x2 x3 x4 x5 x6 x7 y := by
  refine View.canon_eq_of_allAt _ _ _ (View.cover_of_tiled (s := S1x2x16x32x512) _ S1x1x1x16x512.size rfl _) ?_
  unfold nextL
  exact pieces_allAt x0 x1 x2 x3 x4 x5 x6 x7 1 half1 _ y _ (fun s j e => nextAt_apply arg2 harg2 arg3 harg3 arg4 harg4 arg5 harg5 arg6 harg6 arg7 harg7 arg8 harg8 arg9 harg9 arg10 harg10 arg14 arg19 arg20 x0 x1 x2 x3 x4 x5 x6 x7 x8 hp 1 half1 _ (mixed_second arg2 harg2 arg3 harg3 arg4 harg4 arg5 harg5 arg6 harg6 arg7 harg7 arg8 harg8 arg9 harg9 arg14 arg19 arg20 x0 x1 x2 x3 x4 x5 x6 x7) s j e)
    (pieces_allAt x0 x1 x2 x3 x4 x5 x6 x7 0 half0 _ y _ (fun s j e => nextAt_apply arg2 harg2 arg3 harg3 arg4 harg4 arg5 harg5 arg6 harg6 arg7 harg7 arg8 harg8 arg9 harg9 arg10 harg10 arg14 arg19 arg20 x0 x1 x2 x3 x4 x5 x6 x7 x8 hp 0 half0 _ (mixed_first arg2 harg2 arg3 harg3 arg5 harg5 arg6 harg6 arg7 harg7 arg14 x0 x1 x3 x4 x5) s j e) (View.allAt_nil _ _) 32) 32

end Body

end Cert.Kernel5Ideal.Mid

end
-- ==== Proof.MidIFrame.lean ====
module

public import proofs.«01_k».proof.Proof.MidIRun
public import Idealize.ShloMosaic.Lib.Claim

@[expose] public section

set_option maxRecDepth 16384
set_option maxHeartbeats 1000000

noncomputable section

namespace Cert.Kernel5Ideal.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The two scratch arrays of the call. -/
abbrev scr0 : Memref sig .tc .vmem S512x1024 .bf16 := Memref.whole cc0_scratch0
abbrev scr1 : Memref sig .tc .vmem S512x2816 .bf16 := Memref.whole cc0_scratch1

/-- The body's run at grid point `t`, on the buffers it is called with there and the blocks they hold. -/
noncomputable abbrev runAt (c : Dev nD) (t : Fin cfg0.N) :=
  midRun (F := F) c (grid0.coords t)
    (st0_0 t) (hstage0_0 ((cfg0.slots t 0).cast nbuf0_0))
    (st0_1 t) (hstage0_1 ((cfg0.slots t 1).cast nbuf0_1))
    (st0_2 t) (hstage0_2 ((cfg0.slots t 2).cast nbuf0_2))
    (st0_3 t) (hstage0_3 ((cfg0.slots t 3).cast nbuf0_3))
    (st0_4 t) (hstage0_4 ((cfg0.slots t 4).cast nbuf0_4))
    (st0_5 t) (hstage0_5 ((cfg0.slots t 5).cast nbuf0_5))
    (st0_6 t) (hstage0_6 ((cfg0.slots t 6).cast nbuf0_6))
    (st0_7 t) (hstage0_7 ((cfg0.slots t 7).cast nbuf0_7))
    (st0_8 t) (hstage0_8 ((cfg0.slots t 8).cast nbuf0_8))
    (st0_9 t) (hstage0_9 ((cfg0.slots t 9).cast nbuf0_9))
    (st0_10 t) (hstage0_10 ((cfg0.slots t 10).cast nbuf0_10))
    (st0_11 t) (hstage0_11 ((cfg0.slots t 11).cast nbuf0_11))
    (st0_12 t) (hstage0_12 ((cfg0.slots t 12).cast nbuf0_12))
    (st0_13 t) (hstage0_13 ((cfg0.slots t 13).cast nbuf0_13))
    (st0_14 t) (hstage0_14 ((cfg0.slots t 14).cast nbuf0_14))
    (st0_15 t) (hstage0_15 ((cfg0.slots t 15).cast nbuf0_15))
    (st0_16 t) (hstage0_16 ((cfg0.slots t 16).cast nbuf0_16))
    scr0 (Memref.isWhole_whole _) scr1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- A buffer of the first and of the second result, through which their contents are stated. -/
abbrev view12 : View sig .tc .vmem S1x512x1024 .f32 := (Memref.whole cc0_stg12_0 : Memref sig .tc .vmem S1x512x1024 .f32).view
abbrev view13 : View sig .tc .vmem S1x2x16x32x512 .bf16 := (Memref.whole cc0_stg13_0 : Memref sig .tc .vmem S1x2x16x32x512 .bf16).view

/-- The pieces of the first result fill its block, -/
theorem cover12 (c : Dev nD) (t : Fin cfg0.N) (y : S1x512x1024.Idx) : ∃ pc ∈ (runAt m c t).1, y ∈ pc.1.set :=
  View.cover_of_tiledL (runAt m c t).1 S1x256x1024.size (by sl_kernel_rfl) y

/-- and so do those of the second. -/
theorem cover13 (c : Dev nD) (t : Fin cfg0.N) (y : S1x2x16x32x512.Idx) : ∃ pc ∈ (runAt m c t).2.1, y ∈ pc.1.set :=
  View.cover_of_tiledL (runAt m c t).2.1 S1x1x1x16x512.size (by sl_kernel_rfl) y

/-- What the body leaves in the buffer of the first result at `t`, -/
def out12 (c : Dev nD) (t : Fin cfg0.N) : Vec F S1x512x1024 .f32 :=
  view12.read (Elt F) (view12.writes (Elt F) view12.junk (runAt m c t).1)

/-- and in that of the second. -/
def out13 (c : Dev nD) (t : Fin cfg0.N) : Vec F S1x2x16x32x512 .bf16 :=
  view13.read (Elt F) (view13.writes (Elt F) view13.junk (runAt m c t).2.1)

/-! ## The proof data -/

/-- What every buffer holds after the body at each point: an input its block, the two large results what the run leaves, a cast block the cast of the
    block it is made from. The last cast block is stated so at every point, also at those where the body does not store it: the block it is made from is
    then the same as at the point that did. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out12 m c t
    | ⟨13, _⟩ => out13 m c t
    | ⟨14, _⟩ => k0_pay2 (iblk m c 9 t)
    | ⟨15, _⟩ => k0_pay3 (iblk m c 10 t)
    | ⟨16, _⟩ => k0_pay4 (iblk m c 11 t)
    | ⟨_ + 17, h⟩ => absurd h (Nat.not_lt.2 (Nat.le_add_left _ _))
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-! What each buffer holds after the body, one by one. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = out12 m c t := by dsimp only [dats]
theorem after_13 (c : Dev nD) (t : Fin cfg0.N) : (dats m 0 c).after 13 t = out13 m c t := by dsimp only [dats]
theorem after_14 (c : Dev nD) (t : Fin cfg0.N) : (dats m 0 c).after 14 t = k0_pay2 (iblk m c 9 t) := by dsimp only [dats]
theorem after_15 (c : Dev nD) (t : Fin cfg0.N) : (dats m 0 c).after 15 t = k0_pay3 (iblk m c 10 t) := by dsimp only [dats]
theorem after_16 (c : Dev nD) (t : Fin cfg0.N) : (dats m 0 c).after 16 t = k0_pay4 (iblk m c 11 t) := by dsimp only [dats]

/-! An input's buffer holds its block when the body runs. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The last cast block -/

/-- The body stores the last cast block at every fourth point. -/
theorem cond_iff : ∀ t : Fin cfg0.N, k0_cond1 (grid0.coords t) = 1#1 ↔ t.val % 4 = 0 := by
  decide +kernel

/-- Where it does not, the block's buffer is idle, -/
theorem idle_iff : ∀ t : Fin cfg0.N, cfg0.idle 16 (grid0.coords t) = decide (t.val % 4 ≠ 0) := by
  decide +kernel

/-- and at every fourth point, the last of a run of four, the buffer is written back. -/
theorem flush_eq : ∀ t : Fin cfg0.N, (cfg0.win 16).flush t = decide (t.val % 4 = 3) := by
  decide +kernel

/-- The source block is the same as at the point before, except where a run of four begins. -/
theorem source_step (c : Dev nD) (t : Fin cfg0.N) (h : t.val % 4 ≠ 0) :
    iblk m c 11 t = iblk m c 11 ⟨t.val - 1, Nat.lt_of_le_of_lt (Nat.sub_le _ _) t.isLt⟩ := by
  have hf : (cfg0.win 11).fetch t = false := Bool.eq_false_iff.mpr fun e => h ((fetch0_11 t).mp e)
  exact ((before_11 m c t (iblk m c 11 t)).symm.trans
    ((dats m 0 c).before_unfetched_in 11 rfl t hf (fun _ => rfl) _)).trans (after_11 m c _)

/-- What the buffer holds when the body runs, except where a run of four begins, is the cast of the source block there. -/
theorem found16 (c : Dev nD) (t : Fin cfg0.N) (h : t.val % 4 ≠ 0) (d) : (dats m 0 c).before 16 t d = k0_pay4 (iblk m c 11 t) := by
  induction hn : t.val % 4 using Nat.strongRecOn generalizing t with
  | _ n ih =>
    have ht : t.val ≠ 0 := fun e => h (by rw [e])
    have hlt : t.val - 1 < cfg0.N := Nat.lt_of_le_of_lt (Nat.sub_le _ _) t.isLt
    rw [(dats m 0 c).before_of_pos 16 t ht ((cfg0.win 16).fetch_out rfl t), flush_eq,
      if_neg (by simp only [decide_eq_true_eq]; omega), source_step m c t h]
    unfold Dat.left
    by_cases h0 : (t.val - 1) % 4 = 0
    · rw [idle_iff, decide_eq_false (by simpa using h0)]
      exact after_16 m c _
    · rw [idle_iff, decide_eq_true (by simpa using h0)]
      exact ih _ (by simp only; omega) ⟨t.val - 1, hlt⟩ h0 rfl

/-! ## The body obligation -/

/-- The scratch arrays and the generator's register, as the body is handed them. -/
theorem scratch_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (dats m 0 c).leavesExact 16 t)

/-- The last cast block's buffer after the body, from what the run leaves in it. -/
theorem leaves16 (c : Dev nD) (t : Fin cfg0.N) (d) :
    (owns (c : Thread nD τ) (st0_16 t) fullShare
        (if k0_cond1 (grid0.coords t) = 1#1 then k0_pay4 (iblk m c 11 t) else (dats m 0 c).before 16 t d) : sProp 𝕄)
      ⊢ (dats m 0 c).leavesExact 16 t := by
  by_cases h0 : t.val % 4 = 0
  · rw [if_pos ((cond_iff t).mpr h0)]
    unfold Dat.leavesExact
    rw [idle_iff, decide_eq_false (by simpa using h0), after_16]
  · rw [if_neg fun e => h0 ((cond_iff t).mp e)]
    unfold Dat.leavesExact
    rw [idle_iff, decide_eq_true (by simpa using h0), flush_eq]
    by_cases h3 : t.val % 4 = 3
    · rw [decide_eq_true h3, found16 m c t h0, after_16]
    · rw [decide_eq_false h3]
      iintro H
      iexists d
      iexact H

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.castSucc = Pipeline.ΦA spec0 c from rfl, scratch_eq]
  unfold out12 out13
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((runAt m c t).2.2.2.2 ((dats m 0 c).before 16 t d16) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [HS0]; · iexact HS0
  isplitl [HS1]; · iexact HS1
  iintro ⟨H0, H1, H2, H3, H4, H5, H6, H7, H8, H9, H10, H11, ⟨%e12, H12⟩, ⟨%e13, H13⟩, H14, H15, H16, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover12 m c t)
  isplitl [H13]
  · unfold owns; iexists _; isplitr
    swap; · iexact H13
    ipureintro; exact View.read_writes_of_cover _ _ _ _ _ (cover13 m c t)
  isplitl [H14]; · iexact H14
  isplitl [H15]; · iexact H15
  iapply (leaves16 m c t d16)
  iexact H16

/-- The body the pipeline calls at point `t`. -/
theorem body_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run and the frame -/

set_option backward.isDefEq.respectTransparency.types false in
/-- The launch: every run ends, with the arrays at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the run ends, the argument arrays end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_quiescent m ρ))

end Cert.Kernel5Ideal.Mid

end
-- ==== Proof.MidIBlocks.lean ====
module

public import proofs.«01_k».proof.Proof.MidIPoint
public import proofs.«01_k».proof.Proof.MidIFrame
public import Idealize.ShloMosaic.Lib.Pointwise
public import Idealize.ShloMosaic.Lib.StableHlo.ReadAt
public import Idealize.ShloMosaic.Lib.Pipeline.ValueKit.Geometry

/-!
# The results of the call that ends the first retention layer

What the host's three tables hold, what the windows bring to a grid point, and the five result arrays those points leave.
-/

@[expose] public section

set_option maxRecDepth 16384

noncomputable section

namespace Cert.Kernel5Ideal.Mid

open Cert.Kernel5Ideal Cert.Kernel5Ideal.Gen Cert.Ffn Idealize.ShloMosaic Idealize.ShloMosaic.TcCoe Idealize.SL.Sem
open Cert.Kernel2Ideal.Ffn (mixedR normedR outR)

variable (m : (ℓ : Loc nD τ sig) → Buf (Elt Ideal) ℓ) (ρ : Dev nD → PrngReg) (c : Dev nD)

theorem index0 : ∀ t : Fin cfg0.N, (cfg0.win 0).index t = ![(grid0.coords t 0).val, (grid0.coords t 1).val, 0] := by decide +kernel
theorem index1 : ∀ t : Fin cfg0.N, (cfg0.win 1).index t = ![(grid0.coords t 0).val, 0, 0] := by decide +kernel
theorem index2 : ∀ t : Fin cfg0.N, (cfg0.win 2).index t = ![0, 0] := by decide +kernel
theorem index3 : ∀ t : Fin cfg0.N, (cfg0.win 3).index t = ![(grid0.coords t 0).val, 0, (grid0.coords t 1).val, 0] := by decide +kernel
theorem index4 : ∀ t : Fin cfg0.N, (cfg0.win 4).index t = ![(grid0.coords t 0).val, 0, (grid0.coords t 1).val, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, 0] := by decide +kernel
theorem index8 : ∀ t : Fin cfg0.N, (cfg0.win 8).index t = ![0, 0] := by decide +kernel
theorem index9 : ∀ t : Fin cfg0.N, (cfg0.win 9).index t = ![1, t.val, 0] := by decide +kernel
theorem index10 : ∀ t : Fin cfg0.N, (cfg0.win 10).index t = ![2, t.val, 0] := by decide +kernel
theorem index11 : ∀ t : Fin cfg0.N, (cfg0.win 11).index t = ![2, t.val / 4, 0] := by decide +kernel
theorem index12 : ∀ t : Fin cfg0.N, (cfg0.win 12).index t = ![(grid0.coords t 0).val, (grid0.coords t 1).val, 0] := by decide +kernel
theorem index13 : ∀ t : Fin cfg0.N, (cfg0.win 13).index t = ![(grid0.coords t 0).val, 0, 0, (grid0.coords t 1).val, 0] := by decide +kernel
theorem index14 : ∀ t : Fin cfg0.N, (cfg0.win 14).index t = ![t.val, 0] := by decide +kernel
theorem index15 : ∀ t : Fin cfg0.N, (cfg0.win 15).index t = ![t.val, 0] := by decide +kernel
theorem index16 : ∀ t : Fin cfg0.N, (cfg0.win 16).index t = ![t.val / 4, 0] := by decide +kernel

/-- The modulation table's first four rows are the layer's last four vectors. -/
theorem table_mod (b : Fin 8) (r : Fin 8) (hr : r.val < 4) (j : Fin 1024) :
    V (F := Ideal) m c main_v3 (ix3 b r j) = m ((c : Thread nD τ).loc main_arg1) (ix3 b ⟨2 + r.val, by omega⟩ j) := by
  unfold V
  after_reads_at
  rw [dif_pos hr]
  after_reads_at

/-- Its next two are the next layer's first two. -/
theorem table_next (b : Fin 8) (r : Fin 2) (j : Fin 1024) :
    V (F := Ideal) m c main_v3 (ix3 b (⟨4 + r.val, by omega⟩ : Fin 8) j) = m ((c : Thread nD τ).loc main_arg2) (ix3 b ⟨r.val, by omega⟩ j) := by
  unfold V
  after_reads_at
  after_reads_at

/-- The first row of gains is the feed-forward layer's. -/
theorem table_gain (j : Fin 1024) : V (F := Ideal) m c main_v7 (ix2 0 j) = m ((c : Thread nD τ).loc main_arg3) (ix1 j) := by
  unfold V
  after_reads_at
  after_reads_at

/-- The second is the next mixer's. -/
theorem table_next_gain (j : Fin 1024) : V (F := Ideal) m c main_v7 (ix2 1 j) = m ((c : Thread nD τ).loc main_arg4) (ix1 j) := by
  unfold V
  after_reads_at
  after_reads_at

/-- Comparing two small words and converting the answer gives one where they agree, zero elsewhere. -/
theorem same_word (a q : ℕ) (ha : a < 256) (hq : q < 256) :
    FloatOps.uitofp (F := Ideal) .bf16 (IntOp.cmpi .eq (BitVec.ofNat 32 a) (BitVec.ofNat 32 q)) = if a = q then (1 : EReal) else 0 := by
  have e : (BitVec.ofNat 32 a = BitVec.ofNat 32 q) ↔ a = q :=
    ⟨fun h => by
      have := congrArg BitVec.toNat h
      simp only [BitVec.toNat_ofNat] at this
      omega, congrArg _⟩
  by_cases h : a = q
  · subst h
    rw [if_pos rfl]
    simp [IntOp.cmpi, FloatOps.uitofp]
  · rw [if_neg h]
    simp [IntOp.cmpi, FloatOps.uitofp, e, h]

/-- The table that reorders the rows. -/
theorem table_perm (r q : Fin 256) :
    (V (F := Ideal) m c main_v19 : Vec Ideal S256x256 .bf16) (ix2 r q) = if 16 * (r.val % 16) + r.val / 16 = q.val then (1 : EReal) else 0 := by
  unfold V
  after_reads_at
  refine (congrArg (fun w => FloatOps.uitofp (F := Ideal) .bf16 (IntOp.cmpi .eq w (BitVec.ofNat 32 q.val)))
    (?_ : _ = BitVec.ofNat 32 (16 * (r.val % 16) + r.val / 16))).trans (same_word _ _ (by omega) q.isLt)
  clear q
  revert r
  decide +kernel
theorem tile_lt (s : Fin 8) (n : Fin 512) : 512 * s.val + n.val < 4096 := by omega

section Windows

variable (t : Fin cfg0.N) (b s : Fin 8) (hb : (grid0.coords t 0).val = b.val) (hs : (grid0.coords t 1).val = s.val)

include hb hs in
theorem win0 (n : Fin 512) (j : Fin 1024) : iblk m c 0 t (ix3 0 n j) = V m c main_arg0 (ix3 b ⟨512 * s.val + n.val, tile_lt s n⟩ j) := by
  blk_ext [iblk, index0 t]

include hb in
theorem win1 (r : Fin 8) (j : Fin 1024) : iblk m c 1 t (ix3 0 r j) = V m c main_v3 (ix3 b r j) := by
  blk_ext [iblk, index1 t]

theorem win2 (r : Fin 8) (j : Fin 1024) : iblk m c 2 t (ix2 r j) = V m c main_v7 (ix2 r j) := by
  blk_ext [iblk, index2 t]

include hb hs in
theorem win3 (h : Fin 4) (n j : Fin 512) : iblk m c 3 t (ix4 0 h n j) = V m c main_arg5 (ix4 b h ⟨512 * s.val + n.val, tile_lt s n⟩ j) := by
  blk_ext [iblk, index3 t]

include hb hs in
theorem win4 (h : Fin 4) (n j : Fin 512) : iblk m c 4 t (ix4 0 h n j) = V m c main_arg6 (ix4 b h ⟨512 * s.val + n.val, tile_lt s n⟩ j) := by
  blk_ext [iblk, index4 t]

theorem win5 (k : Fin 2048) (j : Fin 1024) : iblk m c 5 t (ix2 k j) = V m c main_arg7 (ix2 k j) := by
  blk_ext [iblk, index5 t]

theorem win6 (d : Fin 1024) (k : Fin 5632) : iblk m c 6 t (ix2 d k) = V m c main_arg8 (ix2 d k) := by
  blk_ext [iblk, index6 t]

theorem win7 (k : Fin 2816) (j : Fin 1024) : iblk m c 7 t (ix2 k j) = V m c main_arg9 (ix2 k j) := by
  blk_ext [iblk, index7 t]

theorem win8 (r q : Fin 256) : iblk m c 8 t (ix2 r q) = V m c main_v19 (ix2 r q) := by
  blk_ext [iblk, index8 t]

/-- The table a point is given reorders the rows. -/
theorem reorders : Reorders (iblk m c 8 t) := fun r q => (win8 m c t r q).trans (table_perm m c r q)

end Windows

section Casts

theorem rows16 (t : Fin 64) (r : Fin 16) : 16 * t.val + r.val < 1024 := by omega
theorem rows176 (t : Fin 64) (r : Fin 176) : 176 * (t.val / 4) + r.val < 2816 := by omega

variable (t : Fin cfg0.N)

theorem win9 (r : Fin 16) (j : Fin 1024) : iblk m c 9 t (ix3 0 r j) = V m c main_arg10 (ix3 1 ⟨16 * t.val + r.val, rows16 t r⟩ j) := by
  blk_ext [iblk, index9 t]

theorem win10 (r : Fin 16) (j : Fin 5632) : iblk m c 10 t (ix3 0 r j) = V m c main_arg11 (ix3 2 ⟨16 * t.val + r.val, rows16 t r⟩ j) := by
  blk_ext [iblk, index10 t]

theorem win11 (r : Fin 176) (j : Fin 1024) : iblk m c 11 t (ix3 0 r j) = V m c main_arg12 (ix3 2 ⟨176 * (t.val / 4) + r.val, rows176 t r⟩ j) := by
  blk_ext [iblk, index11 t]

theorem cast9 (v : Vec Ideal S1x16x1024 .f32) (r : Fin 16) (j : Fin 1024) : k0_pay2 v (ix2 r j) = v (ix3 0 r j) := by
  unfold k0_pay2
  pointwise

theorem cast10 (v : Vec Ideal S1x16x5632 .f32) (r : Fin 16) (j : Fin 5632) : k0_pay3 v (ix2 r j) = v (ix3 0 r j) := by
  unfold k0_pay3
  pointwise

theorem cast11 (v : Vec Ideal S1x176x1024 .f32) (r : Fin 176) (j : Fin 1024) : k0_pay4 v (ix2 r j) = v (ix3 0 r j) := by
  unfold k0_pay4
  pointwise

end Casts

theorem two_of_six (r : Fin 2) : r.val < 6 := by omega

/-- The residual stream the call computes. -/
def stream : Vec Ideal S8x4096x1024 .f32 := fun y =>
  fedRow (fun b T j => m ((c : Thread nD τ).loc main_arg0) (ix3 b T j)) (fun b r j => m ((c : Thread nD τ).loc main_arg1) (ix3 b r j))
    (fun j => m ((c : Thread nD τ).loc main_arg3) (ix1 j)) (fun b h T j => m ((c : Thread nD τ).loc main_arg5) (ix4 b h T j))
    (fun b h T j => m ((c : Thread nD τ).loc main_arg6) (ix4 b h T j)) (fun k j => m ((c : Thread nD τ).loc main_arg7) (ix2 k j))
    (fun d k => m ((c : Thread nD τ).loc main_arg8) (ix2 d k)) (fun k j => m ((c : Thread nD τ).loc main_arg9) (ix2 k j)) (y 0) (y 1) (y 2)

/-- The next mixer's input the call computes, row by row, -/
def next (b : Fin 8) (T : Fin 4096) (j : Fin 1024) : EReal :=
  lastRow (fun b T j => m ((c : Thread nD τ).loc main_arg0) (ix3 b T j)) (fun b r j => m ((c : Thread nD τ).loc main_arg1) (ix3 b r j))
    (fun b r j => m ((c : Thread nD τ).loc main_arg2) (ix3 b ⟨r.val, two_of_six r⟩ j))
    (fun j => m ((c : Thread nD τ).loc main_arg3) (ix1 j)) (fun j => m ((c : Thread nD τ).loc main_arg4) (ix1 j)) (fun b h T j => m ((c : Thread nD τ).loc main_arg5) (ix4 b h T j))
    (fun b h T j => m ((c : Thread nD τ).loc main_arg6) (ix4 b h T j)) (fun k j => m ((c : Thread nD τ).loc main_arg7) (ix2 k j))
    (fun d k => m ((c : Thread nD τ).loc main_arg8) (ix2 d k)) (fun k j => m ((c : Thread nD τ).loc main_arg9) (ix2 k j)) b T j

theorem token_lt (y : S8x2x16x256x512.Idx) : 16 * (y 3).val + (y 2).val < 4096 := by
  have h3 : (y 3).val < 256 := (y 3).isLt
  have h2 : (y 2).val < 16 := (y 2).isLt
  omega

theorem column_lt (y : S8x2x16x256x512.Idx) : 512 * (y 1).val + (y 4).val < 1024 := by
  have h1 : (y 1).val < 2 := (y 1).isLt
  have h4 : (y 4).val < 512 := (y 4).isLt
  omega

/-- and as the call hands it on: by column half and by the token's place modulo sixteen. -/
def spread : Vec Ideal S8x2x16x256x512 .bf16 := fun y => next m c (y 0) ⟨16 * (y 3).val + (y 2).val, token_lt y⟩ ⟨512 * (y 1).val + (y 4).val, column_lt y⟩

/-- The three cast weights: one layer of each stack. -/
def castA : Vec Ideal S1024x1024 .bf16 := fun y => m ((c : Thread nD τ).loc main_arg10) (ix3 1 (y 0) (y 1))
def castB : Vec Ideal S1024x5632 .bf16 := fun y => m ((c : Thread nD τ).loc main_arg11) (ix3 2 (y 0) (y 1))
def castC : Vec Ideal S2816x1024 .bf16 := fun y => m ((c : Thread nD τ).loc main_arg12) (ix3 2 (y 0) (y 1))

section Point

variable (t : Fin cfg0.N) (b s : Fin 8) (hb : (grid0.coords t 0).val = b.val) (hs : (grid0.coords t 1).val = s.val) (n : Fin 512) (j : Fin 1024)

include hb hs in
/-- The rows a point computes are rows of the residual stream. -/
theorem streamR_eq :
    streamR (iblk m c 0 t) (iblk m c 1 t) (iblk m c 2 t) (iblk m c 3 t) (iblk m c 4 t) (iblk m c 5 t) (iblk m c 6 t) (iblk m c 7 t) n j
      = stream m c (ix3 b ⟨512 * s.val + n.val, tile_lt s n⟩ j) := by
  have e0 : ∀ j, iblk m c 0 t (ix3 0 n j) = m ((c : Thread nD τ).loc main_arg0) (ix3 b ⟨512 * s.val + n.val, tile_lt s n⟩ j) :=
    fun j => (win0 m c t b s hb hs n j).trans (congrFun (V_main_arg0 m c) _)
  have t0 : ∀ j, iblk m c 1 t (ix3 0 0 j) = m ((c : Thread nD τ).loc main_arg1) (ix3 b 2 j) :=
    fun j => (win1 m c t b hb 0 j).trans (table_mod m c b 0 (by decide) j)
  have t1 : ∀ j, iblk m c 1 t (ix3 0 1 j) = m ((c : Thread nD τ).loc main_arg1) (ix3 b 3 j) :=
    fun j => (win1 m c t b hb 1 j).trans (table_mod m c b 1 (by decide) j)
  have t2 : ∀ j, iblk m c 1 t (ix3 0 2 j) = m ((c : Thread nD τ).loc main_arg1) (ix3 b 4 j) :=
    fun j => (win1 m c t b hb 2 j).trans (table_mod m c b 2 (by decide) j)
  have t3 : ∀ j, iblk m c 1 t (ix3 0 3 j) = m ((c : Thread nD τ).loc main_arg1) (ix3 b 5 j) :=
    fun j => (win1 m c t b hb 3 j).trans (table_mod m c b 3 (by decide) j)
  have g0 : ∀ j, iblk m c 2 t (ix2 0 j) = m ((c : Thread nD τ).loc main_arg3) (ix1 j) := fun j => (win2 m c t 0 j).trans (table_gain m c j)
  have e3 : ∀ h j, iblk m c 3 t (ix4 0 h n j) = m ((c : Thread nD τ).loc main_arg5) (ix4 b h ⟨512 * s.val + n.val, tile_lt s n⟩ j) :=
    fun h j => (win3 m c t b s hb hs h n j).trans (congrFun (V_main_arg5 m c) _)
  have e4 : ∀ h j, iblk m c 4 t (ix4 0 h n j) = m ((c : Thread nD τ).loc main_arg6) (ix4 b h ⟨512 * s.val + n.val, tile_lt s n⟩ j) :=
    fun h j => (win4 m c t b s hb hs h n j).trans (congrFun (V_main_arg6 m c) _)
  have e5 : ∀ k j, iblk m c 5 t (ix2 k j) = m ((c : Thread nD τ).loc main_arg7) (ix2 k j) := fun k j => (win5 m c t k j).trans (congrFun (V_main_arg7 m c) _)
  have e6 : ∀ d k, iblk m c 6 t (ix2 d k) = m ((c : Thread nD τ).loc main_arg8) (ix2 d k) := fun d k => (win6 m c t d k).trans (congrFun (V_main_arg8 m c) _)
  have e7 : ∀ k j, iblk m c 7 t (ix2 k j) = m ((c : Thread nD τ).loc main_arg9) (ix2 k j) := fun k j => (win7 m c t k j).trans (congrFun (V_main_arg9 m c) _)
  unfold streamR normedR mixedR
  simp only [e0, t0, t1, t2, t3, g0, e3, e4, e5, e6, e7]
  rfl

include hb hs in
/-- And their normalization is the next mixer's input. -/
theorem outR_eq : outR (iblk m c 0 t) (iblk m c 1 t) (iblk m c 2 t) (iblk m c 3 t) (iblk m c 4 t) (iblk m c 5 t) (iblk m c 6 t) (iblk m c 7 t) n j = next m c b ⟨512 * s.val + n.val, tile_lt s n⟩ j := by
  have e : streamR (iblk m c 0 t) (iblk m c 1 t) (iblk m c 2 t) (iblk m c 3 t) (iblk m c 4 t) (iblk m c 5 t) (iblk m c 6 t) (iblk m c 7 t) n = fun j => stream m c (ix3 b ⟨512 * s.val + n.val, tile_lt s n⟩ j) := funext fun j => streamR_eq m c t b s hb hs n j
  have t4 : ∀ j, iblk m c 1 t (ix3 0 4 j) = m ((c : Thread nD τ).loc main_arg2) (ix3 b 0 j) :=
    fun j => (win1 m c t b hb 4 j).trans (table_next m c b 0 j)
  have t5 : ∀ j, iblk m c 1 t (ix3 0 5 j) = m ((c : Thread nD τ).loc main_arg2) (ix3 b 1 j) :=
    fun j => (win1 m c t b hb 5 j).trans (table_next m c b 1 j)
  have g1 : ∀ j, iblk m c 2 t (ix2 1 j) = m ((c : Thread nD τ).loc main_arg4) (ix1 j) := fun j => (win2 m c t 1 j).trans (table_next_gain m c j)
  have o : outR (iblk m c 0 t) (iblk m c 1 t) (iblk m c 2 t) (iblk m c 3 t) (iblk m c 4 t) (iblk m c 5 t) (iblk m c 6 t) (iblk m c 7 t) n = normRow (streamR (iblk m c 0 t) (iblk m c 1 t) (iblk m c 2 t) (iblk m c 3 t) (iblk m c 4 t) (iblk m c 5 t) (iblk m c 6 t) (iblk m c 7 t) n) (fun j => iblk m c 2 t (ix2 1 j)) (fun j => iblk m c 1 t (ix3 0 4 j)) (fun j => iblk m c 1 t (ix3 0 5 j)) := rfl
  rw [o, e]
  simp only [t4, t5, g1]
  rfl

end Point

/-- What a point leaves in the buffer of the first result. -/
theorem out12_apply (t : Fin cfg0.N) (y : S1x512x1024.Idx) : out12 m c t y = streamR (iblk m c 0 t) (iblk m c 1 t) (iblk m c 2 t) (iblk m c 3 t) (iblk m c 4 t) (iblk m c 5 t) (iblk m c 6 t) (iblk m c 7 t) (y 1) (y 2) := by
  unfold out12
  rw [View.read_writes_junk_eq_canon, stream_eq]
  exact stream_apply _ _ _ _ _ _ _ _ _ _ _ _ _ _ _ _ _ _ _ _ _ _ _ _ _ _ _ y

/-- What a point leaves in the buffer of the second result. -/
theorem out13_apply (t : Fin cfg0.N) (y : S1x2x16x32x512.Idx) : out13 m c t y = nextG (iblk m c 0 t) (iblk m c 1 t) (iblk m c 2 t) (iblk m c 3 t) (iblk m c 4 t) (iblk m c 5 t) (iblk m c 6 t) (iblk m c 7 t) y := by
  unfold out13
  rw [View.read_writes_junk_eq_canon, next_eq]
  exact next_apply _ _ _ _ _ _ _ _ _ _ _ _ _ _ _ _ _ _ _ _ _ _ _ _ _ _ _ _ _ _ (reorders m c t) y

/-- Indices with equal coordinates are equal. -/
theorem idx3_eq {s : Fin 3 → ℕ} (x y : (⟨3, s⟩ : Shape).Idx) (e0 : (x 0).val = (y 0).val) (e1 : (x 1).val = (y 1).val) (e2 : (x 2).val = (y 2).val) : x = y := by
  funext a
  fin_cases a
  · exact Fin.ext e0
  · exact Fin.ext e1
  · exact Fin.ext e2

theorem idx2_eq {s : Fin 2 → ℕ} (x y : (⟨2, s⟩ : Shape).Idx) (e0 : (x 0).val = (y 0).val) (e1 : (x 1).val = (y 1).val) : x = y := by
  funext a
  fin_cases a
  · exact Fin.ext e0
  · exact Fin.ext e1

theorem place (k a b : ℕ) : k * a + b = a * k + b := by rw [Nat.mul_comm]

/-! ## The arrays after the run -/

theorem stream_arr : (dats m 0 c).arrAt 12 cfg0.N = stream m c := by
  refine (dats m 0 c).arrAt_eq_of_covers 12 _ (by decide +kernel) fun t hf y => ?_
  refine (congrFun (congrArg ((cfg0.win 12).cut (grid0.coords t)) (after_12 m c t)) y).trans ?_
  have hb : (grid0.coords t 0).val < 8 := (grid0.coords t 0).isLt
  have hs : (grid0.coords t 1).val < 8 := (grid0.coords t 1).isLt
  refine (out12_apply m c t _).trans ((streamR_eq m c t ⟨_, hb⟩ ⟨_, hs⟩ rfl rfl _ _).trans ?_)
  refine congrArg (stream m c) (idx3_eq _ _ ?_ ?_ ?_) <;> blk_simp [index12 t]
  exact place 512 _ _

theorem spread_at (t : Fin cfg0.N) (b s : Fin 8) (hb : (grid0.coords t 0).val = b.val) (hs : (grid0.coords t 1).val = s.val) (y : S1x2x16x32x512.Idx) (z : S8x2x16x256x512.Idx)
    (z0 : (z 0).val = b.val) (z1 : (z 1).val = (y 1).val) (z2 : (z 2).val = (y 2).val) (z3 : (z 3).val = 32 * s.val + (y 3).val) (z4 : (z 4).val = (y 4).val) :
    nextG (iblk m c 0 t) (iblk m c 1 t) (iblk m c 2 t) (iblk m c 3 t) (iblk m c 4 t) (iblk m c 5 t) (iblk m c 6 t) (iblk m c 7 t) y = spread m c z := by
  unfold nextG spread
  refine (outR_eq m c t b s hb hs _ _).trans ?_
  exact congr (congr (congrArg (next m c) (Fin.ext z0.symm)) (Fin.ext (by simp only; omega))) (Fin.ext (by simp only; omega))

theorem spread_arr : (dats m 0 c).arrAt 13 cfg0.N = spread m c := by
  refine (dats m 0 c).arrAt_eq_of_covers 13 _ (by decide +kernel) fun t hf y => ?_
  refine (congrFun (congrArg ((cfg0.win 13).cut (grid0.coords t)) (after_13 m c t)) y).trans ?_
  have hb : (grid0.coords t 0).val < 8 := (grid0.coords t 0).isLt
  have hs : (grid0.coords t 1).val < 8 := (grid0.coords t 1).isLt
  refine (out13_apply m c t _).trans (spread_at m c t ⟨_, hb⟩ ⟨_, hs⟩ rfl rfl _ _ ?_ ?_ ?_ ?_ ?_) <;> blk_simp [index13 t]
  exact (place 32 _ _).symm

theorem castA_at (t : Fin cfg0.N) (r : Fin 16) (j : Fin 1024) : k0_pay2 (iblk m c 9 t) (ix2 r j) = castA m c (ix2 ⟨16 * t.val + r.val, rows16 t r⟩ j) :=
  (cast9 _ r j).trans ((win9 m c t r j).trans (congrFun (V_main_arg10 m c) _))

theorem castB_at (t : Fin cfg0.N) (r : Fin 16) (j : Fin 5632) : k0_pay3 (iblk m c 10 t) (ix2 r j) = castB m c (ix2 ⟨16 * t.val + r.val, rows16 t r⟩ j) :=
  (cast10 _ r j).trans ((win10 m c t r j).trans (congrFun (V_main_arg11 m c) _))

theorem castC_at (t : Fin cfg0.N) (r : Fin 176) (j : Fin 1024) : k0_pay4 (iblk m c 11 t) (ix2 r j) = castC m c (ix2 ⟨176 * (t.val / 4) + r.val, rows176 t r⟩ j) :=
  (cast11 _ r j).trans ((win11 m c t r j).trans (congrFun (V_main_arg12 m c) _))

theorem castA_arr : (dats m 0 c).arrAt 14 cfg0.N = castA m c := by
  refine (dats m 0 c).arrAt_eq_of_covers 14 _ (by decide +kernel) fun t hf y => ?_
  refine (congrFun (congrArg ((cfg0.win 14).cut (grid0.coords t)) (after_14 m c t)) y).trans ?_
  refine (congrArg (k0_pay2 (iblk m c 9 t)) (idx2_eq _ (ix2 (y 0) (y 1)) rfl rfl)).trans ((castA_at m c t (y 0) (y 1)).trans ?_)
  refine congrArg (castA m c) (idx2_eq _ _ ?_ ?_) <;> blk_simp [index14 t]
  exact place 16 _ _

theorem castB_arr : (dats m 0 c).arrAt 15 cfg0.N = castB m c := by
  refine (dats m 0 c).arrAt_eq_of_covers 15 _ (by decide +kernel) fun t hf y => ?_
  refine (congrFun (congrArg ((cfg0.win 15).cut (grid0.coords t)) (after_15 m c t)) y).trans ?_
  refine (congrArg (k0_pay3 (iblk m c 10 t)) (idx2_eq _ (ix2 (y 0) (y 1)) rfl rfl)).trans ((castB_at m c t (y 0) (y 1)).trans ?_)
  refine congrArg (castB m c) (idx2_eq _ _ ?_ ?_) <;> blk_simp [index15 t]
  exact place 16 _ _

theorem castC_arr : (dats m 0 c).arrAt 16 cfg0.N = castC m c := by
  refine (dats m 0 c).arrAt_eq_of_covers 16 _ (by decide +kernel) fun t hf y => ?_
  refine (congrFun (congrArg ((cfg0.win 16).cut (grid0.coords t)) (after_16 m c t)) y).trans ?_
  refine (congrArg (k0_pay4 (iblk m c 11 t)) (idx2_eq _ (ix2 (y 0) (y 1)) rfl rfl)).trans ((castC_at m c t (y 0) (y 1)).trans ?_)
  refine congrArg (castC m c) (idx2_eq _ _ ?_ ?_) <;> blk_simp [index16 t]
  exact place 176 _ _

/-- The run, with the five results read. -/
theorem run_results : θ_run defs (onTc (τ := τ) (main (F := Ideal))) ⟨m, fun _ => 0, ρ⟩ fun r => ∀ c : Dev nD,
      (r.2.mem ((c.tc : Thread nD τ).loc main_v20_0) = stream m c
      ∧ r.2.mem ((c.tc : Thread nD τ).loc main_v20_1) = spread m c
      ∧ r.2.mem ((c.tc : Thread nD τ).loc main_v20_2) = castA m c
      ∧ r.2.mem ((c.tc : Thread nD τ).loc main_v20_3) = castB m c
      ∧ r.2.mem ((c.tc : Thread nD τ).loc main_v20_4) = castC m c) :=
  (θ_run defs _ _).mono (fun _ h c => ⟨((h c).1 12).trans (stream_arr m c), ((h c).1 13).trans (spread_arr m c), ((h c).1 14).trans (castA_arr m c),
    ((h c).1 15).trans (castB_arr m c), ((h c).1 16).trans (castC_arr m c)⟩) (run_main m ρ)

end Cert.Kernel5Ideal.Mid

end
-- ==== Proof.MidRef.lean ====
module

public import proofs.«01_k».proof.Proof.FfnRow
public import proofs.«01_k».proof.Proof.Gen.Reference5Ideal.Read
public import Idealize.ShloMosaic.Lib.Pointwise

/-!
# The end of the first retention layer in the host's words

Each stage of the reference, read at one token, is the row function of that stage.
-/

@[expose] public section

set_option maxRecDepth 16384

noncomputable section

namespace Cert.Reference5Ideal.Mid

open Cert.Reference5Ideal Cert.Reference5Ideal.Read Cert.Ffn Idealize.ShloMosaic Idealize.ShloMosaic.TcCoe Idealize.SL.Sem

variable (x0 : Vec Ideal S8x4096x1024 .f32) (x1 x2 : Vec Ideal S8x6x1024 .f32) (x3 x4 : Vec Ideal S1024 .f32)
  (x5 x6 : Vec Ideal S8x4x4096x512 .bf16) (x7 : Vec Ideal S2048x1024 .bf16) (x8 : Vec Ideal S1024x5632 .bf16) (x9 : Vec Ideal S2816x1024 .bf16)
  (b : Fin 8) (T : Fin 4096)

/-- The gated heads side by side. -/
theorem gated_apply (k : Fin 2048) :
    val_main_v18 (F := Ideal) x5 x6 (ix3 b T k)
      = x6 (ix4 b (⟨k.val / 512, by omega⟩ : Fin 4) T (⟨k.val % 512, by omega⟩ : Fin 512)) * x5 (ix4 b (⟨k.val / 512, by omega⟩ : Fin 4) T (⟨k.val % 512, by omega⟩ : Fin 512)) := by
  unfold val_main_v18 val_main_v17 val_main_v16 val_main_v15 val_main_v14 val_main_v13 val_main_v12
  pointwise

/-- The rows after the mixer. -/
theorem mixed_apply (j : Fin 1024) :
    val_main_v24 (F := Ideal) x0 x1 x5 x6 x7 (ix3 b T j)
      = mixedRow (fun b T j => x0 (ix3 b T j)) (fun b r j => x1 (ix3 b r j)) (fun b h T j => x5 (ix4 b h T j)) (fun b h T j => x6 (ix4 b h T j)) (fun k j => x7 (ix2 k j)) b T j := by
  unfold mixedRow mixed
  unfold val_main_v24 val_main_v23 val_main_v22 val_main_v21 val_main_v5 val_main_v4 val_main_v20 val_main_v19
  pointwise
  simp only [gated_apply]

/-- The normalized rows. -/
theorem normed_apply (j : Fin 1024) :
    val_main_v45 (F := Ideal) x0 x1 x3 x5 x6 x7 (ix3 b T j)
      = normedRow (fun b T j => x0 (ix3 b T j)) (fun b r j => x1 (ix3 b r j)) (fun j => x3 (ix1 j)) (fun b h T j => x5 (ix4 b h T j)) (fun b h T j => x6 (ix4 b h T j)) (fun k j => x7 (ix2 k j)) b T j := by
  unfold normedRow normRow
  simp only [← mixed_apply]
  unfold val_main_v45 val_main_v44 val_main_v43 val_main_v42 val_main_v41 val_main_v40 val_main_v39 val_main_cst_2 val_main_v38 val_main_v37 val_main_v36 val_main_v35
    val_main_v34 val_main_v33 val_main_v32 val_main_v31 val_main_v30 val_main_cst_1 val_main_v29 val_main_v28 val_main_cst_0 val_main_v27 val_main_v26 val_main_cst val_main_v25
    val_main_v9 val_main_v8 val_main_v7 val_main_v6
  pointwise

/-- The hidden units of the feed-forward layer. -/
theorem hidden_apply (n : Fin 2816) :
    val_main_v52 (F := Ideal) x0 x1 x3 x5 x6 x7 x8 (ix3 b T n)
      = hiddenUnit (fun d => val_main_v45 (F := Ideal) x0 x1 x3 x5 x6 x7 (ix3 b T d)) (fun d k => x8 (ix2 d k)) n := by
  unfold hiddenUnit Ideal.logistic
  unfold val_main_v52 val_main_v51 val_main_call0_v5 val_main_call0_v4 val_main_call0_cst_0 val_main_call0_v3 val_main_call0_v2 val_main_call0_cst val_main_call0_v1 val_main_call0_v0
    val_main_v50 val_main_v49 val_main_v48 val_main_v47
  pointwise

/-- The rows after the feed-forward layer. -/
theorem fed_apply (j : Fin 1024) :
    val_main_v57 (F := Ideal) x0 x1 x3 x5 x6 x7 x8 x9 (ix3 b T j)
      = fedRow (fun b T j => x0 (ix3 b T j)) (fun b r j => x1 (ix3 b r j)) (fun j => x3 (ix1 j)) (fun b h T j => x5 (ix4 b h T j)) (fun b h T j => x6 (ix4 b h T j)) (fun k j => x7 (ix2 k j))
          (fun d k => x8 (ix2 d k)) (fun k j => x9 (ix2 k j)) b T j := by
  have e : normedRow (fun b T j => x0 (ix3 b T j)) (fun b r j => x1 (ix3 b r j)) (fun j => x3 (ix1 j)) (fun b h T j => x5 (ix4 b h T j)) (fun b h T j => x6 (ix4 b h T j)) (fun k j => x7 (ix2 k j)) b T
      = fun d => val_main_v45 (F := Ideal) x0 x1 x3 x5 x6 x7 (ix3 b T d) := funext fun d => (normed_apply x0 x1 x3 x5 x6 x7 b T d).symm
  unfold fedRow fed
  rw [e]
  simp only [← mixed_apply, ← hidden_apply]
  unfold val_main_v57 val_main_v56 val_main_v55 val_main_v46 val_main_v11 val_main_v10 val_main_v54 val_main_v53
  pointwise

/-- The rows of the next mixer's input. -/
theorem next_apply (j : Fin 1024) :
    val_main_v82 (F := Ideal) x0 x1 x2 x3 x4 x5 x6 x7 x8 x9 (ix3 b T j)
      = lastRow (fun b T j => x0 (ix3 b T j)) (fun b r j => x1 (ix3 b r j)) (fun b r j => x2 (ix3 b ⟨r.val, by omega⟩ j)) (fun j => x3 (ix1 j)) (fun j => x4 (ix1 j))
          (fun b h T j => x5 (ix4 b h T j)) (fun b h T j => x6 (ix4 b h T j)) (fun k j => x7 (ix2 k j)) (fun d k => x8 (ix2 d k)) (fun k j => x9 (ix2 k j)) b T j := by
  unfold lastRow normRow
  simp only [← fed_apply]
  unfold val_main_v82 val_main_v81 val_main_v80 val_main_v79 val_main_v78 val_main_v77 val_main_v76 val_main_cst_6 val_main_v75 val_main_v74 val_main_v73 val_main_v72
    val_main_v71 val_main_v70 val_main_v69 val_main_v68 val_main_v67 val_main_v66 val_main_v65 val_main_v64 val_main_v63 val_main_cst_5 val_main_v62 val_main_v61 val_main_cst_4
    val_main_v60 val_main_v59 val_main_cst_3 val_main_v58
  pointwise

/-- And as it is handed on: by column half and by the token's place modulo sixteen. -/
theorem spread_apply (k : Fin 2) (s : Fin 16) (J : Fin 256) (e : Fin 512) :
    val_main_v91 (F := Ideal) x0 x1 x2 x3 x4 x5 x6 x7 x8 x9 (ix5 b k s J e)
      = val_main_v82 (F := Ideal) x0 x1 x2 x3 x4 x5 x6 x7 x8 x9 (ix3 b (⟨16 * J.val + s.val, by omega⟩ : Fin 4096) (⟨512 * k.val + e.val, by omega⟩ : Fin 1024)) := by
  unfold val_main_v91 val_main_v84 val_main_v83
  pointwise
  simp only [Nat.mul_comm 16, Nat.mul_comm 512]

/-! ## The cast weights -/

theorem castA_apply (x10 : Vec Ideal S2x1024x1024 .f32) (r : Fin 1024) (j : Fin 1024) : val_main_v92 (F := Ideal) x10 (ix2 r j) = x10 (ix3 1 r j) := by
  unfold val_main_v92 val_main_v86 val_main_v85
  pointwise

theorem castB_apply (x11 : Vec Ideal S4x1024x5632 .f32) (r : Fin 1024) (j : Fin 5632) : val_main_v93 (F := Ideal) x11 (ix2 r j) = x11 (ix3 2 r j) := by
  unfold val_main_v93 val_main_v88 val_main_v87
  pointwise

theorem castC_apply (x12 : Vec Ideal S4x2816x1024 .f32) (r : Fin 2816) (j : Fin 1024) : val_main_v94 (F := Ideal) x12 (ix2 r j) = x12 (ix3 2 r j) := by
  unfold val_main_v94 val_main_v90 val_main_v89
  pointwise

end Cert.Reference5Ideal.Mid

end
-- ==== Proof.MidClaim.lean ====
module

public import proofs.«01_k».proof.Defs
public import proofs.«01_k».proof.Proof.MidIBlocks
public import proofs.«01_k».proof.Proof.MidRef
public import proofs.«01_k».proof.Proof.MidFrame
public import proofs.«01_k».proof.Proof.Gen.Reference5Ideal.Run
public import proofs.«01_k».proof.Proof.Gen.Reference5Ideal.Read
public import Idealize.ShloMosaic.Lib.Claim
public import Idealize.ShloMosaic.Adequacy
public import Idealize.ShloMosaic.Init

/-!
# The claims about the end of the first retention layer
-/

@[expose] public section

noncomputable section

namespace Cert.Proof.Mid

open Idealize.ShloMosaic Idealize.SL.Sem

theorem frame_p : Cert.quiescent_Kernel5 := fun m ρ _ => Cert.Kernel5.Mid.frame m ρ

theorem frame_pi : Cert.quiescent_Kernel5Ideal := fun m ρ _ => Cert.Kernel5Ideal.Mid.frame m ρ

theorem frame_ri : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

section Results

variable (m : (ℓ : Loc Cert.Kernel5Ideal.nD Cert.Kernel5Ideal.τ Cert.Kernel5Ideal.sig) → Buf (Elt Ideal) ℓ) (c : Dev Cert.Kernel5Ideal.nD)

/-- The host's residual stream is the kernel's. -/
theorem stream_ref : Cert.Reference5Ideal.Read.val_main_v57 (F := Ideal) (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg5))
    (m ((c.tc : Thread Cert.Kernel5Ideal.nD Cert.Kernel5Ideal.τ).loc Cert.Kernel5Ideal.main_arg6))
    (m ((c.tc : Thread Cert.Kernel5Ideal.nD Cert.Kernel5Ideal.τ).loc Cert.Kernel5Ideal.main_arg7))
    (m ((c.tc : Thread Cert.Kernel5Ideal.nD Cert.Kernel5Ideal.τ).loc Cert.Kernel5Ideal.main_arg8))
    (m ((c.tc : Thread Cert.Kernel5Ideal.nD Cert.Kernel5Ideal.τ).loc Cert.Kernel5Ideal.main_arg9)) = Cert.Kernel5Ideal.Mid.stream m c := by
  funext y
  have e : y = ix3 (y 0) (y 1) (y 2) := by funext a; fin_cases a <;> rfl
  refine (congrArg (Cert.Reference5Ideal.Read.val_main_v57 (F := Ideal) _ _ _ _ _ _ _ _) e).trans ?_
  exact Cert.Reference5Ideal.Mid.fed_apply _ _ _ _ _ _ _ _ (y 0) (y 1) (y 2)

/-- The host's input of the next mixer is the kernel's. -/
theorem spread_ref : Cert.Reference5Ideal.Read.val_main_v91 (F := Ideal) (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3))
    (m ((c.tc : Thread Cert.Kernel5Ideal.nD Cert.Kernel5Ideal.τ).loc Cert.Kernel5Ideal.main_arg4))
    (m ((c.tc : Thread Cert.Kernel5Ideal.nD Cert.Kernel5Ideal.τ).loc Cert.Kernel5Ideal.main_arg5))
    (m ((c.tc : Thread Cert.Kernel5Ideal.nD Cert.Kernel5Ideal.τ).loc Cert.Kernel5Ideal.main_arg6))
    (m ((c.tc : Thread Cert.Kernel5Ideal.nD Cert.Kernel5Ideal.τ).loc Cert.Kernel5Ideal.main_arg7))
    (m ((c.tc : Thread Cert.Kernel5Ideal.nD Cert.Kernel5Ideal.τ).loc Cert.Kernel5Ideal.main_arg8))
    (m ((c.tc : Thread Cert.Kernel5Ideal.nD Cert.Kernel5Ideal.τ).loc Cert.Kernel5Ideal.main_arg9)) = Cert.Kernel5Ideal.Mid.spread m c := by
  funext y
  have e : y = ix5 (y 0) (y 1) (y 2) (y 3) (y 4) := by funext a; fin_cases a <;> rfl
  refine (congrArg (Cert.Reference5Ideal.Read.val_main_v91 (F := Ideal) _ _ _ _ _ _ _ _ _ _) e).trans ?_
  exact (Cert.Reference5Ideal.Mid.spread_apply _ _ _ _ _ _ _ _ _ _ (y 0) (y 1) (y 2) (y 3) (y 4)).trans (Cert.Reference5Ideal.Mid.next_apply _ _ _ _ _ _ _ _ _ _ (y 0) _ _)

/-- The host's first cast weight is the kernel's. -/
theorem castA_ref : Cert.Reference5Ideal.Read.val_main_v92 (F := Ideal) (m ((c.tc : Thread Cert.Kernel5Ideal.nD Cert.Kernel5Ideal.τ).loc Cert.Kernel5Ideal.main_arg10)) = Cert.Kernel5Ideal.Mid.castA m c := by
  funext y
  have e : y = ix2 (y 0) (y 1) := by funext a; fin_cases a <;> rfl
  refine (congrArg (Cert.Reference5Ideal.Read.val_main_v92 (F := Ideal) _) e).trans ?_
  exact Cert.Reference5Ideal.Mid.castA_apply _ (y 0) (y 1)

/-- The host's second cast weight is the kernel's. -/
theorem castB_ref : Cert.Reference5Ideal.Read.val_main_v93 (F := Ideal) (m ((c.tc : Thread Cert.Kernel5Ideal.nD Cert.Kernel5Ideal.τ).loc Cert.Kernel5Ideal.main_arg11)) = Cert.Kernel5Ideal.Mid.castB m c := by
  funext y
  have e : y = ix2 (y 0) (y 1) := by funext a; fin_cases a <;> rfl
  refine (congrArg (Cert.Reference5Ideal.Read.val_main_v93 (F := Ideal) _) e).trans ?_
  exact Cert.Reference5Ideal.Mid.castB_apply _ (y 0) (y 1)

/-- The host's third cast weight is the kernel's. -/
theorem castC_ref : Cert.Reference5Ideal.Read.val_main_v94 (F := Ideal) (m ((c.tc : Thread Cert.Kernel5Ideal.nD Cert.Kernel5Ideal.τ).loc Cert.Kernel5Ideal.main_arg12)) = Cert.Kernel5Ideal.Mid.castC m c := by
  funext y
  have e : y = ix2 (y 0) (y 1) := by funext a; fin_cases a <;> rfl
  refine (congrArg (Cert.Reference5Ideal.Read.val_main_v94 (F := Ideal) _) e).trans ?_
  exact Cert.Reference5Ideal.Mid.castC_apply _ (y 0) (y 1)

end Results

/-- The kernel's results equal the host's. -/
theorem algebraic : Cert.algebraic_Kernel5Ideal_Reference5Ideal := by
  intro m g m' g' _ hm
  refine ⟨fun c => Cert.Kernel5Ideal.Mid.stream m c, fun c => Cert.Kernel5Ideal.Mid.spread m c, fun c => Cert.Kernel5Ideal.Mid.castA m c, fun c => Cert.Kernel5Ideal.Mid.castB m c,
    fun c => Cert.Kernel5Ideal.Mid.castC m c,
    (θ_run Cert.Kernel5Ideal.defs _ _).mono (fun r h c => ?_) (θ_run_and (Cert.Kernel5Ideal.Mid.run_results m g) (Cert.Kernel5Ideal.Mid.frame m g)),
    (θ_run Cert.Reference5Ideal.defs _ _).mono (fun r h c => ?_) (Cert.Reference5Ideal.Value.run (F := Ideal) m' g')⟩
  · obtain ⟨h0, h1, h2, h3, h4⟩ := h.1 c
    exact ⟨h0, h1, h2, h3, h4, h.2.1 c⟩
  · obtain ⟨h0, h1, h2, h3, h4, h5⟩ := h c
    obtain ⟨e0, e1, e2, e3, e4, e5, e6, e7, e8, e9, e10, e11, e12⟩ := hm c
    have l0 := h0.trans (Cert.Reference5Ideal.Read.val_main_v57_eq (F := Ideal) m' c)
    have l1 := h1.trans (Cert.Reference5Ideal.Read.val_main_v91_eq (F := Ideal) m' c)
    have l2 := h2.trans (Cert.Reference5Ideal.Read.val_main_v92_eq (F := Ideal) (m' ((c.tc : Thread Cert.Reference5Ideal.nD Cert.Reference5Ideal.τ).loc Cert.Reference5Ideal.main_arg10)))
    have l3 := h3.trans (Cert.Reference5Ideal.Read.val_main_v93_eq (F := Ideal) (m' ((c.tc : Thread Cert.Reference5Ideal.nD Cert.Reference5Ideal.τ).loc Cert.Reference5Ideal.main_arg11)))
    have l4 := h4.trans (Cert.Reference5Ideal.Read.val_main_v94_eq (F := Ideal) (m' ((c.tc : Thread Cert.Reference5Ideal.nD Cert.Reference5Ideal.τ).loc Cert.Reference5Ideal.main_arg12)))
    rw [e0, e1, e3, e5, e6, e7, e8, e9] at l0
    rw [e0, e1, e2, e3, e4, e5, e6, e7, e8, e9] at l1
    rw [e10] at l2
    rw [e11] at l3
    rw [e12] at l4
    exact ⟨l0.trans (stream_ref m c), l1.trans (spread_ref m c), l2.trans (castA_ref m c), l3.trans (castB_ref m c), l4.trans (castC_ref m c), h5⟩

end Cert.Proof.Mid

end
-- ==== Proof.PreIBody.lean ====
/- One grid point of the call that normalizes and modulates the rows that enter the first mixer and lays them out by their place modulo
   sixteen, over any scalars. The body stores 256 pieces, every step a copy of the same text. These definitions state that once, and
   `outV` is what the point leaves in its output. -/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.Kernel6Ideal.Pre

open Cert.Kernel6Ideal Cert.Kernel6Ideal.Gen Idealize.ShloMosaic Idealize.ShloMosaic.TcCoe Idealize.SL.Sem
open Idealize.ShloMosaic.View (Piece)

variable {F : FTy → Type} [FloatOps F]

theorem slicesR (r : ℕ) (h : r < 8) : S2048x1024.Slices ![256 * r, 0] S256x1024 := by
  refine ⟨rfl, fun a => ?_⟩
  fin_cases a <;> simp [S256x1024, S2048x1024] <;> omega

/-- The `r`-th 256 rows times the table that reorders them. -/
def permV (r : ℕ) (h : r < 8) (p : Vec F S256x256 .bf16) (x : FVec F S2048x1024 .bf16) : FVec F S256x1024 .bf16 :=
  truncf .bf16 (matmul dot_S256x256_S256x1024_S256x1024_1_0_0_1_n_n none (shapeCast S256x256 p shapeCasts_S256x256_S256x256)
    (extractStridedSlice S256x1024 ![256 * r, 0] x (slicesR r h)) (constant S256x1024 .f32 0x00000000#32)) bitsLt_bf16_f32

theorem two_lt (n : ℕ) : n % 2 < 2 := Nat.mod_lt _ (by decide)
theorem sixteen_lt (n : ℕ) : n % 16 < 16 := Nat.mod_lt _ (by decide)

theorem slicesP (s k : ℕ) (hs : s < 16) (hk : k < 2) : S256x1024.Slices ![16 * s, 512 * k] S16x512 := by
  refine ⟨rfl, fun a => ?_⟩
  fin_cases a <;> simp [S16x512, S256x1024] <;> omega

theorem inbP (k s r : ℕ) (hk : k < 2) (hs : s < 16) (h : r < 8) :
    ∀ a, (![0, k, s, 16 * r, 0] : Fin 5 → ℕ) a + S1x1x1x16x512.size a ≤ S1x2x16x128x512.size a := by
  intro a; fin_cases a <;> simp [S1x1x1x16x512, S1x2x16x128x512] <;> omega

/-- Sixteen of the reordered rows and half of their columns, as the output keeps them. -/
def pieceV (v : FVec F S256x1024 .bf16) (s k : ℕ) (hs : s < 16) (hk : k < 2) : FVec F S1x1x1x16x512 .bf16 :=
  shapeCast S1x1x1x16x512 (extractStridedSlice S16x512 ![16 * s, 512 * k] v (slicesP s k hs hk)) shapeCasts_S16x512_S1x1x1x16x512

/-- The pieces of the `r`-th 256 rows, up to the `n`-th, last first, after `rest`. -/
def piecesL (r : ℕ) (h : r < 8) (v : FVec F S256x1024 .bf16) (rest : List (Piece (Elt F) S1x2x16x128x512 .bf16)) :
    ℕ → List (Piece (Elt F) S1x2x16x128x512 .bf16)
  | 0 => rest
  | n + 1 => ⟨Rect.unit (s := S1x2x16x128x512) ![0, n / 16 % 2, n % 16, 16 * r, 0] S1x1x1x16x512.size (inbP (n / 16 % 2) (n % 16) r (two_lt _) (sixteen_lt n) h),
      pieceV v (n % 16) (n / 16 % 2) (sixteen_lt n) (two_lt _)⟩ :: piecesL r h v rest n

theorem eight_lt (n : ℕ) : n % 8 < 8 := Nat.mod_lt _ (by decide)

/-- The pieces of the first `n` times 256 rows, last first. -/
def rowsL (p : Vec F S256x256 .bf16) (x : FVec F S2048x1024 .bf16) : ℕ → List (Piece (Elt F) S1x2x16x128x512 .bf16)
  | 0 => []
  | n + 1 => piecesL (n % 8) (eight_lt n) (permV (n % 8) (eight_lt n) p x) (rowsL p x n) 32

/-! The whole buffers, as the body reads them. -/
abbrev r0_0 : Rect S1x2048x1024 := Rect.unit (s := S1x2048x1024) ![0, 0, 0] S1x2048x1024.size inb_S1x2048x1024_S1x2048x1024_0_0_0
abbrev r0_1 : Rect S1x1024 := Rect.unit (s := S1x1024) ![0, 0] S1x1024.size inb_S1x1024_S1x1024_0_0
abbrev r0_2 : Rect S1x1x1024 := Rect.unit (s := S1x1x1024) ![0, 0, 0] S1x1x1024.size inb_S1x1x1024_S1x1x1024_0_0_0
abbrev r0_3 : Rect S256x256 := Rect.unit (s := S256x256) ![0, 0] S256x256.size inb_S256x256_S256x256_0_0

/-- What the point leaves in its output, of the blocks it reads. -/
def outV (x0 : Vec F S1x2048x1024 .f32) (x1 : Vec F S1x1024 .f32) (x2 x3 : Vec F S1x1x1024 .f32) (x4 : Vec F S256x256 .bf16) : Vec F S1x2x16x128x512 .bf16 :=
  View.canon (rowsL (View.ld x4 r0_3) (k0_pay3 (View.ld x0 r0_0) (View.ld x1 r0_1) (View.ld x2 r0_2) (View.ld x3 r0_2)) 8)

set_option maxHeartbeats 8000000 in
/-- The pieces tile the output, whatever they hold. -/
theorem coverV (p : Vec F S256x256 .bf16) (x : FVec F S2048x1024 .bf16) (y : S1x2x16x128x512.Idx) : ∃ pc ∈ rowsL p x 8, y ∈ pc.1.set :=
  View.cover_of_tiled (s := S1x2x16x128x512) _ S1x1x1x16x512.size rfl y

end Cert.Kernel6Ideal.Pre

end
-- ==== Proof.PrePoint.lean ====
/- The body's steps read at an index, at the reals with infinities. -/
module

public import proofs.«01_k».proof.Proof.PreIBody
public import proofs.«01_k».proof.Proof.FfnRow
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.Kernel6Ideal.Pre

open Cert.Kernel6Ideal Cert.Kernel6Ideal.Gen Cert.Ffn Idealize.ShloMosaic Idealize.ShloMosaic.TcCoe Idealize.SL.Sem

/-- A row of the tile, normalized and modulated. -/
theorem norm_apply (x : Vec Ideal S1x2048x1024 .f32) (g : Vec Ideal S1x1024 .f32) (shift scale : Vec Ideal S1x1x1024 .f32) (n : Fin 2048) (j : Fin 1024) :
    k0_pay3 (F := Ideal) x g shift scale (ix2 n j)
      = normRow (fun j => x (ix3 0 n j)) (fun j => g (ix2 0 j)) (fun j => shift (ix3 0 0 j)) (fun j => scale (ix3 0 0 j)) j := by
  unfold k0_pay3 normRow
  pointwise

/-- What the table that reorders the rows holds: row `16 s + j` takes row `16 j + s`. -/
def Reorders (p : Vec Ideal S256x256 .bf16) : Prop :=
  ∀ t k : Fin 256, p (ix2 t k) = if 16 * (t.val % 16) + t.val / 16 = k.val then 1 else 0

/-- The product with the table picks a row. -/
theorem permV_apply (r : ℕ) (h : r < 8) (p : Vec Ideal S256x256 .bf16) (hp : Reorders p) (x : FVec Ideal S2048x1024 .bf16) (s j : Fin 16) (e : Fin 1024) :
    permV r h p x (ix2 (⟨16 * s.val + j.val, by omega⟩ : Fin 256) e) = x (ix2 (⟨256 * r + (16 * j.val + s.val), by omega⟩ : Fin 2048) e) := by
  have h' : permV r h p x (ix2 (⟨16 * s.val + j.val, by omega⟩ : Fin 256) e)
      = ∑ k : Fin 256, p (ix2 (⟨16 * s.val + j.val, by omega⟩ : Fin 256) k) * x (ix2 (⟨256 * r + k.val, by omega⟩ : Fin 2048) e) := by
    unfold permV
    pointwise
  rw [h', Finset.sum_eq_single (⟨16 * j.val + s.val, by omega⟩ : Fin 256)]
  · rw [hp, if_pos (by simp only; omega), one_mul]
  · intro k _ hk
    rw [hp, if_neg fun h => hk (Fin.ext (by simp only at h ⊢; omega)), zero_mul]
  · exact fun h => absurd (Finset.mem_univ _) h

/-- Sixteen reordered rows and half of their columns. -/
theorem pieceV_apply (v : FVec Ideal S256x1024 .bf16) (s k : ℕ) (hs : s < 16) (hk : k < 2) (j : Fin 16) (e : Fin 512) :
    pieceV v s k hs hk (ix5 0 0 0 j e) = v (ix2 (⟨16 * s + j.val, by omega⟩ : Fin 256) (⟨512 * k + e.val, by omega⟩ : Fin 1024)) := by
  unfold pieceV
  pointwise

theorem rowG (y : S1x2x16x128x512.Idx) : 16 * (y 3).val + (y 2).val < 2048 := by
  have h3 : (y 3).val < 128 := (y 3).isLt
  have h2 : (y 2).val < 16 := (y 2).isLt
  omega

theorem colG (y : S1x2x16x128x512.Idx) : 512 * (y 1).val + (y 4).val < 1024 := by
  have h1 : (y 1).val < 2 := (y 1).isLt
  have h4 : (y 4).val < 512 := (y 4).isLt
  omega

/-- The rows of the tile laid out by their place modulo sixteen. -/
def laidG (x : FVec Ideal S2048x1024 .bf16) : Vec Ideal S1x2x16x128x512 .bf16 := fun y => x (ix2 ⟨16 * (y 3).val + (y 2).val, rowG y⟩ ⟨512 * (y 1).val + (y 4).val, colG y⟩)

theorem laid_congr (x : FVec Ideal S2048x1024 .bf16) (a b : Fin 2048) (p q : Fin 1024) (h : a.val = b.val) (h' : p.val = q.val) : x (ix2 a p) = x (ix2 b q) := by
  rw [Fin.ext h, Fin.ext h']

theorem idx_piece (x : S1x1x1x16x512.Idx) : x = ix5 0 0 0 (x 3) (x 4) := by
  have l0 : (x 0).val < 1 := (x 0).isLt
  have l1 : (x 1).val < 1 := (x 1).isLt
  have l2 : (x 2).val < 1 := (x 2).isLt
  funext a
  fin_cases a
  · exact Fin.ext (Nat.lt_one_iff.1 l0)
  · exact Fin.ext (Nat.lt_one_iff.1 l1)
  · exact Fin.ext (Nat.lt_one_iff.1 l2)
  · rfl
  · rfl

/-- The reordered rows make their pieces entries of the output. -/
theorem pieces_allAt (x : FVec Ideal S2048x1024 .bf16) (r : ℕ) (h : r < 8) (v : FVec Ideal S256x1024 .bf16) (y : S1x2x16x128x512.Idx) (L : List (View.Piece (Elt Ideal) S1x2x16x128x512 .bf16))
    (hv : ∀ (s j : Fin 16) (e : Fin 1024), v (ix2 (⟨16 * s.val + j.val, by omega⟩ : Fin 256) e) = x (ix2 (⟨256 * r + (16 * j.val + s.val), by omega⟩ : Fin 2048) e))
    (hL : View.AllAt L y (laidG x y)) (n : ℕ) : View.AllAt (piecesL r h v L n) y (laidG x y) := by
  induction n with
  | zero => exact hL
  | succ n ih =>
    refine View.allAt_cons_unit _ _ _ _ _ (fun z hz => ?_) ih
    have e1 : (y 1).val = n / 16 % 2 + (z 1).val := hz 1
    have e2 : (y 2).val = n % 16 + (z 2).val := hz 2
    have e3 : (y 3).val = 16 * r + (z 3).val := hz 3
    have e4 : (y 4).val = 0 + (z 4).val := hz 4
    have l0 : (z 0).val < 1 := (z 0).isLt
    have l1 : (z 1).val < 1 := (z 1).isLt
    have l2 : (z 2).val < 1 := (z 2).isLt
    have l3 : (z 3).val < 16 := (z 3).isLt
    refine (congrArg (pieceV v (n % 16) (n / 16 % 2) (sixteen_lt n) (two_lt _)) (idx_piece z)).trans ?_
    refine (pieceV_apply v (n % 16) (n / 16 % 2) (sixteen_lt n) (two_lt _) (z 3) (z 4)).trans ((hv ⟨n % 16, sixteen_lt n⟩ (z 3) _).trans ?_)
    unfold laidG
    exact laid_congr x _ _ _ _ (by simp only; omega) (by simp only; omega)

theorem rows_allAt (p : Vec Ideal S256x256 .bf16) (hp : Reorders p) (x : FVec Ideal S2048x1024 .bf16) (y : S1x2x16x128x512.Idx) (n : ℕ) :
    View.AllAt (rowsL p x n) y (laidG x y) := by
  induction n with
  | zero => exact View.allAt_nil _ _
  | succ n ih => exact pieces_allAt x (n % 8) (eight_lt n) _ y _ (fun s j e => permV_apply (n % 8) (eight_lt n) p hp x s j e) ih 32

theorem table_ld (x : Vec Ideal S256x256 .bf16) : View.ld (Val := Elt Ideal) (e' := .bf16) x r0_3 = x := View.ld_unit_lit _ _ (by decide)
theorem gain_ld (x : Vec Ideal S1x1024 .f32) : View.ld (Val := Elt Ideal) (e' := .f32) x r0_1 = x := View.ld_unit_lit _ _ (by decide)
theorem row_ld (x : Vec Ideal S1x1x1024 .f32) : View.ld (Val := Elt Ideal) (e' := .f32) x r0_2 = x := View.ld_unit_lit _ _ (by decide)
theorem tile_ld (x : Vec Ideal S1x2048x1024 .f32) : View.ld (Val := Elt Ideal) (e' := .f32) x r0_0 = x := View.ld_unit_lit _ _ (by decide)

/-- What the point leaves in its output, at an index. -/
theorem out_apply (x0 : Vec Ideal S1x2048x1024 .f32) (x1 : Vec Ideal S1x1024 .f32) (x2 x3 : Vec Ideal S1x1x1024 .f32) (x4 : Vec Ideal S256x256 .bf16) (hp : Reorders x4) (y : S1x2x16x128x512.Idx) :
    outV (F := Ideal) x0 x1 x2 x3 x4 y
      = normRow (fun j => x0 (ix3 0 ⟨16 * (y 3).val + (y 2).val, rowG y⟩ j)) (fun j => x1 (ix2 0 j)) (fun j => x2 (ix3 0 0 j)) (fun j => x3 (ix3 0 0 j)) ⟨512 * (y 1).val + (y 4).val, colG y⟩ := by
  unfold outV
  rw [table_ld, gain_ld, row_ld, row_ld, tile_ld]
  refine (View.canon_eq_of_allAt _ _ _ (coverV _ _ y) (rows_allAt x4 hp _ y 8)).trans ?_
  unfold laidG
  exact norm_apply x0 x1 x2 x3 _ _

end Cert.Kernel6Ideal.Pre

end
-- ==== Proof.PreIFrame.lean ====
/- What one core does in the call that normalizes and modulates the rows that enter the first mixer: the body at a grid point, the
   pipeline's data, and that every execution ends with the arguments unchanged. -/
module

public import proofs.«01_k».proof.Proof.PreIBody
public import Idealize.ShloMosaic.Lib.Claim

@[expose] public section

set_option maxRecDepth 65536

noncomputable section

namespace Cert.Kernel6Ideal.Pre

open Cert.Kernel6Ideal Cert.Kernel6Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run -/

/-- From any data over the arrays the region finds, such a run leaves the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's triple -/

set_option maxHeartbeats 3496000 in
/-- The body on whole buffers: it leaves the inputs as they were and the output at `outV` of them. -/
theorem sound_kernel (c : Dev nD) (E : Set ℕ) (i : grid0.Coords) (arg2 : Memref sig .tc .vmem S1x2048x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S256x256 .bf16) (harg6 : arg6.IsWhole) (arg7 : Memref sig .tc .vmem S1x2x16x128x512 .bf16) (harg7 : arg7.IsWhole)
    (x0 : Vec F S1x2048x1024 .f32) (x1 : Vec F S1x1024 .f32) (x2 : Vec F S1x1x1024 .f32) (x3 : Vec F S1x1x1024 .f32) (x4 : Vec F S256x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outV x0 x1 x2 x3 x4)) -∗ K ⟨⟩))
      ⊢ wp frame (wpE (defs₀ (F := F)) Variants.none c none) E (cc0_prenorm_rm i arg2 harg2 arg3 harg3 arg4 harg4 arg5 harg5 arg6 harg6 arg7 harg7) K := by
  simp only [cc0_prenorm_rm_eq_skeleton]; unfold cc0_prenorm_rm_skel
  simp only [k0_part45_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (fun y => coverV (View.ld (View.read (Elt F) arg6.view f4) r0_3) (k0_pay3 (View.ld (View.read (Elt F) arg2.view f0) r0_0)
    (View.ld (View.read (Elt F) arg3.view f1) r0_1) (View.ld (View.read (Elt F) arg4.view f2) r0_2) (View.ld (View.read (Elt F) arg5.view f3) r0_2)) y))

/-! ## The pipeline's proof data -/

/-- The pipeline's data on core `c`: the arrays as the region finds them, each input's block left in place, the output at `outV` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outV (iblk m c 0 t) (iblk m c 1 t) (iblk m c 2 t) (iblk m c 3 t) (iblk m c 4 t)
  Φ _ := Pipeline.ΦA spec0 c
  q _ := fullShare
  owed _ := 0

/-- The data's arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outV (iblk m c 0 t) (iblk m c 1 t) (iblk m c 2 t) (iblk m c 3 t) (iblk m c 4 t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at point `t`, as it is called. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends with the arrays as the data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arrays as the data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel6Ideal.Pre

end
-- ==== Proof.PreBlocks.lean ====
/- What the call that normalizes and modulates the rows that enter the first mixer leaves in its result: the table the host makes, what
   the windows bring to a grid point, and the array those points leave. -/
module

public import proofs.«01_k».proof.Proof.PrePoint
public import proofs.«01_k».proof.Proof.PreIFrame
public import Idealize.ShloMosaic.Lib.Pointwise
public import Idealize.ShloMosaic.Lib.StableHlo.ReadAt
public import Idealize.ShloMosaic.Lib.Pipeline.Value
public import Idealize.ShloMosaic.Lib.Pipeline.ValueKit.Geometry

@[expose] public section

set_option maxRecDepth 16384

noncomputable section

namespace Cert.Kernel6Ideal.Pre

open Cert.Kernel6Ideal Cert.Kernel6Ideal.Gen Cert.Ffn Idealize.ShloMosaic Idealize.ShloMosaic.TcCoe Idealize.SL.Sem

variable (m : (ℓ : Loc nD τ sig) → Buf (Elt Ideal) ℓ) (ρ : Dev nD → PrngReg) (c : Dev nD)

theorem index0 : ∀ t : Fin cfg0.N, (cfg0.win 0).index t = ![(grid0.coords t 0).val, (grid0.coords t 1).val, 0] := by decide +kernel
theorem index1 : ∀ t : Fin cfg0.N, (cfg0.win 1).index t = ![0, 0] := by decide +kernel
theorem index2 : ∀ t : Fin cfg0.N, (cfg0.win 2).index t = ![(grid0.coords t 0).val, 0, 0] := by decide +kernel
theorem index3 : ∀ t : Fin cfg0.N, (cfg0.win 3).index t = ![(grid0.coords t 0).val, 0, 0] := by decide +kernel
theorem index4 : ∀ t : Fin cfg0.N, (cfg0.win 4).index t = ![0, 0] := by decide +kernel
theorem index5 : ∀ t : Fin cfg0.N, (cfg0.win 5).index t = ![(grid0.coords t 0).val, 0, 0, (grid0.coords t 1).val, 0] := by decide +kernel

/-- The gain, as the call takes it. -/
theorem table_gain (j : Fin 1024) : V (F := Ideal) m c main_v4 (ix2 0 j) = m ((c : Thread nD τ).loc main_arg2) (ix1 j) := by
  unfold V
  after_reads_at

/-- The shift is the first of the layer's vectors, -/
theorem table_shift (b : Fin 8) (j : Fin 1024) : V (F := Ideal) m c main_v5 (ix3 b 0 j) = m ((c : Thread nD τ).loc main_arg1) (ix3 b 0 j) := by
  unfold V
  after_reads_at

/-- and the scale is the second. -/
theorem table_scale (b : Fin 8) (j : Fin 1024) : V (F := Ideal) m c main_v6 (ix3 b 0 j) = m ((c : Thread nD τ).loc main_arg1) (ix3 b 1 j) := by
  unfold V
  after_reads_at

/-- Comparing two small words and converting the answer gives one where they agree, zero elsewhere. -/
theorem same_word (a q : ℕ) (ha : a < 256) (hq : q < 256) :
    FloatOps.uitofp (F := Ideal) .bf16 (IntOp.cmpi .eq (BitVec.ofNat 32 a) (BitVec.ofNat 32 q)) = if a = q then (1 : EReal) else 0 := by
  have e : (BitVec.ofNat 32 a = BitVec.ofNat 32 q) ↔ a = q :=
    ⟨fun h => by
      have := congrArg BitVec.toNat h
      simp only [BitVec.toNat_ofNat] at this
      omega, congrArg _⟩
  by_cases h : a = q
  · subst h
    rw [if_pos rfl]
    simp [IntOp.cmpi, FloatOps.uitofp]
  · rw [if_neg h]
    simp [IntOp.cmpi, FloatOps.uitofp, e, h]

/-- The table that reorders the rows. -/
theorem table_perm (r q : Fin 256) :
    (V (F := Ideal) m c main_v18 : Vec Ideal S256x256 .bf16) (ix2 r q) = if 16 * (r.val % 16) + r.val / 16 = q.val then (1 : EReal) else 0 := by
  unfold V
  after_reads_at
  refine (congrArg (fun w => FloatOps.uitofp (F := Ideal) .bf16 (IntOp.cmpi .eq w (BitVec.ofNat 32 q.val)))
    (?_ : _ = BitVec.ofNat 32 (16 * (r.val % 16) + r.val / 16))).trans (same_word _ _ (by omega) q.isLt)
  clear q
  revert r
  decide +kernel

theorem tile_lt (s : Fin 2) (n : Fin 2048) : 2048 * s.val + n.val < 4096 := by omega

section Windows

variable (t : Fin cfg0.N) (b : Fin 8) (s : Fin 2) (hb : (grid0.coords t 0).val = b.val) (hs : (grid0.coords t 1).val = s.val)

include hb hs in
theorem win0 (n : Fin 2048) (j : Fin 1024) : iblk m c 0 t (ix3 0 n j) = V m c main_arg0 (ix3 b ⟨2048 * s.val + n.val, tile_lt s n⟩ j) := by
  blk_ext [iblk, index0 t]

theorem win1 (j : Fin 1024) : iblk m c 1 t (ix2 0 j) = V m c main_v4 (ix2 0 j) := by
  blk_ext [iblk, index1 t]

include hb in
theorem win2 (j : Fin 1024) : iblk m c 2 t (ix3 0 0 j) = V m c main_v5 (ix3 b 0 j) := by
  blk_ext [iblk, index2 t]

include hb in
theorem win3 (j : Fin 1024) : iblk m c 3 t (ix3 0 0 j) = V m c main_v6 (ix3 b 0 j) := by
  blk_ext [iblk, index3 t]

theorem win4 (r q : Fin 256) : iblk m c 4 t (ix2 r q) = V m c main_v18 (ix2 r q) := by
  blk_ext [iblk, index4 t]

/-- The table a point is given reorders the rows. -/
theorem reorders : Reorders (iblk m c 4 t) := fun r q => (win4 m c t r q).trans (table_perm m c r q)

end Windows

/-- The rows the call computes, token by token, -/
def entering (b : Fin 8) (T : Fin 4096) (j : Fin 1024) : EReal :=
  normRow (fun j => m ((c : Thread nD τ).loc main_arg0) (ix3 b T j)) (fun j => m ((c : Thread nD τ).loc main_arg2) (ix1 j))
    (fun j => m ((c : Thread nD τ).loc main_arg1) (ix3 b 0 j)) (fun j => m ((c : Thread nD τ).loc main_arg1) (ix3 b 1 j)) j

theorem token_lt (y : S8x2x16x256x512.Idx) : 16 * (y 3).val + (y 2).val < 4096 := by
  have h3 : (y 3).val < 256 := (y 3).isLt
  have h2 : (y 2).val < 16 := (y 2).isLt
  omega

theorem column_lt (y : S8x2x16x256x512.Idx) : 512 * (y 1).val + (y 4).val < 1024 := by
  have h1 : (y 1).val < 2 := (y 1).isLt
  have h4 : (y 4).val < 512 := (y 4).isLt
  omega

/-- and as the call hands them on: by column half and by the token's place modulo sixteen. -/
def result : Vec Ideal S8x2x16x256x512 .bf16 := fun y => entering m c (y 0) ⟨16 * (y 3).val + (y 2).val, token_lt y⟩ ⟨512 * (y 1).val + (y 4).val, column_lt y⟩

/-- The entries a point leaves are entries of the result. -/
theorem point_eq (t : Fin cfg0.N) (b : Fin 8) (s : Fin 2) (hb : (grid0.coords t 0).val = b.val) (hs : (grid0.coords t 1).val = s.val) (y : S1x2x16x128x512.Idx) (z : S8x2x16x256x512.Idx)
    (z0 : (z 0).val = b.val) (z1 : (z 1).val = (y 1).val) (z2 : (z 2).val = (y 2).val) (z3 : (z 3).val = 128 * s.val + (y 3).val) (z4 : (z 4).val = (y 4).val) :
    outV (F := Ideal) (iblk m c 0 t) (iblk m c 1 t) (iblk m c 2 t) (iblk m c 3 t) (iblk m c 4 t) y = result m c z := by
  have e0 : ∀ n j, iblk m c 0 t (ix3 0 n j) = m ((c : Thread nD τ).loc main_arg0) (ix3 b ⟨2048 * s.val + n.val, tile_lt s n⟩ j) :=
    fun n j => (win0 m c t b s hb hs n j).trans (congrFun (V_main_arg0 m c) _)
  have e1 : ∀ j, iblk m c 1 t (ix2 0 j) = m ((c : Thread nD τ).loc main_arg2) (ix1 j) := fun j => (win1 m c t j).trans (table_gain m c j)
  have e2 : ∀ j, iblk m c 2 t (ix3 0 0 j) = m ((c : Thread nD τ).loc main_arg1) (ix3 b 0 j) := fun j => (win2 m c t b hb j).trans (table_shift m c b j)
  have e3 : ∀ j, iblk m c 3 t (ix3 0 0 j) = m ((c : Thread nD τ).loc main_arg1) (ix3 b 1 j) := fun j => (win3 m c t b hb j).trans (table_scale m c b j)
  refine (out_apply _ _ _ _ _ (reorders m c t) y).trans ?_
  simp only [e0, e1, e2, e3]
  unfold result
  refine Eq.trans (b := entering m c b ⟨2048 * s.val + (16 * (y 3).val + (y 2).val), tile_lt s ⟨_, rowG y⟩⟩ ⟨512 * (y 1).val + (y 4).val, colG y⟩) rfl ?_
  exact congr (congr (congrArg (entering m c) (Fin.ext z0.symm)) (Fin.ext (by simp only; omega))) (Fin.ext (by simp only; omega))

theorem place (k a b : ℕ) : k * a + b = a * k + b := by rw [Nat.mul_comm]

/-- The result array after the run. -/
theorem arr_eq : (dats m 0 c).arrAt 5 cfg0.N = result m c := by
  refine (dats m 0 c).arrAt_eq_of_covers 5 _ (by decide +kernel) fun t hf y => ?_
  refine (congrFun (congrArg ((cfg0.win 5).cut (grid0.coords t)) (after0_5 m c t)) y).trans ?_
  have hb : (grid0.coords t 0).val < 8 := (grid0.coords t 0).isLt
  have hs : (grid0.coords t 1).val < 2 := (grid0.coords t 1).isLt
  refine (point_eq m c t ⟨_, hb⟩ ⟨_, hs⟩ rfl rfl _ _ ?_ ?_ ?_ ?_ ?_) <;> blk_simp [index5 t]
  exact (place 128 _ _).symm

/-- The run, with the result read. -/
theorem run_result : θ_run defs (onTc (τ := τ) (main (F := Ideal))) ⟨m, fun _ => 0, ρ⟩ fun r => ∀ c : Dev nD,
      r.2.mem ((c.tc : Thread nD τ).loc main_v19) = result m c :=
  (θ_run defs _ _).mono (fun _ h c => ((h c).1 5).trans (arr_eq m c)) (run_main m ρ)

end Cert.Kernel6Ideal.Pre

end
-- ==== Proof.PreRef.lean ====
/- The rows that enter the first mixer in the host's words. -/
module

public import proofs.«01_k».proof.Proof.FfnRow
public import proofs.«01_k».proof.Proof.Gen.Reference6Ideal.Read
public import Idealize.ShloMosaic.Lib.Pointwise

@[expose] public section

set_option maxRecDepth 16384

noncomputable section

namespace Cert.Reference6Ideal.Pre

open Cert.Reference6Ideal Cert.Reference6Ideal.Read Cert.Ffn Idealize.ShloMosaic Idealize.ShloMosaic.TcCoe Idealize.SL.Sem

variable (x0 : Vec Ideal S8x4096x1024 .f32) (x1 : Vec Ideal S8x6x1024 .f32) (x2 : Vec Ideal S1024 .f32) (b : Fin 8)

/-- A token's row, normalized and modulated. -/
theorem row_apply (T : Fin 4096) (j : Fin 1024) :
    val_main_v24 (F := Ideal) x0 x1 x2 (ix3 b T j)
      = normRow (fun j => x0 (ix3 b T j)) (fun j => x2 (ix1 j)) (fun j => x1 (ix3 b 0 j)) (fun j => x1 (ix3 b 1 j)) j := by
  unfold normRow
  unfold val_main_v24 val_main_v23 val_main_v22 val_main_v21 val_main_v20 val_main_v19 val_main_v18 val_main_cst_2 val_main_v17 val_main_v16 val_main_v15 val_main_v14
    val_main_v13 val_main_v12 val_main_v11 val_main_v10 val_main_v9 val_main_v8 val_main_v7 val_main_v6 val_main_v5 val_main_cst_1 val_main_v4 val_main_v3 val_main_cst_0
    val_main_v2 val_main_v1 val_main_cst val_main_v0
  pointwise

/-- The rows as they are handed on: by column half and by the token's place modulo sixteen. -/
theorem laid_apply (k : Fin 2) (s : Fin 16) (J : Fin 256) (e : Fin 512) :
    val_main_v27 (F := Ideal) x0 x1 x2 (ix5 b k s J e)
      = val_main_v24 (F := Ideal) x0 x1 x2 (ix3 b (⟨16 * J.val + s.val, by omega⟩ : Fin 4096) (⟨512 * k.val + e.val, by omega⟩ : Fin 1024)) := by
  unfold val_main_v27 val_main_v26 val_main_v25
  pointwise
  simp only [Nat.mul_comm 16, Nat.mul_comm 512]

end Cert.Reference6Ideal.Pre

end
-- ==== Proof.PreClaim.lean ====
/- The claims about the rows that enter the first mixer. -/
module

public import proofs.«01_k».proof.Defs
public import proofs.«01_k».proof.Proof.PreBlocks
public import proofs.«01_k».proof.Proof.PreRef
public import proofs.«01_k».proof.Proof.PreFrame
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof.Pre

open Idealize.ShloMosaic Idealize.SL.Sem

theorem frame_p : Cert.quiescent_Kernel6 := fun m ρ _ => Cert.Kernel6.Pre.frame m ρ

theorem frame_pi : Cert.quiescent_Kernel6Ideal := fun m ρ _ => Cert.Kernel6Ideal.Pre.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's rows equal the host's. -/
theorem algebraic : Cert.algebraic_Kernel6Ideal_Reference6Ideal := by
  intro m g m' g' _ hm
  refine ⟨fun c => Cert.Reference6Ideal.Read.val_main_v27 (F := Ideal) (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2)),
    (θ_run Cert.Kernel6Ideal.defs _ _).mono (fun r h c => ⟨(h.1 c).trans ?_, h.2 c⟩) (θ_run_and (Cert.Kernel6Ideal.Pre.run_result m g) (Cert.Kernel6Ideal.Pre.unchanged m g)),
    (θ_run Cert.Reference6Ideal.defs _ _).mono (fun r h c => ⟨(h c).1.trans (Cert.Reference6Ideal.Read.val_main_v27_eq (F := Ideal) _ _ _), (h c).2⟩)
      (Cert.Reference6Ideal.Value.run (F := Ideal) m' g')⟩
  obtain ⟨e0, e1, e2⟩ := hm c
  beta_reduce
  unfold Cert.Kernel6Ideal.Pre.result Cert.Kernel6Ideal.Pre.entering
  rw [e0, e1, e2]
  funext y
  have e : y = ix5 (y 0) (y 1) (y 2) (y 3) (y 4) := by funext a; fin_cases a <;> rfl
  refine Eq.trans ?_ (congrArg (Cert.Reference6Ideal.Read.val_main_v27 (F := Ideal) _ _ _) e).symm
  exact ((Cert.Reference6Ideal.Pre.laid_apply _ _ _ (y 0) (y 1) (y 2) (y 3) (y 4)).trans (Cert.Reference6Ideal.Pre.row_apply _ _ _ (y 0) _ _)).symm

end Cert.Proof.Pre

end
-- ==== Proof.AdaRow.lean ====
/- The modulation vectors of the model: the conditioning vector, gated by its own logistic, times the weights, plus the bias. -/
module

public import Idealize.ShloMosaic.PureOps.Ideal

@[expose] public section

noncomputable section

namespace Cert.Ada

open Idealize.ShloMosaic

/-- The conditioning entry times its logistic. -/
def gated (c : EReal) : EReal := c * Ideal.logistic c

/-- An entry of a modulation vector. -/
def entry (c : Fin 1024 → EReal) (w : Fin 1024 → EReal) (b : EReal) : EReal := (∑ k : Fin 1024, gated (c k) * w k) + b

/-- A real minus itself is zero. -/
theorem sub_self_real (x : EReal) (h : x = (x.toReal : EReal)) : x - x = 0 := by
  rw [h, ← EReal.coe_sub, sub_self, EReal.coe_zero]

/-- The gated entry of a real is a real. -/
theorem gated_real (x : EReal) (h : x = (x.toReal : EReal)) : gated x = ((gated x).toReal : EReal) := by
  have e : gated x = ((x.toReal * (1 + Real.exp (-x.toReal))⁻¹ : ℝ) : EReal) := by
    unfold gated
    rw [h, Ideal.logistic_coe, ← EReal.coe_mul, EReal.toReal_coe]
  rw [e, EReal.toReal_coe]

/-- The sum over the leading parts, the sums over what they leave out, and the bias: what is left out of a real is zero. -/
theorem split_eq (c : Fin 1024 → EReal) (w : Fin 1024 → EReal) (b : EReal) (hc : ∀ k, c k = ((c k).toReal : EReal)) (hw : ∀ k, w k = ((w k).toReal : EReal)) :
    (((∑ k : Fin 1024, gated (c k) * w k) + (∑ k : Fin 1024, (gated (c k) - gated (c k)) * w k)) + (∑ k : Fin 1024, gated (c k) * (w k - w k))) + b
      = entry c w b := by
  have e1 : ∀ k, (gated (c k) - gated (c k)) * w k = 0 := fun k => by rw [sub_self_real _ (gated_real _ (hc k)), zero_mul]
  have e2 : ∀ k, gated (c k) * (w k - w k) = 0 := fun k => by rw [sub_self_real _ (hw k), mul_zero]
  simp only [e1, e2, Finset.sum_const_zero, add_zero]
  rfl

end Cert.Ada
-- ==== Proof.AdaBlocks.lean ====
/- What the call that makes the four layers' modulation vectors leaves in its result. -/
module

public import proofs.«01_k».proof.Proof.AdaRow
public import proofs.«01_k».proof.Proof.Gen.Kernel7Ideal.Value
public import Idealize.ShloMosaic.Lib.Pointwise
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

namespace Cert.Kernel7Ideal.Ada

open Cert.Kernel7Ideal Cert.Kernel7Ideal.Gen Cert.Ada Idealize.ShloMosaic Idealize.ShloMosaic.TcCoe Idealize.SL.Sem

/-- The four sums of the body, read at an index. -/
theorem pay_apply (x0 : Vec Ideal S8x1024 .f32) (x1 : Vec Ideal S1x1024x2048 .f32) (x2 : Vec Ideal S1x1x2048 .f32) (b : Fin 8) (j : Fin 2048) :
    k0_pay1 (F := Ideal) x0 x1 x2 (ix3 0 b j)
      = (((∑ k : Fin 1024, gated (x0 (ix2 b k)) * x1 (ix3 0 k j)) + (∑ k : Fin 1024, (gated (x0 (ix2 b k)) - gated (x0 (ix2 b k))) * x1 (ix3 0 k j)))
          + (∑ k : Fin 1024, gated (x0 (ix2 b k)) * (x1 (ix3 0 k j) - x1 (ix3 0 k j)))) + x2 (ix3 0 0 j) := by
  unfold k0_pay1 gated
  pointwise

/-- The block a grid point leaves. -/
theorem out_apply (x0 : Vec Ideal S8x1024 .f32) (x1 : Vec Ideal S1x1024x2048 .f32) (x2 : Vec Ideal S1x1x2048 .f32)
    (h0 : ∀ b k, x0 (ix2 b k) = ((x0 (ix2 b k) : EReal).toReal : EReal)) (h1 : ∀ k j, x1 (ix3 0 k j) = ((x1 (ix3 0 k j) : EReal).toReal : EReal)) (b : Fin 8) (j : Fin 2048) :
    out0_3 (F := Ideal) x0 x1 x2 (ix3 0 b j) = entry (fun k => x0 (ix2 b k)) (fun k => x1 (ix3 0 k j)) (x2 (ix3 0 0 j)) := by
  refine Eq.trans ?_ ((pay_apply x0 x1 x2 b j).trans (split_eq _ _ _ (h0 b) (fun k => h1 k j)))
  unfold out0_3
  rw [View.canon_cons_unit_lit _ _ _ (by decide), View.ld_unit_lit _ _ (by decide), View.ld_unit_lit _ _ (by decide), View.ld_unit_lit _ _ (by decide)]

variable (m : (ℓ : Loc nD τ sig) → Buf (Elt Ideal) ℓ) (c : Dev nD)

theorem index0 : ∀ t : Fin cfg0.N, (cfg0.win 0).index t = ![0, 0] := by decide +kernel
theorem index1 : ∀ t : Fin cfg0.N, (cfg0.win 1).index t = ![(grid0.coords t 0).val, 0, (grid0.coords t 1).val] := by decide +kernel
theorem index2 : ∀ t : Fin cfg0.N, (cfg0.win 2).index t = ![(grid0.coords t 0).val, 0, (grid0.coords t 1).val] := by decide +kernel
theorem index3 : ∀ t : Fin cfg0.N, (cfg0.win 3).index t = ![(grid0.coords t 0).val, 0, (grid0.coords t 1).val] := by decide +kernel

/-- The bias, as the call takes it. -/
theorem bias (l : Fin 4) (j : Fin 6144) : V (F := Ideal) m c main_v0 (ix3 l 0 j) = m ((c : Thread nD τ).loc main_arg2) (ix2 l j) := by
  unfold V
  after_reads_at

theorem col_lt (s : Fin 3) (n : Fin 2048) : 2048 * s.val + n.val < 6144 := by omega

section Windows

variable (t : Fin cfg0.N) (l : Fin 4) (s : Fin 3) (hl : (grid0.coords t 0).val = l.val) (hs : (grid0.coords t 1).val = s.val)

theorem win0 (b : Fin 8) (k : Fin 1024) : iblk m c 0 t (ix2 b k) = V m c main_arg0 (ix2 b k) := by
  blk_ext [iblk, index0 t]

include hl hs in
theorem win1 (k : Fin 1024) (j : Fin 2048) : iblk m c 1 t (ix3 0 k j) = V m c main_arg1 (ix3 l k ⟨2048 * s.val + j.val, col_lt s j⟩) := by
  blk_ext [iblk, index1 t]

include hl hs in
theorem win2 (j : Fin 2048) : iblk m c 2 t (ix3 0 0 j) = V m c main_v0 (ix3 l 0 ⟨2048 * s.val + j.val, col_lt s j⟩) := by
  blk_ext [iblk, index2 t]

end Windows

/-- The result the call computes. -/
def result : Vec Ideal S4x8x6144 .f32 := fun y =>
  entry (fun k => m ((c : Thread nD τ).loc main_arg0) (ix2 (y 1) k)) (fun k => m ((c : Thread nD τ).loc main_arg1) (ix3 (y 0) k (y 2)))
    (m ((c : Thread nD τ).loc main_arg2) (ix2 (y 0) (y 2)))

/-- Equal coordinates give equal entries of the result. -/
theorem result_congr (x y : S4x8x6144.Idx) (e0 : (x 0).val = (y 0).val) (e1 : (x 1).val = (y 1).val) (e2 : (x 2).val = (y 2).val) :
    result m c x = result m c y := by
  refine congrArg (result m c) (funext fun a => ?_)
  fin_cases a
  · exact Fin.ext e0
  · exact Fin.ext e1
  · exact Fin.ext e2

/-- An index of a block. -/
theorem ixB (y : S1x8x2048.Idx) : y = ix3 0 (y 1) (y 2) := by
  funext a
  fin_cases a
  · exact Fin.ext (by have : (y 0).val < 1 := (y 0).isLt; show (y 0).val = 0; omega)
  · rfl
  · rfl

section Result

variable (h0 : ∀ i, m ((c : Thread nD τ).loc main_arg0) i = ((m ((c : Thread nD τ).loc main_arg0) i : EReal).toReal : EReal))
  (h1 : ∀ i, m ((c : Thread nD τ).loc main_arg1) i = ((m ((c : Thread nD τ).loc main_arg1) i : EReal).toReal : EReal))

include h0 h1 in
/-- The entries a point computes are entries of the result. -/
theorem point_eq (t : Fin cfg0.N) (l : Fin 4) (s : Fin 3) (hl : (grid0.coords t 0).val = l.val) (hs : (grid0.coords t 1).val = s.val) (b : Fin 8) (j : Fin 2048) :
    out0_3 (F := Ideal) (iblk m c 0 t) (iblk m c 1 t) (iblk m c 2 t) (ix3 0 b j) = result m c (ix3 l b ⟨2048 * s.val + j.val, col_lt s j⟩) := by
  have e0 : ∀ b k, iblk m c 0 t (ix2 b k) = m ((c : Thread nD τ).loc main_arg0) (ix2 b k) := fun b k => (win0 m c t b k).trans (congrFun (V_main_arg0 m c) _)
  have e1 : ∀ k j, iblk m c 1 t (ix3 0 k j) = m ((c : Thread nD τ).loc main_arg1) (ix3 l k ⟨2048 * s.val + j.val, col_lt s j⟩) :=
    fun k j => (win1 m c t l s hl hs k j).trans (congrFun (V_main_arg1 m c) _)
  have e2 : ∀ j, iblk m c 2 t (ix3 0 0 j) = m ((c : Thread nD τ).loc main_arg2) (ix2 l ⟨2048 * s.val + j.val, col_lt s j⟩) :=
    fun j => (win2 m c t l s hl hs j).trans (bias m c l _)
  refine (out_apply _ _ _ (fun b k => by rw [e0]; exact h0 _) (fun k j => by rw [e1]; exact h1 _) b j).trans ?_
  simp only [e0, e1, e2]
  rfl

include h0 h1 in
/-- The result array after the run. -/
theorem arr_eq : (dats m 0 c).arrAt 3 cfg0.N = result m c := by
  refine (dats m 0 c).arrAt_eq_of_covers 3 _ (by decide +kernel) fun t hf y => ?_
  refine (congrFun (Cert.Kernel7Ideal.Value.flushed3 m c t) y).trans ?_
  have hl : (grid0.coords t 0).val < 4 := (grid0.coords t 0).isLt
  have hs : (grid0.coords t 1).val < 3 := (grid0.coords t 1).isLt
  refine (congrArg (out0_3 (F := Ideal) (iblk m c 0 t) (iblk m c 1 t) (iblk m c 2 t)) (ixB y)).trans ?_
  refine (point_eq m c h0 h1 t ⟨_, hl⟩ ⟨_, hs⟩ rfl rfl _ _).trans ?_
  refine result_congr m c _ _ ?_ ?_ ?_ <;> blk_simp [index3 t]
  exact (by omega : ∀ a b : ℕ, 2048 * a + b = a * 2048 + b) _ _

end Result

end Cert.Kernel7Ideal.Ada
-- ==== Proof.AdaRef.lean ====
/- The reference's modulation vectors of the four layers, read at an index. -/
module

public import proofs.«01_k».proof.Proof.AdaRow
public import proofs.«01_k».proof.Proof.Gen.Reference7Ideal.Read
public import Idealize.ShloMosaic.Lib.Pointwise

@[expose] public section

set_option maxRecDepth 16384

noncomputable section

namespace Cert.Reference7Ideal.Ada

open Cert.Reference7Ideal Cert.Reference7Ideal.Gen Cert.Reference7Ideal.Read Cert.Ada Idealize.ShloMosaic Idealize.ShloMosaic.TcCoe

variable (x0 : Vec Ideal S8x1024 .f32) (x1 : Vec Ideal S4x1024x6144 .f32) (x2 : Vec Ideal S4x6144 .f32)

/-- The gated conditioning vectors. -/
theorem gated_apply (b : Fin 8) (k : Fin 1024) : val_main_v0 (F := Ideal) x0 (ix2 b k) = gated (x0 (ix2 b k)) := by
  unfold gated Ideal.logistic
  unfold val_main_v0 val_main_call0_v5 val_main_call0_v4 val_main_call0_cst_0 val_main_call0_v3 val_main_call0_v2 val_main_call0_cst val_main_call0_v1 val_main_call0_v0
  pointwise

theorem layer0 (b : Fin 8) (j : Fin 6144) :
    val_main_v37 (F := Ideal) x0 x1 x2 (ix3 0 b j) = entry (fun k => x0 (ix2 b k)) (fun k => x1 (ix3 0 k j)) (x2 (ix2 0 j)) := by
  unfold entry
  simp only [← gated_apply]
  unfold val_main_v37 val_main_v33 val_main_v8 val_main_v7 val_main_v6 val_main_v5 val_main_v4 val_main_v3 val_main_v2 val_main_v1
  pointwise

theorem layer1 (b : Fin 8) (j : Fin 6144) :
    val_main_v37 (F := Ideal) x0 x1 x2 (ix3 1 b j) = entry (fun k => x0 (ix2 b k)) (fun k => x1 (ix3 1 k j)) (x2 (ix2 1 j)) := by
  unfold entry
  simp only [← gated_apply]
  unfold val_main_v37 val_main_v34 val_main_v16 val_main_v15 val_main_v14 val_main_v13 val_main_v12 val_main_v11 val_main_v10 val_main_v9
  pointwise

theorem layer2 (b : Fin 8) (j : Fin 6144) :
    val_main_v37 (F := Ideal) x0 x1 x2 (ix3 2 b j) = entry (fun k => x0 (ix2 b k)) (fun k => x1 (ix3 2 k j)) (x2 (ix2 2 j)) := by
  unfold entry
  simp only [← gated_apply]
  unfold val_main_v37 val_main_v35 val_main_v24 val_main_v23 val_main_v22 val_main_v21 val_main_v20 val_main_v19 val_main_v18 val_main_v17
  pointwise

theorem layer3 (b : Fin 8) (j : Fin 6144) :
    val_main_v37 (F := Ideal) x0 x1 x2 (ix3 3 b j) = entry (fun k => x0 (ix2 b k)) (fun k => x1 (ix3 3 k j)) (x2 (ix2 3 j)) := by
  unfold entry
  simp only [← gated_apply]
  unfold val_main_v37 val_main_v36 val_main_v32 val_main_v31 val_main_v30 val_main_v29 val_main_v28 val_main_v27 val_main_v26 val_main_v25
  pointwise

/-- The result at an index. -/
theorem out_apply (l : Fin 4) (b : Fin 8) (j : Fin 6144) :
    val_main_v37 (F := Ideal) x0 x1 x2 (ix3 l b j) = entry (fun k => x0 (ix2 b k)) (fun k => x1 (ix3 l k j)) (x2 (ix2 l j)) := by
  fin_cases l
  · exact layer0 x0 x1 x2 b j
  · exact layer1 x0 x1 x2 b j
  · exact layer2 x0 x1 x2 b j
  · exact layer3 x0 x1 x2 b j

end Cert.Reference7Ideal.Ada
-- ==== Proof.AdaFinite.lean ====
/- What the preconditions of the modulation calls say: the conditioning vectors and the weights have real entries. -/
module

public import proofs.«01_k».proof.Proof.RetFinite
public import proofs.«01_k».proof.Pre_finite7
public import proofs.«01_k».proof.Pre_finite8
public import proofs.«01_k».proof.Proof.Gen.Pre_finite

@[expose] public section

noncomputable section

namespace Cert.Pre_finite7

open Idealize.ShloMosaic

variable [Facts]
open Facts

theorem real_of_fn (x0 : FVec Ideal S8x1024 .f32) (x1 : FVec Ideal S4x1024x6144 .f32) (x2 : FVec Ideal S4x6144 .f32) (h : fn (F := Ideal) x0 x1 x2 = fun _ => 1#1) :
    (∀ i, (x0 i : EReal) = ((x0 i : EReal).toReal : EReal)) ∧ (∀ i, (x1 i : EReal) = ((x1 i : EReal).toReal : EReal)) := by
  have e := congrFun h (Shape.Idx.first h_S_)
  have e0 := Cert.Pre_finite.and_left _ _ e
  have e1 := Cert.Pre_finite.and_right _ _ e
  haveI : Subsingleton S_.Idx := ⟨fun a b => funext fun k => k.elim0⟩
  exact ⟨fun i => Cert.Pre_finite.real_of_lt _ (Host.reduce_andi_all _ _ _ _ _ e0 i), fun i => Cert.Pre_finite.real_of_lt _ (Host.reduce_andi_all _ _ _ _ _ e1 i)⟩

end Cert.Pre_finite7

namespace Cert.Pre_finite8

open Idealize.ShloMosaic

variable [Facts]
open Facts

theorem real_of_fn (x0 : FVec Ideal S8x1024 .f32) (x1 : FVec Ideal S1024x2048 .f32) (x2 : FVec Ideal S2048 .f32) (h : fn (F := Ideal) x0 x1 x2 = fun _ => 1#1) :
    (∀ i, (x0 i : EReal) = ((x0 i : EReal).toReal : EReal)) ∧ (∀ i, (x1 i : EReal) = ((x1 i : EReal).toReal : EReal)) := by
  have e := congrFun h (Shape.Idx.first h_S_)
  have e0 := Cert.Pre_finite.and_left _ _ e
  have e1 := Cert.Pre_finite.and_right _ _ e
  haveI : Subsingleton S_.Idx := ⟨fun a b => funext fun k => k.elim0⟩
  exact ⟨fun i => Cert.Pre_finite.real_of_lt _ (Host.reduce_andi_all _ _ _ _ _ e0 i), fun i => Cert.Pre_finite.real_of_lt _ (Host.reduce_andi_all _ _ _ _ _ e1 i)⟩

end Cert.Pre_finite8
-- ==== Proof.AdaClaim.lean ====
/- The claims about the four layers' modulation vectors. -/
module

public import proofs.«01_k».proof.Defs
public import proofs.«01_k».proof.Proof.AdaBlocks
public import proofs.«01_k».proof.Proof.AdaRef
public import proofs.«01_k».proof.Proof.AdaFinite
public import proofs.«01_k».proof.Proof.Gen.Pre_finite7
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof.Ada

open Idealize.ShloMosaic Idealize.SL.Sem

theorem frame_p : Cert.quiescent_Kernel7 := fun m ρ _ => Cert.Kernel7.Gen.frame m ρ

theorem frame_pi : Cert.quiescent_Kernel7Ideal := fun m ρ _ => Cert.Kernel7Ideal.Gen.frame m ρ

theorem frame_pi_finite : Cert.quiescent_Kernel7Ideal_pre_finite7 := fun m ρ _ => Cert.Kernel7Ideal.Gen.frame m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_ri_finite : Cert.quiescent_Reference7Ideal_pre_finite7 := fun m ρ _ => frame_ri m ρ trivial

/-- From real conditioning vectors and weights, the kernel's modulation vectors equal the host's. -/
theorem algebraic : Cert.algebraic_Kernel7Ideal_Reference7Ideal_pre_finite7 := by
  intro m g m' g' hpre hm
  have hr := fun c => Cert.Pre_finite7.real_of_fn _ _ _ (hpre c)
  refine ⟨fun c => Cert.Reference7Ideal.Read.val_main_v37 (F := Ideal) (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2)),
    (θ_run Cert.Kernel7Ideal.defs _ _).mono (fun r h c => ⟨(h c).1.trans ?_, (h c).2⟩) (Cert.Kernel7Ideal.Value.run_blocks (F := Ideal) m g),
    (θ_run Cert.Reference7Ideal.defs _ _).mono (fun r h c => ⟨(h c).1.trans (Cert.Reference7Ideal.Read.val_main_v37_eq (F := Ideal) _ _ _), (h c).2⟩)
      (Cert.Reference7Ideal.Value.run (F := Ideal) m' g')⟩
  refine (Cert.Kernel7Ideal.Ada.arr_eq m c (fun _ => (hr c).1 _) (fun _ => (hr c).2 _)).trans ?_
  obtain ⟨e0, e1, e2⟩ := hm c
  beta_reduce
  rw [e0, e1, e2]
  funext y
  have e : y = ix3 (y 0) (y 1) (y 2) := by funext a; fin_cases a <;> rfl
  refine Eq.trans ?_ (congrArg (Cert.Reference7Ideal.Read.val_main_v37 (F := Ideal) _ _ _) e).symm
  exact (Cert.Reference7Ideal.Ada.out_apply _ _ _ (y 0) (y 1) (y 2)).symm

end Cert.Proof.Ada
-- ==== Proof.AdaEndBlocks.lean ====
/- What the call that makes the final norm's modulation vectors leaves in its result. -/
module

public import proofs.«01_k».proof.Proof.AdaRow
public import proofs.«01_k».proof.Proof.Gen.Kernel8Ideal.Value
public import Idealize.ShloMosaic.Lib.Pointwise
public import Idealize.ShloMosaic.Lib.StableHlo.ReadAt
public import Idealize.ShloMosaic.Lib.Pipeline.ReadBack
public import Idealize.ShloMosaic.Lib.Pipeline.ValueKit.Tiles
public import Idealize.ShloMosaic.Lib.Pipeline.ValueKit.Geometry

@[expose] public section

set_option maxRecDepth 16384

noncomputable section

namespace Cert.Kernel8Ideal.Ada

open Cert.Kernel8Ideal Cert.Kernel8Ideal.Gen Cert.Ada Idealize.ShloMosaic Idealize.ShloMosaic.TcCoe Idealize.SL.Sem

/-- The four sums of the body, read at an index. -/
theorem pay_apply (x0 : Vec Ideal S8x1024 .f32) (x1 : Vec Ideal S1x1024x2048 .f32) (x2 : Vec Ideal S1x1x2048 .f32) (b : Fin 8) (j : Fin 2048) :
    k0_pay1 (F := Ideal) x0 x1 x2 (ix3 0 b j)
      = (((∑ k : Fin 1024, gated (x0 (ix2 b k)) * x1 (ix3 0 k j)) + (∑ k : Fin 1024, (gated (x0 (ix2 b k)) - gated (x0 (ix2 b k))) * x1 (ix3 0 k j)))
          + (∑ k : Fin 1024, gated (x0 (ix2 b k)) * (x1 (ix3 0 k j) - x1 (ix3 0 k j)))) + x2 (ix3 0 0 j) := by
  unfold k0_pay1 gated
  pointwise

/-- The block a grid point leaves. -/
theorem out_apply (x0 : Vec Ideal S8x1024 .f32) (x1 : Vec Ideal S1x1024x2048 .f32) (x2 : Vec Ideal S1x1x2048 .f32)
    (h0 : ∀ b k, x0 (ix2 b k) = ((x0 (ix2 b k) : EReal).toReal : EReal)) (h1 : ∀ k j, x1 (ix3 0 k j) = ((x1 (ix3 0 k j) : EReal).toReal : EReal)) (b : Fin 8) (j : Fin 2048) :
    out0_3 (F := Ideal) x0 x1 x2 (ix3 0 b j) = entry (fun k => x0 (ix2 b k)) (fun k => x1 (ix3 0 k j)) (x2 (ix3 0 0 j)) := by
  refine Eq.trans ?_ ((pay_apply x0 x1 x2 b j).trans (split_eq _ _ _ (h0 b) (fun k => h1 k j)))
  unfold out0_3
  rw [View.canon_cons_unit_lit _ _ _ (by decide), View.ld_unit_lit _ _ (by decide), View.ld_unit_lit _ _ (by decide), View.ld_unit_lit _ _ (by decide)]

variable (m : (ℓ : Loc nD τ sig) → Buf (Elt Ideal) ℓ) (c : Dev nD)

theorem index0 : ∀ t : Fin cfg0.N, (cfg0.win 0).index t = ![0, 0] := by decide +kernel
theorem index1 : ∀ t : Fin cfg0.N, (cfg0.win 1).index t = ![0, 0, 0] := by decide +kernel
theorem index2 : ∀ t : Fin cfg0.N, (cfg0.win 2).index t = ![0, 0, 0] := by decide +kernel
theorem index3 : ∀ t : Fin cfg0.N, (cfg0.win 3).index t = ![0, 0, 0] := by decide +kernel

/-- The weights, as the call takes them. -/
theorem weights (k : Fin 1024) (j : Fin 2048) : V (F := Ideal) m c main_v0 (ix3 0 k j) = m ((c : Thread nD τ).loc main_arg1) (ix2 k j) := by
  unfold V
  after_reads_at

/-- The bias, as the call takes it. -/
theorem bias (j : Fin 2048) : V (F := Ideal) m c main_v2 (ix3 0 0 j) = m ((c : Thread nD τ).loc main_arg2) (ix1 j) := by
  unfold V
  after_reads_at

section Windows

variable (t : Fin cfg0.N)

theorem win0 (b : Fin 8) (k : Fin 1024) : iblk m c 0 t (ix2 b k) = V m c main_arg0 (ix2 b k) := by
  blk_ext [iblk, index0 t]

theorem win1 (k : Fin 1024) (j : Fin 2048) : iblk m c 1 t (ix3 0 k j) = V m c main_v0 (ix3 0 k j) := by
  blk_ext [iblk, index1 t]

theorem win2 (j : Fin 2048) : iblk m c 2 t (ix3 0 0 j) = V m c main_v2 (ix3 0 0 j) := by
  blk_ext [iblk, index2 t]

end Windows

/-- The result the call computes. -/
def result : Vec Ideal S1x8x2048 .f32 := fun y =>
  entry (fun k => m ((c : Thread nD τ).loc main_arg0) (ix2 (y 1) k)) (fun k => m ((c : Thread nD τ).loc main_arg1) (ix2 k (y 2)))
    (m ((c : Thread nD τ).loc main_arg2) (ix1 (y 2)))

/-- Equal coordinates give equal entries of the result. -/
theorem result_congr (x y : S1x8x2048.Idx) (e1 : (x 1).val = (y 1).val) (e2 : (x 2).val = (y 2).val) :
    result m c x = result m c y := by
  unfold result
  rw [Fin.ext e1, Fin.ext e2]

/-- An index of a block. -/
theorem ixB (y : S1x8x2048.Idx) : y = ix3 0 (y 1) (y 2) := by
  funext a
  fin_cases a
  · exact Fin.ext (by have : (y 0).val < 1 := (y 0).isLt; show (y 0).val = 0; omega)
  · rfl
  · rfl

section Result

variable (h0 : ∀ i, m ((c : Thread nD τ).loc main_arg0) i = ((m ((c : Thread nD τ).loc main_arg0) i : EReal).toReal : EReal))
  (h1 : ∀ i, m ((c : Thread nD τ).loc main_arg1) i = ((m ((c : Thread nD τ).loc main_arg1) i : EReal).toReal : EReal))

include h0 h1 in
/-- The entries the point computes are entries of the result. -/
theorem point_eq (t : Fin cfg0.N) (b : Fin 8) (j : Fin 2048) :
    out0_3 (F := Ideal) (iblk m c 0 t) (iblk m c 1 t) (iblk m c 2 t) (ix3 0 b j) = result m c (ix3 0 b j) := by
  have e0 : ∀ b k, iblk m c 0 t (ix2 b k) = m ((c : Thread nD τ).loc main_arg0) (ix2 b k) := fun b k => (win0 m c t b k).trans (congrFun (V_main_arg0 m c) _)
  have e1 : ∀ k j, iblk m c 1 t (ix3 0 k j) = m ((c : Thread nD τ).loc main_arg1) (ix2 k j) := fun k j => (win1 m c t k j).trans (weights m c k j)
  have e2 : ∀ j, iblk m c 2 t (ix3 0 0 j) = m ((c : Thread nD τ).loc main_arg2) (ix1 j) := fun j => (win2 m c t j).trans (bias m c j)
  refine (out_apply _ _ _ (fun b k => by rw [e0]; exact h0 _) (fun k j => by rw [e1]; exact h1 _) b j).trans ?_
  simp only [e0, e1, e2]
  rfl

include h0 h1 in
/-- The result array after the run. -/
theorem arr_eq : (dats m 0 c).arrAt 3 cfg0.N = result m c := by
  refine (dats m 0 c).arrAt_eq_of_covers 3 _ (by decide +kernel) fun t hf y => ?_
  refine (congrFun (Cert.Kernel8Ideal.Value.flushed3 m c t) y).trans ?_
  refine (congrArg (out0_3 (F := Ideal) (iblk m c 0 t) (iblk m c 1 t) (iblk m c 2 t)) (ixB y)).trans ?_
  refine (point_eq m c h0 h1 t _ _).trans ?_
  refine result_congr m c _ _ ?_ ?_ <;> blk_simp [index3 t]

end Result

end Cert.Kernel8Ideal.Ada
-- ==== Proof.AdaEndRef.lean ====
/- The reference's modulation vectors of the final norm, read at an index. -/
module

public import proofs.«01_k».proof.Proof.AdaRow
public import proofs.«01_k».proof.Proof.Gen.Reference8Ideal.Read
public import Idealize.ShloMosaic.Lib.Pointwise

@[expose] public section

set_option maxRecDepth 16384

noncomputable section

namespace Cert.Reference8Ideal.Ada

open Cert.Reference8Ideal Cert.Reference8Ideal.Gen Cert.Reference8Ideal.Read Cert.Ada Idealize.ShloMosaic Idealize.ShloMosaic.TcCoe

variable (x0 : Vec Ideal S8x1024 .f32) (x1 : Vec Ideal S1024x2048 .f32) (x2 : Vec Ideal S2048 .f32)

/-- The gated conditioning vectors. -/
theorem gated_apply (b : Fin 8) (k : Fin 1024) : val_main_v0 (F := Ideal) x0 (ix2 b k) = gated (x0 (ix2 b k)) := by
  unfold gated Ideal.logistic
  unfold val_main_v0 val_main_call0_v5 val_main_call0_v4 val_main_call0_cst_0 val_main_call0_v3 val_main_call0_v2 val_main_call0_cst val_main_call0_v1 val_main_call0_v0
  pointwise

/-- The result at an index. -/
theorem out_apply (b : Fin 8) (j : Fin 2048) :
    val_main_v5 (F := Ideal) x0 x1 x2 (ix3 0 b j) = entry (fun k => x0 (ix2 b k)) (fun k => x1 (ix2 k j)) (x2 (ix1 j)) := by
  unfold entry
  simp only [← gated_apply]
  unfold val_main_v5 val_main_v4 val_main_v3 val_main_v2 val_main_v1
  pointwise

end Cert.Reference8Ideal.Ada
-- ==== Proof.AdaEndClaim.lean ====
/- The claims about the final norm's modulation vectors. -/
module

public import proofs.«01_k».proof.Defs
public import proofs.«01_k».proof.Proof.AdaEndBlocks
public import proofs.«01_k».proof.Proof.AdaEndRef
public import proofs.«01_k».proof.Proof.AdaFinite
public import proofs.«01_k».proof.Proof.Gen.Pre_finite8
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof.AdaEnd

open Idealize.ShloMosaic Idealize.SL.Sem

theorem frame_p : Cert.quiescent_Kernel8 := fun m ρ _ => Cert.Kernel8.Gen.frame m ρ

theorem frame_pi : Cert.quiescent_Kernel8Ideal := fun m ρ _ => Cert.Kernel8Ideal.Gen.frame m ρ

theorem frame_pi_finite : Cert.quiescent_Kernel8Ideal_pre_finite8 := fun m ρ _ => Cert.Kernel8Ideal.Gen.frame m ρ

theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem frame_ri_finite : Cert.quiescent_Reference8Ideal_pre_finite8 := fun m ρ _ => frame_ri m ρ trivial

/-- From real conditioning vectors and weights, the kernel's modulation vectors equal the host's. -/
theorem algebraic : Cert.algebraic_Kernel8Ideal_Reference8Ideal_pre_finite8 := by
  intro m g m' g' hpre hm
  have hr := fun c => Cert.Pre_finite8.real_of_fn _ _ _ (hpre c)
  refine ⟨fun c => Cert.Reference8Ideal.Read.val_main_v5 (F := Ideal) (m' ((c.tc : Thread Cert.Reference8Ideal.nD Cert.Reference8Ideal.τ).loc Cert.Reference8Ideal.main_arg0))
      (m' ((c.tc : Thread Cert.Reference8Ideal.nD Cert.Reference8Ideal.τ).loc Cert.Reference8Ideal.main_arg1))
      (m' ((c.tc : Thread Cert.Reference8Ideal.nD Cert.Reference8Ideal.τ).loc Cert.Reference8Ideal.main_arg2)),
    (θ_run Cert.Kernel8Ideal.defs _ _).mono (fun r h c => ⟨(h c).1.trans ?_, (h c).2⟩) (Cert.Kernel8Ideal.Value.run_blocks (F := Ideal) m g),
    (θ_run Cert.Reference8Ideal.defs _ _).mono (fun r h c => ⟨(h c).1.trans (Cert.Reference8Ideal.Read.val_main_v5_eq (F := Ideal) _ _ _), (h c).2⟩)
      (Cert.Reference8Ideal.Value.run (F := Ideal) m' g')⟩
  refine (Cert.Kernel8Ideal.Ada.arr_eq m c (fun _ => (hr c).1 _) (fun _ => (hr c).2 _)).trans ?_
  obtain ⟨e0, e1, e2⟩ := hm c
  beta_reduce
  rw [e0, e1, e2]
  funext y
  have e : y = ix3 0 (y 1) (y 2) := Cert.Kernel8Ideal.Ada.ixB y
  refine Eq.trans ?_ (congrArg (Cert.Reference8Ideal.Read.val_main_v5 (F := Ideal) _ _ _) e).symm
  exact (Cert.Reference8Ideal.Ada.out_apply _ _ _ (y 1) (y 2)).symm

end Cert.Proof.AdaEnd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Pre_finite7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Pre_finite8
public import proofs.«01_k».proof.Proof.Gen.Kernel8Ideal.Value
public import proofs.«01_k».proof.Proof.Gen.Reference8Ideal.Run
public import proofs.«01_k».proof.Proof.Gen.Reference8Ideal.Read
public import proofs.«01_k».proof.Proof.RetClaim
public import proofs.«01_k».proof.Proof.FfnClaim
public import proofs.«01_k».proof.Proof.ProjClaim
public import proofs.«01_k».proof.Proof.MixClaim
public import proofs.«01_k».proof.Proof.MidClaim
public import proofs.«01_k».proof.Proof.PreClaim
public import proofs.«01_k».proof.Proof.AdaClaim
public import proofs.«01_k».proof.Proof.AdaEndClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite.Gen.facts, Cert.Pre_finite7.Gen.facts, Cert.Pre_finite8.Gen.facts, Ret.frame_p, Ret.frame_pi, Ret.frame_pi_finite, Ret.frame_ri, Ret.frame_ri_finite, Ffn.frame_p, Ffn.frame_pi, Ffn.frame_ri,
    Proj.frame_p, Proj.frame_pi, Proj.frame_ri, Mix.frame_p, Mix.frame_pi, Mix.frame_ri, Mid.frame_p, Mid.frame_pi, Mid.frame_ri,
    Pre.frame_p, Pre.frame_pi, Pre.frame_ri, Ada.frame_p, Ada.frame_pi, Ada.frame_pi_finite, Ada.frame_ri, Ada.frame_ri_finite,
    AdaEnd.frame_p, AdaEnd.frame_pi, AdaEnd.frame_pi_finite, AdaEnd.frame_ri, AdaEnd.frame_ri_finite,
    trivial, Ret.algebraic, trivial, Ffn.algebraic, trivial, Proj.algebraic, trivial, Mix.algebraic, trivial, Mid.algebraic,
    trivial, Pre.algebraic, trivial, Ada.algebraic, trivial, AdaEnd.algebraic⟩

end Cert.Proof

end
